-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_plan_ranges : Cert.Pre_plan_ranges.Facts] (m : (ℓ : Loc Cert.Kernel2.nD Cert.Kernel2.τ Cert.Kernel2.sig) → Buf (Elt Bits) ℓ) : Prop :=
  ∀ c : Dev Cert.Kernel2.nD,
    (Cert.Pre_plan_ranges.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_plan_ranges : Cert.Pre_plan_ranges.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_plan_ranges.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_plan_ranges [hPre_plan_ranges : Cert.Pre_plan_ranges.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_plan_ranges.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_swa [hPre_finite_swa : Cert.Pre_finite_swa.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_swa.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_swa [hPre_finite_swa : Cert.Pre_finite_swa.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_swa.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_plan_ranges : Cert.Pre_plan_ranges.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_plan_ranges : Cert.Pre_plan_ranges.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_plan_ranges [hReference2Ideal : Cert.Reference2Ideal.Facts] [hPre_plan_ranges : Cert.Pre_plan_ranges.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_plan_ranges m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite_swa [hKernel6Ideal : Cert.Kernel6Ideal.Facts] [hPre_finite_swa : Cert.Pre_finite_swa.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_swa m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite_swa [hReference6Ideal : Cert.Reference6Ideal.Facts] [hPre_finite_swa : Cert.Pre_finite_swa.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_swa m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_plan_ranges : Cert.Pre_plan_ranges.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v24)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)) (v3 : (c : Dev Cert.Kernel3Ideal.nD) → Buf (Elt Ideal) ((c.tc : Thread Cert.Kernel3Ideal.nD Cert.Kernel3Ideal.τ).loc Cert.Kernel3Ideal.main_v26)) (v4 : (c : Dev Cert.Kernel3Ideal.nD) → Buf (Elt Ideal) ((c.tc : Thread Cert.Kernel3Ideal.nD Cert.Kernel3Ideal.τ).loc Cert.Kernel3Ideal.main_v28)) (v5 : (c : Dev Cert.Kernel3Ideal.nD) → Buf (Elt Ideal) ((c.tc : Thread Cert.Kernel3Ideal.nD Cert.Kernel3Ideal.τ).loc Cert.Kernel3Ideal.main_v30)) (v6 : (c : Dev Cert.Kernel3Ideal.nD) → Buf (Elt Ideal) ((c.tc : Thread Cert.Kernel3Ideal.nD Cert.Kernel3Ideal.τ).loc Cert.Kernel3Ideal.main_v32)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_v26) = v3 c
          ∧ r.2.mem ((c.tc : Thread Cert.Kernel3Ideal.nD Cert.Kernel3Ideal.τ).loc Cert.Kernel3Ideal.main_v28) = v4 c
          ∧ r.2.mem ((c.tc : Thread Cert.Kernel3Ideal.nD Cert.Kernel3Ideal.τ).loc Cert.Kernel3Ideal.main_v30) = v5 c
          ∧ r.2.mem ((c.tc : Thread Cert.Kernel3Ideal.nD Cert.Kernel3Ideal.τ).loc Cert.Kernel3Ideal.main_v32) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v84) = v2 c
          ∧ r.2.mem ((c.tc : Thread Cert.Reference3Ideal.nD Cert.Reference3Ideal.τ).loc Cert.Reference3Ideal.main_v87) = v3 c
          ∧ r.2.mem ((c.tc : Thread Cert.Reference3Ideal.nD Cert.Reference3Ideal.τ).loc Cert.Reference3Ideal.main_v72) = v4 c
          ∧ r.2.mem ((c.tc : Thread Cert.Reference3Ideal.nD Cert.Reference3Ideal.τ).loc Cert.Reference3Ideal.main_v88) = v5 c
          ∧ r.2.mem ((c.tc : Thread Cert.Reference3Ideal.nD Cert.Reference3Ideal.τ).loc Cert.Reference3Ideal.main_v89) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)) (v1 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_v6) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v262) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_swa [hKernel6Ideal : Cert.Kernel6Ideal.Facts] [hReference6Ideal : Cert.Reference6Ideal.Facts] [hPre_finite_swa : Cert.Pre_finite_swa.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_swa m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v25)) (v1 : (c : Dev Cert.Kernel7Ideal.nD) → Buf (Elt Ideal) ((c.tc : Thread Cert.Kernel7Ideal.nD Cert.Kernel7Ideal.τ).loc Cert.Kernel7Ideal.main_v19_1)) (v2 : (c : Dev Cert.Kernel7Ideal.nD) → Buf (Elt Ideal) ((c.tc : Thread Cert.Kernel7Ideal.nD Cert.Kernel7Ideal.τ).loc Cert.Kernel7Ideal.main_v19_2)) (v3 : (c : Dev Cert.Kernel7Ideal.nD) → Buf (Elt Ideal) ((c.tc : Thread Cert.Kernel7Ideal.nD Cert.Kernel7Ideal.τ).loc Cert.Kernel7Ideal.main_v27)) (v4 : (c : Dev Cert.Kernel7Ideal.nD) → Buf (Elt Ideal) ((c.tc : Thread Cert.Kernel7Ideal.nD Cert.Kernel7Ideal.τ).loc Cert.Kernel7Ideal.main_v29)) (v5 : (c : Dev Cert.Kernel7Ideal.nD) → Buf (Elt Ideal) ((c.tc : Thread Cert.Kernel7Ideal.nD Cert.Kernel7Ideal.τ).loc Cert.Kernel7Ideal.main_v31)) (v6 : (c : Dev Cert.Kernel7Ideal.nD) → Buf (Elt Ideal) ((c.tc : Thread Cert.Kernel7Ideal.nD Cert.Kernel7Ideal.τ).loc Cert.Kernel7Ideal.main_v33)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v25) = v0 c
          ∧ r.2.mem ((c.tc : Thread Cert.Kernel7Ideal.nD Cert.Kernel7Ideal.τ).loc Cert.Kernel7Ideal.main_v19_1) = v1 c
          ∧ r.2.mem ((c.tc : Thread Cert.Kernel7Ideal.nD Cert.Kernel7Ideal.τ).loc Cert.Kernel7Ideal.main_v19_2) = v2 c
          ∧ r.2.mem ((c.tc : Thread Cert.Kernel7Ideal.nD Cert.Kernel7Ideal.τ).loc Cert.Kernel7Ideal.main_v27) = v3 c
          ∧ r.2.mem ((c.tc : Thread Cert.Kernel7Ideal.nD Cert.Kernel7Ideal.τ).loc Cert.Kernel7Ideal.main_v29) = v4 c
          ∧ r.2.mem ((c.tc : Thread Cert.Kernel7Ideal.nD Cert.Kernel7Ideal.τ).loc Cert.Kernel7Ideal.main_v31) = v5 c
          ∧ r.2.mem ((c.tc : Thread Cert.Kernel7Ideal.nD Cert.Kernel7Ideal.τ).loc Cert.Kernel7Ideal.main_v33) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v78) = v0 c
          ∧ r.2.mem ((c.tc : Thread Cert.Reference7Ideal.nD Cert.Reference7Ideal.τ).loc Cert.Reference7Ideal.main_v81) = v1 c
          ∧ r.2.mem ((c.tc : Thread Cert.Reference7Ideal.nD Cert.Reference7Ideal.τ).loc Cert.Reference7Ideal.main_v84) = v2 c
          ∧ r.2.mem ((c.tc : Thread Cert.Reference7Ideal.nD Cert.Reference7Ideal.τ).loc Cert.Reference7Ideal.main_v87) = v3 c
          ∧ r.2.mem ((c.tc : Thread Cert.Reference7Ideal.nD Cert.Reference7Ideal.τ).loc Cert.Reference7Ideal.main_v72) = v4 c
          ∧ r.2.mem ((c.tc : Thread Cert.Reference7Ideal.nD Cert.Reference7Ideal.τ).loc Cert.Reference7Ideal.main_v88) = v5 c
          ∧ r.2.mem ((c.tc : Thread Cert.Reference7Ideal.nD Cert.Reference7Ideal.τ).loc Cert.Reference7Ideal.main_v89) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_plan_ranges : Cert.Pre_plan_ranges.Facts) (hPre_finite_swa : Cert.Pre_finite_swa.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_plan_ranges := hPre_plan_ranges)
    ∧ quiescent_Kernel2Ideal (hKernel2Ideal := hKernel2Ideal) (hPre_plan_ranges := hPre_plan_ranges)
    ∧ quiescent_Reference2Ideal (hReference2Ideal := hReference2Ideal)
    ∧ quiescent_Reference2Ideal_pre_plan_ranges (hReference2Ideal := hReference2Ideal) (hPre_plan_ranges := hPre_plan_ranges)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_swa (hKernel6Ideal := hKernel6Ideal) (hPre_finite_swa := hPre_finite_swa)
    ∧ quiescent_Reference6Ideal (hReference6Ideal := hReference6Ideal)
    ∧ quiescent_Reference6Ideal_pre_finite_swa (hReference6Ideal := hReference6Ideal) (hPre_finite_swa := hPre_finite_swa)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_plan_ranges := hPre_plan_ranges)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_swa (hKernel6Ideal := hKernel6Ideal) (hReference6Ideal := hReference6Ideal) (hPre_finite_swa := hPre_finite_swa)
    ∧ preserves_Kernel7_Kernel7Ideal
    ∧ algebraic_Kernel7Ideal_Reference7Ideal (hKernel7Ideal := hKernel7Ideal) (hReference7Ideal := hReference7Ideal)
-- ==== Pre_finite.lean ====
abbrev S10240x416 : Shape := ⟨2, ![10240, 416]⟩
abbrev S256 : Shape := ⟨1, ![256]⟩
abbrev S256x384 : Shape := ⟨2, ![256, 384]⟩
abbrev S128 : Shape := ⟨1, ![128]⟩
abbrev S128x512 : Shape := ⟨2, ![128, 512]⟩
abbrev S_ : Shape := ⟨0, ![]⟩

class Facts : Prop where
  bcast_S_S10240x416 : S_.BroadcastsInDim S10240x416 (![] : Fin 0 → Fin S10240x416.rank)
  reducesTo_S10240x416_S_d0_1 : S10240x416.ReducesTo [0, 1] S_
  h_S_ : 0 < S_.numel
  bcast_S_S256 : S_.BroadcastsInDim S256 (![] : Fin 0 → Fin S256.rank)
  reducesTo_S256_S_d0 : S256.ReducesTo [0] S_
  bcast_S_S256x384 : S_.BroadcastsInDim S256x384 (![] : Fin 0 → Fin S256x384.rank)
  reducesTo_S256x384_S_d0_1 : S256x384.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_arg4 : FVec F S128x512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  main_v23

def fn {F : FTy → Type} [FloatOps F] (main_arg0 : FVec F S10240x416 .f32) (main_arg1 : FVec F S256 .f32) (main_arg2 : FVec F S256x384 .f32) (main_arg3 : FVec F S128 .f32) (main_arg4 : FVec F S128x512 .f32) : IVec S_ 1 :=
  let main_v0 : FVec F S10240x416 .f32 := Host.absf main_arg0
  let main_cst : FVec F S_ .f32 := constant S_ .f32 0x7F800000#32
  let main_v1 : FVec F S10240x416 .f32 := broadcastInDim S10240x416 ![] bcast_S_S10240x416 main_cst
  let main_v2 : IVec S10240x416 1 := cmpf .olt main_v0 main_v1
  let main_c : IVec S_ 1 := constantI S_ 1 1#1
  let main_v3 : IVec S_ 1 := (fun x v => Host.reduce IntOp.andi x v reducesTo_S10240x416_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256x384 .f32 := Host.absf main_arg2
  let main_cst_2 : FVec F S_ .f32 := constant S_ .f32 0x7F800000#32
  let main_v10 : FVec F S256x384 .f32 := broadcastInDim S256x384 ![] bcast_S_S256x384 main_cst_2
  let main_v11 : IVec S256x384 1 := cmpf .olt main_v9 main_v10
  let main_c_3 : IVec S_ 1 := constantI S_ 1 1#1
  let main_v12 : IVec S_ 1 := (fun x v => Host.reduce IntOp.andi x v reducesTo_S256x384_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Pre_finite_swa.lean ====
abbrev S10240x512 : Shape := ⟨2, ![10240, 512]⟩
abbrev S4 : Shape := ⟨1, ![4]⟩
abbrev S_ : Shape := ⟨0, ![]⟩

class Facts : Prop where
  bcast_S_S10240x512 : S_.BroadcastsInDim S10240x512 (![] : Fin 0 → Fin S10240x512.rank)
  reducesTo_S10240x512_S_d0_1 : S10240x512.ReducesTo [0, 1] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S10240x512 .f32) (main_arg1 : FVec F S4 .f32) : IVec S_ 1 :=
  let main_v0 : FVec F S10240x512 .f32 := Host.absf main_arg0
  let main_cst : FVec F S_ .f32 := constant S_ .f32 0x7F800000#32
  let main_v1 : FVec F S10240x512 .f32 := broadcastInDim S10240x512 ![] bcast_S_S10240x512 main_cst
  let main_v2 : IVec S10240x512 1 := cmpf .olt main_v0 main_v1
  let main_c : IVec S_ 1 := constantI S_ 1 1#1
  let main_v3 : IVec S_ 1 := (fun x v => Host.reduce IntOp.andi x v reducesTo_S10240x512_S_d0_1 h_S_) main_v2 main_c
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  main_v8
-- ==== Pre_plan_ranges.lean ====
abbrev S199 : Shape := ⟨1, ![199]⟩
abbrev S1 : Shape := ⟨1, ![1]⟩
abbrev S152832x1024 : Shape := ⟨2, ![152832, 1024]⟩
abbrev S2x64x1024x256 : Shape := ⟨4, ![2, 64, 1024, 256]⟩
abbrev S2x64x256x1024 : Shape := ⟨4, ![2, 64, 256, 1024]⟩
abbrev S_ : Shape := ⟨0, ![]⟩

class Facts : Prop where
  bcast_S_S199 : S_.BroadcastsInDim S199 (![] : Fin 0 → Fin S199.rank)
  reducesTo_S199_S_d0 : S199.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S199 32) (main_arg1 : IVec S1 32) (main_arg2 : FVec F S152832x1024 .bf16) (main_arg3 : FVec F S2x64x1024x256 .f32) (main_arg4 : FVec F S2x64x1024x256 .f32) (main_arg5 : FVec F S2x64x256x1024 .f32) : IVec S_ 1 :=
  let main_c : IVec S_ 32 := constantI S_ 32 0#32
  let main_v0 : IVec S199 32 := broadcastInDim S199 ![] bcast_S_S199 main_c
  let main_v1 : IVec S199 1 := cmpi .sge main_arg0 main_v0
  let main_c_0 : IVec S_ 32 := constantI S_ 32 64#32
  let main_v2 : IVec S199 32 := broadcastInDim S199 ![] bcast_S_S199 main_c_0
  let main_v3 : IVec S199 1 := cmpi .slt main_arg0 main_v2
  let main_v4 : IVec S199 1 := andi main_v1 main_v3
  let main_c_1 : IVec S_ 1 := constantI S_ 1 1#1
  let main_v5 : IVec S_ 1 := (fun x v => Host.reduce IntOp.andi x v reducesTo_S199_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 199#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S10240x416 : Shape := ⟨2, ![10240, 416]⟩
abbrev S256 : Shape := ⟨1, ![256]⟩
abbrev S256x384 : Shape := ⟨2, ![256, 384]⟩
abbrev S128 : Shape := ⟨1, ![128]⟩
abbrev S128x512 : Shape := ⟨2, ![128, 512]⟩
abbrev S10240x32 : Shape := ⟨2, ![10240, 32]⟩
abbrev S10240x384 : Shape := ⟨2, ![10240, 384]⟩
abbrev S10240x512 : Shape := ⟨2, ![10240, 512]⟩
abbrev S1x256 : Shape := ⟨2, ![1, 256]⟩
abbrev S256x64 : Shape := ⟨2, ![256, 64]⟩
abbrev S256x32 : Shape := ⟨2, ![256, 32]⟩
abbrev S1x128 : Shape := ⟨2, ![1, 128]⟩
abbrev S128x64 : Shape := ⟨2, ![128, 64]⟩
abbrev S8192x256 : Shape := ⟨2, ![8192, 256]⟩
abbrev S8192x128 : Shape := ⟨2, ![8192, 128]⟩
abbrev S1024x512 : Shape := ⟨2, ![1024, 512]⟩
abbrev S1024x256 : Shape := ⟨2, ![1024, 256]⟩
abbrev S1024x128 : Shape := ⟨2, ![1024, 128]⟩
abbrev S256x512 : Shape := ⟨2, ![256, 512]⟩
abbrev S256x256 : Shape := ⟨2, ![256, 256]⟩
abbrev S256x1 : Shape := ⟨2, ![256, 1]⟩
abbrev S256x128 : Shape := ⟨2, ![256, 128]⟩
abbrev S1024x384 : Shape := ⟨2, ![1024, 384]⟩
abbrev S1024 : Shape := ⟨1, ![1024]⟩
abbrev S1024x1 : Shape := ⟨2, ![1024, 1]⟩

abbrev nBuf : Space → Nat
  | .hbm => 32
  | .vmem => 10
  | .smem => 0
  | _ => 0

abbrev bufTy : (tb : Table) → Fin (tcTables nBuf tb) → BufTy
  | .hbm, ⟨0, _⟩ => ⟨S10240x416, .f32⟩
  | .hbm, ⟨1, _⟩ => ⟨S256, .f32⟩
  | .hbm, ⟨2, _⟩ => ⟨S256x384, .f32⟩
  | .hbm, ⟨3, _⟩ => ⟨S128, .f32⟩
  | .hbm, ⟨4, _⟩ => ⟨S128x512, .f32⟩
  | .hbm, ⟨5, _⟩ => ⟨S10240x32, .f32⟩
  | .hbm, ⟨6, _⟩ => ⟨S10240x384, .f32⟩
  | .hbm, ⟨7, _⟩ => ⟨S10240x512, .f32⟩
  | .hbm, ⟨8, _⟩ => ⟨S1x256, .f32⟩
  | .hbm, ⟨9, _⟩ => ⟨S256x64, .f32⟩
  | .hbm, ⟨10, _⟩ => ⟨S256x64, .f32⟩
  | .hbm, ⟨11, _⟩ => ⟨S256x64, .f32⟩
  | .hbm, ⟨12, _⟩ => ⟨S256x64, .f32⟩
  | .hbm, ⟨13, _⟩ => ⟨S256x32, .f32⟩
  | .hbm, ⟨14, _⟩ => ⟨S256x32, .f32⟩
  | .hbm, ⟨15, _⟩ => ⟨S256x32, .f32⟩
  | .hbm, ⟨16, _⟩ => ⟨S256x32, .f32⟩
  | .hbm, ⟨17, _⟩ => ⟨S256x384, .f32⟩
  | .hbm, ⟨18, _⟩ => ⟨S256x384, .bf16⟩
  | .hbm, ⟨19, _⟩ => ⟨S1x128, .f32⟩
  | .hbm, ⟨20, _⟩ => ⟨S128x64, .f32⟩
  | .hbm, ⟨21, _⟩ => ⟨S128x64, .f32⟩
  | .hbm, ⟨22, _⟩ => ⟨S128x64, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S128x64, .f32⟩
  | .hbm, ⟨27, _⟩ => ⟨S128x64, .f32⟩
  | .hbm, ⟨28, _⟩ => ⟨S128x512, .f32⟩
  | .hbm, ⟨29, _⟩ => ⟨S128x512, .bf16⟩
  | .hbm, ⟨30, _⟩ => ⟨S8192x256, .bf16⟩
  | .hbm, ⟨31, _⟩ => ⟨S8192x128, .f32⟩
  | .local _ .vmem, ⟨0, _⟩ => ⟨S1024x512, .f32⟩
  | .local _ .vmem, ⟨1, _⟩ => ⟨S1024x512, .f32⟩
  | .local _ .vmem, ⟨2, _⟩ => ⟨S1x256, .f32⟩
  | .local _ .vmem, ⟨3, _⟩ => ⟨S256x384, .bf16⟩
  | .local _ .vmem, ⟨4, _⟩ => ⟨S1x128, .f32⟩
  | .local _ .vmem, ⟨5, _⟩ => ⟨S128x512, .bf16⟩
  | .local _ .vmem, ⟨6, _⟩ => ⟨S1024x256, .bf16⟩
  | .local _ .vmem, ⟨7, _⟩ => ⟨S1024x256, .bf16⟩
  | .local _ .vmem, ⟨8, _⟩ => ⟨S1024x128, .f32⟩
  | .local _ .vmem, ⟨9, _⟩ => ⟨S1024x128, .f32⟩
  | _, _ => ⟨S10240x416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S10240x416 : Shape := ⟨2, ![10240, 416]⟩
abbrev S256 : Shape := ⟨1, ![256]⟩
abbrev S256x384 : Shape := ⟨2, ![256, 384]⟩
abbrev S128 : Shape := ⟨1, ![128]⟩
abbrev S128x512 : Shape := ⟨2, ![128, 512]⟩
abbrev S8192x416 : Shape := ⟨2, ![8192, 416]⟩
abbrev S32x256x416 : Shape := ⟨3, ![32, 256, 416]⟩
abbrev S32x256x256 : Shape := ⟨3, ![32, 256, 256]⟩
abbrev S32x256x128 : Shape := ⟨3, ![32, 256, 128]⟩
abbrev S32x256x32 : Shape := ⟨3, ![32, 256, 32]⟩
abbrev S_ : Shape := ⟨0, ![]⟩
abbrev S32x256 : Shape := ⟨2, ![32, 256]⟩
abbrev S32x256x1 : Shape := ⟨3, ![32, 256, 1]⟩
abbrev S1x1x256 : Shape := ⟨3, ![1, 1, 256]⟩
abbrev S32x256x384 : Shape := ⟨3, ![32, 256, 384]⟩
abbrev S32x256x4x96 : Shape := ⟨4, ![32, 256, 4, 96]⟩
abbrev S1x1x128 : Shape := ⟨3, ![1, 1, 128]⟩
abbrev S32x256x512 : Shape := ⟨3, ![32, 256, 512]⟩
abbrev S32x256x4x128 : Shape := ⟨4, ![32, 256, 4, 128]⟩
abbrev S32x256x4x64 : Shape := ⟨4, ![32, 256, 4, 64]⟩
abbrev S32x256x1x32 : Shape := ⟨4, ![32, 256, 1, 32]⟩
abbrev S32x256x4x32 : Shape := ⟨4, ![32, 256, 4, 32]⟩
abbrev S32x4x256x256 : Shape := ⟨4, ![32, 4, 256, 256]⟩
abbrev S32x4x256 : Shape := ⟨3, ![32, 4, 256]⟩
abbrev S32x4x256x1 : Shape := ⟨4, ![32, 4, 256, 1]⟩
abbrev S32x4x64x256 : Shape := ⟨4, ![32, 4, 64, 256]⟩
abbrev S8192x256 : Shape := ⟨2, ![8192, 256]⟩
abbrev S8192x128 : Shape := ⟨2, ![8192, 128]⟩

abbrev nBuf : Space → Nat
  | .hbm => 74
  | .vmem => 0
  | .smem => 0
  | _ => 0

abbrev bufTy : (tb : Table) → Fin (tcTables nBuf tb) → BufTy
  | .hbm, ⟨0, _⟩ => ⟨S10240x416, .f32⟩
  | .hbm, ⟨1, _⟩ => ⟨S256, .f32⟩
  | .hbm, ⟨2, _⟩ => ⟨S256x384, .f32⟩
  | .hbm, ⟨3, _⟩ => ⟨S128, .f32⟩
  | .hbm, ⟨4, _⟩ => ⟨S128x512, .f32⟩
  | .hbm, ⟨5, _⟩ => ⟨S8192x416, .f32⟩
  | .hbm, ⟨6, _⟩ => ⟨S32x256x416, .f32⟩
  | .hbm, ⟨7, _⟩ => ⟨S32x256x256, .f32⟩
  | .hbm, ⟨8, _⟩ => ⟨S32x256x128, .f32⟩
  | .hbm, ⟨9, _⟩ => ⟨S32x256x32, .f32⟩
  | .hbm, ⟨10, _⟩ => ⟨S32x256x256, .f32⟩
  | .hbm, ⟨11, _⟩ => ⟨S_, .f32⟩
  | .hbm, ⟨12, _⟩ => ⟨S32x256, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S32x256x1, .f32⟩
  | .hbm, ⟨21, _⟩ => ⟨S32x256x256, .f32⟩
  | .hbm, ⟨22, _⟩ => ⟨S32x256x256, .f32⟩
  | .hbm, ⟨23, _⟩ => ⟨S1x1x256, .f32⟩
  | .hbm, ⟨24, _⟩ => ⟨S32x256x256, .f32⟩
  | .hbm, ⟨25, _⟩ => ⟨S32x256x256, .f32⟩
  | .hbm, ⟨26, _⟩ => ⟨S32x256x384, .f32⟩
  | .hbm, ⟨27, _⟩ => ⟨S32x256x4x96, .f32⟩
  | .hbm, ⟨28, _⟩ => ⟨S32x256x128, .f32⟩
  | .hbm, ⟨29, _⟩ => ⟨S_, .f32⟩
  | .hbm, ⟨30, _⟩ => ⟨S32x256, .f32⟩
  | .hbm, ⟨31, _⟩ => ⟨S32x256x1, .f32⟩
  | .hbm, ⟨32, _⟩ => ⟨S_, .f32⟩
  | .hbm, ⟨33, _⟩ => ⟨S32x256x1, .f32⟩
  | .hbm, ⟨34, _⟩ => ⟨S32x256x1, .f32⟩
  | .hbm, ⟨35, _⟩ => ⟨S_, .f32⟩
  | .hbm, ⟨36, _⟩ => ⟨S32x256x1, .f32⟩
  | .hbm, ⟨37, _⟩ => ⟨S32x256x1, .f32⟩
  | .hbm, ⟨38, _⟩ => ⟨S32x256x1, .f32⟩
  | .hbm, ⟨39, _⟩ => ⟨S32x256x128, .f32⟩
  | .hbm, ⟨40, _⟩ => ⟨S32x256x128, .f32⟩
  | .hbm, ⟨41, _⟩ => ⟨S1x1x128, .f32⟩
  | .hbm, ⟨42, _⟩ => ⟨S32x256x128, .f32⟩
  | .hbm, ⟨43, _⟩ => ⟨S32x256x128, .f32⟩
  | .hbm, ⟨44, _⟩ => ⟨S32x256x512, .f32⟩
  | .hbm, ⟨45, _⟩ => ⟨S32x256x4x128, .f32⟩
  | .hbm, ⟨46, _⟩ => ⟨S32x256x4x64, .f32⟩
  | .hbm, ⟨47, _⟩ => ⟨S32x256x4x64, .f32⟩
  | .hbm, ⟨48, _⟩ => ⟨S32x256x1x32, .f32⟩
  | .hbm, ⟨49, _⟩ => ⟨S32x256x4x32, .f32⟩
  | .hbm, ⟨50, _⟩ => ⟨S32x256x4x96, .f32⟩
  | .hbm, ⟨51, _⟩ => ⟨S32x4x256x256, .f32⟩
  | .hbm, ⟨52, _⟩ => ⟨S_, .f32⟩
  | .hbm, ⟨53, _⟩ => ⟨S32x4x256x256, .f32⟩
  | .hbm, ⟨54, _⟩ => ⟨S32x4x256x256, .f32⟩
  | .hbm, ⟨55, _⟩ => ⟨S_, .f32⟩
  | .hbm, ⟨56, _⟩ => ⟨S32x4x256, .f32⟩
  | .hbm, ⟨57, _⟩ => ⟨S_, .f32⟩
  | .hbm, ⟨58, _⟩ => ⟨S32x4x256, .f32⟩
  | .hbm, ⟨59, _⟩ => ⟨S32x4x256, .f32⟩
  | .hbm, ⟨60, _⟩ => ⟨S32x4x256x1, .f32⟩
  | .hbm, ⟨61, _⟩ => ⟨S32x4x256x256, .f32⟩
  | .hbm, ⟨62, _⟩ => ⟨S32x4x256x256, .f32⟩
  | .hbm, ⟨63, _⟩ => ⟨S32x4x256x256, .f32⟩
  | .hbm, ⟨64, _⟩ => ⟨S_, .f32⟩
  | .hbm, ⟨65, _⟩ => ⟨S32x4x256, .f32⟩
  | .hbm, ⟨66, _⟩ => ⟨S32x4x256x1, .f32⟩
  | .hbm, ⟨67, _⟩ => ⟨S32x4x256x256, .f32⟩
  | .hbm, ⟨68, _⟩ => ⟨S32x4x256x256, .f32⟩
  | .hbm, ⟨69, _⟩ => ⟨S32x4x64x256, .f32⟩
  | .hbm, ⟨70, _⟩ => ⟨S32x256x4x64, .f32⟩
  | .hbm, ⟨71, _⟩ => ⟨S8192x256, .f32⟩
  | .hbm, ⟨72, _⟩ => ⟨S8192x256, .bf16⟩
  | .hbm, ⟨73, _⟩ => ⟨S8192x128, .f32⟩
  | _, _ => ⟨S10240x416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Kernel2.lean ====
abbrev S199 : Shape := ⟨1, ![199]⟩
abbrev S1 : Shape := ⟨1, ![1]⟩
abbrev S152832x1024 : Shape := ⟨2, ![152832, 1024]⟩
abbrev S2x64x1024x256 : Shape := ⟨4, ![2, 64, 1024, 256]⟩
abbrev S2x64x256x1024 : Shape := ⟨4, ![2, 64, 256, 1024]⟩
abbrev S768x1024 : Shape := ⟨2, ![768, 1024]⟩
abbrev S1x1x1024x256 : Shape := ⟨4, ![1, 1, 1024, 256]⟩
abbrev S1x1x256x1024 : Shape := ⟨4, ![1, 1, 256, 1024]⟩
abbrev S1024x256 : Shape := ⟨2, ![1024, 256]⟩
abbrev S256x1024 : Shape := ⟨2, ![256, 1024]⟩
abbrev S768x256 : Shape := ⟨2, ![768, 256]⟩

abbrev nBuf : Space → Nat
  | .hbm => 5
  | .vmem => 13
  | .smem => 2
  | _ => 0

abbrev bufTy : (tb : Table) → Fin (tcTables nBuf tb) → BufTy
  | .hbm, ⟨0, _⟩ => ⟨S152832x1024, .bf16⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S152832x1024, .bf16⟩
  | .local _ .vmem, ⟨0, _⟩ => ⟨S768x1024, .bf16⟩
  | .local _ .vmem, ⟨1, _⟩ => ⟨S768x1024, .bf16⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S768x1024, .bf16⟩
  | .local _ .vmem, ⟨9, _⟩ => ⟨S768x1024, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S199, .i32⟩
  | .local _ .smem, ⟨1, _⟩ => ⟨S1, .i32⟩
  | _, _ => ⟨S152832x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![199], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v13 : BitVec 32 := Scalar.extui v1
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S199.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S199) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S199.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S199) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S199.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S199) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S199 : Shape := ⟨1, ![199]⟩
abbrev S1 : Shape := ⟨1, ![1]⟩
abbrev S152832x1024 : Shape := ⟨2, ![152832, 1024]⟩
abbrev S2x64x1024x256 : Shape := ⟨4, ![2, 64, 1024, 256]⟩
abbrev S2x64x256x1024 : Shape := ⟨4, ![2, 64, 256, 1024]⟩
abbrev S152832 : Shape := ⟨1, ![152832]⟩
abbrev S199x768 : Shape := ⟨2, ![199, 768]⟩
abbrev S1x64x1024x256 : Shape := ⟨4, ![1, 64, 1024, 256]⟩
abbrev S64x1024x256 : Shape := ⟨3, ![64, 1024, 256]⟩
abbrev S_ : Shape := ⟨0, ![]⟩
abbrev S152832x1 : Shape := ⟨2, ![152832, 1]⟩
abbrev S152832x1024x256 : Shape := ⟨3, ![152832, 1024, 256]⟩
abbrev S152832x256 : Shape := ⟨2, ![152832, 256]⟩
abbrev S1x64x256x1024 : Shape := ⟨4, ![1, 64, 256, 1024]⟩
abbrev S64x256x1024 : Shape := ⟨3, ![64, 256, 1024]⟩
abbrev S152832x256x1024 : Shape := ⟨3, ![152832, 256, 1024]⟩

abbrev nBuf : Space → Nat
  | .hbm => 65
  | .vmem => 0
  | .smem => 0
  | _ => 0

abbrev bufTy : (tb : Table) → Fin (tcTables nBuf tb) → BufTy
  | .hbm, ⟨0, _⟩ => ⟨S199, .i32⟩
  | .hbm, ⟨1, _⟩ => ⟨S1, .i32⟩
  | .hbm, ⟨2, _⟩ => ⟨S152832x1024, .bf16⟩
  | .hbm, ⟨3, _⟩ => ⟨S2x64x1024x256, .f32⟩
  | .hbm, ⟨4, _⟩ => ⟨S2x64x1024x256, .f32⟩
  | .hbm, ⟨5, _⟩ => ⟨S2x64x256x1024, .f32⟩
  | .hbm, ⟨6, _⟩ => ⟨S152832, .i32⟩
  | .hbm, ⟨7, _⟩ => ⟨S199x768, .i32⟩
  | .hbm, ⟨8, _⟩ => ⟨S152832, .i32⟩
  | .hbm, ⟨9, _⟩ => ⟨S1x64x1024x256, .f32⟩
  | .hbm, ⟨10, _⟩ => ⟨S64x1024x256, .f32⟩
  | .hbm, ⟨11, _⟩ => ⟨S_, .i32⟩
  | .hbm, ⟨12, _⟩ => ⟨S152832, .i32⟩
  | .hbm, ⟨13, _⟩ => ⟨S152832, .i1⟩
  | .hbm, ⟨14, _⟩ => ⟨S_, .i32⟩
  | .hbm, ⟨15, _⟩ => ⟨S152832, .i32⟩
  | .hbm, ⟨16, _⟩ => ⟨S152832, .i32⟩
  | .hbm, ⟨17, _⟩ => ⟨S152832, .i32⟩
  | .hbm, ⟨18, _⟩ => ⟨S152832x1, .i32⟩
  | .hbm, ⟨19, _⟩ => ⟨S152832x1024x256, .f32⟩
  | .hbm, ⟨20, _⟩ => ⟨S152832x256, .f32⟩
  | .hbm, ⟨21, _⟩ => ⟨S152832x256, .f32⟩
  | .hbm, ⟨22, _⟩ => ⟨S152832x256, .f32⟩
  | .hbm, ⟨23, _⟩ => ⟨S_, .f32⟩
  | .hbm, ⟨24, _⟩ => ⟨S152832x256, .f32⟩
  | .hbm, ⟨25, _⟩ => ⟨S152832x256, .f32⟩
  | .hbm, ⟨26, _⟩ => ⟨S_, .f32⟩
  | .hbm, ⟨27, _⟩ => ⟨S152832x256, .f32⟩
  | .hbm, ⟨28, _⟩ => ⟨S152832x256, .f32⟩
  | .hbm, ⟨29, _⟩ => ⟨S152832x256, .f32⟩
  | .hbm, ⟨30, _⟩ => ⟨S1x64x1024x256, .f32⟩
  | .hbm, ⟨31, _⟩ => ⟨S64x1024x256, .f32⟩
  | .hbm, ⟨32, _⟩ => ⟨S_, .i32⟩
  | .hbm, ⟨33, _⟩ => ⟨S152832, .i32⟩
  | .hbm, ⟨34, _⟩ => ⟨S152832, .i1⟩
  | .hbm, ⟨35, _⟩ => ⟨S_, .i32⟩
  | .hbm, ⟨36, _⟩ => ⟨S152832, .i32⟩
  | .hbm, ⟨37, _⟩ => ⟨S152832, .i32⟩
  | .hbm, ⟨38, _⟩ => ⟨S152832, .i32⟩
  | .hbm, ⟨39, _⟩ => ⟨S152832x1, .i32⟩
  | .hbm, ⟨40, _⟩ => ⟨S152832x1024x256, .f32⟩
  | .hbm, ⟨41, _⟩ => ⟨S152832x256, .f32⟩
  | .hbm, ⟨42, _⟩ => ⟨S152832x256, .f32⟩
  | .hbm, ⟨43, _⟩ => ⟨S1x64x256x1024, .f32⟩
  | .hbm, ⟨44, _⟩ => ⟨S64x256x1024, .f32⟩
  | .hbm, ⟨45, _⟩ => ⟨S_, .i32⟩
  | .hbm, ⟨46, _⟩ => ⟨S152832, .i32⟩
  | .hbm, ⟨47, _⟩ => ⟨S152832, .i1⟩
  | .hbm, ⟨48, _⟩ => ⟨S_, .i32⟩
  | .hbm, ⟨49, _⟩ => ⟨S152832, .i32⟩
  | .hbm, ⟨50, _⟩ => ⟨S152832, .i32⟩
  | .hbm, ⟨51, _⟩ => ⟨S152832, .i32⟩
  | .hbm, ⟨52, _⟩ => ⟨S152832x1, .i32⟩
  | .hbm, ⟨53, _⟩ => ⟨S152832x256x1024, .f32⟩
  | .hbm, ⟨54, _⟩ => ⟨S152832x1024, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S152832, .i32⟩
  | .hbm, ⟨59, _⟩ => ⟨S152832, .i1⟩
  | .hbm, ⟨60, _⟩ => ⟨S152832x1, .i1⟩
  | .hbm, ⟨61, _⟩ => ⟨S152832x1024, .f32⟩
  | .hbm, ⟨62, _⟩ => ⟨S152832x1024, .i1⟩
  | .hbm, ⟨63, _⟩ => ⟨S152832x1024, .f32⟩
  | .hbm, ⟨64, _⟩ => ⟨S152832x1024, .bf16⟩
  | _, _ => ⟨S199, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== Kernel3.lean ====
abbrev S32x256x1024 : Shape := ⟨3, ![32, 256, 1024]⟩
abbrev S2x1024x1024 : Shape := ⟨3, ![2, 1024, 1024]⟩
abbrev S1x6144 : Shape := ⟨2, ![1, 6144]⟩
abbrev S2x6144 : Shape := ⟨2, ![2, 6144]⟩
abbrev S2x1024 : Shape := ⟨2, ![2, 1024]⟩
abbrev S2x1024x2464 : Shape := ⟨3, ![2, 1024, 2464]⟩
abbrev S8192x1024 : Shape := ⟨2, ![8192, 1024]⟩
abbrev S2048x1024 : Shape := ⟨2, ![2048, 1024]⟩
abbrev S_ : Shape := ⟨0, ![]⟩
abbrev S5x6144 : Shape := ⟨2, ![5, 6144]⟩
abbrev S8x6144 : Shape := ⟨2, ![8, 6144]⟩
abbrev S8x1x6144 : Shape := ⟨3, ![8, 1, 6144]⟩
abbrev S1x1024 : Shape := ⟨2, ![1, 1024]⟩
abbrev S1024 : Shape := ⟨1, ![1024]⟩
abbrev S2x1024x32 : Shape := ⟨3, ![2, 1024, 32]⟩
abbrev S2x1024x64 : Shape := ⟨3, ![2, 1024, 64]⟩
abbrev S2x1024x384 : Shape := ⟨3, ![2, 1024, 384]⟩
abbrev S2x1024x1536 : Shape := ⟨3, ![2, 1024, 1536]⟩
abbrev S2x1024x256 : Shape := ⟨3, ![2, 1024, 256]⟩
abbrev S2x1024x2560 : Shape := ⟨3, ![2, 1024, 2560]⟩
abbrev S10240x512 : Shape := ⟨2, ![10240, 512]⟩
abbrev S10240x1280 : Shape := ⟨2, ![10240, 1280]⟩
abbrev S10240x256 : Shape := ⟨2, ![10240, 256]⟩
abbrev S512x1024 : Shape := ⟨2, ![512, 1024]⟩
abbrev S1x1x6144 : Shape := ⟨3, ![1, 1, 6144]⟩
abbrev S1x1024x2560 : Shape := ⟨3, ![1, 1024, 2560]⟩
abbrev S512x512 : Shape := ⟨2, ![512, 512]⟩
abbrev S512x1280 : Shape := ⟨2, ![512, 1280]⟩
abbrev S512x256 : Shape := ⟨2, ![512, 256]⟩
abbrev S1x1x1024 : Shape := ⟨3, ![1, 1, 1024]⟩
abbrev S512 : Shape := ⟨1, ![512]⟩
abbrev S512x1 : Shape := ⟨2, ![512, 1]⟩
abbrev S1024x2560 : Shape := ⟨2, ![1024, 2560]⟩
abbrev S512x2560 : Shape := ⟨2, ![512, 2560]⟩
abbrev S10240x64 : Shape := ⟨2, ![10240, 64]⟩
abbrev S10240x416 : Shape := ⟨2, ![10240, 416]⟩
abbrev S8192x32 : Shape := ⟨2, ![8192, 32]⟩
abbrev S32x256x32 : Shape := ⟨3, ![32, 256, 32]⟩
abbrev S8192x128 : Shape := ⟨2, ![8192, 128]⟩
abbrev S32x256x2x64 : Shape := ⟨4, ![32, 256, 2, 64]⟩

abbrev nBuf : Space → Nat
  | .hbm => 43
  | .vmem => 16
  | .smem => 0
  | _ => 0

abbrev bufTy : (tb : Table) → Fin (tcTables nBuf tb) → BufTy
  | .hbm, ⟨0, _⟩ => ⟨S32x256x1024, .f32⟩
  | .hbm, ⟨1, _⟩ => ⟨S2x1024x1024, .f32⟩
  | .hbm, ⟨2, _⟩ => ⟨S1x6144, .f32⟩
  | .hbm, ⟨3, _⟩ => ⟨S2x6144, .f32⟩
  | .hbm, ⟨4, _⟩ => ⟨S2x1024, .f32⟩
  | .hbm, ⟨5, _⟩ => ⟨S2x1024x2464, .f32⟩
  | .hbm, ⟨6, _⟩ => ⟨S8192x1024, .f32⟩
  | .hbm, ⟨7, _⟩ => ⟨S2048x1024, .f32⟩
  | .hbm, ⟨8, _⟩ => ⟨S_, .f32⟩
  | .hbm, ⟨9, _⟩ => ⟨S5x6144, .f32⟩
  | .hbm, ⟨10, _⟩ => ⟨S8x6144, .f32⟩
  | .hbm, ⟨11, _⟩ => ⟨S8x1x6144, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S2x1024x32, .f32⟩
  | .hbm, ⟨16, _⟩ => ⟨S2x1024x64, .f32⟩
  | .hbm, ⟨17, _⟩ => ⟨S2x1024x64, .f32⟩
  | .hbm, ⟨18, _⟩ => ⟨S2x1024x64, .f32⟩
  | .hbm, ⟨19, _⟩ => ⟨S2x1024x64, .f32⟩
  | .hbm, ⟨20, _⟩ => ⟨S2x1024x384, .f32⟩
  | .hbm, ⟨21, _⟩ => ⟨S2x1024x1536, .f32⟩
  | .hbm, ⟨22, _⟩ => ⟨S2x1024x256, .f32⟩
  | .hbm, ⟨23, _⟩ => ⟨S2x1024x2560, .f32⟩
  | .hbm, ⟨24, _⟩ => ⟨S2x1024x2560, .bf16⟩
  | .hbm, ⟨25, _⟩ => ⟨S10240x512, .f32⟩
  | .hbm, ⟨26, _⟩ => ⟨S10240x1280, .f32⟩
  | .hbm, ⟨27, _⟩ => ⟨S10240x256, .f32⟩
  | .hbm, ⟨28, _⟩ => ⟨S10240x512, .f32⟩
  | .hbm, ⟨29, _⟩ => ⟨S10240x64, .f32⟩
  | .hbm, ⟨30, _⟩ => ⟨S10240x64, .f32⟩
  | .hbm, ⟨31, _⟩ => ⟨S10240x64, .f32⟩
  | .hbm, ⟨32, _⟩ => ⟨S10240x64, .f32⟩
  | .hbm, ⟨33, _⟩ => ⟨S10240x256, .f32⟩
  | .hbm, ⟨34, _⟩ => ⟨S10240x416, .f32⟩
  | .hbm, ⟨35, _⟩ => ⟨S10240x256, .f32⟩
  | .hbm, ⟨36, _⟩ => ⟨S10240x512, .f32⟩
  | .hbm, ⟨37, _⟩ => ⟨S8192x32, .f32⟩
  | .hbm, ⟨38, _⟩ => ⟨S32x256x32, .f32⟩
  | .hbm, ⟨39, _⟩ => ⟨S8192x128, .f32⟩
  | .hbm, ⟨40, _⟩ => ⟨S32x256x2x64, .f32⟩
  | .hbm, ⟨41, _⟩ => ⟨S8192x128, .f32⟩
  | .hbm, ⟨42, _⟩ => ⟨S32x256x2x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x6144, .f32⟩
  | .local _ .vmem, ⟨5, _⟩ => ⟨S1x1x6144, .f32⟩
  | .local _ .vmem, ⟨6, _⟩ => ⟨S1x1024, .f32⟩
  | .local _ .vmem, ⟨7, _⟩ => ⟨S1x1024x2560, .bf16⟩
  | .local _ .vmem, ⟨8, _⟩ => ⟨S512x512, .f32⟩
  | .local _ .vmem, ⟨9, _⟩ => ⟨S512x512, .f32⟩
  | .local _ .vmem, ⟨10, _⟩ => ⟨S512x1280, .f32⟩
  | .local _ .vmem, ⟨11, _⟩ => ⟨S512x1280, .f32⟩
  | .local _ .vmem, ⟨12, _⟩ => ⟨S512x256, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.muli arg0 c2_i32
  let c32_i32 : BitVec 32 := 32#32
  let v1 : BitVec 1 := Scalar.cmpi .slt v0 c32_i32
  let c32_i32_0 : BitVec 32 := 32#32
  let v2 : BitVec 32 := Scalar.subi v0 c32_i32_0
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32x256x1024 : Shape := ⟨3, ![32, 256, 1024]⟩
abbrev S2x1024x1024 : Shape := ⟨3, ![2, 1024, 1024]⟩
abbrev S1x6144 : Shape := ⟨2, ![1, 6144]⟩
abbrev S2x6144 : Shape := ⟨2, ![2, 6144]⟩
abbrev S2x1024 : Shape := ⟨2, ![2, 1024]⟩
abbrev S2x1024x2464 : Shape := ⟨3, ![2, 1024, 2464]⟩
abbrev S1x1x6144 : Shape := ⟨3, ![1, 1, 6144]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1024x2464 : Shape := ⟨3, ![1, 1024, 2464]⟩
abbrev S1024x2464 : Shape := ⟨2, ![1024, 2464]⟩
abbrev S32x256x2464 : Shape := ⟨3, ![32, 256, 2464]⟩
abbrev S32x256x416 : Shape := ⟨3, ![32, 256, 416]⟩
abbrev S32x256x1280 : Shape := ⟨3, ![32, 256, 1280]⟩
abbrev S32x256x256 : Shape := ⟨3, ![32, 256, 256]⟩
abbrev S32x256x512 : Shape := ⟨3, ![32, 256, 512]⟩
abbrev S2x1x6144 : Shape := ⟨3, ![2, 1, 6144]⟩
abbrev S2x1x1024 : Shape := ⟨3, ![2, 1, 1024]⟩
abbrev S2x1024x1 : Shape := ⟨3, ![2, 1024, 1]⟩
abbrev S2x1024x416 : Shape := ⟨3, ![2, 1024, 416]⟩
abbrev S2x1024x1280 : Shape := ⟨3, ![2, 1024, 1280]⟩
abbrev S2x1024x256 : Shape := ⟨3, ![2, 1024, 256]⟩
abbrev S2x1024x512 : Shape := ⟨3, ![2, 1024, 512]⟩
abbrev S32x256x128 : Shape := ⟨3, ![32, 256, 128]⟩
abbrev S32x256x32 : Shape := ⟨3, ![32, 256, 32]⟩
abbrev S8192x416 : Shape := ⟨2, ![8192, 416]⟩
abbrev S2048x416 : Shape := ⟨2, ![2048, 416]⟩
abbrev S10240x416 : Shape := ⟨2, ![10240, 416]⟩
abbrev S8192x1280 : Shape := ⟨2, ![8192, 1280]⟩
abbrev S2048x1280 : Shape := ⟨2, ![2048, 1280]⟩
abbrev S10240x1280 : Shape := ⟨2, ![10240, 1280]⟩
abbrev S8192x256 : Shape := ⟨2, ![8192, 256]⟩
abbrev S2048x256 : Shape := ⟨2, ![2048, 256]⟩
abbrev S10240x256 : Shape := ⟨2, ![10240, 256]⟩
abbrev S8192x512 : Shape := ⟨2, ![8192, 512]⟩
abbrev S2048x512 : Shape := ⟨2, ![2048, 512]⟩
abbrev S10240x512 : Shape := ⟨2, ![10240, 512]⟩
abbrev S32x256x2x64 : Shape := ⟨4, ![32, 256, 2, 64]⟩

abbrev nBuf : Space → Nat
  | .hbm => 104
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S2x1024x1024, .f32⟩
  | .hbm, ⟨2, _⟩ => ⟨S1x6144, .f32⟩
  | .hbm, ⟨3, _⟩ => ⟨S2x6144, .f32⟩
  | .hbm, ⟨4, _⟩ => ⟨S2x1024, .f32⟩
  | .hbm, ⟨5, _⟩ => ⟨S2x1024x2464, .f32⟩
  | .hbm, ⟨6, _⟩ => ⟨S1x1x6144, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1024, .f32⟩
  | .hbm, ⟨14, _⟩ => ⟨S1024, .f32⟩
  | .hbm, ⟨15, _⟩ => ⟨S32x256x1024, .f32⟩
  | .hbm, ⟨16, _⟩ => ⟨S_, .f32⟩
  | .hbm, ⟨17, _⟩ => ⟨S32x256, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S_, .f32⟩
  | .hbm, ⟨23, _⟩ => ⟨S32x256x1, .f32⟩
  | .hbm, ⟨24, _⟩ => ⟨S32x256x1, .f32⟩
  | .hbm, ⟨25, _⟩ => ⟨S32x256x1, .f32⟩
  | .hbm, ⟨26, _⟩ => ⟨S32x256x1024, .f32⟩
  | .hbm, ⟨27, _⟩ => ⟨S32x256x1024, .f32⟩
  | .hbm, ⟨28, _⟩ => ⟨S1x1x1024, .f32⟩
  | .hbm, ⟨29, _⟩ => ⟨S32x256x1024, .f32⟩
  | .hbm, ⟨30, _⟩ => ⟨S32x256x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S1x1024x2464, .f32⟩
  | .hbm, ⟨39, _⟩ => ⟨S1024x2464, .f32⟩
  | .hbm, ⟨40, _⟩ => ⟨S32x256x2464, .f32⟩
  | .hbm, ⟨41, _⟩ => ⟨S32x256x416, .f32⟩
  | .hbm, ⟨42, _⟩ => ⟨S32x256x1280, .f32⟩
  | .hbm, ⟨43, _⟩ => ⟨S32x256x256, .f32⟩
  | .hbm, ⟨44, _⟩ => ⟨S32x256x512, .f32⟩
  | .hbm, ⟨45, _⟩ => ⟨S2x1x6144, .f32⟩
  | .hbm, ⟨46, _⟩ => ⟨S2x1x1024, .f32⟩
  | .hbm, ⟨47, _⟩ => ⟨S2x1x1024, .f32⟩
  | .hbm, ⟨48, _⟩ => ⟨S2x1x1024, .f32⟩
  | .hbm, ⟨49, _⟩ => ⟨S2x1x1024, .f32⟩
  | .hbm, ⟨50, _⟩ => ⟨S2x1x1024, .f32⟩
  | .hbm, ⟨51, _⟩ => ⟨S2x1x1024, .f32⟩
  | .hbm, ⟨52, _⟩ => ⟨S1x1024, .f32⟩
  | .hbm, ⟨53, _⟩ => ⟨S1024, .f32⟩
  | .hbm, ⟨54, _⟩ => ⟨S2x1024x1024, .f32⟩
  | .hbm, ⟨55, _⟩ => ⟨S_, .f32⟩
  | .hbm, ⟨56, _⟩ => ⟨S2x1024, .f32⟩
  | .hbm, ⟨57, _⟩ => ⟨S2x1024x1, .f32⟩
  | .hbm, ⟨58, _⟩ => ⟨S_, .f32⟩
  | .hbm, ⟨59, _⟩ => ⟨S2x1024x1, .f32⟩
  | .hbm, ⟨60, _⟩ => ⟨S2x1024x1, .f32⟩
  | .hbm, ⟨61, _⟩ => ⟨S_, .f32⟩
  | .hbm, ⟨62, _⟩ => ⟨S2x1024x1, .f32⟩
  | .hbm, ⟨63, _⟩ => ⟨S2x1024x1, .f32⟩
  | .hbm, ⟨64, _⟩ => ⟨S2x1024x1, .f32⟩
  | .hbm, ⟨65, _⟩ => ⟨S2x1024x1024, .f32⟩
  | .hbm, ⟨66, _⟩ => ⟨S2x1024x1024, .f32⟩
  | .hbm, ⟨67, _⟩ => ⟨S1x1x1024, .f32⟩
  | .hbm, ⟨68, _⟩ => ⟨S2x1024x1024, .f32⟩
  | .hbm, ⟨69, _⟩ => ⟨S2x1024x1024, .f32⟩
  | .hbm, ⟨70, _⟩ => ⟨S_, .f32⟩
  | .hbm, ⟨71, _⟩ => ⟨S2x1x1024, .f32⟩
  | .hbm, ⟨72, _⟩ => ⟨S2x1x1024, .f32⟩
  | .hbm, ⟨73, _⟩ => ⟨S2x1024x1024, .f32⟩
  | .hbm, ⟨74, _⟩ => ⟨S2x1024x1024, .f32⟩
  | .hbm, ⟨75, _⟩ => ⟨S2x1024x1024, .f32⟩
  | .hbm, ⟨76, _⟩ => ⟨S2x1024x1024, .f32⟩
  | .hbm, ⟨77, _⟩ => ⟨S1x1024x2464, .f32⟩
  | .hbm, ⟨78, _⟩ => ⟨S1024x2464, .f32⟩
  | .hbm, ⟨79, _⟩ => ⟨S2x1024x2464, .f32⟩
  | .hbm, ⟨80, _⟩ => ⟨S2x1024x416, .f32⟩
  | .hbm, ⟨81, _⟩ => ⟨S2x1024x1280, .f32⟩
  | .hbm, ⟨82, _⟩ => ⟨S2x1024x256, .f32⟩
  | .hbm, ⟨83, _⟩ => ⟨S2x1024x512, .f32⟩
  | .hbm, ⟨84, _⟩ => ⟨S32x256x256, .f32⟩
  | .hbm, ⟨85, _⟩ => ⟨S32x256x128, .f32⟩
  | .hbm, ⟨86, _⟩ => ⟨S32x256x32, .f32⟩
  | .hbm, ⟨87, _⟩ => ⟨S32x256x256, .f32⟩
  | .hbm, ⟨88, _⟩ => ⟨S32x256x128, .f32⟩
  | .hbm, ⟨89, _⟩ => ⟨S32x256x128, .f32⟩
  | .hbm, ⟨90, _⟩ => ⟨S8192x416, .f32⟩
  | .hbm, ⟨91, _⟩ => ⟨S2048x416, .f32⟩
  | .hbm, ⟨92, _⟩ => ⟨S10240x416, .f32⟩
  | .hbm, ⟨93, _⟩ => ⟨S8192x1280, .f32⟩
  | .hbm, ⟨94, _⟩ => ⟨S2048x1280, .f32⟩
  | .hbm, ⟨95, _⟩ => ⟨S10240x1280, .f32⟩
  | .hbm, ⟨96, _⟩ => ⟨S8192x256, .f32⟩
  | .hbm, ⟨97, _⟩ => ⟨S2048x256, .f32⟩
  | .hbm, ⟨98, _⟩ => ⟨S10240x256, .f32⟩
  | .hbm, ⟨99, _⟩ => ⟨S8192x512, .f32⟩
  | .hbm, ⟨100, _⟩ => ⟨S2048x512, .f32⟩
  | .hbm, ⟨101, _⟩ => ⟨S10240x512, .f32⟩
  | .hbm, ⟨102, _⟩ => ⟨S32x256x2x64, .f32⟩
  | .hbm, ⟨103, _⟩ => ⟨S32x256x2x64, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩

abbrev nD : Nat := 1
abbrev τ : Topo := Topo.v7x

variable {F : FTy → Type} [FloatOps F]
-- ==== Kernel4.lean ====
abbrev S1024 : Shape := ⟨1, ![1024]⟩
abbrev S2x1024 : Shape := ⟨2, ![2, 1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩
abbrev S2x2x6144 : Shape := ⟨3, ![2, 2, 6144]⟩

abbrev nBuf : Space → Nat
  | .hbm => 12
  | .vmem => 7
  | .smem => 0
  | _ => 0

abbrev bufTy : (tb : Table) → Fin (tcTables nBuf tb) → BufTy
  | .hbm, ⟨0, _⟩ => ⟨S1024, .f32⟩
  | .hbm, ⟨1, _⟩ => ⟨S2x1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .hbm, ⟨10, _⟩ => ⟨S2x1x6144, .f32⟩
  | .hbm, ⟨11, _⟩ => ⟨S2x2x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S1024 : Shape := ⟨1, ![1024]⟩
abbrev S2x1024 : Shape := ⟨2, ![2, 1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S1x1x6144 : Shape := ⟨3, ![1, 1, 6144]⟩
abbrev S2x1x6144 : Shape := ⟨3, ![2, 1, 6144]⟩
abbrev S1x2x6144 : Shape := ⟨3, ![1, 2, 6144]⟩
abbrev S2x2x6144 : Shape := ⟨3, ![2, 2, 6144]⟩

abbrev nBuf : Space → Nat
  | .hbm => 77
  | .vmem => 0
  | .smem => 0
  | _ => 0

abbrev bufTy : (tb : Table) → Fin (tcTables nBuf tb) → BufTy
  | .hbm, ⟨0, _⟩ => ⟨S1024, .f32⟩
  | .hbm, ⟨1, _⟩ => ⟨S2x1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024x6144, .f32⟩
  | .hbm, ⟨15, _⟩ => ⟨S1024x6144, .f32⟩
  | .hbm, ⟨16, _⟩ => ⟨S1x6144, .f32⟩
  | .hbm, ⟨17, _⟩ => ⟨S1x6144, .f32⟩
  | .hbm, ⟨18, _⟩ => ⟨S6144, .f32⟩
  | .hbm, ⟨19, _⟩ => ⟨S1x6144, .f32⟩
  | .hbm, ⟨20, _⟩ => ⟨S1x6144, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024x6144, .f32⟩
  | .hbm, ⟨31, _⟩ => ⟨S1024x6144, .f32⟩
  | .hbm, ⟨32, _⟩ => ⟨S1x6144, .f32⟩
  | .hbm, ⟨33, _⟩ => ⟨S1x6144, .f32⟩
  | .hbm, ⟨34, _⟩ => ⟨S6144, .f32⟩
  | .hbm, ⟨35, _⟩ => ⟨S1x6144, .f32⟩
  | .hbm, ⟨36, _⟩ => ⟨S1x6144, .f32⟩
  | .hbm, ⟨37, _⟩ => ⟨S1x1x6144, .f32⟩
  | .hbm, ⟨38, _⟩ => ⟨S1x1x6144, .f32⟩
  | .hbm, ⟨39, _⟩ => ⟨S2x1x6144, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S2x1024, .f32⟩
  | .hbm, ⟨47, _⟩ => ⟨S2x1024, .f32⟩
  | .hbm, ⟨48, _⟩ => ⟨S2x1024, .f32⟩
  | .hbm, ⟨49, _⟩ => ⟨S1x1024x6144, .f32⟩
  | .hbm, ⟨50, _⟩ => ⟨S1024x6144, .f32⟩
  | .hbm, ⟨51, _⟩ => ⟨S2x6144, .f32⟩
  | .hbm, ⟨52, _⟩ => ⟨S1x6144, .f32⟩
  | .hbm, ⟨53, _⟩ => ⟨S6144, .f32⟩
  | .hbm, ⟨54, _⟩ => ⟨S1x6144, .f32⟩
  | .hbm, ⟨55, _⟩ => ⟨S2x6144, .f32⟩
  | .hbm, ⟨56, _⟩ => ⟨S2x6144, .f32⟩
  | .hbm, ⟨57, _⟩ => ⟨S2x1024, .f32⟩
  | .hbm, ⟨58, _⟩ => ⟨S2x1024, .f32⟩
  | .hbm, ⟨59, _⟩ => ⟨S_, .f32⟩
  | .hbm, ⟨60, _⟩ => ⟨S2x1024, .f32⟩
  | .hbm, ⟨61, _⟩ => ⟨S2x1024, .f32⟩
  | .hbm, ⟨62, _⟩ => ⟨S_, .f32⟩
  | .hbm, ⟨63, _⟩ => ⟨S2x1024, .f32⟩
  | .hbm, ⟨64, _⟩ => ⟨S2x1024, .f32⟩
  | .hbm, ⟨65, _⟩ => ⟨S2x1024, .f32⟩
  | .hbm, ⟨66, _⟩ => ⟨S1x1024x6144, .f32⟩
  | .hbm, ⟨67, _⟩ => ⟨S1024x6144, .f32⟩
  | .hbm, ⟨68, _⟩ => ⟨S2x6144, .f32⟩
  | .hbm, ⟨69, _⟩ => ⟨S1x6144, .f32⟩
  | .hbm, ⟨70, _⟩ => ⟨S6144, .f32⟩
  | .hbm, ⟨71, _⟩ => ⟨S1x6144, .f32⟩
  | .hbm, ⟨72, _⟩ => ⟨S2x6144, .f32⟩
  | .hbm, ⟨73, _⟩ => ⟨S2x6144, .f32⟩
  | .hbm, ⟨74, _⟩ => ⟨S1x2x6144, .f32⟩
  | .hbm, ⟨75, _⟩ => ⟨S1x2x6144, .f32⟩
  | .hbm, ⟨76, _⟩ => ⟨S2x2x6144, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_call3_v0 : Ref sig .tc := ⟨.hbm, 57, rfl⟩
abbrev main_call3_v1 : Ref sig .tc := ⟨.hbm, 58, rfl⟩
abbrev main_call3_cst : Ref sig .tc := ⟨.hbm, 59, rfl⟩
abbrev main_call3_v2 : Ref sig .tc := ⟨.hbm, 60, rfl⟩
abbrev main_call3_v3 : Ref sig .tc := ⟨.hbm, 61, rfl⟩
abbrev main_call3_cst_0 : Ref sig .tc := ⟨.hbm, 62, rfl⟩
abbrev main_call3_v4 : Ref sig .tc := ⟨.hbm, 63, rfl⟩
abbrev main_call3_v5 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩

abbrev nD : Nat := 1
abbrev τ : Topo := Topo.v7x

variable {F : FTy → Type} [FloatOps F]
-- ==== Kernel5.lean ====
abbrev S10240x1280 : Shape := ⟨2, ![10240, 1280]⟩
abbrev S256 : Shape := ⟨1, ![256]⟩
abbrev S64 : Shape := ⟨1, ![64]⟩
abbrev S1x256 : Shape := ⟨2, ![1, 256]⟩
abbrev S1x64 : Shape := ⟨2, ![1, 64]⟩
abbrev S4x64 : Shape := ⟨2, ![4, 64]⟩
abbrev S8192x256 : Shape := ⟨2, ![8192, 256]⟩
abbrev S32x2x4x64x64 : Shape := ⟨5, ![32, 2, 4, 64, 64]⟩
abbrev S1024x1280 : Shape := ⟨2, ![1024, 1280]⟩
abbrev S1024x256 : Shape := ⟨2, ![1024, 256]⟩
abbrev S4x2x4x64x64 : Shape := ⟨5, ![4, 2, 4, 64, 64]⟩
abbrev S4x256x256 : Shape := ⟨3, ![4, 256, 256]⟩
abbrev S256x256 : Shape := ⟨2, ![256, 256]⟩
abbrev S8x32x256 : Shape := ⟨3, ![8, 32, 256]⟩
abbrev S8x1x256 : Shape := ⟨3, ![8, 1, 256]⟩
abbrev S1x256x256 : Shape := ⟨3, ![1, 256, 256]⟩
abbrev S32x256 : Shape := ⟨2, ![32, 256]⟩
abbrev S256x32 : Shape := ⟨2, ![256, 32]⟩
abbrev S1x64x64 : Shape := ⟨3, ![1, 64, 64]⟩
abbrev S64x64 : Shape := ⟨2, ![64, 64]⟩
abbrev S1x1x1x64x64 : Shape := ⟨5, ![1, 1, 1, 64, 64]⟩

abbrev nBuf : Space → Nat
  | .hbm => 13
  | .vmem => 18
  | .smem => 0
  | _ => 0

abbrev bufTy : (tb : Table) → Fin (tcTables nBuf tb) → BufTy
  | .hbm, ⟨0, _⟩ => ⟨S10240x1280, .f32⟩
  | .hbm, ⟨1, _⟩ => ⟨S256, .f32⟩
  | .hbm, ⟨2, _⟩ => ⟨S256, .f32⟩
  | .hbm, ⟨3, _⟩ => ⟨S64, .f32⟩
  | .hbm, ⟨4, _⟩ => ⟨S1x256, .f32⟩
  | .hbm, ⟨5, _⟩ => ⟨S1x256, .f32⟩
  | .hbm, ⟨6, _⟩ => ⟨S1x64, .f32⟩
  | .hbm, ⟨7, _⟩ => ⟨S4x64, .f32⟩
  | .hbm, ⟨8, _⟩ => ⟨S256, .f32⟩
  | .hbm, ⟨9, _⟩ => ⟨S1x256, .f32⟩
  | .hbm, ⟨10, _⟩ => ⟨S8192x256, .bf16⟩
  | .hbm, ⟨11, _⟩ => ⟨S32x2x4x64x64, .f32⟩
  | .hbm, ⟨12, _⟩ => ⟨S32x2x4x64x64, .f32⟩
  | .local _ .vmem, ⟨0, _⟩ => ⟨S1024x1280, .f32⟩
  | .local _ .vmem, ⟨1, _⟩ => ⟨S1024x1280, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1024x256, .bf16⟩
  | .local _ .vmem, ⟨6, _⟩ => ⟨S1024x256, .bf16⟩
  | .local _ .vmem, ⟨7, _⟩ => ⟨S4x2x4x64x64, .f32⟩
  | .local _ .vmem, ⟨8, _⟩ => ⟨S4x2x4x64x64, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S4x256x256, .f32⟩
  | .local _ .vmem, ⟨17, _⟩ => ⟨S4x256x256, .f32⟩
  | _, _ => ⟨S10240x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x2x4x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S10240x1280 : Shape := ⟨2, ![10240, 1280]⟩
abbrev S256 : Shape := ⟨1, ![256]⟩
abbrev S64 : Shape := ⟨1, ![64]⟩
abbrev S8192x1280 : Shape := ⟨2, ![8192, 1280]⟩
abbrev S32x256x1280 : Shape := ⟨3, ![32, 256, 1280]⟩
abbrev S32x256x256 : Shape := ⟨3, ![32, 256, 256]⟩
abbrev S32x256x4x64 : Shape := ⟨4, ![32, 256, 4, 64]⟩
abbrev S_ : Shape := ⟨0, ![]⟩
abbrev S1x1x256 : Shape := ⟨3, ![1, 1, 256]⟩
abbrev S32x2x4x64x64 : Shape := ⟨5, ![32, 2, 4, 64, 64]⟩
abbrev S32x1x4x64x64 : Shape := ⟨5, ![32, 1, 4, 64, 64]⟩
abbrev S32x4x64x64 : Shape := ⟨4, ![32, 4, 64, 64]⟩
abbrev S32x8x32x4x64 : Shape := ⟨5, ![32, 8, 32, 4, 64]⟩
abbrev S8x32x4x32x64 : Shape := ⟨5, ![8, 32, 4, 32, 64]⟩
abbrev S8x32x4x1x64 : Shape := ⟨5, ![8, 32, 4, 1, 64]⟩
abbrev S8x32x4x64 : Shape := ⟨4, ![8, 32, 4, 64]⟩
abbrev S1x32x4x64 : Shape := ⟨4, ![1, 32, 4, 64]⟩
abbrev S32x4x64 : Shape := ⟨3, ![32, 4, 64]⟩
abbrev S32x4x64x1 : Shape := ⟨4, ![32, 4, 64, 1]⟩
abbrev S1x32x4x32x64 : Shape := ⟨5, ![1, 32, 4, 32, 64]⟩
abbrev S32x4x32x64 : Shape := ⟨4, ![32, 4, 32, 64]⟩

abbrev nBuf : Space → Nat
  | .hbm => 280
  | .vmem => 0
  | .smem => 0
  | _ => 0

abbrev hbmTy0_0 (i : Nat) : BufTy := match i % 128 with
  | 0 => ⟨S10240x1280, .f32⟩
  | 1 => ⟨S256, .f32⟩
  | 2 => ⟨S256, .f32⟩
  | 3 => ⟨S64, .f32⟩
  | 4 => ⟨S8192x1280, .f32⟩
  | 5 => ⟨S32x256x1280, .f32⟩
  | 6 => ⟨S32x256x256, .f32⟩
  | 7 => ⟨S32x256x256, .f32⟩
  | 8 => ⟨S32x256x256, .f32⟩
  | 9 => ⟨S32x256x256, .f32⟩
  | 10 => ⟨S32x256x256, .f32⟩
  | 11 => ⟨S32x256x4x64, .f32⟩
  | 12 => ⟨S_, .f32⟩
  | 13 => ⟨S256, .f32⟩
  | 14 => ⟨S256, .f32⟩
  | 15 => ⟨S32x256x256, .f32⟩
  | 16 => ⟨S32x256x256, .f32⟩
  | 17 => ⟨S_, .f32⟩
  | 18 => ⟨S32x256x256, .f32⟩
  | 19 => ⟨S32x256x256, .f32⟩
  | 20 => ⟨S_, .f32⟩
  | 21 => ⟨S32x256x256, .f32⟩
  | 22 => ⟨S32x256x256, .f32⟩
  | 23 => ⟨S1x1x256, .f32⟩
  | 24 => ⟨S32x256x256, .f32⟩
  | 25 => ⟨S32x256x256, .f32⟩
  | 26 => ⟨S1x1x256, .f32⟩
  | 27 => ⟨S32x256x256, .f32⟩
  | 28 => ⟨S32x256x256, .f32⟩
  | 29 => ⟨S_, .f32⟩
  | 30 => ⟨S32x256x256, .f32⟩
  | 31 => ⟨S32x256x256, .f32⟩
  | 32 => ⟨S32x256x4x64, .f32⟩
  | 33 => ⟨S32x256x256, .f32⟩
  | 34 => ⟨S32x256x4x64, .f32⟩
  | 35 => ⟨S_, .f32⟩
  | 36 => ⟨S256, .f32⟩
  | 37 => ⟨S256, .f32⟩
  | 38 => ⟨S32x256x256, .f32⟩
  | 39 => ⟨S32x256x256, .f32⟩
  | 40 => ⟨S_, .f32⟩
  | 41 => ⟨S32x256x256, .f32⟩
  | 42 => ⟨S32x256x256, .f32⟩
  | 43 => ⟨S_, .f32⟩
  | 44 => ⟨S32x256x256, .f32⟩
  | 45 => ⟨S32x256x256, .f32⟩
  | 46 => ⟨S1x1x256, .f32⟩
  | 47 => ⟨S32x256x256, .f32⟩
  | 48 => ⟨S32x256x256, .f32⟩
  | 49 => ⟨S1x1x256, .f32⟩
  | 50 => ⟨S32x256x256, .f32⟩
  | 51 => ⟨S32x256x256, .f32⟩
  | 52 => ⟨S_, .f32⟩
  | 53 => ⟨S32x256x256, .f32⟩
  | 54 => ⟨S32x256x256, .f32⟩
  | 55 => ⟨S32x256x4x64, .f32⟩
  | 56 => ⟨S32x256x256, .f32⟩
  | 57 => ⟨S32x256x4x64, .f32⟩
  | 58 => ⟨S_, .f32⟩
  | 59 => ⟨S32x2x4x64x64, .f32⟩
  | 60 => ⟨S32x1x4x64x64, .f32⟩
  | 61 => ⟨S32x4x64x64, .f32⟩
  | 62 => ⟨S32x8x32x4x64, .f32⟩
  | 63 => ⟨S8x32x4x32x64, .f32⟩
  | 64 => ⟨S32x8x32x4x64, .f32⟩
  | 65 => ⟨S8x32x4x32x64, .f32⟩
  | 66 => ⟨S32x8x32x4x64, .f32⟩
  | 67 => ⟨S8x32x4x32x64, .f32⟩
  | 68 => ⟨S_, .f32⟩
  | 69 => ⟨S_, .f32⟩
  | 70 => ⟨S8x32x4x32x64, .f32⟩
  | 71 => ⟨S8x32x4x1x64, .f32⟩
  | 72 => ⟨S8x32x4x32x64, .f32⟩
  | 73 => ⟨S8x32x4x32x64, .f32⟩
  | 74 => ⟨S8x32x4x32x64, .f32⟩
  | 75 => ⟨S8x32x4x32x64, .f32⟩
  | 76 => ⟨S8x32x4x1x64, .f32⟩
  | 77 => ⟨S8x32x4x64, .f32⟩
  | 78 => ⟨S8x32x4x64, .f32⟩
  | 79 => ⟨S1x32x4x64, .f32⟩
  | 80 => ⟨S32x4x64, .f32⟩
  | 81 => ⟨S32x4x64x1, .f32⟩
  | 82 => ⟨S32x4x64x64, .f32⟩
  | 83 => ⟨S32x4x64x64, .f32⟩
  | 84 => ⟨S1x32x4x32x64, .f32⟩
  | 85 => ⟨S32x4x32x64, .f32⟩
  | 86 => ⟨S1x32x4x32x64, .f32⟩
  | 87 => ⟨S32x4x32x64, .f32⟩
  | 88 => ⟨S32x4x64x64, .f32⟩
  | 89 => ⟨S32x4x64x64, .f32⟩
  | 90 => ⟨S1x32x4x64, .f32⟩
  | 91 => ⟨S32x4x64, .f32⟩
  | 92 => ⟨S32x4x64x1, .f32⟩
  | 93 => ⟨S32x4x64x64, .f32⟩
  | 94 => ⟨S32x4x64x64, .f32⟩
  | 95 => ⟨S1x32x4x32x64, .f32⟩
  | 96 => ⟨S32x4x32x64, .f32⟩
  | 97 => ⟨S1x32x4x32x64, .f32⟩
  | 98 => ⟨S32x4x32x64, .f32⟩
  | 99 => ⟨S32x4x64x64, .f32⟩
  | 100 => ⟨S32x4x64x64, .f32⟩
  | 101 => ⟨S1x32x4x64, .f32⟩
  | 102 => ⟨S32x4x64, .f32⟩
  | 103 => ⟨S32x4x64x1, .f32⟩
  | 104 => ⟨S32x4x64x64, .f32⟩
  | 105 => ⟨S32x4x64x64, .f32⟩
  | 106 => ⟨S1x32x4x32x64, .f32⟩
  | 107 => ⟨S32x4x32x64, .f32⟩
  | 108 => ⟨S1x32x4x32x64, .f32⟩
  | 109 => ⟨S32x4x32x64, .f32⟩
  | 110 => ⟨S32x4x64x64, .f32⟩
  | 111 => ⟨S32x4x64x64, .f32⟩
  | 112 => ⟨S1x32x4x64, .f32⟩
  | 113 => ⟨S32x4x64, .f32⟩
  | 114 => ⟨S32x4x64x1, .f32⟩
  | 115 => ⟨S32x4x64x64, .f32⟩
  | 116 => ⟨S32x4x64x64, .f32⟩
  | 117 => ⟨S1x32x4x32x64, .f32⟩
  | 118 => ⟨S32x4x32x64, .f32⟩
  | 119 => ⟨S1x32x4x32x64, .f32⟩
  | 120 => ⟨S32x4x32x64, .f32⟩
  | 121 => ⟨S32x4x64x64, .f32⟩
  | 122 => ⟨S32x4x64x64, .f32⟩
  | 123 => ⟨S1x32x4x64, .f32⟩
  | 124 => ⟨S32x4x64, .f32⟩
  | 125 => ⟨S32x4x64x1, .f32⟩
  | 126 => ⟨S32x4x64x64, .f32⟩
  | 127 => ⟨S32x4x64x64, .f32⟩
  | _ => ⟨S10240x1280, .f32⟩

abbrev hbmTy0_1 (i : Nat) : BufTy := match i % 128 with
  | 0 => ⟨S1x32x4x32x64, .f32⟩
  | 1 => ⟨S32x4x32x64, .f32⟩
  | 2 => ⟨S1x32x4x32x64, .f32⟩
  | 3 => ⟨S32x4x32x64, .f32⟩
  | 4 => ⟨S32x4x64x64, .f32⟩
  | 5 => ⟨S32x4x64x64, .f32⟩
  | 6 => ⟨S1x32x4x64, .f32⟩
  | 7 => ⟨S32x4x64, .f32⟩
  | 8 => ⟨S32x4x64x1, .f32⟩
  | 9 => ⟨S32x4x64x64, .f32⟩
  | 10 => ⟨S32x4x64x64, .f32⟩
  | 11 => ⟨S1x32x4x32x64, .f32⟩
  | 12 => ⟨S32x4x32x64, .f32⟩
  | 13 => ⟨S1x32x4x32x64, .f32⟩
  | 14 => ⟨S32x4x32x64, .f32⟩
  | 15 => ⟨S32x4x64x64, .f32⟩
  | 16 => ⟨S32x4x64x64, .f32⟩
  | 17 => ⟨S1x32x4x64, .f32⟩
  | 18 => ⟨S32x4x64, .f32⟩
  | 19 => ⟨S32x4x64x1, .f32⟩
  | 20 => ⟨S32x4x64x64, .f32⟩
  | 21 => ⟨S32x4x64x64, .f32⟩
  | 22 => ⟨S1x32x4x32x64, .f32⟩
  | 23 => ⟨S32x4x32x64, .f32⟩
  | 24 => ⟨S1x32x4x32x64, .f32⟩
  | 25 => ⟨S32x4x32x64, .f32⟩
  | 26 => ⟨S32x4x64x64, .f32⟩
  | 27 => ⟨S32x4x64x64, .f32⟩
  | 28 => ⟨S1x32x4x64, .f32⟩
  | 29 => ⟨S32x4x64, .f32⟩
  | 30 => ⟨S32x4x64x1, .f32⟩
  | 31 => ⟨S32x4x64x64, .f32⟩
  | 32 => ⟨S32x4x64x64, .f32⟩
  | 33 => ⟨S1x32x4x32x64, .f32⟩
  | 34 => ⟨S32x4x32x64, .f32⟩
  | 35 => ⟨S1x32x4x32x64, .f32⟩
  | 36 => ⟨S32x4x32x64, .f32⟩
  | 37 => ⟨S32x4x64x64, .f32⟩
  | 38 => ⟨S32x4x64x64, .f32⟩
  | 39 => ⟨S32x256x4x64, .f32⟩
  | 40 => ⟨S32x256x4x64, .f32⟩
  | 41 => ⟨S32x256x4x64, .f32⟩
  | 42 => ⟨S32x1x4x64x64, .f32⟩
  | 43 => ⟨S32x4x64x64, .f32⟩
  | 44 => ⟨S32x8x32x4x64, .f32⟩
  | 45 => ⟨S8x32x4x32x64, .f32⟩
  | 46 => ⟨S32x8x32x4x64, .f32⟩
  | 47 => ⟨S8x32x4x32x64, .f32⟩
  | 48 => ⟨S32x8x32x4x64, .f32⟩
  | 49 => ⟨S8x32x4x32x64, .f32⟩
  | 50 => ⟨S_, .f32⟩
  | 51 => ⟨S_, .f32⟩
  | 52 => ⟨S8x32x4x32x64, .f32⟩
  | 53 => ⟨S8x32x4x1x64, .f32⟩
  | 54 => ⟨S8x32x4x32x64, .f32⟩
  | 55 => ⟨S8x32x4x32x64, .f32⟩
  | 56 => ⟨S8x32x4x32x64, .f32⟩
  | 57 => ⟨S8x32x4x32x64, .f32⟩
  | 58 => ⟨S8x32x4x1x64, .f32⟩
  | 59 => ⟨S8x32x4x64, .f32⟩
  | 60 => ⟨S8x32x4x64, .f32⟩
  | 61 => ⟨S1x32x4x64, .f32⟩
  | 62 => ⟨S32x4x64, .f32⟩
  | 63 => ⟨S32x4x64x1, .f32⟩
  | 64 => ⟨S32x4x64x64, .f32⟩
  | 65 => ⟨S32x4x64x64, .f32⟩
  | 66 => ⟨S1x32x4x32x64, .f32⟩
  | 67 => ⟨S32x4x32x64, .f32⟩
  | 68 => ⟨S1x32x4x32x64, .f32⟩
  | 69 => ⟨S32x4x32x64, .f32⟩
  | 70 => ⟨S32x4x64x64, .f32⟩
  | 71 => ⟨S32x4x64x64, .f32⟩
  | 72 => ⟨S1x32x4x64, .f32⟩
  | 73 => ⟨S32x4x64, .f32⟩
  | 74 => ⟨S32x4x64x1, .f32⟩
  | 75 => ⟨S32x4x64x64, .f32⟩
  | 76 => ⟨S32x4x64x64, .f32⟩
  | 77 => ⟨S1x32x4x32x64, .f32⟩
  | 78 => ⟨S32x4x32x64, .f32⟩
  | 79 => ⟨S1x32x4x32x64, .f32⟩
  | 80 => ⟨S32x4x32x64, .f32⟩
  | 81 => ⟨S32x4x64x64, .f32⟩
  | 82 => ⟨S32x4x64x64, .f32⟩
  | 83 => ⟨S1x32x4x64, .f32⟩
  | 84 => ⟨S32x4x64, .f32⟩
  | 85 => ⟨S32x4x64x1, .f32⟩
  | 86 => ⟨S32x4x64x64, .f32⟩
  | 87 => ⟨S32x4x64x64, .f32⟩
  | 88 => ⟨S1x32x4x32x64, .f32⟩
  | 89 => ⟨S32x4x32x64, .f32⟩
  | 90 => ⟨S1x32x4x32x64, .f32⟩
  | 91 => ⟨S32x4x32x64, .f32⟩
  | 92 => ⟨S32x4x64x64, .f32⟩
  | 93 => ⟨S32x4x64x64, .f32⟩
  | 94 => ⟨S1x32x4x64, .f32⟩
  | 95 => ⟨S32x4x64, .f32⟩
  | 96 => ⟨S32x4x64x1, .f32⟩
  | 97 => ⟨S32x4x64x64, .f32⟩
  | 98 => ⟨S32x4x64x64, .f32⟩
  | 99 => ⟨S1x32x4x32x64, .f32⟩
  | 100 => ⟨S32x4x32x64, .f32⟩
  | 101 => ⟨S1x32x4x32x64, .f32⟩
  | 102 => ⟨S32x4x32x64, .f32⟩
  | 103 => ⟨S32x4x64x64, .f32⟩
  | 104 => ⟨S32x4x64x64, .f32⟩
  | 105 => ⟨S1x32x4x64, .f32⟩
  | 106 => ⟨S32x4x64, .f32⟩
  | 107 => ⟨S32x4x64x1, .f32⟩
  | 108 => ⟨S32x4x64x64, .f32⟩
  | 109 => ⟨S32x4x64x64, .f32⟩
  | 110 => ⟨S1x32x4x32x64, .f32⟩
  | 111 => ⟨S32x4x32x64, .f32⟩
  | 112 => ⟨S1x32x4x32x64, .f32⟩
  | 113 => ⟨S32x4x32x64, .f32⟩
  | 114 => ⟨S32x4x64x64, .f32⟩
  | 115 => ⟨S32x4x64x64, .f32⟩
  | 116 => ⟨S1x32x4x64, .f32⟩
  | 117 => ⟨S32x4x64, .f32⟩
  | 118 => ⟨S32x4x64x1, .f32⟩
  | 119 => ⟨S32x4x64x64, .f32⟩
  | 120 => ⟨S32x4x64x64, .f32⟩
  | 121 => ⟨S1x32x4x32x64, .f32⟩
  | 122 => ⟨S32x4x32x64, .f32⟩
  | 123 => ⟨S1x32x4x32x64, .f32⟩
  | 124 => ⟨S32x4x32x64, .f32⟩
  | 125 => ⟨S32x4x64x64, .f32⟩
  | 126 => ⟨S32x4x64x64, .f32⟩
  | 127 => ⟨S1x32x4x64, .f32⟩
  | _ => ⟨S10240x1280, .f32⟩

abbrev hbmTy0_2 (i : Nat) : BufTy := match i % 128 with
  | 0 => ⟨S32x4x64, .f32⟩
  | 1 => ⟨S32x4x64x1, .f32⟩
  | 2 => ⟨S32x4x64x64, .f32⟩
  | 3 => ⟨S32x4x64x64, .f32⟩
  | 4 => ⟨S1x32x4x32x64, .f32⟩
  | 5 => ⟨S32x4x32x64, .f32⟩
  | 6 => ⟨S1x32x4x32x64, .f32⟩
  | 7 => ⟨S32x4x32x64, .f32⟩
  | 8 => ⟨S32x4x64x64, .f32⟩
  | 9 => ⟨S32x4x64x64, .f32⟩
  | 10 => ⟨S1x32x4x64, .f32⟩
  | 11 => ⟨S32x4x64, .f32⟩
  | 12 => ⟨S32x4x64x1, .f32⟩
  | 13 => ⟨S32x4x64x64, .f32⟩
  | 14 => ⟨S32x4x64x64, .f32⟩
  | 15 => ⟨S1x32x4x32x64, .f32⟩
  | 16 => ⟨S32x4x32x64, .f32⟩
  | 17 => ⟨S1x32x4x32x64, .f32⟩
  | 18 => ⟨S32x4x32x64, .f32⟩
  | 19 => ⟨S32x4x64x64, .f32⟩
  | 20 => ⟨S32x4x64x64, .f32⟩
  | 21 => ⟨S32x1x4x64x64, .f32⟩
  | 22 => ⟨S32x1x4x64x64, .f32⟩
  | 23 => ⟨S32x2x4x64x64, .f32⟩
  | _ => ⟨S10240x1280, .f32⟩

abbrev hbmTy (i : Nat) : BufTy := match i / 128 with
  | 0 => hbmTy0_0 i
  | 1 => hbmTy0_1 i
  | 2 => hbmTy0_2 i
  | _ => ⟨S10240x1280, .f32⟩

abbrev bufTy : (tb : Table) → Fin (tcTables nBuf tb) → BufTy
  | .hbm, ⟨i, _⟩ => hbmTy i
  | _, _ => ⟨S10240x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_call0_call0_cst : Ref sig .tc := ⟨.hbm, 68, rfl⟩
abbrev main_call0_call0_v0 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_call4_call0_cst : Ref sig .tc := ⟨.hbm, 178, rfl⟩
abbrev main_call4_call0_v0 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩

abbrev nD : Nat := 1
abbrev τ : Topo := Topo.v7x

variable {F : FTy → Type} [FloatOps F]
-- ==== Kernel6.lean ====
abbrev S10240x512 : Shape := ⟨2, ![10240, 512]⟩
abbrev S4 : Shape := ⟨1, ![4]⟩
abbrev S10240x64 : Shape := ⟨2, ![10240, 64]⟩
abbrev S10240x256 : Shape := ⟨2, ![10240, 256]⟩
abbrev S8192x256 : Shape := ⟨2, ![8192, 256]⟩
abbrev S2048x512 : Shape := ⟨2, ![2048, 512]⟩
abbrev S2048x256 : Shape := ⟨2, ![2048, 256]⟩
abbrev S1 : Shape := ⟨1, ![1]⟩
abbrev S256x1 : Shape := ⟨2, ![256, 1]⟩
abbrev S1024x1 : Shape := ⟨2, ![1024, 1]⟩
abbrev S256x512 : Shape := ⟨2, ![256, 512]⟩
abbrev S256x256 : Shape := ⟨2, ![256, 256]⟩
abbrev S256x128 : Shape := ⟨2, ![256, 128]⟩
abbrev S512x128 : Shape := ⟨2, ![512, 128]⟩
abbrev S1024x128 : Shape := ⟨2, ![1024, 128]⟩
abbrev S1024x256 : Shape := ⟨2, ![1024, 256]⟩
abbrev S1024 : Shape := ⟨1, ![1024]⟩
abbrev S8192x64 : Shape := ⟨2, ![8192, 64]⟩

abbrev nBuf : Space → Nat
  | .hbm => 14
  | .vmem => 4
  | .smem => 1
  | _ => 0

abbrev bufTy : (tb : Table) → Fin (tcTables nBuf tb) → BufTy
  | .hbm, ⟨0, _⟩ => ⟨S10240x512, .f32⟩
  | .hbm, ⟨1, _⟩ => ⟨S4, .f32⟩
  | .hbm, ⟨2, _⟩ => ⟨S10240x64, .f32⟩
  | .hbm, ⟨3, _⟩ => ⟨S10240x64, .f32⟩
  | .hbm, ⟨4, _⟩ => ⟨S10240x64, .f32⟩
  | .hbm, ⟨5, _⟩ => ⟨S10240x64, .f32⟩
  | .hbm, ⟨6, _⟩ => ⟨S10240x256, .f32⟩
  | .hbm, ⟨7, _⟩ => ⟨S10240x512, .f32⟩
  | .hbm, ⟨8, _⟩ => ⟨S8192x256, .bf16⟩
  | .hbm, ⟨9, _⟩ => ⟨S8192x64, .bf16⟩
  | .hbm, ⟨10, _⟩ => ⟨S8192x64, .bf16⟩
  | .hbm, ⟨11, _⟩ => ⟨S8192x64, .bf16⟩
  | .hbm, ⟨12, _⟩ => ⟨S8192x64, .bf16⟩
  | .hbm, ⟨13, _⟩ => ⟨S8192x256, .bf16⟩
  | .local _ .vmem, ⟨0, _⟩ => ⟨S2048x512, .f32⟩
  | .local _ .vmem, ⟨1, _⟩ => ⟨S2048x512, .f32⟩
  | .local _ .vmem, ⟨2, _⟩ => ⟨S2048x256, .bf16⟩
  | .local _ .vmem, ⟨3, _⟩ => ⟨S2048x256, .bf16⟩
  | .local _ .smem, ⟨0, _⟩ => ⟨S4, .f32⟩
  | _, _ => ⟨S10240x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S10240x512 : Shape := ⟨2, ![10240, 512]⟩
abbrev S4 : Shape := ⟨1, ![4]⟩
abbrev S8192x512 : Shape := ⟨2, ![8192, 512]⟩
abbrev S32x256x512 : Shape := ⟨3, ![32, 256, 512]⟩
abbrev S32x256x256 : Shape := ⟨3, ![32, 256, 256]⟩
abbrev S32x256x128 : Shape := ⟨3, ![32, 256, 128]⟩
abbrev S32x256x2x2x64 : Shape := ⟨5, ![32, 256, 2, 2, 64]⟩
abbrev S32x256x2x64 : Shape := ⟨4, ![32, 256, 2, 64]⟩
abbrev S32x2x256x256x2 : Shape := ⟨5, ![32, 2, 256, 256, 2]⟩
abbrev S32x2x2x256x256 : Shape := ⟨5, ![32, 2, 2, 256, 256]⟩
abbrev S_ : Shape := ⟨0, ![]⟩
abbrev S2x2 : Shape := ⟨2, ![2, 2]⟩
abbrev S2x2x1x1 : Shape := ⟨4, ![2, 2, 1, 1]⟩
abbrev S32x2x2x256x1 : Shape := ⟨5, ![32, 2, 2, 256, 1]⟩
abbrev S32x2x2x256x257 : Shape := ⟨5, ![32, 2, 2, 256, 257]⟩
abbrev S32x2x2x256 : Shape := ⟨4, ![32, 2, 2, 256]⟩
abbrev S32x2x64x2x256 : Shape := ⟨5, ![32, 2, 64, 2, 256]⟩
abbrev S8192x256 : Shape := ⟨2, ![8192, 256]⟩

abbrev nBuf : Space → Nat
  | .hbm => 38
  | .vmem => 0
  | .smem => 0
  | _ => 0

abbrev bufTy : (tb : Table) → Fin (tcTables nBuf tb) → BufTy
  | .hbm, ⟨0, _⟩ => ⟨S10240x512, .f32⟩
  | .hbm, ⟨1, _⟩ => ⟨S4, .f32⟩
  | .hbm, ⟨2, _⟩ => ⟨S8192x512, .f32⟩
  | .hbm, ⟨3, _⟩ => ⟨S32x256x512, .f32⟩
  | .hbm, ⟨4, _⟩ => ⟨S32x256x256, .f32⟩
  | .hbm, ⟨5, _⟩ => ⟨S32x256x128, .f32⟩
  | .hbm, ⟨6, _⟩ => ⟨S32x256x128, .f32⟩
  | .hbm, ⟨7, _⟩ => ⟨S32x256x2x2x64, .f32⟩
  | .hbm, ⟨8, _⟩ => ⟨S32x256x2x64, .f32⟩
  | .hbm, ⟨9, _⟩ => ⟨S32x256x2x64, .f32⟩
  | .hbm, ⟨10, _⟩ => ⟨S32x2x256x256x2, .f32⟩
  | .hbm, ⟨11, _⟩ => ⟨S32x2x2x256x256, .f32⟩
  | .hbm, ⟨12, _⟩ => ⟨S_, .f32⟩
  | .hbm, ⟨13, _⟩ => ⟨S32x2x2x256x256, .f32⟩
  | .hbm, ⟨14, _⟩ => ⟨S32x2x2x256x256, .f32⟩
  | .hbm, ⟨15, _⟩ => ⟨S2x2, .f32⟩
  | .hbm, ⟨16, _⟩ => ⟨S2x2x1x1, .f32⟩
  | .hbm, ⟨17, _⟩ => ⟨S32x2x2x256x1, .f32⟩
  | .hbm, ⟨18, _⟩ => ⟨S32x2x2x256x257, .f32⟩
  | .hbm, ⟨19, _⟩ => ⟨S_, .f32⟩
  | .hbm, ⟨20, _⟩ => ⟨S32x2x2x256, .f32⟩
  | .hbm, ⟨21, _⟩ => ⟨S_, .f32⟩
  | .hbm, ⟨22, _⟩ => ⟨S32x2x2x256, .f32⟩
  | .hbm, ⟨23, _⟩ => ⟨S32x2x2x256, .f32⟩
  | .hbm, ⟨24, _⟩ => ⟨S32x2x2x256x1, .f32⟩
  | .hbm, ⟨25, _⟩ => ⟨S32x2x2x256x257, .f32⟩
  | .hbm, ⟨26, _⟩ => ⟨S32x2x2x256x257, .f32⟩
  | .hbm, ⟨27, _⟩ => ⟨S32x2x2x256x257, .f32⟩
  | .hbm, ⟨28, _⟩ => ⟨S_, .f32⟩
  | .hbm, ⟨29, _⟩ => ⟨S32x2x2x256, .f32⟩
  | .hbm, ⟨30, _⟩ => ⟨S32x2x2x256x1, .f32⟩
  | .hbm, ⟨31, _⟩ => ⟨S32x2x2x256x257, .f32⟩
  | .hbm, ⟨32, _⟩ => ⟨S32x2x2x256x257, .f32⟩
  | .hbm, ⟨33, _⟩ => ⟨S32x2x2x256x256, .f32⟩
  | .hbm, ⟨34, _⟩ => ⟨S32x2x64x2x256, .f32⟩
  | .hbm, ⟨35, _⟩ => ⟨S32x256x2x2x64, .f32⟩
  | .hbm, ⟨36, _⟩ => ⟨S8192x256, .f32⟩
  | .hbm, ⟨37, _⟩ => ⟨S8192x256, .bf16⟩
  | _, _ => ⟨S10240x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== Kernel7.lean ====
abbrev S32x256x1024 : Shape := ⟨3, ![32, 256, 1024]⟩
abbrev S2x1024x1024 : Shape := ⟨3, ![2, 1024, 1024]⟩
abbrev S1x6144 : Shape := ⟨2, ![1, 6144]⟩
abbrev S2x6144 : Shape := ⟨2, ![2, 6144]⟩
abbrev S2x1024 : Shape := ⟨2, ![2, 1024]⟩
abbrev S2x1024x2464 : Shape := ⟨3, ![2, 1024, 2464]⟩
abbrev S8192x1024 : Shape := ⟨2, ![8192, 1024]⟩
abbrev S2048x1024 : Shape := ⟨2, ![2048, 1024]⟩
abbrev S10240x1024 : Shape := ⟨2, ![10240, 1024]⟩
abbrev S_ : Shape := ⟨0, ![]⟩
abbrev S5x6144 : Shape := ⟨2, ![5, 6144]⟩
abbrev S8x6144 : Shape := ⟨2, ![8, 6144]⟩
abbrev S8x1x6144 : Shape := ⟨3, ![8, 1, 6144]⟩
abbrev S1x1024 : Shape := ⟨2, ![1, 1024]⟩
abbrev S1024 : Shape := ⟨1, ![1024]⟩
abbrev S2x1024x32 : Shape := ⟨3, ![2, 1024, 32]⟩
abbrev S2x1024x64 : Shape := ⟨3, ![2, 1024, 64]⟩
abbrev S2x1024x384 : Shape := ⟨3, ![2, 1024, 384]⟩
abbrev S2x1024x1536 : Shape := ⟨3, ![2, 1024, 1536]⟩
abbrev S2x1024x256 : Shape := ⟨3, ![2, 1024, 256]⟩
abbrev S2x1024x2560 : Shape := ⟨3, ![2, 1024, 2560]⟩
abbrev S10240x512 : Shape := ⟨2, ![10240, 512]⟩
abbrev S10240x1280 : Shape := ⟨2, ![10240, 1280]⟩
abbrev S10240x256 : Shape := ⟨2, ![10240, 256]⟩
abbrev S512x1024 : Shape := ⟨2, ![512, 1024]⟩
abbrev S1x1x6144 : Shape := ⟨3, ![1, 1, 6144]⟩
abbrev S1x1024x2560 : Shape := ⟨3, ![1, 1024, 2560]⟩
abbrev S512x512 : Shape := ⟨2, ![512, 512]⟩
abbrev S512x1280 : Shape := ⟨2, ![512, 1280]⟩
abbrev S512x256 : Shape := ⟨2, ![512, 256]⟩
abbrev S1x1x1024 : Shape := ⟨3, ![1, 1, 1024]⟩
abbrev S512 : Shape := ⟨1, ![512]⟩
abbrev S512x1 : Shape := ⟨2, ![512, 1]⟩
abbrev S1024x2560 : Shape := ⟨2, ![1024, 2560]⟩
abbrev S512x2560 : Shape := ⟨2, ![512, 2560]⟩
abbrev S10240x64 : Shape := ⟨2, ![10240, 64]⟩
abbrev S10240x416 : Shape := ⟨2, ![10240, 416]⟩
abbrev S8192x32 : Shape := ⟨2, ![8192, 32]⟩
abbrev S32x256x32 : Shape := ⟨3, ![32, 256, 32]⟩
abbrev S8192x128 : Shape := ⟨2, ![8192, 128]⟩
abbrev S32x256x2x64 : Shape := ⟨4, ![32, 256, 2, 64]⟩

abbrev nBuf : Space → Nat
  | .hbm => 44
  | .vmem => 14
  | .smem => 0
  | _ => 0

abbrev bufTy : (tb : Table) → Fin (tcTables nBuf tb) → BufTy
  | .hbm, ⟨0, _⟩ => ⟨S32x256x1024, .f32⟩
  | .hbm, ⟨1, _⟩ => ⟨S2x1024x1024, .f32⟩
  | .hbm, ⟨2, _⟩ => ⟨S1x6144, .f32⟩
  | .hbm, ⟨3, _⟩ => ⟨S2x6144, .f32⟩
  | .hbm, ⟨4, _⟩ => ⟨S2x1024, .f32⟩
  | .hbm, ⟨5, _⟩ => ⟨S2x1024x2464, .f32⟩
  | .hbm, ⟨6, _⟩ => ⟨S8192x1024, .f32⟩
  | .hbm, ⟨7, _⟩ => ⟨S2048x1024, .f32⟩
  | .hbm, ⟨8, _⟩ => ⟨S10240x1024, .f32⟩
  | .hbm, ⟨9, _⟩ => ⟨S_, .f32⟩
  | .hbm, ⟨10, _⟩ => ⟨S5x6144, .f32⟩
  | .hbm, ⟨11, _⟩ => ⟨S8x6144, .f32⟩
  | .hbm, ⟨12, _⟩ => ⟨S8x1x6144, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S2x1024x32, .f32⟩
  | .hbm, ⟨17, _⟩ => ⟨S2x1024x64, .f32⟩
  | .hbm, ⟨18, _⟩ => ⟨S2x1024x64, .f32⟩
  | .hbm, ⟨19, _⟩ => ⟨S2x1024x64, .f32⟩
  | .hbm, ⟨20, _⟩ => ⟨S2x1024x64, .f32⟩
  | .hbm, ⟨21, _⟩ => ⟨S2x1024x384, .f32⟩
  | .hbm, ⟨22, _⟩ => ⟨S2x1024x1536, .f32⟩
  | .hbm, ⟨23, _⟩ => ⟨S2x1024x256, .f32⟩
  | .hbm, ⟨24, _⟩ => ⟨S2x1024x2560, .f32⟩
  | .hbm, ⟨25, _⟩ => ⟨S2x1024x2560, .bf16⟩
  | .hbm, ⟨26, _⟩ => ⟨S10240x512, .f32⟩
  | .hbm, ⟨27, _⟩ => ⟨S10240x1280, .f32⟩
  | .hbm, ⟨28, _⟩ => ⟨S10240x256, .f32⟩
  | .hbm, ⟨29, _⟩ => ⟨S10240x512, .f32⟩
  | .hbm, ⟨30, _⟩ => ⟨S10240x64, .f32⟩
  | .hbm, ⟨31, _⟩ => ⟨S10240x64, .f32⟩
  | .hbm, ⟨32, _⟩ => ⟨S10240x64, .f32⟩
  | .hbm, ⟨33, _⟩ => ⟨S10240x64, .f32⟩
  | .hbm, ⟨34, _⟩ => ⟨S10240x256, .f32⟩
  | .hbm, ⟨35, _⟩ => ⟨S10240x416, .f32⟩
  | .hbm, ⟨36, _⟩ => ⟨S10240x256, .f32⟩
  | .hbm, ⟨37, _⟩ => ⟨S10240x512, .f32⟩
  | .hbm, ⟨38, _⟩ => ⟨S8192x32, .f32⟩
  | .hbm, ⟨39, _⟩ => ⟨S32x256x32, .f32⟩
  | .hbm, ⟨40, _⟩ => ⟨S8192x128, .f32⟩
  | .hbm, ⟨41, _⟩ => ⟨S32x256x2x64, .f32⟩
  | .hbm, ⟨42, _⟩ => ⟨S8192x128, .f32⟩
  | .hbm, ⟨43, _⟩ => ⟨S32x256x2x64, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1x1024x2560, .bf16⟩
  | .local _ .vmem, ⟨6, _⟩ => ⟨S512x512, .f32⟩
  | .local _ .vmem, ⟨7, _⟩ => ⟨S512x512, .f32⟩
  | .local _ .vmem, ⟨8, _⟩ => ⟨S512x1280, .f32⟩
  | .local _ .vmem, ⟨9, _⟩ => ⟨S512x1280, .f32⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev main_v19_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.muli arg0 c2_i32
  let c32_i32 : BitVec 32 := 32#32
  let v1 : BitVec 1 := Scalar.cmpi .slt v0 c32_i32
  let c32_i32_0 : BitVec 32 := 32#32
  let v2 : BitVec 32 := Scalar.subi v0 c32_i32_0
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S32x256x1024 : Shape := ⟨3, ![32, 256, 1024]⟩
abbrev S2x1024x1024 : Shape := ⟨3, ![2, 1024, 1024]⟩
abbrev S1x6144 : Shape := ⟨2, ![1, 6144]⟩
abbrev S2x6144 : Shape := ⟨2, ![2, 6144]⟩
abbrev S2x1024 : Shape := ⟨2, ![2, 1024]⟩
abbrev S2x1024x2464 : Shape := ⟨3, ![2, 1024, 2464]⟩
abbrev S1x1x6144 : Shape := ⟨3, ![1, 1, 6144]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1024x2464 : Shape := ⟨3, ![1, 1024, 2464]⟩
abbrev S1024x2464 : Shape := ⟨2, ![1024, 2464]⟩
abbrev S32x256x2464 : Shape := ⟨3, ![32, 256, 2464]⟩
abbrev S32x256x416 : Shape := ⟨3, ![32, 256, 416]⟩
abbrev S32x256x1280 : Shape := ⟨3, ![32, 256, 1280]⟩
abbrev S32x256x256 : Shape := ⟨3, ![32, 256, 256]⟩
abbrev S32x256x512 : Shape := ⟨3, ![32, 256, 512]⟩
abbrev S2x1x6144 : Shape := ⟨3, ![2, 1, 6144]⟩
abbrev S2x1x1024 : Shape := ⟨3, ![2, 1, 1024]⟩
abbrev S2x1024x1 : Shape := ⟨3, ![2, 1024, 1]⟩
abbrev S2x1024x416 : Shape := ⟨3, ![2, 1024, 416]⟩
abbrev S2x1024x1280 : Shape := ⟨3, ![2, 1024, 1280]⟩
abbrev S2x1024x256 : Shape := ⟨3, ![2, 1024, 256]⟩
abbrev S2x1024x512 : Shape := ⟨3, ![2, 1024, 512]⟩
abbrev S32x256x128 : Shape := ⟨3, ![32, 256, 128]⟩
abbrev S32x256x32 : Shape := ⟨3, ![32, 256, 32]⟩
abbrev S8192x416 : Shape := ⟨2, ![8192, 416]⟩
abbrev S2048x416 : Shape := ⟨2, ![2048, 416]⟩
abbrev S10240x416 : Shape := ⟨2, ![10240, 416]⟩
abbrev S8192x1280 : Shape := ⟨2, ![8192, 1280]⟩
abbrev S2048x1280 : Shape := ⟨2, ![2048, 1280]⟩
abbrev S10240x1280 : Shape := ⟨2, ![10240, 1280]⟩
abbrev S8192x256 : Shape := ⟨2, ![8192, 256]⟩
abbrev S2048x256 : Shape := ⟨2, ![2048, 256]⟩
abbrev S10240x256 : Shape := ⟨2, ![10240, 256]⟩
abbrev S8192x512 : Shape := ⟨2, ![8192, 512]⟩
abbrev S2048x512 : Shape := ⟨2, ![2048, 512]⟩
abbrev S10240x512 : Shape := ⟨2, ![10240, 512]⟩
abbrev S32x256x2x64 : Shape := ⟨4, ![32, 256, 2, 64]⟩

abbrev nBuf : Space → Nat
  | .hbm => 104
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S2x1024x1024, .f32⟩
  | .hbm, ⟨2, _⟩ => ⟨S1x6144, .f32⟩
  | .hbm, ⟨3, _⟩ => ⟨S2x6144, .f32⟩
  | .hbm, ⟨4, _⟩ => ⟨S2x1024, .f32⟩
  | .hbm, ⟨5, _⟩ => ⟨S2x1024x2464, .f32⟩
  | .hbm, ⟨6, _⟩ => ⟨S1x1x6144, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1024, .f32⟩
  | .hbm, ⟨14, _⟩ => ⟨S1024, .f32⟩
  | .hbm, ⟨15, _⟩ => ⟨S32x256x1024, .f32⟩
  | .hbm, ⟨16, _⟩ => ⟨S_, .f32⟩
  | .hbm, ⟨17, _⟩ => ⟨S32x256, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S_, .f32⟩
  | .hbm, ⟨23, _⟩ => ⟨S32x256x1, .f32⟩
  | .hbm, ⟨24, _⟩ => ⟨S32x256x1, .f32⟩
  | .hbm, ⟨25, _⟩ => ⟨S32x256x1, .f32⟩
  | .hbm, ⟨26, _⟩ => ⟨S32x256x1024, .f32⟩
  | .hbm, ⟨27, _⟩ => ⟨S32x256x1024, .f32⟩
  | .hbm, ⟨28, _⟩ => ⟨S1x1x1024, .f32⟩
  | .hbm, ⟨29, _⟩ => ⟨S32x256x1024, .f32⟩
  | .hbm, ⟨30, _⟩ => ⟨S32x256x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S1x1024x2464, .f32⟩
  | .hbm, ⟨39, _⟩ => ⟨S1024x2464, .f32⟩
  | .hbm, ⟨40, _⟩ => ⟨S32x256x2464, .f32⟩
  | .hbm, ⟨41, _⟩ => ⟨S32x256x416, .f32⟩
  | .hbm, ⟨42, _⟩ => ⟨S32x256x1280, .f32⟩
  | .hbm, ⟨43, _⟩ => ⟨S32x256x256, .f32⟩
  | .hbm, ⟨44, _⟩ => ⟨S32x256x512, .f32⟩
  | .hbm, ⟨45, _⟩ => ⟨S2x1x6144, .f32⟩
  | .hbm, ⟨46, _⟩ => ⟨S2x1x1024, .f32⟩
  | .hbm, ⟨47, _⟩ => ⟨S2x1x1024, .f32⟩
  | .hbm, ⟨48, _⟩ => ⟨S2x1x1024, .f32⟩
  | .hbm, ⟨49, _⟩ => ⟨S2x1x1024, .f32⟩
  | .hbm, ⟨50, _⟩ => ⟨S2x1x1024, .f32⟩
  | .hbm, ⟨51, _⟩ => ⟨S2x1x1024, .f32⟩
  | .hbm, ⟨52, _⟩ => ⟨S1x1024, .f32⟩
  | .hbm, ⟨53, _⟩ => ⟨S1024, .f32⟩
  | .hbm, ⟨54, _⟩ => ⟨S2x1024x1024, .f32⟩
  | .hbm, ⟨55, _⟩ => ⟨S_, .f32⟩
  | .hbm, ⟨56, _⟩ => ⟨S2x1024, .f32⟩
  | .hbm, ⟨57, _⟩ => ⟨S2x1024x1, .f32⟩
  | .hbm, ⟨58, _⟩ => ⟨S_, .f32⟩
  | .hbm, ⟨59, _⟩ => ⟨S2x1024x1, .f32⟩
  | .hbm, ⟨60, _⟩ => ⟨S2x1024x1, .f32⟩
  | .hbm, ⟨61, _⟩ => ⟨S_, .f32⟩
  | .hbm, ⟨62, _⟩ => ⟨S2x1024x1, .f32⟩
  | .hbm, ⟨63, _⟩ => ⟨S2x1024x1, .f32⟩
  | .hbm, ⟨64, _⟩ => ⟨S2x1024x1, .f32⟩
  | .hbm, ⟨65, _⟩ => ⟨S2x1024x1024, .f32⟩
  | .hbm, ⟨66, _⟩ => ⟨S2x1024x1024, .f32⟩
  | .hbm, ⟨67, _⟩ => ⟨S1x1x1024, .f32⟩
  | .hbm, ⟨68, _⟩ => ⟨S2x1024x1024, .f32⟩
  | .hbm, ⟨69, _⟩ => ⟨S2x1024x1024, .f32⟩
  | .hbm, ⟨70, _⟩ => ⟨S_, .f32⟩
  | .hbm, ⟨71, _⟩ => ⟨S2x1x1024, .f32⟩
  | .hbm, ⟨72, _⟩ => ⟨S2x1x1024, .f32⟩
  | .hbm, ⟨73, _⟩ => ⟨S2x1024x1024, .f32⟩
  | .hbm, ⟨74, _⟩ => ⟨S2x1024x1024, .f32⟩
  | .hbm, ⟨75, _⟩ => ⟨S2x1024x1024, .f32⟩
  | .hbm, ⟨76, _⟩ => ⟨S2x1024x1024, .f32⟩
  | .hbm, ⟨77, _⟩ => ⟨S1x1024x2464, .f32⟩
  | .hbm, ⟨78, _⟩ => ⟨S1024x2464, .f32⟩
  | .hbm, ⟨79, _⟩ => ⟨S2x1024x2464, .f32⟩
  | .hbm, ⟨80, _⟩ => ⟨S2x1024x416, .f32⟩
  | .hbm, ⟨81, _⟩ => ⟨S2x1024x1280, .f32⟩
  | .hbm, ⟨82, _⟩ => ⟨S2x1024x256, .f32⟩
  | .hbm, ⟨83, _⟩ => ⟨S2x1024x512, .f32⟩
  | .hbm, ⟨84, _⟩ => ⟨S32x256x256, .f32⟩
  | .hbm, ⟨85, _⟩ => ⟨S32x256x128, .f32⟩
  | .hbm, ⟨86, _⟩ => ⟨S32x256x32, .f32⟩
  | .hbm, ⟨87, _⟩ => ⟨S32x256x256, .f32⟩
  | .hbm, ⟨88, _⟩ => ⟨S32x256x128, .f32⟩
  | .hbm, ⟨89, _⟩ => ⟨S32x256x128, .f32⟩
  | .hbm, ⟨90, _⟩ => ⟨S8192x416, .f32⟩
  | .hbm, ⟨91, _⟩ => ⟨S2048x416, .f32⟩
  | .hbm, ⟨92, _⟩ => ⟨S10240x416, .f32⟩
  | .hbm, ⟨93, _⟩ => ⟨S8192x1280, .f32⟩
  | .hbm, ⟨94, _⟩ => ⟨S2048x1280, .f32⟩
  | .hbm, ⟨95, _⟩ => ⟨S10240x1280, .f32⟩
  | .hbm, ⟨96, _⟩ => ⟨S8192x256, .f32⟩
  | .hbm, ⟨97, _⟩ => ⟨S2048x256, .f32⟩
  | .hbm, ⟨98, _⟩ => ⟨S10240x256, .f32⟩
  | .hbm, ⟨99, _⟩ => ⟨S8192x512, .f32⟩
  | .hbm, ⟨100, _⟩ => ⟨S2048x512, .f32⟩
  | .hbm, ⟨101, _⟩ => ⟨S10240x512, .f32⟩
  | .hbm, ⟨102, _⟩ => ⟨S32x256x2x64, .f32⟩
  | .hbm, ⟨103, _⟩ => ⟨S32x256x2x64, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩

abbrev nD : Nat := 1
abbrev τ : Topo := Topo.v7x

variable {F : FTy → Type} [FloatOps F]
-- ==== Proof.MlaBody.lean ====
module

public import proofs.«01_k».proof.Proof.Gen.KernelIdeal.Frame

@[expose] public section

set_option maxRecDepth 16384

noncomputable section

/-! # One sequence of the body

The body treats four sequences of 256 rows alike. Here is the arithmetic of one of them, as functions of the rows of
the projected input and of the four weights, and the statement that each of the body's eight stores writes them. -/

namespace Cert.KernelIdeal.Mla

open Cert.KernelIdeal Cert.KernelIdeal.Gen Idealize.ShloMosaic

variable {F : FTy → Type} [FloatOps F]

/-- The mask of the lanes whose quotient by `n` is `h`, as floor division computes it on words. -/
def grp (S : Shape) (io : IVec S 32) (n h : BitVec 32) : IVec S 1 :=
  cmpi .eq
    (select
      (andi
        (cmpi .ne
          (subi (extui 32 (cmpi .sgt io (broadcast S 0#32)) natLt_1_32)
            (extui 32 (cmpi .slt io (broadcast S 0#32)) natLt_1_32))
          (broadcast S (Scalar.subi (Scalar.extui (Scalar.cmpi .sgt n 0#32)) (Scalar.extui (Scalar.cmpi .slt n 0#32)))))
        (cmpi .ne (remsi io (broadcast S n)) (broadcast S 0#32)))
      (subi (divsi io (broadcast S n)) (broadcast S 1#32))
      (divsi io (broadcast S n)))
    (broadcast S h)

/-- Head `h`'s 64 lanes of 256. -/
def m64 (h : BitVec 32) : IVec S256x256 1 := grp S256x256 (iota .tc S256x256 32 [1] iota_S256x256_d1_w32) 64#32 h

/-- Head `h`'s 32 lanes of 128. -/
def m32 (h : BitVec 32) : IVec S256x128 1 := grp S256x128 (iota .tc S256x128 32 [1] iota_S256x128_d1_w32) 32#32 h

/-- The rows of the latent query, normalised. -/
def qn (u : Vec F S256x512 .f32) (g : Vec F S1x256 .f32) : FVec F S256x256 .f32 :=
  let x := extractStridedSlice S256x256 ![0, 0] (shapeCast S256x512 u shapeCasts_S256x512_S256x512) slices_S256x512_o0_0_S256x256
  mulf (mulf x (broadcastTo S256x256
      (rsqrt (addf (divf (shapeCast S256x1 (multiReduction .add [1] S256 (mulf x x) 0x00000000#32 reduces_S256x256_S256 (.inl rfl) rfl) shapeCasts_S256_S256x1)
          (broadcast S256x1 (Scalar.ofBits .f32 0x43800000#32)))
        (broadcast S256x1 (Scalar.ofBits .f32 0x358637BD#32)))) broadcasts_S256x1_S256x256))
    (broadcastTo S256x256 (shapeCast S1x256 g shapeCasts_S1x256_S1x256) broadcasts_S1x256_S256x256)

/-- The queries of all heads. -/
def q (u : Vec F S256x512 .f32) (g : Vec F S1x256 .f32) (w : Vec F S256x384 .bf16) : FVec F S256x384 .f32 :=
  matmul dot_S256x256_S256x384_S256x384_1_0_0_1_n_n none (truncf .bf16 (qn u g) bitsLt_bf16_f32)
    (shapeCast S256x384 w shapeCasts_S256x384_S256x384) (constant S256x384 .f32 0x00000000#32)

/-- The rows of the latent keys and values, normalised. -/
def ckv (u : Vec F S256x512 .f32) (g : Vec F S1x128 .f32) : FVec F S256x128 .f32 :=
  let x := extractStridedSlice S256x128 ![0, 256] (shapeCast S256x512 u shapeCasts_S256x512_S256x512) slices_S256x512_o0_256_S256x128
  mulf (mulf x (broadcastTo S256x128
      (rsqrt (addf (divf (shapeCast S256x1 (multiReduction .add [1] S256 (mulf x x) 0x00000000#32 reduces_S256x128_S256 (.inl rfl) rfl) shapeCasts_S256_S256x1)
          (broadcast S256x1 (Scalar.ofBits .f32 0x43000000#32)))
        (broadcast S256x1 (Scalar.ofBits .f32 0x358637BD#32)))) broadcasts_S256x1_S256x128))
    (broadcastTo S256x128 (shapeCast S1x128 g shapeCasts_S1x128_S1x128) broadcasts_S1x128_S256x128)

/-- The keys' and values' columns of all heads. -/
def kv (u : Vec F S256x512 .f32) (g : Vec F S1x128 .f32) (w : Vec F S128x512 .bf16) : FVec F S256x512 .f32 :=
  matmul dot_S256x128_S128x512_S256x512_1_0_0_1_n_n none (truncf .bf16 (ckv u g) bitsLt_bf16_f32)
    (shapeCast S128x512 w shapeCasts_S128x512_S128x512) (constant S256x512 .f32 0x00000000#32)

/-- The keys: the columns without position beside those with it. -/
def keys (u : Vec F S256x512 .f32) (g : Vec F S1x128 .f32) (w : Vec F S128x512 .bf16) : FVec F S256x384 .bf16 :=
  truncf .bf16 (concatenate S256x384 1
    [⟨S256x256, extractStridedSlice S256x256 ![0, 0] (kv u g w) slices_S256x512_o0_0_S256x256⟩,
     ⟨S256x128, extractStridedSlice S256x128 ![0, 384] (shapeCast S256x512 u shapeCasts_S256x512_S256x512) slices_S256x512_o0_384_S256x128⟩]
    concatenates_S256x256_S256x128_S256x384_d1) bitsLt_bf16_f32

/-- The values' columns. -/
def vals (u : Vec F S256x512 .f32) (g : Vec F S1x128 .f32) (w : Vec F S128x512 .bf16) : FVec F S256x256 .bf16 :=
  truncf .bf16 (extractStridedSlice S256x256 ![0, 256] (kv u g w) slices_S256x512_o0_256_S256x256) bitsLt_bf16_f32

/-- The query's columns without position, of head `h` alone. -/
def qh (x : FVec F S256x384 .f32) (h : BitVec 32) : FVec F S256x256 .f32 :=
  select (m64 h) (extractStridedSlice S256x256 ![0, 0] x slices_S256x384_o0_0_S256x256)
    (broadcast S256x256 (Scalar.ofBits .f32 0x00000000#32))

/-- The query's columns with position, of head `h` alone. -/
def qr (x : FVec F S256x384 .f32) (h : BitVec 32) : FVec F S256x128 .f32 :=
  select (m32 h) (extractStridedSlice S256x128 ![0, 256] x slices_S256x384_o0_256_S256x128)
    (broadcast S256x128 (Scalar.ofBits .f32 0x00000000#32))

/-- The four heads' queries under one another. -/
def stack (x : FVec F S256x384 .f32) : FVec F S1024x384 .bf16 :=
  truncf .bf16 (concatenate S1024x384 1
    [⟨S1024x256, concatenate S1024x256 0 [⟨S256x256, qh x 0#32⟩, ⟨S256x256, qh x 1#32⟩, ⟨S256x256, qh x 2#32⟩, ⟨S256x256, qh x 3#32⟩]
        concatenates_S256x256_S256x256_S256x256_S256x256_S1024x256_d0⟩,
     ⟨S1024x128, concatenate S1024x128 0 [⟨S256x128, qr x 0#32⟩, ⟨S256x128, qr x 1#32⟩, ⟨S256x128, qr x 2#32⟩, ⟨S256x128, qr x 3#32⟩]
        concatenates_S256x128_S256x128_S256x128_S256x128_S1024x128_d0⟩]
    concatenates_S1024x256_S1024x128_S1024x384_d1) bitsLt_bf16_f32

/-- The scaled scores, from the stacked queries and the keys. -/
def scores (a : FVec F S1024x384 .bf16) (k : FVec F S256x384 .bf16) : FVec F S1024x256 .f32 :=
  mulf (matmul dot_S1024x384_S256x384_S1024x256_1_1_0_0_n_n none a k (constant S1024x256 .f32 0x00000000#32))
    (broadcast S1024x256 (Scalar.ofBits .f32 0x3DD105EC#32))

/-- The exponentials of the scores less their row's greatest. -/
def ex (s : FVec F S1024x256 .f32) : FVec F S1024x256 .f32 :=
  exp (subf s (broadcastTo S1024x256
    (shapeCast S1024x1 (multiReduction .maximumf [1] S1024 s 0xFF800000#32 reduces_S1024x256_S1024 (.inl rfl) rfl) shapeCasts_S1024_S1024x1)
    broadcasts_S1024x1_S1024x256))

/-- The weighted values over the row's sum. -/
def avg (p : FVec F S1024x256 .f32) (v : FVec F S256x256 .bf16) : FVec F S1024x256 .f32 :=
  divf (matmul dot_S1024x256_S256x256_S1024x256_1_0_0_1_n_n none (truncf .bf16 p bitsLt_bf16_f32) v (constant S1024x256 .f32 0x00000000#32))
    (broadcastTo S1024x256
      (shapeCast S1024x1 (multiReduction .add [1] S1024 p 0x00000000#32 reduces_S1024x256_S1024 (.inl rfl) rfl) shapeCasts_S1024_S1024x1)
      broadcasts_S1024x1_S1024x256)

/-- Each head's own lanes taken from its rows. -/
def unstack (o : FVec F S1024x256 .f32) : FVec F S256x256 .bf16 :=
  truncf .bf16
    (select (m64 3#32) (extractStridedSlice S256x256 ![768, 0] o slices_S1024x256_o768_0_S256x256)
      (select (m64 2#32) (extractStridedSlice S256x256 ![512, 0] o slices_S1024x256_o512_0_S256x256)
        (select (m64 1#32) (extractStridedSlice S256x256 ![256, 0] o slices_S1024x256_o256_0_S256x256)
          (select (m64 0#32) (extractStridedSlice S256x256 ![0, 0] o slices_S1024x256_o0_0_S256x256)
            (broadcast S256x256 (Scalar.ofBits .f32 0x00000000#32)))))) bitsLt_bf16_f32

/-- The attention of one sequence, the four heads stacked. -/
def att (u : Vec F S256x512 .f32) (gq : Vec F S1x256 .f32) (wq : Vec F S256x384 .bf16) (gk : Vec F S1x128 .f32)
    (wk : Vec F S128x512 .bf16) : FVec F S1024x256 .f32 :=
  avg (ex (scores (stack (q u gq wq)) (keys u gk wk))) (vals u gk wk)

variable (x0 : Vec F S1024x512 .f32) (x1 : Vec F S1x256 .f32) (x2 : Vec F S256x384 .bf16) (x3 : Vec F S1x128 .f32)
  (x4 : Vec F S128x512 .bf16)

theorem att0 : k0_pay147 x0 x1 x2 x3 x4 = att (View.ld x0 r0_0) (View.ld x1 r0_1) (View.ld x2 r0_2) (View.ld x3 r0_3) (View.ld x4 r0_5) := rfl
theorem att1 : k0_pay155 x0 x1 x2 x3 x4 = att (View.ld x0 r0_7) (View.ld x1 r0_1) (View.ld x2 r0_2) (View.ld x3 r0_3) (View.ld x4 r0_5) := rfl
theorem att2 : k0_pay163 x0 x1 x2 x3 x4 = att (View.ld x0 r0_10) (View.ld x1 r0_1) (View.ld x2 r0_2) (View.ld x3 r0_3) (View.ld x4 r0_5) := rfl
theorem att3 : k0_pay172 x0 x1 x2 x3 x4 = att (View.ld x0 r0_13) (View.ld x1 r0_1) (View.ld x2 r0_2) (View.ld x3 r0_3) (View.ld x4 r0_5) := rfl

/-- The four stores of the attention's result. -/
theorem out5_eq : out0_5 x0 x1 x2 x3 x4 = View.canon
    [⟨r0_15, unstack (att (View.ld x0 r0_13) (View.ld x1 r0_1) (View.ld x2 r0_2) (View.ld x3 r0_3) (View.ld x4 r0_5))⟩,
     ⟨r0_12, unstack (att (View.ld x0 r0_10) (View.ld x1 r0_1) (View.ld x2 r0_2) (View.ld x3 r0_3) (View.ld x4 r0_5))⟩,
     ⟨r0_9, unstack (att (View.ld x0 r0_7) (View.ld x1 r0_1) (View.ld x2 r0_2) (View.ld x3 r0_3) (View.ld x4 r0_5))⟩,
     ⟨r0_6, unstack (att (View.ld x0 r0_0) (View.ld x1 r0_1) (View.ld x2 r0_2) (View.ld x3 r0_3) (View.ld x4 r0_5))⟩] := by
  unfold out0_5
  rw [att0, att1, att2, att3]
  rfl

/-- The four stores of the normalised latent. -/
theorem out6_eq : out0_6 x0 x1 x2 x3 x4 = View.canon
    [⟨r0_14, ckv (View.ld x0 r0_13) (View.ld x3 r0_3)⟩, ⟨r0_11, ckv (View.ld x0 r0_10) (View.ld x3 r0_3)⟩,
     ⟨r0_8, ckv (View.ld x0 r0_7) (View.ld x3 r0_3)⟩, ⟨r0_4, ckv (View.ld x0 r0_0) (View.ld x3 r0_3)⟩] := rfl

end Cert.KernelIdeal.Mla

end
-- ==== Proof.MlaMath.lean ====
module

public import Idealize.ShloMosaic.PureOps.Ideal
public import Idealize.ShloMosaic.PureOps.Ideal.Laws

@[expose] public section

set_option maxRecDepth 16384

noncomputable section

/-! # Latent attention over one sequence, in extended reals

The arithmetic of one sequence of 256 positions, with four heads, as sums over its own index sets; the two facts about it
that need real inputs: the scores are real, so a row's sum of exponentials is at least one, and dividing each weight by
that sum before the weighted sum of the values is dividing the weighted sum by it. -/

namespace Cert.MlaMath

open Idealize.ShloMosaic

/-! ## Sums of extended reals -/

theorem sum_mul_right {ι : Type} (s : Finset ι) (f : ι → EReal) {c : EReal} (h0 : 0 ≤ c) (h1 : c ≠ ⊤) :
    (∑ k ∈ s, f k) * c = ∑ k ∈ s, f k * c := by
  classical
  induction s using Finset.induction_on with
  | empty => simp
  | insert a s ha ih => rw [Finset.sum_insert ha, Finset.sum_insert ha, EReal.right_distrib_of_nonneg_of_ne_top h0 h1, ih]

/-- A weighted sum with the weights divided by a number at least one is the weighted sum divided by it. -/
theorem sum_div {ι : Type} [Fintype ι] (p v : ι → EReal) {L : EReal} (hL : 1 ≤ L) :
    (∑ k, v k * Ideal.div (p k) L) = Ideal.div (∑ k, p k * v k) L := by
  have hpos : 0 < L := lt_of_lt_of_le zero_lt_one hL
  have h0 : L ≠ 0 := hpos.ne'
  have hd : ∀ x, Ideal.div x L = x * L⁻¹ := fun x => if_neg h0
  simp only [hd]
  have hc0 : 0 ≤ L⁻¹ := EReal.inv_nonneg_of_nonneg hpos.le
  have hc1 : L⁻¹ ≠ ⊤ := by
    induction L with
    | bot => simp
    | top => simp
    | coe r => rw [← EReal.coe_inv]; exact EReal.coe_ne_top _
  rw [sum_mul_right _ _ hc0 hc1]
  exact Finset.sum_congr rfl fun k _ => by rw [mul_left_comm, mul_assoc]

theorem exp_nonneg (x : EReal) : 0 ≤ Ideal.exp x := by
  induction x with
  | bot => exact le_refl _
  | top => exact le_top
  | coe r => exact EReal.coe_nonneg.2 (Real.exp_pos r).le

/-- A sum over `n` blocks of `m`. -/
theorem sum_blocks (n m N : ℕ) (hN : N = n * m) (f : Fin N → EReal) :
    (∑ k, f k) = ∑ a : Fin n, ∑ d : Fin m,
      f ⟨a.val * m + d.val, by rw [hN]; calc a.val * m + d.val < a.val * m + m := by omega
          _ = (a.val + 1) * m := by ring
          _ ≤ n * m := Nat.mul_le_mul_right _ a.isLt⟩ := by
  subst hN
  rw [← Equiv.sum_comp finProdFinEquiv, Fintype.sum_prod_type]
  refine Finset.sum_congr rfl fun a _ => Finset.sum_congr rfl fun d _ => congrArg f (Fin.ext ?_)
  simp [finProdFinEquiv]
  ring

/-- A sum over four blocks of `m` that is zero off block `h` is the sum over that block. -/
theorem sum_block (m N : ℕ) (hm : 0 < m) (hN : N = 4 * m) (f : Fin N → EReal) (h : Fin 4) :
    (∑ k : Fin N, if k.val / m = h.val then f k else 0) = ∑ d : Fin m, f ⟨h.val * m + d.val, by
      have := d.isLt; have := h.isLt; rw [hN]
      calc h.val * m + d.val < h.val * m + m := by omega
          _ = (h.val + 1) * m := by ring
          _ ≤ 4 * m := Nat.mul_le_mul_right _ h.isLt⟩ := by
  rw [sum_blocks 4 m N hN, Finset.sum_eq_single h]
  · refine Finset.sum_congr rfl fun d _ => if_pos ?_
    show (h.val * m + d.val) / m = h.val
    rw [mul_comm, Nat.mul_add_div hm, Nat.div_eq_of_lt d.isLt, add_zero]
  · intro b _ hb
    refine Finset.sum_eq_zero fun d _ => if_neg ?_
    show ¬ (b.val * m + d.val) / m = h.val
    rw [mul_comm, Nat.mul_add_div hm, Nat.div_eq_of_lt d.isLt, add_zero]
    exact fun e => hb (Fin.ext e)
  · exact fun h' => absurd (Finset.mem_univ _) h'

/-! ## Real numbers among them -/

/-- The number is real. -/
def Rl (x : EReal) : Prop := ∃ r : ℝ, x = (r : EReal)

theorem Rl.of_abs_lt {x : EReal} (h : max x (-x) < ⊤) : Rl x := by
  induction x with
  | bot => simp at h
  | top => simp at h
  | coe r => exact ⟨r, rfl⟩

theorem Rl.mul {x y : EReal} : Rl x → Rl y → Rl (x * y) := by
  rintro ⟨a, rfl⟩ ⟨b, rfl⟩; exact ⟨a * b, (EReal.coe_mul a b).symm⟩

theorem Rl.add {x y : EReal} : Rl x → Rl y → Rl (x + y) := by
  rintro ⟨a, rfl⟩ ⟨b, rfl⟩; exact ⟨a + b, (EReal.coe_add a b).symm⟩

theorem Rl.sum {ι : Type} [Fintype ι] {f : ι → EReal} (h : ∀ k, Rl (f k)) : Rl (∑ k, f k) := by
  classical
  have : ∀ s : Finset ι, Rl (∑ k ∈ s, f k) := fun s => by
    induction s using Finset.induction_on with
    | empty => exact ⟨0, by simp⟩
    | insert a s ha ih => rw [Finset.sum_insert ha]; exact (h a).add ih
  exact this _

theorem sum_sq_nonneg {ι : Type} [Fintype ι] {f : ι → EReal} (h : ∀ k, Rl (f k)) : 0 ≤ ∑ k, f k * f k :=
  Finset.sum_nonneg fun k _ => by
    obtain ⟨r, hr⟩ := h k
    rw [hr, ← EReal.coe_mul]
    exact EReal.coe_nonneg.2 (mul_self_nonneg r)

/-! ## Root mean square normalisation -/

/-- `x` over the root of its mean square plus `e`, times the gain `g`; `c` is the length. -/
def rms {n : ℕ} (x g : Fin n → EReal) (c e : EReal) (i : Fin n) : EReal :=
  x i * Ideal.rsqrt (Ideal.div (∑ k, x k * x k) c + e) * g i

theorem rms_real {n : ℕ} {x g : Fin n → EReal} {c e : EReal} (hx : ∀ i, Rl (x i)) (hg : ∀ i, Rl (g i))
    (hc : ∃ r : ℝ, 0 < r ∧ c = (r : EReal)) (he : ∃ r : ℝ, 0 < r ∧ e = (r : EReal)) (i : Fin n) : Rl (rms x g c e i) := by
  refine ((hx i).mul ?_).mul (hg i)
  obtain ⟨c, hc, rfl⟩ := hc
  obtain ⟨e, he, rfl⟩ := he
  have h0 := sum_sq_nonneg hx
  obtain ⟨s, hs⟩ := Rl.sum fun k => (hx k).mul (hx k)
  rw [hs] at h0 ⊢
  rw [Ideal.div_coe hc.ne', ← EReal.coe_mul, ← EReal.coe_add]
  have hs0 : 0 ≤ s := EReal.coe_nonneg.1 h0
  have hp : 0 < s * (1 / c) + e := by positivity
  refine ⟨(Real.sqrt (s * (1 / c) + e))⁻¹, ?_⟩
  show (if s * (1 / c) + e < 0 then ⊥ else if s * (1 / c) + e = 0 then ⊤ else (((Real.sqrt (s * (1 / c) + e))⁻¹ : ℝ) : EReal)) = _
  rw [if_neg hp.le.not_gt, if_neg hp.ne']

abbrev c256 : EReal := Ideal.ofBits .f32 0x43800000#32
abbrev c128 : EReal := Ideal.ofBits .f32 0x43000000#32
abbrev eps : EReal := Ideal.ofBits .f32 0x358637BD#32
abbrev scale : EReal := Ideal.ofBits .f32 0x3DD105EC#32
abbrev ninf : EReal := Ideal.ofBits .f32 0xFF800000#32

theorem c256_pos : ∃ r : ℝ, 0 < r ∧ c256 = (r : EReal) :=
  ⟨256, by norm_num, by simp [Ideal.ofBits, Ideal.ieee]; rw [← EReal.coe_mul]; norm_num⟩
theorem c128_pos : ∃ r : ℝ, 0 < r ∧ c128 = (r : EReal) :=
  ⟨128, by norm_num, by simp [Ideal.ofBits, Ideal.ieee]; rw [← EReal.coe_mul]; norm_num⟩
theorem eps_pos : ∃ r : ℝ, 0 < r ∧ eps = (r : EReal) := by
  refine ⟨(8796093 : ℝ) * 2 ^ (-43 : ℤ), by positivity, ?_⟩
  simp [Ideal.ofBits, Ideal.ieee]
theorem scale_real : Rl scale := by
  simp only [Rl, Ideal.ofBits, Ideal.ieee]
  simp
  exact ⟨_, (EReal.coe_mul _ _).symm⟩
theorem ninf_eq : ninf = ⊥ := by simp [Ideal.ofBits, Ideal.ieee]

/-! ## Attention -/

variable (u : Fin 256 → Fin 416 → EReal) (gq : Fin 256 → EReal) (wq : Fin 256 → Fin 384 → EReal)
  (gk : Fin 128 → EReal) (wk : Fin 128 → Fin 512 → EReal)

/-- The normalised latent query of position `r`. -/
def cq (r : Fin 256) (i : Fin 256) : EReal := rms (fun i : Fin 256 => u r ⟨i.val, by omega⟩) gq c256 eps i
/-- The normalised latent of position `r`'s key and value. -/
def ck (r : Fin 256) (i : Fin 128) : EReal := rms (fun i : Fin 128 => u r ⟨256 + i.val, by omega⟩) gk c128 eps i
/-- The query of head `h`. -/
def Q (r : Fin 256) (h : Fin 4) (d : Fin 96) : EReal := ∑ i, cq u gq r i * wq i ⟨h.val * 96 + d.val, by omega⟩
/-- The key of head `h` without position. -/
def K (r : Fin 256) (h : Fin 4) (d : Fin 64) : EReal := ∑ i, ck u gk r i * wk i ⟨h.val * 128 + d.val, by omega⟩
/-- The value of head `h`. -/
def V (r : Fin 256) (h : Fin 4) (d : Fin 64) : EReal := ∑ i, ck u gk r i * wk i ⟨h.val * 128 + (64 + d.val), by omega⟩
/-- The score of key `k` for query `r`. -/
def S (h : Fin 4) (r k : Fin 256) : EReal :=
  ((∑ d : Fin 64, Q u gq wq r h ⟨d.val, by omega⟩ * K u gk wk k h d)
    + ∑ d : Fin 32, Q u gq wq r h ⟨64 + d.val, by omega⟩ * u k ⟨384 + d.val, by omega⟩) * scale
/-- A row's greatest score. -/
def M (h : Fin 4) (r : Fin 256) : EReal := Finset.univ.fold max ninf fun k => S u gq wq gk wk h r k
/-- The weight before normalisation. -/
def P (h : Fin 4) (r k : Fin 256) : EReal := Ideal.exp (S u gq wq gk wk h r k - M u gq wq gk wk h r)
/-- The attention's result at position `r`, head `h`, lane `e`. -/
def O (h : Fin 4) (r : Fin 256) (e : Fin 64) : EReal :=
  Ideal.div (∑ k, P u gq wq gk wk h r k * V u gk wk k h e) (∑ k, P u gq wq gk wk h r k)

variable {u gq wq gk wk}

theorem S_real (hu : ∀ r i, Rl (u r i)) (hgq : ∀ i, Rl (gq i)) (hwq : ∀ i j, Rl (wq i j)) (hgk : ∀ i, Rl (gk i))
    (hwk : ∀ i j, Rl (wk i j)) (h : Fin 4) (r k : Fin 256) : Rl (S u gq wq gk wk h r k) := by
  have hQ : ∀ r h d, Rl (Q u gq wq r h d) := fun r h d =>
    Rl.sum fun i => (rms_real (fun _ => hu _ _) hgq c256_pos eps_pos i).mul (hwq _ _)
  have hK : ∀ r h d, Rl (K u gk wk r h d) := fun r h d =>
    Rl.sum fun i => (rms_real (fun _ => hu _ _) hgk c128_pos eps_pos i).mul (hwk _ _)
  exact ((Rl.sum fun d => (hQ _ _ _).mul (hK _ _ _)).add (Rl.sum fun d => (hQ _ _ _).mul (hu _ _))).mul scale_real

/-- With real scores, a row's sum of exponentials is at least one: its greatest score contributes one. -/
theorem one_le_sum {s : Fin 256 → EReal} (hs : ∀ k, Rl (s k)) :
    1 ≤ ∑ k, Ideal.exp (s k - Finset.univ.fold max ninf s) := by
  have hM : ∃ k, Finset.univ.fold max ninf s = s k := by
    rcases (Finset.le_fold_max (s := Finset.univ) (f := s) (b := ninf) (Finset.univ.fold max ninf s)).1 le_rfl with h | ⟨k, _, h⟩
    · exfalso
      have h1 : s 0 ≤ Finset.univ.fold max ninf s := (Finset.le_fold_max _).2 (.inr ⟨0, Finset.mem_univ _, le_rfl⟩)
      obtain ⟨r, hr⟩ := hs 0
      have h2 := h1.trans h
      rw [ninf_eq, hr] at h2
      exact EReal.coe_ne_bot r (le_bot_iff.1 h2)
    · exact ⟨k, le_antisymm h ((Finset.le_fold_max _).2 (.inr ⟨k, Finset.mem_univ _, le_rfl⟩))⟩
  obtain ⟨k, hk⟩ := hM
  refine le_trans ?_ (Finset.single_le_sum (fun i _ => exp_nonneg _) (Finset.mem_univ k))
  rw [hk]
  obtain ⟨r, hr⟩ := hs k
  rw [hr, ← EReal.coe_sub, sub_self]
  show (1 : EReal) ≤ ((Real.exp 0 : ℝ) : EReal)
  rw [Real.exp_zero]; exact le_rfl

/-- The result with each weight divided first, as a softmax does. -/
theorem O_eq (hs : ∀ h r k, Rl (S u gq wq gk wk h r k)) (h : Fin 4) (r : Fin 256) (e : Fin 64) :
    (∑ k, V u gk wk k h e * Ideal.div (P u gq wq gk wk h r k) (∑ k, P u gq wq gk wk h r k)) = O u gq wq gk wk h r e :=
  sum_div _ _ (one_le_sum fun k => hs h r k)

end Cert.MlaMath

end
-- ==== Proof.MlaIdeal.lean ====
module

public import proofs.«01_k».proof.Proof.MlaBody
public import proofs.«01_k».proof.Proof.MlaMath
public import Idealize.ShloMosaic.Lib.Pointwise

@[expose] public section

set_option maxRecDepth 16384

noncomputable section

/-! # One sequence of the body, in extended reals

The body's arithmetic of one sequence, read at an index, is `MlaMath`'s: the masks that keep one head's lanes among
zeros leave the sum over that head's lanes. -/

namespace Cert.KernelIdeal.Mla

open Cert.KernelIdeal Cert.KernelIdeal.Gen Idealize.ShloMosaic Cert.MlaMath

/-! ## The masks -/

theorem m64_apply (h : Fin 4) (r c : Fin 256) :
    m64 (BitVec.ofNat 32 h.val) (ix2 r c) = BitVec.ofBool (decide (c.val / 64 = h.val)) := by
  pointwise [m64, grp]
  revert h c
  decide +kernel

theorem m32_apply (h : Fin 4) (r : Fin 256) (c : Fin 128) :
    m32 (BitVec.ofNat 32 h.val) (ix2 r c) = BitVec.ofBool (decide (c.val / 32 = h.val)) := by
  pointwise [m32, grp]
  revert h c
  decide +kernel

theorem select_ofBool (p : Prop) [Decidable p] (a b : EReal) :
    Scalar.select (BitVec.ofBool (decide p)) a b = if p then a else b := by
  by_cases h : p <;> simp [h, Scalar.select]

variable (U : Vec Ideal S256x512 .f32) (Gq : Vec Ideal S1x256 .f32) (Wq : Vec Ideal S256x384 .bf16)
  (Gk : Vec Ideal S1x128 .f32) (Wk : Vec Ideal S128x512 .bf16)

/-! ## Each step at an index -/

theorem qh_apply (x : FVec Ideal S256x384 .f32) (h : Fin 4) (r i : Fin 256) :
    qh x (BitVec.ofNat 32 h.val) (ix2 r i) = if i.val / 64 = h.val then x (ix2 r ⟨i.val, by omega⟩) else 0 := by
  pointwise [qh]
  rw [m64_apply, select_ofBool]

theorem qr_apply (x : FVec Ideal S256x384 .f32) (h : Fin 4) (r : Fin 256) (i : Fin 128) :
    qr x (BitVec.ofNat 32 h.val) (ix2 r i) = if i.val / 32 = h.val then x (ix2 r ⟨256 + i.val, by omega⟩) else 0 := by
  pointwise [qr]
  rw [m32_apply, select_ofBool]

/-- One of four rows of blocks, found by comparing the row with the blocks' ends. -/
theorem ladder (f : Fin 4 → Fin 256 → EReal) (h : Fin 4) (r : Fin 256) (n : ℕ) (hn : n = h.val * 256 + r.val) :
    (if h_1 : n < 256 then f 0 ⟨n, h_1⟩
      else if h_2 : n - 256 < 256 then f 1 ⟨n - 256, h_2⟩
      else if h_3 : n - 256 - 256 < 256 then f 2 ⟨n - 256 - 256, h_3⟩
      else f 3 ⟨n - 256 - 256 - 256, by omega⟩) = f h r := by
  have hr := r.isLt
  match h, hn with
  | 0, hn =>
    have hn' : n = r.val := by rw [hn]; show 0 * 256 + r.val = r.val; omega
    rw [dif_pos (by omega)]; exact congrArg (f 0) (Fin.ext (by show n = r.val; omega))
  | 1, hn =>
    have hn' : n = 256 + r.val := by rw [hn]; show 1 * 256 + r.val = _; omega
    rw [dif_neg (by omega), dif_pos (by omega)]; exact congrArg (f 1) (Fin.ext (by show n - 256 = r.val; omega))
  | 2, hn =>
    have hn' : n = 512 + r.val := by rw [hn]; show 2 * 256 + r.val = _; omega
    rw [dif_neg (by omega), dif_neg (by omega), dif_pos (by omega)]
    exact congrArg (f 2) (Fin.ext (by show n - 256 - 256 = r.val; omega))
  | 3, hn =>
    have hn' : n = 768 + r.val := by rw [hn]; show 3 * 256 + r.val = _; omega
    rw [dif_neg (by omega), dif_neg (by omega), dif_neg (by omega)]
    exact congrArg (f 3) (Fin.ext (by show n - 256 - 256 - 256 = r.val; omega))

theorem stack_apply (x : FVec Ideal S256x384 .f32) (h : Fin 4) (r : Fin 256) (i : Fin 384) :
    stack x (ix2 ⟨h.val * 256 + r.val, by omega⟩ i)
      = if hi : i.val < 256 then (if i.val / 64 = h.val then x (ix2 r i) else 0)
        else if (i.val - 256) / 32 = h.val then x (ix2 r i) else 0 := by
  pointwise [stack]
  by_cases hi : i.val < 256
  · rw [dif_pos hi, dif_pos hi]
    exact (ladder (fun h r => qh x (BitVec.ofNat 32 h.val) (ix2 r ⟨i.val, hi⟩)) h r _ rfl).trans (qh_apply x h r ⟨i.val, hi⟩)
  · rw [dif_neg hi, dif_neg hi]
    have hi' : (⟨256 + (i.val - 256), by omega⟩ : Fin 384) = i := Fin.ext (by simp; omega)
    refine (ladder (fun h r => qr x (BitVec.ofNat 32 h.val) (ix2 r ⟨i.val - 256, by omega⟩)) h r _ rfl).trans ?_
    rw [qr_apply]
    simp only [hi']

theorem scores_apply (x : FVec Ideal S256x384 .f32) (k : FVec Ideal S256x384 .bf16) (h : Fin 4) (r c : Fin 256) :
    scores (stack x) k (ix2 ⟨h.val * 256 + r.val, by omega⟩ c)
      = ((∑ d : Fin 64, x (ix2 r ⟨h.val * 64 + d.val, by omega⟩) * k (ix2 c ⟨h.val * 64 + d.val, by omega⟩))
          + ∑ d : Fin 32, x (ix2 r ⟨256 + (h.val * 32 + d.val), by omega⟩) * k (ix2 c ⟨256 + (h.val * 32 + d.val), by omega⟩))
        * scale := by
  have e : scores (stack x) k (ix2 ⟨h.val * 256 + r.val, by omega⟩ c)
      = (∑ i : Fin 384, stack x (ix2 ⟨h.val * 256 + r.val, by omega⟩ i) * k (ix2 c i)) * scale := by
    generalize stack x = y
    pointwise [scores]
  rw [e]
  congr 1
  have e2 : ∀ f : Fin 384 → EReal, ∑ i, f i = (∑ i : Fin 256, f ⟨i.val, by omega⟩) + ∑ i : Fin 128, f ⟨256 + i.val, by omega⟩ :=
    fun f => Fin.sum_univ_add (a := 256) (b := 128) f
  rw [e2]
  congr 1
  · rw [← sum_block 64 256 (by omega) rfl (fun i => x (ix2 r ⟨i.val, by omega⟩) * k (ix2 c ⟨i.val, by omega⟩)) h]
    refine Finset.sum_congr rfl fun i _ => ?_
    rw [stack_apply, dif_pos (show i.val < 256 from i.isLt), ite_mul, zero_mul]
  · rw [← sum_block 32 128 (by omega) rfl (fun i => x (ix2 r ⟨256 + i.val, by omega⟩) * k (ix2 c ⟨256 + i.val, by omega⟩)) h]
    refine Finset.sum_congr rfl fun i _ => ?_
    rw [stack_apply, dif_neg (show ¬ 256 + i.val < 256 by omega), ite_mul, zero_mul]
    simp only [Nat.add_sub_cancel_left]

theorem ex_apply (s : FVec Ideal S1024x256 .f32) (r : Fin 1024) (i : Fin 256) :
    ex s (ix2 r i) = Ideal.exp (s (ix2 r i) - Finset.univ.fold max ninf fun k => s (ix2 r k)) := by
  pointwise [ex]

theorem avg_apply (p : FVec Ideal S1024x256 .f32) (v : FVec Ideal S256x256 .bf16) (r : Fin 1024) (i : Fin 256) :
    avg p v (ix2 r i) = Ideal.div (∑ k, p (ix2 r k) * v (ix2 k i)) (∑ k, p (ix2 r k)) := by
  pointwise [avg]

theorem unstack_apply (o : FVec Ideal S1024x256 .f32) (r : Fin 256) (h : Fin 4) (e : Fin 64) :
    unstack o (ix2 r ⟨h.val * 64 + e.val, by omega⟩)
      = o (ix2 ⟨h.val * 256 + r.val, by omega⟩ ⟨h.val * 64 + e.val, by omega⟩) := by
  pointwise [unstack]
  have m := fun a : Fin 4 => m64_apply a r ⟨h.val * 64 + e.val, by omega⟩
  have m0 := m 0; have m1 := m 1; have m2 := m 2; have m3 := m 3
  have he : (h.val * 64 + e.val) / 64 = h.val := by omega
  simp only [he] at m0 m1 m2 m3
  change m64 0#32 _ = _ at m0; change m64 1#32 _ = _ at m1; change m64 2#32 _ = _ at m2; change m64 3#32 _ = _ at m3
  rw [m0, m1, m2, m3, select_ofBool, select_ofBool, select_ofBool, select_ofBool]
  match h with
  | 0 => simp
  | 1 => simp
  | 2 => simp
  | 3 => simp

theorem q_apply (r : Fin 256) (i : Fin 384) : q U Gq Wq (ix2 r i) = ∑ k, qn U Gq (ix2 r k) * Wq (ix2 k i) := by
  pointwise [q]

theorem qn_apply (r i : Fin 256) :
    qn U Gq (ix2 r i) = rms (fun i : Fin 256 => U (ix2 r ⟨i.val, by omega⟩)) (fun i => Gq (ix2 0 i)) c256 eps i := by
  pointwise [qn, rms]

theorem ckv_apply (r : Fin 256) (i : Fin 128) :
    ckv U Gk (ix2 r i) = rms (fun i : Fin 128 => U (ix2 r ⟨256 + i.val, by omega⟩)) (fun i => Gk (ix2 0 i)) c128 eps i := by
  pointwise [ckv, rms]

theorem kv_apply (r : Fin 256) (i : Fin 512) : kv U Gk Wk (ix2 r i) = ∑ k, ckv U Gk (ix2 r k) * Wk (ix2 k i) := by
  pointwise [kv]

theorem keys_lo (r : Fin 256) (i : Fin 384) (hi : i.val < 256) : keys U Gk Wk (ix2 r i) = kv U Gk Wk (ix2 r ⟨i.val, by omega⟩) := by
  pointwise [keys]
  rw [dif_pos hi]

theorem keys_hi (r : Fin 256) (i : Fin 128) :
    keys U Gk Wk (ix2 r ⟨256 + i.val, by omega⟩) = U (ix2 r ⟨384 + i.val, by omega⟩) := by
  pointwise [keys]

theorem vals_apply (r i : Fin 256) : vals U Gk Wk (ix2 r i) = kv U Gk Wk (ix2 r ⟨256 + i.val, by omega⟩) := by
  pointwise [vals]

/-! ## The whole sequence -/

variable (u : Fin 256 → Fin 416 → EReal) (gq : Fin 256 → EReal) (wq : Fin 256 → Fin 384 → EReal)
  (gk : Fin 128 → EReal) (wk : Fin 128 → Fin 512 → EReal)

/-- What the operands hold: the rows with the key's position columns once per head, the gains, and the weights with each
    head's columns without position before those with it, and the keys' columns before the values'. -/
structure Holds : Prop where
  u1 : ∀ (r : Fin 256) (i : Fin 384), U (ix2 r ⟨i.val, by omega⟩) = u r ⟨i.val, by omega⟩
  u2 : ∀ (r : Fin 256) (h : Fin 4) (d : Fin 32), U (ix2 r ⟨384 + (h.val * 32 + d.val), by omega⟩) = u r ⟨384 + d.val, by omega⟩
  gq : ∀ i : Fin 256, Gq (ix2 0 i) = gq i
  gk : ∀ i : Fin 128, Gk (ix2 0 i) = gk i
  wq1 : ∀ (i : Fin 256) (h : Fin 4) (d : Fin 64), Wq (ix2 i ⟨h.val * 64 + d.val, by omega⟩) = wq i ⟨h.val * 96 + d.val, by omega⟩
  wq2 : ∀ (i : Fin 256) (h : Fin 4) (d : Fin 32), Wq (ix2 i ⟨256 + (h.val * 32 + d.val), by omega⟩) = wq i ⟨h.val * 96 + (64 + d.val), by omega⟩
  wk1 : ∀ (i : Fin 128) (h : Fin 4) (d : Fin 64), Wk (ix2 i ⟨h.val * 64 + d.val, by omega⟩) = wk i ⟨h.val * 128 + d.val, by omega⟩
  wk2 : ∀ (i : Fin 128) (h : Fin 4) (d : Fin 64), Wk (ix2 i ⟨256 + (h.val * 64 + d.val), by omega⟩) = wk i ⟨h.val * 128 + (64 + d.val), by omega⟩

variable {U Gq Wq Gk Wk u gq wq gk wk}
variable (H : Holds U Gq Wq Gk Wk u gq wq gk wk)
include H

theorem ckv_eq (r : Fin 256) (i : Fin 128) : ckv U Gk (ix2 r i) = ck u gk r i := by
  rw [ckv_apply]
  have e1 : (fun i : Fin 128 => U (ix2 r ⟨256 + i.val, by omega⟩)) = fun i : Fin 128 => u r ⟨256 + i.val, by omega⟩ :=
    funext fun i => H.u1 r ⟨256 + i.val, by omega⟩
  have e2 : (fun i => Gk (ix2 0 i)) = gk := funext H.gk
  rw [e1, e2]; rfl

theorem qn_eq (r i : Fin 256) : qn U Gq (ix2 r i) = cq u gq r i := by
  rw [qn_apply]
  have e1 : (fun i : Fin 256 => U (ix2 r ⟨i.val, by omega⟩)) = fun i : Fin 256 => u r ⟨i.val, by omega⟩ :=
    funext fun i => H.u1 r ⟨i.val, by omega⟩
  have e2 : (fun i => Gq (ix2 0 i)) = gq := funext H.gq
  rw [e1, e2]; rfl

theorem q1_eq (r : Fin 256) (h : Fin 4) (d : Fin 64) :
    q U Gq Wq (ix2 r ⟨h.val * 64 + d.val, by omega⟩) = Q u gq wq r h ⟨d.val, by omega⟩ := by
  rw [q_apply]
  exact Finset.sum_congr rfl fun i _ => by rw [qn_eq H, H.wq1]

theorem q2_eq (r : Fin 256) (h : Fin 4) (d : Fin 32) :
    q U Gq Wq (ix2 r ⟨256 + (h.val * 32 + d.val), by omega⟩) = Q u gq wq r h ⟨64 + d.val, by omega⟩ := by
  rw [q_apply]
  exact Finset.sum_congr rfl fun i _ => by rw [qn_eq H, H.wq2]

theorem k_eq (r : Fin 256) (h : Fin 4) (d : Fin 64) :
    keys U Gk Wk (ix2 r ⟨h.val * 64 + d.val, by omega⟩) = K u gk wk r h d := by
  rw [keys_lo _ _ _ _ _ (by show h.val * 64 + d.val < 256; omega), kv_apply]
  exact Finset.sum_congr rfl fun i _ => by rw [ckv_eq H, H.wk1]

theorem v_eq (r : Fin 256) (h : Fin 4) (d : Fin 64) :
    vals U Gk Wk (ix2 r ⟨h.val * 64 + d.val, by omega⟩) = V u gk wk r h d := by
  rw [vals_apply, kv_apply]
  exact Finset.sum_congr rfl fun i _ => by rw [ckv_eq H, H.wk2]

theorem s_eq (h : Fin 4) (r c : Fin 256) :
    scores (stack (q U Gq Wq)) (keys U Gk Wk) (ix2 ⟨h.val * 256 + r.val, by omega⟩ c) = S u gq wq gk wk h r c := by
  rw [scores_apply]
  unfold S
  congr 2
  · exact Finset.sum_congr rfl fun d _ => by rw [q1_eq H, k_eq H]
  · exact Finset.sum_congr rfl fun d _ => by
      rw [q2_eq H, keys_hi U Gk Wk c ⟨h.val * 32 + d.val, by omega⟩, H.u2]

/-- The attention's stored rows. -/
theorem out_eq (r : Fin 256) (h : Fin 4) (e : Fin 64) :
    unstack (att U Gq Wq Gk Wk) (ix2 r ⟨h.val * 64 + e.val, by omega⟩) = O u gq wq gk wk h r e := by
  rw [unstack_apply]
  unfold att
  rw [avg_apply]
  have hp : ∀ k, ex (scores (stack (q U Gq Wq)) (keys U Gk Wk)) (ix2 ⟨h.val * 256 + r.val, by omega⟩ k) = P u gq wq gk wk h r k := by
    intro k
    rw [ex_apply, s_eq H]
    unfold P MlaMath.M
    congr 2
    exact congrArg (fun f => Finset.univ.fold max ninf f) (funext fun k => s_eq H h r k)
  unfold O
  simp only [hp, v_eq H]

end Cert.KernelIdeal.Mla

end
-- ==== Proof.MlaRef.lean ====
module

public import proofs.«01_k».proof.Proof.MlaMath
public import proofs.«01_k».proof.Proof.Gen.ReferenceIdeal.Read
public import Idealize.ShloMosaic.Lib.Pointwise

@[expose] public section

set_option maxRecDepth 16384

noncomputable section

/-! # The reference, sequence by sequence

Each result of the reference read at an index, as `MlaMath`'s function of the sequence's rows and the weights. -/

namespace Cert.ReferenceIdeal.RefValue

open Cert.ReferenceIdeal Cert.ReferenceIdeal.Gen Cert.ReferenceIdeal.Read Idealize.ShloMosaic Cert.MlaMath

variable (x0 : FVec Ideal S10240x416 .f32) (x1 : FVec Ideal S256 .f32) (x2 : FVec Ideal S256x384 .f32)
  (x3 : FVec Ideal S128 .f32) (x4 : FVec Ideal S128x512 .f32)

/-- The rows of sequence `b`. -/
def uu (b : Fin 32) (r : Fin 256) (i : Fin 416) : EReal := x0 (ix2 ⟨b.val * 256 + r.val, by omega⟩ i)

theorem cq_apply (b : Fin 32) (r i : Fin 256) : val_main_v17 (F := Ideal) x0 x1 (ix3 b r i) = cq (uu x0 b) (fun i => x1 (ix1 i)) r i := by
  pointwise [val_main_v17, val_main_v14, val_main_v16, val_main_v15, val_main_v13, val_main_v12, val_main_v11, val_main_v10, val_main_v9, val_main_v8, val_main_v7, val_main_v6, val_main_v5, val_main_v2, val_main_v1, val_main_v0, val_main_cst, val_main_cst_0, val_main_cst_1]
  rfl

theorem ck_apply (b : Fin 32) (r : Fin 256) (i : Fin 128) : val_main_v32 (F := Ideal) x0 x3 (ix3 b r i) = ck (uu x0 b) (fun i => x3 (ix1 i)) r i := by
  pointwise [val_main_v32, val_main_v29, val_main_v31, val_main_v30, val_main_v28, val_main_v27, val_main_v26, val_main_v25, val_main_v24, val_main_v23, val_main_v22, val_main_v21, val_main_v20, val_main_v3, val_main_v1, val_main_v0, val_main_cst_2, val_main_cst_3, val_main_cst_4]
  rfl

theorem q_apply (b : Fin 32) (r : Fin 256) (h : Fin 4) (d : Fin 96) :
    val_main_v19 (F := Ideal) x0 x1 x2 (ix4 b r h d) = Q (uu x0 b) (fun i => x1 (ix1 i)) (fun i j => x2 (ix2 i j)) r h d := by
  pointwise [val_main_v19, val_main_v18]
  exact Finset.sum_congr rfl fun i _ => by rw [cq_apply]

theorem k_apply (b : Fin 32) (r : Fin 256) (h : Fin 4) (d : Fin 64) :
    val_main_v35 (F := Ideal) x0 x3 x4 (ix4 b r h d) = K (uu x0 b) (fun i => x3 (ix1 i)) (fun i j => x4 (ix2 i j)) r h d := by
  pointwise [val_main_v35, val_main_v34, val_main_v33]
  exact Finset.sum_congr rfl fun i _ => by rw [ck_apply]

theorem v_apply (b : Fin 32) (r : Fin 256) (h : Fin 4) (d : Fin 64) :
    val_main_v36 (F := Ideal) x0 x3 x4 (ix4 b r h d) = V (uu x0 b) (fun i => x3 (ix1 i)) (fun i j => x4 (ix2 i j)) r h d := by
  pointwise [val_main_v36, val_main_v34, val_main_v33]
  exact Finset.sum_congr rfl fun i _ => by rw [ck_apply]

theorem s_apply (b : Fin 32) (h : Fin 4) (r k : Fin 256) :
    val_main_v42 (F := Ideal) x0 x1 x2 x3 x4 (ix4 b h r k)
      = S (uu x0 b) (fun i => x1 (ix1 i)) (fun i j => x2 (ix2 i j)) (fun i => x3 (ix1 i)) (fun i j => x4 (ix2 i j)) h r k := by
  pointwise [val_main_v42, val_main_v41, val_main_v40, val_main_cst_5, val_main_v39, Value.fn_main_v39, val_main_v38, val_main_v37, val_main_v4, val_main_v1, val_main_v0]
  simp only [q_apply, k_apply]
  rfl

theorem m_apply (y : FVec Ideal S32x4x256x256 .f32) (b : Fin 32) (h : Fin 4) (r : Fin 256) (g : EReal)
    (hg : (Finset.univ.fold max ninf fun k => y (ix4 b h r k)) = g) :
    Host.reduce FloatOps.maximumf y (constant S_ .f32 0xFF800000#32) reducesTo_S32x4x256x256_S32x4x256_d3 h_S_ (ix3 b h r) = g := by
  pointwise
  exact hg

end Cert.ReferenceIdeal.RefValue

end
-- ==== Proof.MlaSoft.lean ====
module

public import proofs.«01_k».proof.Proof.MlaRef

@[expose] public section

set_option maxRecDepth 16384

noncomputable section

/-! # The reference's softmax and result -/

namespace Cert.ReferenceIdeal.RefValue

open Cert.ReferenceIdeal Cert.ReferenceIdeal.Gen Cert.ReferenceIdeal.Read Idealize.ShloMosaic Cert.MlaMath

variable (x0 : FVec Ideal S10240x416 .f32) (x1 : FVec Ideal S256 .f32) (x2 : FVec Ideal S256x384 .f32)
  (x3 : FVec Ideal S128 .f32) (x4 : FVec Ideal S128x512 .f32)

theorem p_form (b : Fin 32) (h : Fin 4) (r k : Fin 256) :
    val_main_v49 (F := Ideal) x0 x1 x2 x3 x4 (ix4 b h r k)
      = Ideal.exp (val_main_v42 (F := Ideal) x0 x1 x2 x3 x4 (ix4 b h r k) - max ninf (val_main_v43 (F := Ideal) x0 x1 x2 x3 x4 (ix3 b h r))) := by
  have hi : idx_main_v46 (idx_main_v47 (ix4 b h r k)) = ix3 b h r :=
    funext fun a => match a with | ⟨0, _⟩ => rfl | ⟨1, _⟩ => rfl | ⟨2, _⟩ => rfl
  rw [val_main_v49_apply, val_main_v48_apply, val_main_v47_apply, val_main_v46_apply, val_main_v45_apply, val_main_v44_apply,
    val_main_cst_7_apply, hi]
  generalize val_main_v42 (F := Ideal) x0 x1 x2 x3 x4 = y
  generalize val_main_v43 (F := Ideal) x0 x1 x2 x3 x4 = z
  rfl

theorem m_form (b : Fin 32) (h : Fin 4) (r : Fin 256) :
    val_main_v43 (F := Ideal) x0 x1 x2 x3 x4 (ix3 b h r)
      = MlaMath.M (uu x0 b) (fun i => x1 (ix1 i)) (fun i j => x2 (ix2 i j)) (fun i => x3 (ix1 i)) (fun i j => x4 (ix2 i j)) h r := by
  have e : (fun k => val_main_v42 (F := Ideal) x0 x1 x2 x3 x4 (ix4 b h r k))
      = fun k => S (uu x0 b) (fun i => x1 (ix1 i)) (fun i j => x2 (ix2 i j)) (fun i => x3 (ix1 i)) (fun i j => x4 (ix2 i j)) h r k :=
    funext fun k => s_apply x0 x1 x2 x3 x4 b h r k
  unfold MlaMath.M
  rw [← e]
  unfold val_main_v43 val_main_cst_6
  generalize val_main_v42 (F := Ideal) x0 x1 x2 x3 x4 = y
  exact m_apply y b h r _ rfl

theorem p_apply (b : Fin 32) (h : Fin 4) (r k : Fin 256) :
    val_main_v49 (F := Ideal) x0 x1 x2 x3 x4 (ix4 b h r k)
      = P (uu x0 b) (fun i => x1 (ix1 i)) (fun i j => x2 (ix2 i j)) (fun i => x3 (ix1 i)) (fun i j => x4 (ix2 i j)) h r k := by
  rw [p_form, m_form, s_apply, ninf_eq, max_eq_right bot_le]
  unfold P
  with_reducible rfl

theorem o_apply (b : Fin 32)
    (hs : ∀ h r k, Rl (S (uu x0 b) (fun i => x1 (ix1 i)) (fun i j => x2 (ix2 i j)) (fun i => x3 (ix1 i)) (fun i j => x4 (ix2 i j)) h r k))
    (r : Fin 256) (h : Fin 4) (e : Fin 64) :
    val_main_v57 (F := Ideal) x0 x1 x2 x3 x4 (ix2 ⟨b.val * 256 + r.val, by omega⟩ ⟨h.val * 64 + e.val, by omega⟩)
      = O (uu x0 b) (fun i => x1 (ix1 i)) (fun i j => x2 (ix2 i j)) (fun i => x3 (ix1 i)) (fun i j => x4 (ix2 i j)) h r e := by
  pointwise [val_main_v57, val_main_v56, val_main_v55, val_main_v54, val_main_v53, val_main_v52, val_main_v51, val_main_v50, val_main_cst_8]
  simp only [v_apply, p_apply]
  exact O_eq hs h r e

theorem c_apply (b : Fin 32) (r : Fin 256) (i : Fin 128) :
    val_main_v58 (F := Ideal) x0 x3 (ix2 ⟨b.val * 256 + r.val, by omega⟩ i) = ck (uu x0 b) (fun i => x3 (ix1 i)) r i := by
  pointwise [val_main_v58]
  exact ck_apply x0 x3 b r i

end Cert.ReferenceIdeal.RefValue

end
-- ==== Proof.MlaValue.lean ====
module

public import proofs.«01_k».proof.Proof.MlaIdeal
public import proofs.«01_k».proof.Proof.MlaSoft
public import proofs.«01_k».proof.Proof.Gen.KernelIdeal.Value

@[expose] public section

set_option maxRecDepth 16384

noncomputable section

/-! # The attention's two result arrays

The host packs the columns of the latents and of the weights; a grid point's block of 1024 rows is four sequences; so each block
written back is the reference's result on those rows, and the eight blocks tile the arrays. -/

namespace Cert.KernelIdeal.Mla

open Cert.KernelIdeal Cert.KernelIdeal.Gen Idealize.ShloMosaic Idealize.ShloMosaic.TcCoe Idealize.SL.Sem Cert.MlaMath
open Cert.ReferenceIdeal.RefValue (uu)

/-! ## The packed arrays -/

def packU (x : FVec Ideal S10240x416 .f32) : FVec Ideal S10240x512 .f32 :=
  concatenate S10240x512 1
    [⟨S10240x384, extractStridedSlice S10240x384 ![0, 0] x slices_S10240x416_S10240x384_0_0⟩,
     ⟨S10240x32, extractStridedSlice S10240x32 ![0, 384] x slices_S10240x416_S10240x32_0_384⟩,
     ⟨S10240x32, extractStridedSlice S10240x32 ![0, 384] x slices_S10240x416_S10240x32_0_384⟩,
     ⟨S10240x32, extractStridedSlice S10240x32 ![0, 384] x slices_S10240x416_S10240x32_0_384⟩,
     ⟨S10240x32, extractStridedSlice S10240x32 ![0, 384] x slices_S10240x416_S10240x32_0_384⟩]
    concatenates_S10240x384_S10240x32_S10240x32_S10240x32_S10240x32_S10240x512_d1

def packQ (x : FVec Ideal S256x384 .f32) : FVec Ideal S256x384 .bf16 :=
  truncf .bf16 (concatenate S256x384 1
    [⟨S256x64, extractStridedSlice S256x64 ![0, 0] x slices_S256x384_S256x64_0_0⟩,
     ⟨S256x64, extractStridedSlice S256x64 ![0, 96] x slices_S256x384_S256x64_0_96⟩,
     ⟨S256x64, extractStridedSlice S256x64 ![0, 192] x slices_S256x384_S256x64_0_192⟩,
     ⟨S256x64, extractStridedSlice S256x64 ![0, 288] x slices_S256x384_S256x64_0_288⟩,
     ⟨S256x32, extractStridedSlice S256x32 ![0, 64] x slices_S256x384_S256x32_0_64⟩,
     ⟨S256x32, extractStridedSlice S256x32 ![0, 160] x slices_S256x384_S256x32_0_160⟩,
     ⟨S256x32, extractStridedSlice S256x32 ![0, 256] x slices_S256x384_S256x32_0_256⟩,
     ⟨S256x32, extractStridedSlice S256x32 ![0, 352] x slices_S256x384_S256x32_0_352⟩]
    (by exact concatenates_S256x64_S256x64_S256x64_S256x64_S256x32_S256x32_S256x32_S256x32_S256x384_d1)) bitsLt_bf16_f32

def packK (x : FVec Ideal S128x512 .f32) : FVec Ideal S128x512 .bf16 :=
  truncf .bf16 (concatenate S128x512 1
    [⟨S128x64, extractStridedSlice S128x64 ![0, 0] x slices_S128x512_S128x64_0_0⟩,
     ⟨S128x64, extractStridedSlice S128x64 ![0, 128] x slices_S128x512_S128x64_0_128⟩,
     ⟨S128x64, extractStridedSlice S128x64 ![0, 256] x slices_S128x512_S128x64_0_256⟩,
     ⟨S128x64, extractStridedSlice S128x64 ![0, 384] x slices_S128x512_S128x64_0_384⟩,
     ⟨S128x64, extractStridedSlice S128x64 ![0, 64] x slices_S128x512_S128x64_0_64⟩,
     ⟨S128x64, extractStridedSlice S128x64 ![0, 192] x slices_S128x512_S128x64_0_192⟩,
     ⟨S128x64, extractStridedSlice S128x64 ![0, 320] x slices_S128x512_S128x64_0_320⟩,
     ⟨S128x64, extractStridedSlice S128x64 ![0, 448] x slices_S128x512_S128x64_0_448⟩]
    (by exact concatenates_S128x64_S128x64_S128x64_S128x64_S128x64_S128x64_S128x64_S128x64_S128x512_d1)) bitsLt_bf16_f32

theorem packU_lo (x : FVec Ideal S10240x416 .f32) (r : Fin 10240) (i : Fin 384) :
    packU x (ix2 r ⟨i.val, by omega⟩) = x (ix2 r ⟨i.val, by omega⟩) := by
  pointwise [packU]

theorem packU_hi (x : FVec Ideal S10240x416 .f32) (r : Fin 10240) (h : Fin 4) (d : Fin 32) :
    packU x (ix2 r ⟨384 + (h.val * 32 + d.val), by omega⟩) = x (ix2 r ⟨384 + d.val, by omega⟩) := by
  fin_cases h <;> pointwise [packU] <;> (repeat' split) <;> first | omega | (congr 2; simp only [Fin.mk.injEq]; omega)

theorem packQ_lo (x : FVec Ideal S256x384 .f32) (i : Fin 256) (h : Fin 4) (d : Fin 64) :
    packQ x (ix2 i ⟨h.val * 64 + d.val, by omega⟩) = x (ix2 i ⟨h.val * 96 + d.val, by omega⟩) := by
  fin_cases h <;> pointwise [packQ] <;> (repeat' split) <;> first | omega | (congr 2; simp only [Fin.mk.injEq]; omega)

theorem packQ_hi (x : FVec Ideal S256x384 .f32) (i : Fin 256) (h : Fin 4) (d : Fin 32) :
    packQ x (ix2 i ⟨256 + (h.val * 32 + d.val), by omega⟩) = x (ix2 i ⟨h.val * 96 + (64 + d.val), by omega⟩) := by
  fin_cases h <;> pointwise [packQ] <;> (repeat' split) <;> first | omega | (congr 2; simp only [Fin.mk.injEq]; omega)

theorem packK_lo (x : FVec Ideal S128x512 .f32) (i : Fin 128) (h : Fin 4) (d : Fin 64) :
    packK x (ix2 i ⟨h.val * 64 + d.val, by omega⟩) = x (ix2 i ⟨h.val * 128 + d.val, by omega⟩) := by
  fin_cases h <;> pointwise [packK] <;> (repeat' split) <;> first | omega | (congr 2; simp only [Fin.mk.injEq]; omega)

theorem packK_hi (x : FVec Ideal S128x512 .f32) (i : Fin 128) (h : Fin 4) (d : Fin 64) :
    packK x (ix2 i ⟨256 + (h.val * 64 + d.val), by omega⟩) = x (ix2 i ⟨h.val * 128 + (64 + d.val), by omega⟩) := by
  fin_cases h <;> pointwise [packK] <;> (repeat' split) <;> first | omega | (congr 2; simp only [Fin.mk.injEq]; omega)

variable (m : (ℓ : Loc nD τ sig) → Buf (Elt Ideal) ℓ) (ρ : Dev nD → PrngReg)

theorem V_u (c : Dev nD) : V m c main_v2 = packU (m ((c : Thread nD τ).loc main_arg0)) := by
  show StableHlo.after hostOps0 _ (Proc.devRef .tc main_v2) = _
  after_results
  rfl

theorem V_gq (c : Dev nD) : V m c main_v3 = broadcastInDim S1x256 ![1] bcast_S256_S1x256_1 (m ((c : Thread nD τ).loc main_arg1)) := by
  show StableHlo.after hostOps0 _ (Proc.devRef .tc main_v3) = _
  after_results

theorem V_wq (c : Dev nD) : V m c main_v13 = packQ (m ((c : Thread nD τ).loc main_arg2)) := by
  show StableHlo.after hostOps0 _ (Proc.devRef .tc main_v13) = _
  after_results
  rfl

theorem V_gk (c : Dev nD) : V m c main_v14 = broadcastInDim S1x128 ![1] bcast_S128_S1x128_1 (m ((c : Thread nD τ).loc main_arg3)) := by
  show StableHlo.after hostOps0 _ (Proc.devRef .tc main_v14) = _
  after_results

theorem V_wk (c : Dev nD) : V m c main_v24 = packK (m ((c : Thread nD τ).loc main_arg4)) := by
  show StableHlo.after hostOps0 _ (Proc.devRef .tc main_v24) = _
  after_results
  rfl

/-! ## A grid point's blocks -/

theorem idx_facts : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0
    ∧ win0_5.index t 0 = t.val ∧ win0_5.index t 1 = 0 ∧ win0_6.index t 0 = t.val ∧ win0_6.index t 1 = 0 := by
  decide +kernel

theorem point_lt (t : Fin cfg0.N) : t.val < 8 := lt_of_lt_of_eq t.isLt N_0

theorem blk0 (c : Dev nD) (t : Fin cfg0.N) (r : Fin 1024) (i : Fin 512) :
    iblk m c 0 t (ix2 r i) = packU (m ((c : Thread nD τ).loc main_arg0)) (ix2 ⟨t.val * 1024 + r.val, by have := point_lt t; omega⟩ i) := by
  rw [← V_u]
  have h := idx_facts t
  refine congrArg (V m c main_v2) (funext fun a => Fin.ext ?_)
  match a with
  | ⟨0, _⟩ => show win0_0.index t 0 * 1024 + 1 * r.val = _; rw [h.1, Nat.one_mul]; rfl
  | ⟨1, _⟩ => show win0_0.index t 1 * 512 + 1 * i.val = _; rw [h.2.1]; simp

theorem blk1 (c : Dev nD) (t : Fin cfg0.N) (i : Fin 256) :
    iblk m c 1 t (ix2 0 i) = m ((c : Thread nD τ).loc main_arg1) (ix1 i) := by
  have h := idx_facts t
  have e : iblk m c 1 t (ix2 0 i) = V m c main_v3 (ix2 0 i) := by
    refine congrArg (V m c main_v3) (funext fun a => Fin.ext ?_)
    match a with
    | ⟨0, _⟩ => show win0_1.index t 0 * 1 + 1 * 0 = _; rw [h.2.2.1]; rfl
    | ⟨1, _⟩ => show win0_1.index t 1 * 256 + 1 * i.val = _; rw [h.2.2.2.1]; simp
  rw [e, V_gq]
  generalize m ((c : Thread nD τ).loc main_arg1) = y
  pointwise

theorem blk3 (c : Dev nD) (t : Fin cfg0.N) (i : Fin 128) :
    iblk m c 3 t (ix2 0 i) = m ((c : Thread nD τ).loc main_arg3) (ix1 i) := by
  have h := idx_facts t
  have e : iblk m c 3 t (ix2 0 i) = V m c main_v14 (ix2 0 i) := by
    refine congrArg (V m c main_v14) (funext fun a => Fin.ext ?_)
    match a with
    | ⟨0, _⟩ => show win0_3.index t 0 * 1 + 1 * 0 = _; rw [h.2.2.2.2.2.2.1]; rfl
    | ⟨1, _⟩ => show win0_3.index t 1 * 128 + 1 * i.val = _; rw [h.2.2.2.2.2.2.2.1]; simp
  rw [e, V_gk]
  generalize m ((c : Thread nD τ).loc main_arg3) = y
  pointwise

theorem blk2 (c : Dev nD) (t : Fin cfg0.N) (r : Fin 256) (i : Fin 384) :
    iblk m c 2 t (ix2 r i) = packQ (m ((c : Thread nD τ).loc main_arg2)) (ix2 r i) := by
  rw [← V_wq]
  have h := idx_facts t
  refine congrArg (V m c main_v13) (funext fun a => Fin.ext ?_)
  match a with
  | ⟨0, _⟩ => show win0_2.index t 0 * 256 + 1 * r.val = _; rw [h.2.2.2.2.1]; simp
  | ⟨1, _⟩ => show win0_2.index t 1 * 384 + 1 * i.val = _; rw [h.2.2.2.2.2.1]; simp

theorem blk4 (c : Dev nD) (t : Fin cfg0.N) (r : Fin 128) (i : Fin 512) :
    iblk m c 4 t (ix2 r i) = packK (m ((c : Thread nD τ).loc main_arg4)) (ix2 r i) := by
  rw [← V_wk]
  have h := idx_facts t
  refine congrArg (V m c main_v24) (funext fun a => Fin.ext ?_)
  match a with
  | ⟨0, _⟩ => show win0_4.index t 0 * 128 + 1 * r.val = _; rw [h.2.2.2.2.2.2.2.2.1]; simp
  | ⟨1, _⟩ => show win0_4.index t 1 * 512 + 1 * i.val = _; rw [h.2.2.2.2.2.2.2.2.2.1]; simp

/-- The rows of a block from row `o`, loaded. -/
theorem ld_rows (x : Vec Ideal S1024x512 .f32) (o : Nat) (h : o + 256 ≤ 1024) (hi) (r : Fin 256) (i : Fin 512) :
    View.ld x (Rect.unit (s := S1024x512) ![o, 0] S256x512.size hi) (ix2 r i) = x (ix2 ⟨o + r.val, by omega⟩ i) := by
  refine congrArg x (funext fun a => Fin.ext ?_)
  match a with
  | ⟨0, _⟩ => show o + 1 * r.val = _; simp
  | ⟨1, _⟩ => show 0 + 1 * i.val = _; simp

theorem hz : (![0, 0] : Fin 2 → Nat) = fun _ => 0 := funext fun a => by fin_cases a <;> rfl

theorem ld1 (x : Vec Ideal S1x256 .f32) : View.ld x r0_1 = x := by unfold r0_1; rw [View.ld_unit_zero hz]
theorem ld2 (x : Vec Ideal S256x384 .bf16) : View.ld x r0_2 = x := by unfold r0_2; rw [View.ld_unit_zero hz]
theorem ld3 (x : Vec Ideal S1x128 .f32) : View.ld x r0_3 = x := by unfold r0_3; rw [View.ld_unit_zero hz]
theorem ld5 (x : Vec Ideal S128x512 .bf16) : View.ld x r0_5 = x := by unfold r0_5; rw [View.ld_unit_zero hz]

/-- What sequence `j` of grid point `t` is computed from. -/
theorem holds (c : Dev nD) (t : Fin cfg0.N) (j : Nat) (hj : j < 4) (hi) :
    Holds (View.ld (iblk m c 0 t) (Rect.unit (s := S1024x512) ![j * 256, 0] S256x512.size hi))
      (View.ld (iblk m c 1 t) r0_1) (View.ld (iblk m c 2 t) r0_2) (View.ld (iblk m c 3 t) r0_3) (View.ld (iblk m c 4 t) r0_5)
      (uu (m ((c : Thread nD τ).loc main_arg0)) ⟨t.val * 4 + j, by have := point_lt t; omega⟩)
      (fun i => m ((c : Thread nD τ).loc main_arg1) (ix1 i)) (fun i k => m ((c : Thread nD τ).loc main_arg2) (ix2 i k))
      (fun i => m ((c : Thread nD τ).loc main_arg3) (ix1 i)) (fun i k => m ((c : Thread nD τ).loc main_arg4) (ix2 i k)) := by
  have ht := point_lt t
  refine ⟨fun r i => ?_, fun r h d => ?_, fun i => ?_, fun i => ?_, fun i h d => ?_, fun i h d => ?_, fun i h d => ?_, fun i h d => ?_⟩
  · rw [ld_rows _ _ (by omega), blk0, packU_lo]
    unfold uu
    congr 2
    exact Fin.ext (by show t.val * 1024 + (j * 256 + r.val) = (t.val * 4 + j) * 256 + r.val; omega)
  · rw [ld_rows _ _ (by omega), blk0, packU_hi]
    unfold uu
    congr 2
    exact Fin.ext (by show t.val * 1024 + (j * 256 + r.val) = (t.val * 4 + j) * 256 + r.val; omega)
  · rw [ld1]; exact blk1 m c t i
  · rw [ld3]; exact blk3 m c t i
  · rw [ld2]; exact (blk2 m c t i _).trans (packQ_lo _ i h d)
  · rw [ld2]; exact (blk2 m c t i _).trans (packQ_hi _ i h d)
  · rw [ld5]; exact (blk4 m c t i _).trans (packK_lo _ i h d)
  · rw [ld5]; exact (blk4 m c t i _).trans (packK_hi _ i h d)

/-! ## The arrays -/

/-- The attention's result, from the arguments. -/
abbrev G5 (c : Dev nD) : FVec Ideal S8192x256 .bf16 :=
  Cert.ReferenceIdeal.Read.val_main_v57 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The normalised latent, from the arguments. -/
abbrev G6 (c : Dev nD) : FVec Ideal S8192x128 .f32 :=
  Cert.ReferenceIdeal.Read.val_main_v58 (F := Ideal) (m ((c : Thread nD τ).loc main_arg0)) (m ((c : Thread nD τ).loc main_arg3))

/-- Every entry of device `c`'s arguments is real. -/
structure Real (c : Dev nD) : Prop where
  a0 : ∀ i : S10240x416.Idx, Rl (m ((c : Thread nD τ).loc main_arg0) i)
  a1 : ∀ i : S256.Idx, Rl (m ((c : Thread nD τ).loc main_arg1) i)
  a2 : ∀ i : S256x384.Idx, Rl (m ((c : Thread nD τ).loc main_arg2) i)
  a3 : ∀ i : S128.Idx, Rl (m ((c : Thread nD τ).loc main_arg3) i)
  a4 : ∀ i : S128x512.Idx, Rl (m ((c : Thread nD τ).loc main_arg4) i)

theorem row6 (c : Dev nD) (t : Fin cfg0.N) (j : Nat) (hj : j < 4) (hi) (r : Fin 256) (i : Fin 128) :
    ckv (View.ld (iblk m c 0 t) (Rect.unit (s := S1024x512) ![j * 256, 0] S256x512.size hi)) (View.ld (iblk m c 3 t) r0_3) (ix2 r i)
      = G6 m c (ix2 ⟨t.val * 1024 + (j * 256 + r.val), by have := point_lt t; omega⟩ i) := by
  have ht := point_lt t
  rw [ckv_eq (holds m c t j hj hi)]
  refine ((Cert.ReferenceIdeal.RefValue.c_apply _ _ ⟨t.val * 4 + j, by omega⟩ r i).symm).trans ?_
  congr 2
  exact Fin.ext (by show (t.val * 4 + j) * 256 + r.val = t.val * 1024 + (j * 256 + r.val); omega)

theorem row5 (c : Dev nD) (hr : Real m c) (t : Fin cfg0.N) (j : Nat) (hj : j < 4) (hi) (r : Fin 256) (h : Fin 4) (e : Fin 64) :
    unstack (att (View.ld (iblk m c 0 t) (Rect.unit (s := S1024x512) ![j * 256, 0] S256x512.size hi)) (View.ld (iblk m c 1 t) r0_1)
      (View.ld (iblk m c 2 t) r0_2) (View.ld (iblk m c 3 t) r0_3) (View.ld (iblk m c 4 t) r0_5)) (ix2 r ⟨h.val * 64 + e.val, by omega⟩)
      = G5 m c (ix2 ⟨t.val * 1024 + (j * 256 + r.val), by have := point_lt t; omega⟩ ⟨h.val * 64 + e.val, by omega⟩) := by
  have ht := point_lt t
  rw [out_eq (holds m c t j hj hi)]
  refine ((Cert.ReferenceIdeal.RefValue.o_apply _ _ _ _ _ ⟨t.val * 4 + j, by omega⟩
    (S_real (fun r i => hr.a0 _) (fun i => hr.a1 _) (fun i j => hr.a2 _) (fun i => hr.a3 _) (fun i j => hr.a4 _)) r h e).symm).trans ?_
  congr 2
  exact Fin.ext (by show (t.val * 4 + j) * 256 + r.val = t.val * 1024 + (j * 256 + r.val); omega)

/-- A stored piece's index, written as a row and a column. -/
theorem emb6 (o : Nat) (h : o + 256 ≤ 1024) (hi) (r : Fin 256) (i : Fin 128) :
    (Rect.unit (s := S1024x128) ![o, 0] S256x128.size hi).emb (ix2 r i) = ix2 ⟨o + r.val, by omega⟩ i :=
  funext fun a => Fin.ext (match a with
    | ⟨0, _⟩ => by show o + 1 * r.val = _; rw [Nat.one_mul]; rfl
    | ⟨1, _⟩ => by show 0 + 1 * i.val = _; rw [Nat.one_mul, Nat.zero_add]; rfl)

theorem emb5 (o : Nat) (h : o + 256 ≤ 1024) (hi) (r : Fin 256) (i : Fin 256) :
    (Rect.unit (s := S1024x256) ![o, 0] S256x256.size hi).emb (ix2 r i) = ix2 ⟨o + r.val, by omega⟩ i :=
  funext fun a => Fin.ext (match a with
    | ⟨0, _⟩ => by show o + 1 * r.val = _; rw [Nat.one_mul]; rfl
    | ⟨1, _⟩ => by show 0 + 1 * i.val = _; rw [Nat.one_mul, Nat.zero_add]; rfl)

theorem row5' (c : Dev nD) (hr : Real m c) (t : Fin cfg0.N) (j : Nat) (hj : j < 4) (hi) (r : Fin 256) (i : Fin 256) :
    unstack (att (View.ld (iblk m c 0 t) (Rect.unit (s := S1024x512) ![j * 256, 0] S256x512.size hi)) (View.ld (iblk m c 1 t) r0_1)
      (View.ld (iblk m c 2 t) r0_2) (View.ld (iblk m c 3 t) r0_3) (View.ld (iblk m c 4 t) r0_5)) (ix2 r i)
      = G5 m c (ix2 ⟨t.val * 1024 + (j * 256 + r.val), by have := point_lt t; omega⟩ i) := by
  have e : i = ⟨(⟨i.val / 64, by omega⟩ : Fin 4).val * 64 + (⟨i.val % 64, by omega⟩ : Fin 64).val, by show i.val / 64 * 64 + i.val % 64 < 256; omega⟩ :=
    Fin.ext (by show i.val = i.val / 64 * 64 + i.val % 64; omega)
  rw [e]
  exact row5 m c hr t j hj hi r ⟨i.val / 64, by omega⟩ ⟨i.val % 64, by omega⟩

/-- Four stores of 256 rows each leave `g` when each holds `g`'s rows there. -/
theorem canon6 (p0 p1 p2 p3 : Vec Ideal S256x128 .f32) (g : S1024x128.Idx → Elt Ideal .f32)
    (h0 : ∀ (r : Fin 256) (i : Fin 128), p0 (ix2 r i) = g (ix2 ⟨0 + r.val, by omega⟩ i))
    (h1 : ∀ (r : Fin 256) (i : Fin 128), p1 (ix2 r i) = g (ix2 ⟨256 + r.val, by omega⟩ i))
    (h2 : ∀ (r : Fin 256) (i : Fin 128), p2 (ix2 r i) = g (ix2 ⟨512 + r.val, by omega⟩ i))
    (h3 : ∀ (r : Fin 256) (i : Fin 128), p3 (ix2 r i) = g (ix2 ⟨768 + r.val, by omega⟩ i)) (y : S1024x128.Idx) :
    View.canon (Val := Elt Ideal) [⟨r0_14, p3⟩, ⟨r0_11, p2⟩, ⟨r0_8, p1⟩, ⟨r0_4, p0⟩] y = g y := by
  refine View.canon_apply_of_pieces g _ (fun p hp x => ?_) y (cover0_6 _ _ _ _ _)
  simp only [List.mem_cons, List.mem_nil_iff, or_false] at hp
  rcases hp with rfl | rfl | rfl | rfl
  · change S256x128.Idx at x
    idx_vars x
    exact (h3 _ _).trans (congrArg g (emb6 768 (by omega) _ _ _).symm)
  · change S256x128.Idx at x
    idx_vars x
    exact (h2 _ _).trans (congrArg g (emb6 512 (by omega) _ _ _).symm)
  · change S256x128.Idx at x
    idx_vars x
    exact (h1 _ _).trans (congrArg g (emb6 256 (by omega) _ _ _).symm)
  · change S256x128.Idx at x
    idx_vars x
    exact (h0 _ _).trans (congrArg g (emb6 0 (by omega) _ _ _).symm)

/-- What a grid point writes back: its rows of `G6`. -/
theorem flushed6_eq (c : Dev nD) (t : Fin cfg0.N) :
    (dats m 0 c).flushed 6 t = (win0_6.blk t).view.read (Elt Ideal) (G6 m c) := by
  have ht := point_lt t
  have h := idx_facts t
  rw [Value.flushed6, out6_eq]
  funext y
  change S1024x128.Idx at y
  have e0 : (y 0).val < 1024 := (y 0).isLt
  have e : (fun a => win0_6.index t a * win0_6.size a + 1 * (y a).val) = (fun a => (ix2 (⟨t.val * 1024 + (y 0).val, by omega⟩ : Fin 8192) (y 1) a).val) :=
    funext fun a => (match a with
    | ⟨0, _⟩ => by show win0_6.index t 0 * 1024 + 1 * (y 0).val = t.val * 1024 + (y 0).val; rw [h.2.2.2.2.2.2.2.2.2.2.2.2.1, Nat.one_mul]
    | ⟨1, _⟩ => by show win0_6.index t 1 * 128 + 1 * (y 1).val = (y 1).val; rw [h.2.2.2.2.2.2.2.2.2.2.2.2.2]; omega)
  have e' : (win0_6.blk t).view.read (Elt Ideal) (G6 m c) y = G6 m c (ix2 ⟨t.val * 1024 + (y 0).val, by omega⟩ (y 1)) :=
    congrArg (G6 m c) (funext fun a => Fin.ext (congrFun e a))
  refine Eq.trans ?_ e'.symm
  refine canon6 _ _ _ _ (fun y : S1024x128.Idx => (G6 m c (ix2 ⟨t.val * 1024 + (y 0).val, by have : (y 0).val < 1024 := (y 0).isLt; omega⟩ (y 1)) : Elt Ideal .f32))
    (fun r i => ?_) (fun r i => ?_) (fun r i => ?_) (fun r i => ?_) y
  · exact row6 m c t 0 (by omega) _ r i
  · exact row6 m c t 1 (by omega) _ r i
  · exact row6 m c t 2 (by omega) _ r i
  · exact row6 m c t 3 (by omega) _ r i

theorem mem_blk6 (t : Fin cfg0.N) (i : S8192x128.Idx) :
    i ∈ ((cfg0.win 6).blk t).view.set ↔ t.val * 1024 ≤ (i 0 : Nat) ∧ (i 0 : Nat) < t.val * 1024 + 1024 := by
  show i ∈ ((View.whole main_v25_1).slice (win0_6.rect t)).set ↔ _
  rw [View.set_slice_whole, Rect.mem_set_unit]
  have h1 : (i 1 : Nat) < 128 := (i 1).isLt
  have e : win0_6.index t 0 * win0_6.size 0 = t.val * 1024 ∧ win0_6.xsize (grid0.coords t) 0 = 1024
      ∧ win0_6.index t 1 * win0_6.size 1 = 0 ∧ win0_6.xsize (grid0.coords t) 1 = 128 :=
    (by decide +kernel : ∀ t : Fin grid0.N, win0_6.index t 0 * win0_6.size 0 = t.val * 1024 ∧ win0_6.xsize (grid0.coords t) 0 = 1024
      ∧ win0_6.index t 1 * win0_6.size 1 = 0 ∧ win0_6.xsize (grid0.coords t) 1 = 128) t
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e.1, e.2.1]; exact h
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

theorem cover6 (i : S8192x128.Idx) :
    ∃ t : Fin cfg0.N, (cfg0.win 6).flush t = true ∧ i ∈ ((cfg0.win 6).blk t).view.set := by
  have h0 : (i 0 : Nat) < 8192 := (i 0).isLt
  have hN : cfg0.N = 8 := N_0
  refine ⟨⟨(i 0 : Nat) / 1024, by omega⟩, flush0_6 _, ?_⟩
  rw [mem_blk6]
  dsimp only
  omega

theorem final6 (c : Dev nD) : (dats m 0 c).arrAt 6 cfg0.N = G6 m c :=
  (dats m 0 c).arrAt_eq_of_cover 6 (G6 m c) (fun t _ => flushed6_eq m c t) cover6

/-- Four stores of 256 rows each leave `g` when each holds `g`'s rows there. -/
theorem canon5 (p0 p1 p2 p3 : Vec Ideal S256x256 .bf16) (g : S1024x256.Idx → Elt Ideal .bf16)
    (h0 : ∀ (r : Fin 256) (i : Fin 256), p0 (ix2 r i) = g (ix2 ⟨0 + r.val, by omega⟩ i))
    (h1 : ∀ (r : Fin 256) (i : Fin 256), p1 (ix2 r i) = g (ix2 ⟨256 + r.val, by omega⟩ i))
    (h2 : ∀ (r : Fin 256) (i : Fin 256), p2 (ix2 r i) = g (ix2 ⟨512 + r.val, by omega⟩ i))
    (h3 : ∀ (r : Fin 256) (i : Fin 256), p3 (ix2 r i) = g (ix2 ⟨768 + r.val, by omega⟩ i)) (y : S1024x256.Idx) :
    View.canon (Val := Elt Ideal) [⟨r0_15, p3⟩, ⟨r0_12, p2⟩, ⟨r0_9, p1⟩, ⟨r0_6, p0⟩] y = g y := by
  refine View.canon_apply_of_pieces g _ (fun p hp x => ?_) y (cover0_5 _ _ _ _ _)
  simp only [List.mem_cons, List.mem_nil_iff, or_false] at hp
  rcases hp with rfl | rfl | rfl | rfl
  · change S256x256.Idx at x
    idx_vars x
    exact (h3 _ _).trans (congrArg g (emb5 768 (by omega) _ _ _).symm)
  · change S256x256.Idx at x
    idx_vars x
    exact (h2 _ _).trans (congrArg g (emb5 512 (by omega) _ _ _).symm)
  · change S256x256.Idx at x
    idx_vars x
    exact (h1 _ _).trans (congrArg g (emb5 256 (by omega) _ _ _).symm)
  · change S256x256.Idx at x
    idx_vars x
    exact (h0 _ _).trans (congrArg g (emb5 0 (by omega) _ _ _).symm)

/-- What a grid point writes back: its rows of `G5`. -/
theorem flushed5_eq (c : Dev nD) (hr : Real m c) (t : Fin cfg0.N) :
    (dats m 0 c).flushed 5 t = (win0_5.blk t).view.read (Elt Ideal) (G5 m c) := by
  have ht := point_lt t
  have h := idx_facts t
  rw [Value.flushed5, out5_eq]
  funext y
  change S1024x256.Idx at y
  have e0 : (y 0).val < 1024 := (y 0).isLt
  have e : (fun a => win0_5.index t a * win0_5.size a + 1 * (y a).val) = (fun a => (ix2 (⟨t.val * 1024 + (y 0).val, by omega⟩ : Fin 8192) (y 1) a).val) :=
    funext fun a => (match a with
    | ⟨0, _⟩ => by show win0_5.index t 0 * 1024 + 1 * (y 0).val = t.val * 1024 + (y 0).val; rw [h.2.2.2.2.2.2.2.2.2.2.1, Nat.one_mul]
    | ⟨1, _⟩ => by show win0_5.index t 1 * 256 + 1 * (y 1).val = (y 1).val; rw [h.2.2.2.2.2.2.2.2.2.2.2.1]; omega)
  have e' : (win0_5.blk t).view.read (Elt Ideal) (G5 m c) y = G5 m c (ix2 ⟨t.val * 1024 + (y 0).val, by omega⟩ (y 1)) :=
    congrArg (G5 m c) (funext fun a => Fin.ext (congrFun e a))
  refine Eq.trans ?_ e'.symm
  refine canon5 _ _ _ _ (fun y : S1024x256.Idx => (G5 m c (ix2 ⟨t.val * 1024 + (y 0).val, by have : (y 0).val < 1024 := (y 0).isLt; omega⟩ (y 1)) : Elt Ideal .bf16))
    (fun r i => ?_) (fun r i => ?_) (fun r i => ?_) (fun r i => ?_) y
  · exact row5' m c hr t 0 (by omega) _ r i
  · exact row5' m c hr t 1 (by omega) _ r i
  · exact row5' m c hr t 2 (by omega) _ r i
  · exact row5' m c hr t 3 (by omega) _ r i

theorem mem_blk5 (t : Fin cfg0.N) (i : S8192x256.Idx) :
    i ∈ ((cfg0.win 5).blk t).view.set ↔ t.val * 1024 ≤ (i 0 : Nat) ∧ (i 0 : Nat) < t.val * 1024 + 1024 := by
  show i ∈ ((View.whole main_v25_0).slice (win0_5.rect t)).set ↔ _
  rw [View.set_slice_whole, Rect.mem_set_unit]
  have h1 : (i 1 : Nat) < 256 := (i 1).isLt
  have e : win0_5.index t 0 * win0_5.size 0 = t.val * 1024 ∧ win0_5.xsize (grid0.coords t) 0 = 1024
      ∧ win0_5.index t 1 * win0_5.size 1 = 0 ∧ win0_5.xsize (grid0.coords t) 1 = 256 :=
    (by decide +kernel : ∀ t : Fin grid0.N, win0_5.index t 0 * win0_5.size 0 = t.val * 1024 ∧ win0_5.xsize (grid0.coords t) 0 = 1024
      ∧ win0_5.index t 1 * win0_5.size 1 = 0 ∧ win0_5.xsize (grid0.coords t) 1 = 256) t
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

theorem cover5 (i : S8192x256.Idx) :
    ∃ t : Fin cfg0.N, (cfg0.win 5).flush t = true ∧ i ∈ ((cfg0.win 5).blk t).view.set := by
  have h0 : (i 0 : Nat) < 8192 := (i 0).isLt
  have hN : cfg0.N = 8 := N_0
  refine ⟨⟨(i 0 : Nat) / 1024, by omega⟩, flush0_5 _, ?_⟩
  rw [mem_blk5]
  dsimp only
  omega

theorem final5 (c : Dev nD) (hr : Real m c) : (dats m 0 c).arrAt 5 cfg0.N = G5 m c :=
  (dats m 0 c).arrAt_eq_of_cover 5 (G5 m c) (fun t _ => flushed5_eq m c hr t) cover5

end Cert.KernelIdeal.Mla

end
-- ==== Proof.MlaPre.lean ====
module

public import proofs.«01_k».proof.Defs
public import proofs.«01_k».proof.Proof.MlaValue
public import Idealize.ShloMosaic.Lib.ReduceAll

@[expose] public section

set_option maxRecDepth 16384

noncomputable section

/-! # The precondition, read: every entry of the arguments is real -/

namespace Cert.Pre_finite.Read

open Cert.Pre_finite Idealize.ShloMosaic Cert.MlaMath

theorem facts : Cert.Pre_finite.Facts where
  bcast_S_S10240x416 := by decide
  reducesTo_S10240x416_S_d0_1 := by decide
  h_S_ := by decide
  bcast_S_S256 := by decide
  reducesTo_S256_S_d0 := by decide
  bcast_S_S256x384 := by decide
  reducesTo_S256x384_S_d0_1 := by decide
  bcast_S_S128 := by decide
  reducesTo_S128_S_d0 := by decide
  bcast_S_S128x512 := by decide
  reducesTo_S128x512_S_d0_1 := by decide

attribute [local instance] facts
open Facts

instance : Subsingleton S_.Idx := ⟨fun a b => funext fun i => i.elim0⟩

theorem top_eq : Ideal.ofBits .f32 0x7F800000#32 = ⊤ := by
  simp [Ideal.ofBits, Ideal.ieee]

/-- An entry below `+∞` in absolute value is real. -/
theorem real_of_lt (a : EReal) (h : Ideal.cmp .olt (max a (-a)) (Ideal.ofBits .f32 0x7F800000#32) = 1#1) : Rl a := by
  rw [top_eq] at h
  refine Rl.of_abs_lt ?_
  by_contra hn
  simp [Ideal.cmp, hn] at h

/-- An array whose `all (abs x < inf)` is true holds reals only. -/
theorem real_of_all {s : Shape} {axes : List (Fin s.rank)} (x : FVec Ideal s .f32) (hb : S_.BroadcastsInDim s (![] : Fin 0 → Fin s.rank))
    (hr : s.ReducesTo axes S_) (j : S_.Idx)
    (h : Host.reduce IntOp.andi (cmpf .olt (Host.absf x) (broadcastInDim s ![] hb (constant S_ .f32 0x7F800000#32)))
      (constantI S_ 1 1#1) hr h_S_ j = 1#1) (i : s.Idx) : Rl (x i) :=
  real_of_lt _ (Host.reduce_andi_all _ _ _ _ j h i)

theorem and_eq_one (a b : BitVec 1) (h : IntOp.andi a b = 1#1) : a = 1#1 ∧ b = 1#1 := by
  revert a b; decide

theorem real_of_fn (x0 : FVec Ideal S10240x416 .f32) (x1 : FVec Ideal S256 .f32) (x2 : FVec Ideal S256x384 .f32)
    (x3 : FVec Ideal S128 .f32) (x4 : FVec Ideal S128x512 .f32) (h : fn (F := Ideal) x0 x1 x2 x3 x4 = fun _ => 1#1) :
    (∀ i, Rl (x0 i)) ∧ (∀ i, Rl (x1 i)) ∧ (∀ i, Rl (x2 i)) ∧ (∀ i, Rl (x3 i)) ∧ (∀ i, Rl (x4 i)) := by
  have j : S_.Idx := fun i => i.elim0
  have h := congrFun h j
  obtain ⟨h, h4⟩ := and_eq_one _ _ h
  obtain ⟨h, h3⟩ := and_eq_one _ _ h
  obtain ⟨h, h2⟩ := and_eq_one _ _ h
  obtain ⟨h0, h1⟩ := and_eq_one _ _ h
  exact ⟨real_of_all x0 _ _ j h0, real_of_all x1 _ _ j h1, real_of_all x2 _ _ j h2, real_of_all x3 _ _ j h3, real_of_all x4 _ _ j h4⟩

end Cert.Pre_finite.Read

end
-- ==== Proof.AdaRef.lean ====
module

public import proofs.«01_k».proof.Proof.Gen.Reference4Ideal.Read
public import Idealize.ShloMosaic.Lib.Pointwise

@[expose] public section

set_option maxRecDepth 16384

noncomputable section

/-! # The reference's modulation, column by column -/

namespace Cert.Reference4Ideal.RefValue

open Cert.Reference4Ideal Cert.Reference4Ideal.Gen Cert.Reference4Ideal.Read Idealize.ShloMosaic

/-- One column of a conditioning vector's modulation: the vector through `silu`, times the weight's column, and the bias. -/
def modcol (v w : Fin 1024 → EReal) (b : EReal) : EReal := (∑ d, v d * Ideal.logistic (v d) * w d) + b

variable (x0 : FVec Ideal S1024 .f32) (x1 : FVec Ideal S2x1024 .f32) (x2 : FVec Ideal S2x1024x6144 .f32) (x3 : FVec Ideal S2x6144 .f32)

theorem ctx_apply (l : Fin 2) (k : Fin 6144) :
    val_main_v19 (F := Ideal) x0 x2 x3 (ix3 l 0 k) = modcol (fun d => x0 (ix1 d)) (fun d => x2 (ix3 l d k)) (x3 (ix2 l k)) := by
  fin_cases l
  · pointwise [val_main_v19, val_main_v17, val_main_v8, val_main_v7, val_main_v6, val_main_v5, val_main_v4, val_main_v3, val_main_v2, val_main_v1, val_main_call0_v5, val_main_call0_v4, val_main_call0_cst_0, val_main_call0_v3, val_main_call0_v2, val_main_call0_cst, val_main_call0_v1, val_main_call0_v0, val_main_v0]
    unfold modcol
    rfl
  · pointwise [val_main_v19, val_main_v18, val_main_v16, val_main_v15, val_main_v14, val_main_v13, val_main_v12, val_main_v11, val_main_v10, val_main_v9, val_main_call1_v5, val_main_call1_v4, val_main_call1_cst_0, val_main_call1_v3, val_main_call1_v2, val_main_call1_cst, val_main_call1_v1, val_main_call1_v0, val_main_v0]
    unfold modcol
    rfl

theorem lat_apply (l b : Fin 2) (k : Fin 6144) :
    val_main_v40 (F := Ideal) x1 x2 x3 (ix3 l b k) = modcol (fun d => x1 (ix2 b d)) (fun d => x2 (ix3 l d k)) (x3 (ix2 l k)) := by
  fin_cases l
  · pointwise [val_main_v40, val_main_v38, val_main_v28, val_main_v27, val_main_v26, val_main_v25, val_main_v24, val_main_v23, val_main_v22, val_main_v21, val_main_v20, val_main_call2_v5, val_main_call2_v4, val_main_call2_cst_0, val_main_call2_v3, val_main_call2_v2, val_main_call2_cst, val_main_call2_v1, val_main_call2_v0]
    unfold modcol
    rfl
  · pointwise [val_main_v40, val_main_v39, val_main_v37, val_main_v36, val_main_v35, val_main_v34, val_main_v33, val_main_v32, val_main_v31, val_main_v30, val_main_v29, val_main_call3_v5, val_main_call3_v4, val_main_call3_cst_0, val_main_call3_v3, val_main_call3_v2, val_main_call3_cst, val_main_call3_v1, val_main_call3_v0]
    unfold modcol
    rfl

end Cert.Reference4Ideal.RefValue

end
-- ==== Proof.AdaValue.lean ====
/- The modulation's arrays are the reference's. -/
module

public import proofs.«01_k».proof.Proof.AdaRef
public import proofs.«01_k».proof.Proof.Gen.Kernel4Ideal.Frame
public import Idealize.ShloMosaic.Lib.Pointwise
public import Idealize.ShloMosaic.Lib.Pipeline.ValueKit
public import Idealize.ShloMosaic.Init

@[expose] public section

set_option maxRecDepth 16384

noncomputable section

/-! # The modulation's arrays

A grid point's block is 1536 columns of one layer, for eight rows: the context's conditioning vector, the samples' and zeros. -/

namespace Cert.Kernel4Ideal.Ada

open Cert.Kernel4Ideal Cert.Kernel4Ideal.Gen Idealize.ShloMosaic Idealize.ShloMosaic.TcCoe Idealize.SL.Sem
open Cert.Reference4Ideal.RefValue Cert.Reference4Ideal.Read

/-- The conditioning vectors, padded with zero rows. -/
def packC (x : FVec Ideal S1024 .f32) (y : FVec Ideal S2x1024 .f32) : FVec Ideal S8x1024 .f32 :=
  concatenate S8x1024 0
    [⟨S1x1024, broadcastInDim S1x1024 ![1] bcast_S1024_S1x1024_1 x⟩, ⟨S2x1024, y⟩,
     ⟨S5x1024, broadcastInDim S5x1024 ![] bcast_S_S5x1024 (constant S_ .f32 0x00000000#32)⟩]
    concatenates_S1x1024_S2x1024_S5x1024_S8x1024_d0

theorem packC_ctx (x : FVec Ideal S1024 .f32) (y : FVec Ideal S2x1024 .f32) (d : Fin 1024) : packC x y (ix2 0 d) = x (ix1 d) := by
  pointwise [packC]

theorem packC_lat (x : FVec Ideal S1024 .f32) (y : FVec Ideal S2x1024 .f32) (b : Fin 2) (d : Fin 1024) :
    packC x y (ix2 ⟨1 + b.val, by omega⟩ d) = y (ix2 b d) := by
  fin_cases b <;> pointwise [packC] <;> rfl

theorem pay_apply (v0 : Vec Ideal S8x1024 .f32) (v5 : Vec Ideal S1x1024x1536 .f32) (v9 : Vec Ideal S1x1x1536 .f32) (r : Fin 8) (k : Fin 1536) :
    k0_pay1 (F := Ideal) v0 v5 v9 (ix3 0 r k) = modcol (fun d => v0 (ix2 r d)) (fun d => v5 (ix3 0 d k)) (v9 (ix3 0 0 k)) := by
  unfold k0_pay1
  pointwise
  unfold modcol
  rfl

variable (m : (ℓ : Loc nD τ sig) → Buf (Elt Ideal) ℓ) (ρ : Dev nD → PrngReg)

theorem V_c (c : Dev nD) : V m c main_v2 = packC (m ((c : Thread nD τ).loc main_arg0)) (m ((c : Thread nD τ).loc main_arg1)) := by
  show StableHlo.after hostOps0 _ (Proc.devRef .tc main_v2) = _
  after_results
  rfl

theorem V_w (c : Dev nD) : V m c main_arg2 = m ((c : Thread nD τ).loc main_arg2) := by
  show StableHlo.after hostOps0 _ (Proc.devRef .tc main_arg2) = _
  after_results

theorem V_b (c : Dev nD) : V m c main_v3 = shapeCast S2x1x6144 (m ((c : Thread nD τ).loc main_arg3)) shapeCasts_S2x6144_S2x1x6144 := by
  show StableHlo.after hostOps0 _ (Proc.devRef .tc main_v3) = _
  after_results
  rfl

/-! ## A grid point's blocks -/

theorem point_lt (t : Fin cfg0.N) : t.val < 8 := lt_of_lt_of_eq t.isLt N_0

theorem idx_all : ∀ t : Fin grid0.N, win0_0.index t 0 = 0 ∧ win0_0.index t 1 = 0
    ∧ win0_1.index t 0 = t.val / 4 ∧ win0_1.index t 1 = 0 ∧ win0_1.index t 2 = t.val % 4
    ∧ win0_2.index t 0 = t.val / 4 ∧ win0_2.index t 1 = 0 ∧ win0_2.index t 2 = t.val % 4
    ∧ win0_3.index t 0 = t.val / 4 ∧ win0_3.index t 1 = 0 ∧ win0_3.index t 2 = t.val % 4 := by
  decide +kernel

theorem blk0 (c : Dev nD) (t : Fin cfg0.N) (r : Fin 8) (d : Fin 1024) :
    iblk m c 0 t (ix2 r d) = packC (m ((c : Thread nD τ).loc main_arg0)) (m ((c : Thread nD τ).loc main_arg1)) (ix2 r d) := by
  rw [← V_c]
  have h := idx_all t
  refine congrArg (V m c main_v2) (funext fun a => Fin.ext ?_)
  match a with
  | ⟨0, _⟩ => show win0_0.index t 0 * 8 + 1 * r.val = r.val; rw [h.1]; omega
  | ⟨1, _⟩ => show win0_0.index t 1 * 1024 + 1 * d.val = d.val; rw [h.2.1]; omega

theorem blk1 (c : Dev nD) (t : Fin cfg0.N) (d : Fin 1024) (k : Fin 1536) :
    iblk m c 1 t (ix3 0 d k) = (m ((c : Thread nD τ).loc main_arg2) : FVec Ideal S2x1024x6144 .f32)
      (ix3 ⟨t.val / 4, by have := point_lt t; omega⟩ d ⟨t.val % 4 * 1536 + k.val, by omega⟩) := by
  rw [← V_w m c]
  have h := idx_all t
  refine congrArg (V m c main_arg2) (funext fun a => Fin.ext ?_)
  match a with
  | ⟨0, _⟩ => show win0_1.index t 0 * 1 + 1 * 0 = t.val / 4; rw [h.2.2.1]; omega
  | ⟨1, _⟩ => show win0_1.index t 1 * 1024 + 1 * d.val = d.val; rw [h.2.2.2.1]; omega
  | ⟨2, _⟩ => show win0_1.index t 2 * 1536 + 1 * k.val = t.val % 4 * 1536 + k.val; rw [h.2.2.2.2.1]; omega

theorem bias (y : FVec Ideal S2x6144 .f32) (l : Fin 2) (k : Fin 6144) :
    shapeCast S2x1x6144 y shapeCasts_S2x6144_S2x1x6144 (ix3 l 0 k) = y (ix2 l k) := by
  pointwise

theorem blk2 (c : Dev nD) (t : Fin cfg0.N) (k : Fin 1536) :
    iblk m c 2 t (ix3 0 0 k) = (m ((c : Thread nD τ).loc main_arg3) : FVec Ideal S2x6144 .f32)
      (ix2 ⟨t.val / 4, by have := point_lt t; omega⟩ ⟨t.val % 4 * 1536 + k.val, by omega⟩) := by
  have h := idx_all t
  have e : iblk m c 2 t (ix3 0 0 k) = V m c main_v3 (ix3 ⟨t.val / 4, by have := point_lt t; omega⟩ 0 ⟨t.val % 4 * 1536 + k.val, by omega⟩) := by
    refine congrArg (V m c main_v3) (funext fun a => Fin.ext ?_)
    match a with
    | ⟨0, _⟩ => show win0_2.index t 0 * 1 + 1 * 0 = t.val / 4; rw [h.2.2.2.2.2.1]; omega
    | ⟨1, _⟩ => show win0_2.index t 1 * 1 + 1 * 0 = 0; rw [h.2.2.2.2.2.2.1]
    | ⟨2, _⟩ => show win0_2.index t 2 * 1536 + 1 * k.val = t.val % 4 * 1536 + k.val; rw [h.2.2.2.2.2.2.2.1]; omega
  rw [e, V_b]
  exact bias _ _ _

theorem hz2 : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S8x1024 .f32) : View.ld x r0_0 = x := by unfold r0_0; rw [View.ld_unit_zero hz2]
theorem ld1 (x : Vec Ideal S1x1024x1536 .f32) : View.ld x r0_1 = x := by unfold r0_1; rw [View.ld_unit_zero hz3]
theorem ld2 (x : Vec Ideal S1x1x1536 .f32) : View.ld x r0_2 = x := by unfold r0_2; rw [View.ld_unit_zero hz3]

/-! ## The array -/

/-- Row `r` of layer `l`'s modulation, column `k`. -/
def M (c : Dev nD) (l : Fin 2) (r : Fin 8) (k : Fin 6144) : EReal :=
  modcol (fun d => packC (m ((c : Thread nD τ).loc main_arg0)) (m ((c : Thread nD τ).loc main_arg1)) (ix2 r d))
    (fun d => (m ((c : Thread nD τ).loc main_arg2) : FVec Ideal S2x1024x6144 .f32) (ix3 l d k))
    ((m ((c : Thread nD τ).loc main_arg3) : FVec Ideal S2x6144 .f32) (ix2 l k))

def A (c : Dev nD) : FVec Ideal S2x8x6144 .f32 := fun i => M m c ⟨(i 0).val, (i 0).isLt⟩ ⟨(i 1).val, (i 1).isLt⟩ ⟨(i 2).val, (i 2).isLt⟩

theorem block_apply (c : Dev nD) (t : Fin cfg0.N) (r : Fin 8) (k : Fin 1536) :
    k0_pay1 (F := Ideal) (View.ld (iblk m c 0 t) r0_0) (View.ld (iblk m c 1 t) r0_1) (View.ld (iblk m c 2 t) r0_2) (ix3 0 r k)
      = M m c ⟨t.val / 4, by have := point_lt t; omega⟩ r ⟨t.val % 4 * 1536 + k.val, by omega⟩ := by
  rw [ld0, ld1, ld2]
  refine (pay_apply _ _ _ r k).trans ?_
  unfold M
  have e0 := funext fun d => blk0 m c t r d
  have e1 := funext fun d => blk1 m c t d k
  rw [e0, e1, blk2]

theorem flushed (c : Dev nD) (t : Fin cfg0.N) : (dats m 0 c).flushed 3 t = (win0_3.blk t).view.read (Elt Ideal) (A m c) := by
  have ht := point_lt t
  have h := idx_all t
  show (cfg0.win 3).cut (grid0.coords t) ((dats m 0 c).after 3 t) = _
  rw [after0_3]
  unfold out0_3
  funext y
  change S1x8x1536.Idx at y
  idx_vars y
  obtain rfl : y0 = 0 := Subsingleton.elim _ _
  refine (congrFun (View.canon_unit_zero hz3 _ _) (ix3 0 y1 y2)).trans ?_
  have e' : (win0_3.blk t).view.read (Elt Ideal) (A m c) (ix3 0 y1 y2)
      = A m c (ix3 ⟨t.val / 4, by omega⟩ y1 ⟨t.val % 4 * 1536 + y2.val, by omega⟩) :=
    congrArg (A m c) (funext fun a => Fin.ext (match a with
      | ⟨0, _⟩ => by show win0_3.index t 0 * 1 + 1 * 0 = t.val / 4; rw [h.2.2.2.2.2.2.2.2.1]; omega
      | ⟨1, _⟩ => by show win0_3.index t 1 * 8 + 1 * y1.val = y1.val; rw [h.2.2.2.2.2.2.2.2.2.1]; omega
      | ⟨2, _⟩ => by show win0_3.index t 2 * 1536 + 1 * y2.val = t.val % 4 * 1536 + y2.val; rw [h.2.2.2.2.2.2.2.2.2.2]; omega))
  refine Eq.trans ?_ e'.symm
  exact block_apply m c t y1 y2

theorem final (c : Dev nD) : (dats m 0 c).arrAt 3 cfg0.N = A m c :=
  (dats m 0 c).arrAt_eq_of_covers 3 (A m c) (by decide +kernel) fun t hf y => congrFun (flushed m c t) y

/-! ## The results -/

theorem arr_inj : Function.Injective (Pipeline.arrRef spec0) := by decide

/-- The buffers when the lines after the region begin. -/
abbrev W (c : Dev nD) : Valuation τ sig (Elt Ideal) :=
  Pipeline.withArrays spec0 c (V0 m c) fun w => (dats m 0 c).arrAt w cfg0.N

theorem W3 (c : Dev nD) : W m c (Proc.devRef .tc main_v4) = A m c :=
  (Pipeline.withArrays_arr spec0 arr_inj c (V0 m c) _ 3).trans (final m c)

/-- What the lines after the region leave in buffer `b`. -/
abbrev E (c : Dev nD) (b : Ref sig .tc) : Buf (Elt Ideal) ((c : Thread nD τ).loc b) :=
  Pipeline.afterTail₀ cfgs (dats m) 0 (V0 m) [hostOps1] c b

theorem E5 (c : Dev nD) : E m c main_v5 = extractStridedSlice S2x1x6144 ![0, 0, 0] (A m c) slices_S2x8x6144_S2x1x6144_0_0_0 := by
  show StableHlo.after hostOps1 (W m c) (Proc.devRef .tc main_v5) = _
  after_results
  rw [W3]

theorem E6 (c : Dev nD) : E m c main_v6 = extractStridedSlice S2x2x6144 ![0, 1, 0] (A m c) slices_S2x8x6144_S2x2x6144_0_1_0 := by
  show StableHlo.after hostOps1 (W m c) (Proc.devRef .tc main_v6) = _
  after_results
  rw [W3]

theorem same0 (c : Dev nD) : val_main_v19 (F := Ideal) (m ((c : Thread nD τ).loc main_arg0)) (m ((c : Thread nD τ).loc main_arg2)) (m ((c : Thread nD τ).loc main_arg3))
    = E m c main_v5 := by
  rw [E5]
  funext i
  change S2x1x6144.Idx at i
  idx_vars i
  obtain rfl : i1 = 0 := Subsingleton.elim _ _
  refine (ctx_apply _ _ _ _ _).trans ?_
  pointwise [A]
  unfold M
  exact congrArg (fun f => modcol f _ _) (funext fun d => (packC_ctx _ _ d).symm)

theorem same1 (c : Dev nD) : val_main_v40 (F := Ideal) (m ((c : Thread nD τ).loc main_arg1)) (m ((c : Thread nD τ).loc main_arg2)) (m ((c : Thread nD τ).loc main_arg3))
    = E m c main_v6 := by
  rw [E6]
  funext i
  change S2x2x6144.Idx at i
  idx_vars i
  refine (lat_apply _ _ _ _ _ _).trans ?_
  pointwise [A]
  unfold M
  exact congrArg (fun f => modcol f _ _) (funext fun d => (packC_lat _ _ _ d).symm)

end Cert.Kernel4Ideal.Ada

end
-- ==== Proof.HgVec.lean ====
module

public import proofs.«01_k».proof.Proof.Gen.Kernel5Ideal.Frame
public import Idealize.ShloMosaic.Lib.Pointwise

@[expose] public section

set_option maxRecDepth 16384

noncomputable section

/-! # One sequence's state, as the body computes it

A sequence is a block of 256 rows, eight chunks of 32. The gates' logarithms are summed down (or up) each chunk by a product with a matrix of
ones and zeros, in three parts; the state is carried from chunk to chunk. -/

namespace Cert.Kernel5Ideal.Hgrn

open Cert.Kernel5Ideal Cert.Kernel5Ideal.Gen Idealize.ShloMosaic Idealize.ShloMosaic.TcCoe Idealize.SL.Sem

/-- The quotient by `n`, rounded down. -/
def fdiv (n : BitVec 32) (i : IVec S256x256 32) : IVec S256x256 32 :=
  select (andi (cmpi .ne (subi (extui 32 (cmpi .sgt i (broadcast S256x256 0#32)) natLt_1_32) (extui 32 (cmpi .slt i (broadcast S256x256 0#32)) natLt_1_32))
      (broadcast S256x256 1#32)) (cmpi .ne (remsi i (broadcast S256x256 n)) (broadcast S256x256 0#32)))
    (subi (divsi i (broadcast S256x256 n)) (broadcast S256x256 1#32)) (divsi i (broadcast S256x256 n))

def rr : IVec S256x256 32 := iota .tc S256x256 32 [0] iota_S256x256_d0_w32
def cc : IVec S256x256 32 := iota .tc S256x256 32 [1] iota_S256x256_d1_w32

/-- Rows and columns of one head. -/
def bd : IVec S256x256 1 := cmpi .eq (fdiv 64#32 rr) (fdiv 64#32 cc)

/-- Rows and columns of one chunk. -/
def sameChunk : IVec S256x256 1 := cmpi .eq (fdiv 32#32 rr) (fdiv 32#32 cc)

def sumF : FVec Ideal S256x256 .f32 :=
  select (andi sameChunk (cmpi .sle cc rr)) (broadcast S256x256 (Scalar.ofBits .f32 0x3F800000#32)) (broadcast S256x256 (Scalar.ofBits .f32 0x00000000#32))

def sumB : FVec Ideal S256x256 .f32 :=
  select (andi sameChunk (cmpi .sge cc rr)) (broadcast S256x256 (Scalar.ofBits .f32 0x3F800000#32)) (broadcast S256x256 (Scalar.ofBits .f32 0x00000000#32))

/-- The sums of the gates' logarithms. -/
def Gm (sm g : FVec Ideal S256x256 .f32) : FVec Ideal S256x256 .f32 :=
  addf (addf
    (matmul dot_S256x256_S256x256_S256x256_1_0_0_1_n_n none (truncf .bf16 sm bitsLt_bf16_f32)
      (truncf .bf16 (subf (subf g (extf .f32 (truncf .bf16 g bitsLt_bf16_f32) bitsLt_bf16_f32))
        (extf .f32 (truncf .bf16 (subf g (extf .f32 (truncf .bf16 g bitsLt_bf16_f32) bitsLt_bf16_f32)) bitsLt_bf16_f32) bitsLt_bf16_f32)) bitsLt_bf16_f32)
      (constant S256x256 .f32 0x00000000#32))
    (matmul dot_S256x256_S256x256_S256x256_1_0_0_1_n_n none (truncf .bf16 sm bitsLt_bf16_f32)
      (truncf .bf16 (subf g (extf .f32 (truncf .bf16 g bitsLt_bf16_f32) bitsLt_bf16_f32)) bitsLt_bf16_f32)
      (constant S256x256 .f32 0x00000000#32)))
    (matmul dot_S256x256_S256x256_S256x256_1_0_0_1_n_n none (truncf .bf16 sm bitsLt_bf16_f32) (truncf .bf16 g bitsLt_bf16_f32)
      (constant S256x256 .f32 0x00000000#32))

/-- A chunk's last sum (its last row's), less each row's. -/
def restF (G : FVec Ideal S256x256 .f32) : FVec Ideal S256x256 .f32 :=
  subf (shapeCast S256x256 (broadcastTo S8x32x256 (shapeCast S8x1x256 (extractStridedSlice S8x1x256 ![0, 31, 0]
    (shapeCast S8x32x256 G shapeCasts_S256x256_S8x32x256) slices_S8x32x256_o0_31_0_S8x1x256) shapeCasts_S8x1x256_S8x1x256) broadcasts_S8x1x256_S8x32x256)
    shapeCasts_S8x32x256_S256x256) G

/-- The same of the other direction, whose last row is the first. -/
def restB (G : FVec Ideal S256x256 .f32) : FVec Ideal S256x256 .f32 :=
  subf (shapeCast S256x256 (broadcastTo S8x32x256 (shapeCast S8x1x256 (extractStridedSlice S8x1x256 ![0, 0, 0]
    (shapeCast S8x32x256 G shapeCasts_S256x256_S8x32x256) slices_S8x32x256_o0_0_0_S8x1x256) shapeCasts_S8x1x256_S8x1x256) broadcasts_S8x1x256_S8x32x256)
    shapeCasts_S8x32x256_S256x256) G

/-- The keys, each decayed to its chunk's end. -/
def kend (k R : FVec Ideal S256x256 .f32) : FVec Ideal S256x256 .bf16 := truncf .bf16 (mulf k (exp R)) bitsLt_bf16_f32

/-- The decay of a chunk. -/
def dec (G R : FVec Ideal S256x256 .f32) : FVec Ideal S256x256 .f32 := exp (addf G R)

/-- The state after the chunk that starts at row `o`. -/
def stp (o : ℕ) (h1 : S256x256.Slices ![o, 0] S1x256) (h2 : S256x256.Slices ![o, 0] S32x256) (v k2 : FVec Ideal S256x256 .bf16) (d st : FVec Ideal S256x256 .f32) :
    FVec Ideal S256x256 .f32 :=
  addf (mulf st (broadcastTo S256x256 (extractStridedSlice S1x256 ![o, 0] d h1) broadcasts_S1x256_S256x256))
    (select bd (matmul dot_S32x256_S32x256_S256x256_0_0_1_1_n_n none (extractStridedSlice S32x256 ![o, 0] v h2) (extractStridedSlice S32x256 ![o, 0] k2 h2)
      (constant S256x256 .f32 0x00000000#32)) (broadcast S256x256 (Scalar.ofBits .f32 0x00000000#32)))

/-- The chunks in order. -/
def upF (v k2 : FVec Ideal S256x256 .bf16) (d st : FVec Ideal S256x256 .f32) : FVec Ideal S256x256 .f32 :=
  stp 224 slices_S256x256_o224_0_S1x256 slices_S256x256_o224_0_S32x256 v k2 d <| stp 192 slices_S256x256_o192_0_S1x256 slices_S256x256_o192_0_S32x256 v k2 d <|
  stp 160 slices_S256x256_o160_0_S1x256 slices_S256x256_o160_0_S32x256 v k2 d <| stp 128 slices_S256x256_o128_0_S1x256 slices_S256x256_o128_0_S32x256 v k2 d <|
  stp 96 slices_S256x256_o96_0_S1x256 slices_S256x256_o96_0_S32x256 v k2 d <| stp 64 slices_S256x256_o64_0_S1x256 slices_S256x256_o64_0_S32x256 v k2 d <|
  stp 32 slices_S256x256_o32_0_S1x256 slices_S256x256_o32_0_S32x256 v k2 d <| stp 0 slices_S256x256_o0_0_S1x256 slices_S256x256_o0_0_S32x256 v k2 d st

/-- The chunks in the other order. -/
def upB (v k2 : FVec Ideal S256x256 .bf16) (d st : FVec Ideal S256x256 .f32) : FVec Ideal S256x256 .f32 :=
  stp 0 slices_S256x256_o0_0_S1x256 slices_S256x256_o0_0_S32x256 v k2 d <| stp 32 slices_S256x256_o32_0_S1x256 slices_S256x256_o32_0_S32x256 v k2 d <|
  stp 64 slices_S256x256_o64_0_S1x256 slices_S256x256_o64_0_S32x256 v k2 d <| stp 96 slices_S256x256_o96_0_S1x256 slices_S256x256_o96_0_S32x256 v k2 d <|
  stp 128 slices_S256x256_o128_0_S1x256 slices_S256x256_o128_0_S32x256 v k2 d <| stp 160 slices_S256x256_o160_0_S1x256 slices_S256x256_o160_0_S32x256 v k2 d <|
  stp 192 slices_S256x256_o192_0_S1x256 slices_S256x256_o192_0_S32x256 v k2 d <| stp 224 slices_S256x256_o224_0_S1x256 slices_S256x256_o224_0_S32x256 v k2 d st

/-- A sequence's state, forward. -/
def stF (k g u : FVec Ideal S256x256 .f32) (st : FVec Ideal S1x256x256 .f32) : FVec Ideal S1x256x256 .f32 :=
  shapeCast S1x256x256 (upF (truncf .bf16 u bitsLt_bf16_f32) (kend k (restF (Gm sumF g))) (dec (Gm sumF g) (restF (Gm sumF g)))
    (shapeCast S256x256 st shapeCasts_S1x256x256_S256x256)) shapeCasts_S256x256_S1x256x256

/-- A sequence's state, backward. -/
def stB (k g u : FVec Ideal S256x256 .f32) (st : FVec Ideal S1x256x256 .f32) : FVec Ideal S1x256x256 .f32 :=
  shapeCast S1x256x256 (upB (truncf .bf16 u bitsLt_bf16_f32) (kend k (restB (Gm sumB g))) (dec (Gm sumB g) (restB (Gm sumB g)))
    (shapeCast S256x256 st shapeCasts_S1x256x256_S256x256)) shapeCasts_S256x256_S1x256x256

end Cert.Kernel5Ideal.Hgrn

end
-- ==== Proof.HgBlock.lean ====
module

public import proofs.«01_k».proof.Proof.HgVec
public import Idealize.ShloMosaic.Lib.Pipeline.ValueKit
public import Idealize.ShloMosaic.Lib.Pipeline.ReadBack

@[expose] public section

set_option maxRecDepth 65536
set_option maxHeartbeats 0

noncomputable section

/-! # What a grid point leaves in the states' block

Four sequences, two directions, four heads: each state is a square on the diagonal of its sequence's accumulator. -/

namespace Cert.Kernel5Ideal.Hgrn

open Cert.Kernel5Ideal Cert.Kernel5Ideal.Gen Idealize.ShloMosaic Idealize.ShloMosaic.TcCoe Idealize.SL.Sem

/-- The rows of sequence `j`. -/
def blk (j : Fin 4) (x : FVec Ideal S1024x256 .f32) : FVec Ideal S256x256 .f32 := fun i => x (ix2 ⟨256 * j.val + (i 0).val, by have := (i 0).isLt; have : (i 0).val < 256 := this; omega⟩ (i 1))

/-- The values' columns of sequence `j`. -/
def ublk (j : Fin 4) (x : FVec Ideal S1024x1280 .f32) : FVec Ideal S256x256 .f32 :=
  fun i => x (ix2 ⟨256 * j.val + (i 0).val, by have : (i 0).val < 256 := (i 0).isLt; omega⟩ ⟨768 + (i 1).val, by have : (i 1).val < 256 := (i 1).isLt; omega⟩)

def colF (x : FVec Ideal S1024x1280 .f32) : FVec Ideal S1024x256 .f32 :=
  View.ld (Val := Elt Ideal) (e' := .f32) x (Rect.unit (s := S1024x1280) ![0, 256] S1024x256.size inb_S1024x1280_S1024x256_0_256)

def colB (x : FVec Ideal S1024x1280 .f32) : FVec Ideal S1024x256 .f32 :=
  View.ld (Val := Elt Ideal) (e' := .f32) x (Rect.unit (s := S1024x1280) ![0, 512] S1024x256.size inb_S1024x1280_S1024x256_0_512)

theorem ld_blk (j : Fin 4) (o : ℕ) (ho : o = 256 * j.val) (x : FVec Ideal S1024x256 .f32) (h) :
    View.ld (Val := Elt Ideal) (e' := .f32) x (Rect.unit (s := S1024x256) ![o, 0] S256x256.size h) = blk j x := by
  subst ho
  funext i
  show x _ = x _
  congr 1
  funext a
  fin_cases a <;> apply Fin.ext <;> simp [Rect.unit, Rect.emb, ix2]

theorem ld_ublk (j : Fin 4) (o : ℕ) (ho : o = 256 * j.val) (x : FVec Ideal S1024x1280 .f32) (h) :
    View.ld (Val := Elt Ideal) (e' := .f32) x (Rect.unit (s := S1024x1280) ![o, 768] S256x256.size h) = ublk j x := by
  subst ho
  funext i
  show x _ = x _
  congr 1
  funext a
  fin_cases a <;> apply Fin.ext <;> simp [Rect.unit, Rect.emb, ix2]

def zero : FVec Ideal S1x256x256 .f32 := fun _ => Scalar.ofBits .f32 0x00000000#32

theorem ld_zeroF (o : Fin 3 → ℕ) (h) : View.ld (Val := Elt Ideal) (e' := .f32) (k0_pay15 (F := Ideal)) (Rect.unit (s := S4x256x256) o S1x256x256.size h) = zero := rfl

theorem ld_zeroB (o : Fin 3 → ℕ) (h) : View.ld (Val := Elt Ideal) (e' := .f32) (k0_pay16 (F := Ideal)) (Rect.unit (s := S4x256x256) o S1x256x256.size h) = zero := rfl

/-- A square of the accumulator, read after the store of the sequence's whole. -/
theorem read_square {κ : Kind} {sp : Space} (v : View sig κ sp S4x256x256 .f32) (j o : ℕ) (h) (h') (w : FVec Ideal S1x256x256 .f32)
    (L : List (View.Piece (Elt Ideal) S4x256x256 .f32)) (ho : o + 64 ≤ 256) :
    v.readCov (⟨Rect.unit (s := S4x256x256) ![j, 0, 0] S1x256x256.size h, w⟩ :: L) (Rect.unit (s := S4x256x256) ![j, o, o] S1x64x64.size h').toLoadRect
      = fun y => w (ix3 0 ⟨o + (y 1).val, by have : (y 1).val < 64 := (y 1).isLt; omega⟩ ⟨o + (y 2).val, by have : (y 2).val < 64 := (y 2).isLt; omega⟩) := by
  rw [View.readCov_eq_canon']
  funext y
  rw [← View.canon_cons_emb (Rect.unit (s := S4x256x256) ![j, 0, 0] S1x256x256.size h) w L]
  congr 1
  funext a
  fin_cases a <;> apply Fin.ext <;> simp [Rect.unit, Rect.emb, Rect.toLoadRect, LoadRect.idx, ix3]

variable (x0 : FVec Ideal S1024x1280 .f32) (x1 x2 : FVec Ideal S1x256 .f32)

/-- The accumulators: a sequence's, in a direction. -/
def S (j : Fin 4) (d : Fin 2) : FVec Ideal S1x256x256 .f32 :=
  ![stF (blk j (k0_pay4 x1 x1 (colF x0))) (blk j (k0_pay5 x1 x1 (colF x0))) (ublk j x0) zero,
    stB (blk j (k0_pay9 (k0_pay6 x2) (k0_pay7 x2) (colB x0))) (blk j (k0_pay10 (k0_pay6 x2) (k0_pay7 x2) (colB x0))) (ublk j x0) zero] d

/-- The states' block. -/
def block : FVec Ideal S4x2x4x64x64 .f32 := fun y =>
  S x0 x1 x2 (y 0) (y 1) (ix3 0 ⟨64 * (y 2).val + (y 3).val, by have : (y 2).val < 4 := (y 2).isLt; have : (y 3).val < 64 := (y 3).isLt; omega⟩
    ⟨64 * (y 2).val + (y 4).val, by have : (y 2).val < 4 := (y 2).isLt; have : (y 4).val < 64 := (y 4).isLt; omega⟩)

theorem S_congr {j j' : Fin 4} {d d' : Fin 2} {a a' b b' : Fin 256} (hj : j = j') (hd : d = d') (ha : a = a') (hb : b = b') :
    S x0 x1 x2 j d (ix3 0 a b) = S x0 x1 x2 j' d' (ix3 0 a' b') := by
  subst hj hd ha hb; rfl

theorem piece (j : Fin 4) (d : Fin 2) (h : Fin 4) (jn dn hn : ℕ) (hjn : jn = j.val) (hdn : dn = d.val) (hhn : hn = h.val) (inb) (w : FVec Ideal S1x256x256 .f32) (hw : w = S x0 x1 x2 j d) (o : ℕ) (ho : o = 64 * h.val) (ho' : o + 64 ≤ 256)
    (x : S1x1x1x64x64.Idx) :
    shapeCast S1x1x1x64x64 (shapeCast S64x64 (fun y : S1x64x64.Idx => w (ix3 0 ⟨o + (y 1).val, by have : (y 1).val < 64 := (y 1).isLt; omega⟩ ⟨o + (y 2).val, by have : (y 2).val < 64 := (y 2).isLt; omega⟩) : FVec Ideal S1x64x64 .f32) shapeCasts_S1x64x64_S64x64) shapeCasts_S64x64_S1x1x1x64x64 x
      = block x0 x1 x2 ((Rect.unit (s := S4x2x4x64x64) ![jn, dn, hn, 0, 0] S1x1x1x64x64.size inb).emb x) := by
  subst ho hw hjn hdn hhn
  unfold block
  pointwise []
  have h0 : (x 0).val < 1 := (x 0).isLt
  have h1 : (x 1).val < 1 := (x 1).isLt
  have h2 : (x 2).val < 1 := (x 2).isLt
  refine S_congr x0 x1 x2 (Fin.ext ?_) (Fin.ext ?_) (Fin.ext ?_) (Fin.ext ?_)
  · simp [Rect.unit, Rect.emb]
  · simp [Rect.unit, Rect.emb]
  · simp [Rect.unit, Rect.emb]
  · simp [Rect.unit, Rect.emb]

theorem canon_of_piecesOf (G : S4x2x4x64x64.Idx → Elt Ideal .f32) (L : List (View.Piece (Elt Ideal) S4x2x4x64x64 .f32)) (h : View.PiecesOf G L) (y : S4x2x4x64x64.Idx)
    (hc : ∃ p ∈ L, y ∈ p.1.set) : View.canon L y = G y := by
  simpa using View.canon_append_of_piecesOf G [] L h y hc

theorem after_states (m : (ℓ : Loc nD τ sig) → Buf (Elt Ideal) ℓ) (c : Dev nD) (t : Fin cfg0.N) :
    (outsAt0 m c t).2 = block (iblk m c 0 t) (iblk m c 1 t) (iblk m c 2 t) := by
  funext y
  unfold outsAt0
  dsimp only
  frame_open
  simp (disch := decide) only [↓ View.readCov_skip, ↓ View.readCov_cons_toLoadRect, ↓ View.readCov_fill, ↓ read_square, View.read_writes_junk_eq_canon,
    View.ld_unit_lit', View.readAt_eq_ld, Memref.IsWhole.read_unread, ld_zeroF, ld_zeroB,
    ld_blk 0 0 rfl, ld_blk 1 256 rfl, ld_blk 2 512 rfl, ld_blk 3 768 rfl, ld_ublk 0 0 rfl, ld_ublk 1 256 rfl, ld_ublk 2 512 rfl, ld_ublk 3 768 rfl]
  refine canon_of_piecesOf _ _ ?_ y (View.cover_of_tiledL (s := S4x2x4x64x64) _ S1x1x1x64x64.size (by sl_kernel_rfl) y)
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  all_goals dsimp only [k0_pay1, k0_pay415, k0_pay417, k0_pay418, k0_pay419, k0_pay420, k0_pay422, k0_pay423, k0_pay424, k0_pay425, k0_pay426, k0_pay427, k0_pay428, k0_pay429, k0_pay430, k0_pay432, k0_pay433, k0_pay434, k0_pay435, k0_pay437, k0_pay438, k0_pay439, k0_pay440, k0_pay441, k0_pay442, k0_pay443, k0_pay444, k0_pay445, k0_pay446, k0_pay447, k0_pay448, k0_pay449, k0_pay410, k0_pay411, k0_pay412, k0_pay413, k0_pay414, k0_pay416, k0_pay421, k0_pay431, k0_pay436, k0_pay450]
  refine piece (iblk m c 0 t) (iblk m c 1 t) (iblk m c 2 t) 3 1 3 3 1 3 rfl rfl rfl inb_S4x2x4x64x64_S1x1x1x64x64_3_1_3_0_0 _ ?_ 192 rfl (by decide) x; rotate_left
  refine piece (iblk m c 0 t) (iblk m c 1 t) (iblk m c 2 t) 3 1 2 3 1 2 rfl rfl rfl inb_S4x2x4x64x64_S1x1x1x64x64_3_1_2_0_0 _ ?_ 128 rfl (by decide) x; rotate_left
  refine piece (iblk m c 0 t) (iblk m c 1 t) (iblk m c 2 t) 3 1 1 3 1 1 rfl rfl rfl inb_S4x2x4x64x64_S1x1x1x64x64_3_1_1_0_0 _ ?_ 64 rfl (by decide) x; rotate_left
  refine piece (iblk m c 0 t) (iblk m c 1 t) (iblk m c 2 t) 3 1 0 3 1 0 rfl rfl rfl inb_S4x2x4x64x64_S1x1x1x64x64_3_1_0_0_0 _ ?_ 0 rfl (by decide) x; rotate_left
  refine piece (iblk m c 0 t) (iblk m c 1 t) (iblk m c 2 t) 3 0 3 3 0 3 rfl rfl rfl inb_S4x2x4x64x64_S1x1x1x64x64_3_0_3_0_0 _ ?_ 192 rfl (by decide) x; rotate_left
  refine piece (iblk m c 0 t) (iblk m c 1 t) (iblk m c 2 t) 3 0 2 3 0 2 rfl rfl rfl inb_S4x2x4x64x64_S1x1x1x64x64_3_0_2_0_0 _ ?_ 128 rfl (by decide) x; rotate_left
  refine piece (iblk m c 0 t) (iblk m c 1 t) (iblk m c 2 t) 3 0 1 3 0 1 rfl rfl rfl inb_S4x2x4x64x64_S1x1x1x64x64_3_0_1_0_0 _ ?_ 64 rfl (by decide) x; rotate_left
  refine piece (iblk m c 0 t) (iblk m c 1 t) (iblk m c 2 t) 3 0 0 3 0 0 rfl rfl rfl inb_S4x2x4x64x64_S1x1x1x64x64_3_0_0_0_0 _ ?_ 0 rfl (by decide) x; rotate_left
  refine piece (iblk m c 0 t) (iblk m c 1 t) (iblk m c 2 t) 2 1 3 2 1 3 rfl rfl rfl inb_S4x2x4x64x64_S1x1x1x64x64_2_1_3_0_0 _ ?_ 192 rfl (by decide) x; rotate_left
  refine piece (iblk m c 0 t) (iblk m c 1 t) (iblk m c 2 t) 2 1 2 2 1 2 rfl rfl rfl inb_S4x2x4x64x64_S1x1x1x64x64_2_1_2_0_0 _ ?_ 128 rfl (by decide) x; rotate_left
  refine piece (iblk m c 0 t) (iblk m c 1 t) (iblk m c 2 t) 2 1 1 2 1 1 rfl rfl rfl inb_S4x2x4x64x64_S1x1x1x64x64_2_1_1_0_0 _ ?_ 64 rfl (by decide) x; rotate_left
  refine piece (iblk m c 0 t) (iblk m c 1 t) (iblk m c 2 t) 2 1 0 2 1 0 rfl rfl rfl inb_S4x2x4x64x64_S1x1x1x64x64_2_1_0_0_0 _ ?_ 0 rfl (by decide) x; rotate_left
  refine piece (iblk m c 0 t) (iblk m c 1 t) (iblk m c 2 t) 2 0 3 2 0 3 rfl rfl rfl inb_S4x2x4x64x64_S1x1x1x64x64_2_0_3_0_0 _ ?_ 192 rfl (by decide) x; rotate_left
  refine piece (iblk m c 0 t) (iblk m c 1 t) (iblk m c 2 t) 2 0 2 2 0 2 rfl rfl rfl inb_S4x2x4x64x64_S1x1x1x64x64_2_0_2_0_0 _ ?_ 128 rfl (by decide) x; rotate_left
  refine piece (iblk m c 0 t) (iblk m c 1 t) (iblk m c 2 t) 2 0 1 2 0 1 rfl rfl rfl inb_S4x2x4x64x64_S1x1x1x64x64_2_0_1_0_0 _ ?_ 64 rfl (by decide) x; rotate_left
  refine piece (iblk m c 0 t) (iblk m c 1 t) (iblk m c 2 t) 2 0 0 2 0 0 rfl rfl rfl inb_S4x2x4x64x64_S1x1x1x64x64_2_0_0_0_0 _ ?_ 0 rfl (by decide) x; rotate_left
  refine piece (iblk m c 0 t) (iblk m c 1 t) (iblk m c 2 t) 1 1 3 1 1 3 rfl rfl rfl inb_S4x2x4x64x64_S1x1x1x64x64_1_1_3_0_0 _ ?_ 192 rfl (by decide) x; rotate_left
  refine piece (iblk m c 0 t) (iblk m c 1 t) (iblk m c 2 t) 1 1 2 1 1 2 rfl rfl rfl inb_S4x2x4x64x64_S1x1x1x64x64_1_1_2_0_0 _ ?_ 128 rfl (by decide) x; rotate_left
  refine piece (iblk m c 0 t) (iblk m c 1 t) (iblk m c 2 t) 1 1 1 1 1 1 rfl rfl rfl inb_S4x2x4x64x64_S1x1x1x64x64_1_1_1_0_0 _ ?_ 64 rfl (by decide) x; rotate_left
  refine piece (iblk m c 0 t) (iblk m c 1 t) (iblk m c 2 t) 1 1 0 1 1 0 rfl rfl rfl inb_S4x2x4x64x64_S1x1x1x64x64_1_1_0_0_0 _ ?_ 0 rfl (by decide) x; rotate_left
  refine piece (iblk m c 0 t) (iblk m c 1 t) (iblk m c 2 t) 1 0 3 1 0 3 rfl rfl rfl inb_S4x2x4x64x64_S1x1x1x64x64_1_0_3_0_0 _ ?_ 192 rfl (by decide) x; rotate_left
  refine piece (iblk m c 0 t) (iblk m c 1 t) (iblk m c 2 t) 1 0 2 1 0 2 rfl rfl rfl inb_S4x2x4x64x64_S1x1x1x64x64_1_0_2_0_0 _ ?_ 128 rfl (by decide) x; rotate_left
  refine piece (iblk m c 0 t) (iblk m c 1 t) (iblk m c 2 t) 1 0 1 1 0 1 rfl rfl rfl inb_S4x2x4x64x64_S1x1x1x64x64_1_0_1_0_0 _ ?_ 64 rfl (by decide) x; rotate_left
  refine piece (iblk m c 0 t) (iblk m c 1 t) (iblk m c 2 t) 1 0 0 1 0 0 rfl rfl rfl inb_S4x2x4x64x64_S1x1x1x64x64_1_0_0_0_0 _ ?_ 0 rfl (by decide) x; rotate_left
  refine piece (iblk m c 0 t) (iblk m c 1 t) (iblk m c 2 t) 0 1 3 0 1 3 rfl rfl rfl inb_S4x2x4x64x64_S1x1x1x64x64_0_1_3_0_0 _ ?_ 192 rfl (by decide) x; rotate_left
  refine piece (iblk m c 0 t) (iblk m c 1 t) (iblk m c 2 t) 0 1 2 0 1 2 rfl rfl rfl inb_S4x2x4x64x64_S1x1x1x64x64_0_1_2_0_0 _ ?_ 128 rfl (by decide) x; rotate_left
  refine piece (iblk m c 0 t) (iblk m c 1 t) (iblk m c 2 t) 0 1 1 0 1 1 rfl rfl rfl inb_S4x2x4x64x64_S1x1x1x64x64_0_1_1_0_0 _ ?_ 64 rfl (by decide) x; rotate_left
  refine piece (iblk m c 0 t) (iblk m c 1 t) (iblk m c 2 t) 0 1 0 0 1 0 rfl rfl rfl inb_S4x2x4x64x64_S1x1x1x64x64_0_1_0_0_0 _ ?_ 0 rfl (by decide) x; rotate_left
  refine piece (iblk m c 0 t) (iblk m c 1 t) (iblk m c 2 t) 0 0 3 0 0 3 rfl rfl rfl inb_S4x2x4x64x64_S1x1x1x64x64_0_0_3_0_0 _ ?_ 192 rfl (by decide) x; rotate_left
  refine piece (iblk m c 0 t) (iblk m c 1 t) (iblk m c 2 t) 0 0 2 0 0 2 rfl rfl rfl inb_S4x2x4x64x64_S1x1x1x64x64_0_0_2_0_0 _ ?_ 128 rfl (by decide) x; rotate_left
  refine piece (iblk m c 0 t) (iblk m c 1 t) (iblk m c 2 t) 0 0 1 0 0 1 rfl rfl rfl inb_S4x2x4x64x64_S1x1x1x64x64_0_0_1_0_0 _ ?_ 64 rfl (by decide) x; rotate_left
  refine piece (iblk m c 0 t) (iblk m c 1 t) (iblk m c 2 t) 0 0 0 0 0 0 rfl rfl rfl inb_S4x2x4x64x64_S1x1x1x64x64_0_0_0_0_0 _ ?_ 0 rfl (by decide) x; rotate_left
  all_goals
    simp only [
    k0_pay1, k0_pay27, k0_pay32, k0_pay33, k0_pay34, k0_pay35, k0_pay38, k0_pay57, k0_pay58, k0_pay59, k0_pay65, k0_pay67, k0_pay69, k0_pay74,
  k0_pay75, k0_pay76, k0_pay79, k0_pay103, k0_pay104, k0_pay106, k0_pay108, k0_pay110, k0_pay114, k0_pay116, k0_pay118, k0_pay120, k0_pay124,
  k0_pay127, k0_pay151, k0_pay152, k0_pay153, k0_pay155, k0_pay159, k0_pay161, k0_pay163, k0_pay165, k0_pay169, k0_pay170, k0_pay171, k0_pay174,
  k0_pay197, k0_pay201, k0_pay203, k0_pay205, k0_pay210, k0_pay212, k0_pay214, k0_pay217, k0_pay220, k0_pay246, k0_pay247, k0_pay248, k0_pay250,
  k0_pay252, k0_pay256, k0_pay258, k0_pay260, k0_pay262, k0_pay266, k0_pay267, k0_pay270, k0_pay271, k0_pay272, k0_pay273, k0_pay276, k0_pay295,
  k0_pay296, k0_pay297, k0_pay303, k0_pay305, k0_pay307, k0_pay312, k0_pay313, k0_pay314, k0_pay317, k0_pay341, k0_pay342, k0_pay344, k0_pay346,
  k0_pay348, k0_pay352, k0_pay354, k0_pay356, k0_pay358, k0_pay362, k0_pay365, k0_pay389, k0_pay390, k0_pay391, k0_pay393, k0_pay397, k0_pay399,
  k0_pay401, k0_pay403, k0_pay407, k0_pay408, k0_pay409, k0_pay411, k0_pay415, k0_pay417, k0_pay418, k0_pay419, k0_pay420, k0_pay422, k0_pay423,
  k0_pay424, k0_pay425, k0_pay426, k0_pay427, k0_pay428, k0_pay429, k0_pay430, k0_pay432, k0_pay433, k0_pay434, k0_pay435, k0_pay437, k0_pay438,
  k0_pay439, k0_pay440, k0_pay441, k0_pay442, k0_pay443, k0_pay444, k0_pay445, k0_pay446, k0_pay447, k0_pay448, k0_pay449,
  S, stB, stF, upF, upB, stp, dec, kend, restF, restB, Gm, sumF, sumB, bd, sameChunk, rr, cc, fdiv, colF, colB]
    rfl

end Cert.Kernel5Ideal.Hgrn

end
-- ==== Proof.HgMath.lean ====
module

public import proofs.«01_k».proof.Proof.MlaMath

@[expose] public section

noncomputable section

/-! # The gated recurrence over the chunks of a sequence

One entry of a state: the logarithms of the gates of a chunk are summed row by row; the state is decayed by the chunk's whole sum, and
each row adds its key, decayed from the row to the chunk's end, times its value. -/

namespace Cert.HgMath

open Idealize.ShloMosaic Cert.MlaMath

/-- The sum of a chunk's logarithms up to row `s`. -/
def cum (g : Fin 32 → EReal) (s : Fin 32) : EReal := ∑ s' : Fin 32, if s' ≤ s then g s' else 0

/-- The state after a chunk. -/
def step (g k v : Fin 32 → EReal) (S : EReal) : EReal :=
  Ideal.exp (cum g 31) * S + ∑ s, k s * Ideal.exp (cum g 31 - cum g s) * v s

/-- The state after the eight chunks. -/
def chain (g k v : Fin 8 → Fin 32 → EReal) : EReal :=
  step (g 7) (k 7) (v 7) <| step (g 6) (k 6) (v 6) <| step (g 5) (k 5) (v 5) <| step (g 4) (k 4) (v 4) <|
  step (g 3) (k 3) (v 3) <| step (g 2) (k 2) (v 2) <| step (g 1) (k 1) (v 1) <| step (g 0) (k 0) (v 0) 0

/-- A gate: at least its lower bound, `lb`. -/
def gate (lb z : EReal) : EReal := lb + (1 - lb) * Ideal.logistic z

/-- An infinite value. -/
def Inf (x : EReal) : Prop := x = ⊤ ∨ x = ⊥

theorem sub_top (x : EReal) : x - ⊤ = ⊥ := by
  rw [sub_eq_add_neg, EReal.neg_top, EReal.add_bot]

theorem bot_sub (x : EReal) : ⊥ - x = ⊥ := by
  rw [sub_eq_add_neg, EReal.bot_add]

theorem Inf.sub_self {x : EReal} (h : Inf x) : x - x = ⊥ := by
  rcases h with rfl | rfl
  · exact sub_top _
  · exact bot_sub _

theorem Inf.add {x : EReal} (h : Inf x) (y : EReal) : Inf (x + y) := by
  rcases h with rfl | rfl
  · induction y with
    | bot => exact Or.inr (EReal.add_bot _)
    | top => exact Or.inl EReal.top_add_top
    | coe r => exact Or.inl (EReal.top_add_coe r)
  · exact Or.inr (EReal.bot_add _)

theorem Inf.add_sub {x : EReal} (h : Inf x) (y : EReal) : x + y - x = ⊥ := by
  rcases h with rfl | rfl
  · exact sub_top _
  · rw [EReal.bot_add]; exact bot_sub _

theorem sub_self {x : EReal} (h : x ≠ ⊤) : x - x = 0 ∨ (x = ⊥ ∧ x - x = ⊥) := by
  induction x with
  | bot => exact Or.inr ⟨rfl, bot_sub _⟩
  | top => exact absurd rfl h
  | coe r => exact Or.inl (by rw [← EReal.coe_sub, _root_.sub_self, EReal.coe_zero])

theorem add_sub {x : EReal} (h : x ≠ ⊤) (y : EReal) : x + (x + y - x) = x + y := by
  induction x with
  | bot => rw [EReal.bot_add, EReal.bot_add]
  | top => exact absurd rfl h
  | coe r =>
    induction y with
    | bot => rw [EReal.add_bot, bot_sub, EReal.add_bot]
    | top => rw [EReal.coe_add_top, EReal.top_sub_coe, EReal.coe_add_top]
    | coe s => rw [← EReal.coe_add, ← EReal.coe_sub, ← EReal.coe_add, add_sub_cancel_left]

/-- The three parts of a value that isn't `+∞` add up to it. -/
theorem parts {x w : EReal} (h : x ≠ ⊤) (hw : w = 0 ∨ w = 1) : w * (x - x - (x - x)) + w * (x - x) + w * x = w * x := by
  rcases hw with rfl | rfl
  · simp only [zero_mul, add_zero]
  · simp only [one_mul]
    rcases sub_self h with e | ⟨e, e'⟩
    · rw [e, sub_zero, add_zero, zero_add]
    · rw [e', e, EReal.add_bot]

theorem sum_bot {n : ℕ} (f : Fin n → EReal) (i : Fin n) (h : f i = ⊥) : (∑ x, f x) = ⊥ := by
  rw [← Finset.add_sum_erase _ _ (Finset.mem_univ i), h, EReal.bot_add]

theorem sum_ne_top {n : ℕ} (f : Fin n → EReal) (h : ∀ i, f i ≠ ⊤) : (∑ x, f x) ≠ ⊤ :=
  Finset.sum_induction f (· ≠ ⊤) (fun _ _ ha hb => EReal.add_ne_top ha hb) EReal.zero_ne_top fun i _ => h i

theorem cum_ne_top {g : Fin 32 → EReal} (hg : ∀ s, g s ≠ ⊤) (s : Fin 32) : cum g s ≠ ⊤ :=
  sum_ne_top _ fun k => by
    split
    · exact hg k
    · exact EReal.zero_ne_top

theorem cum_split (g : Fin 32 → EReal) (s : Fin 32) : cum g 31 = cum g s + ∑ s' : Fin 32, if s' ≤ s then 0 else g s' := by
  unfold cum
  rw [← Finset.sum_add_distrib]
  refine Finset.sum_congr rfl fun s' _ => ?_
  rw [if_pos (show s' ≤ 31 from Nat.le_of_lt_succ s'.isLt)]
  split
  · rw [add_zero]
  · rw [zero_add]

theorem cum_inf {g : Fin 32 → EReal} (hg : ∀ s, Inf (g s)) (s : Fin 32) : Inf (cum g s) := by
  unfold cum
  rw [← Finset.add_sum_erase _ _ (Finset.mem_univ s), if_pos (le_refl s)]
  exact (hg s).add _

theorem rest_add {g : Fin 32 → EReal} (hg : ∀ s, g s ≠ ⊤) (s : Fin 32) : cum g s + (cum g 31 - cum g s) = cum g 31 := by
  rw [cum_split g s]
  exact add_sub (cum_ne_top hg s) _

/-- Where all logarithms are infinite, the state stays zero. -/
theorem step_inf {g : Fin 32 → EReal} (hg : ∀ s, Inf (g s)) (k v : Fin 32 → EReal) : step g k v 0 = 0 := by
  unfold step
  rw [mul_zero, zero_add]
  refine Finset.sum_eq_zero fun s _ => ?_
  rw [cum_split g s, (cum_inf hg s).add_sub, Ideal.exp_bot, mul_zero, zero_mul]

theorem chain_inf {g : Fin 8 → Fin 32 → EReal} (hg : ∀ c s, Inf (g c s)) (k v : Fin 8 → Fin 32 → EReal) : chain g k v = 0 := by
  unfold chain
  simp only [step_inf (hg _)]

/-- The logarithm of a gate is infinite for every input if the lower bound is `+∞`, and else never `+∞`. -/
theorem log_gate (lb : EReal) : (∀ z, Ideal.log (gate lb z) ≠ ⊤) ∨ (∀ z, Inf (Ideal.log (gate lb z))) := by
  have hlog : ∀ x : EReal, x ≠ ⊤ → Ideal.log x ≠ ⊤ := by
    intro x hx
    induction x with
    | bot => rw [Ideal.log_bot]; exact bot_ne_top
    | top => exact absurd rfl hx
    | coe r =>
      rw [Ideal.log_coe]
      split
      · exact bot_ne_top
      · exact EReal.coe_ne_top _
  induction lb with
  | bot =>
    refine Or.inl fun z => hlog _ ?_
    rw [gate, EReal.bot_add]
    exact bot_ne_top
  | top =>
    refine Or.inr fun z => ?_
    rcases Inf.add (Or.inl rfl) ((1 - ⊤) * Ideal.logistic z) with h | h
    · rw [gate, h, Ideal.log_top]; exact Or.inl rfl
    · rw [gate, h, Ideal.log_bot]; exact Or.inr rfl
  | coe l =>
    refine Or.inl fun z => hlog _ ?_
    obtain ⟨r, hr⟩ : Rl (Ideal.logistic z) := by
      induction z with
      | bot => exact ⟨0, Ideal.logistic_bot⟩
      | top => exact ⟨1, Ideal.logistic_top⟩
      | coe z => exact ⟨_, Ideal.logistic_coe _⟩
    rw [gate, hr, ← EReal.coe_one, ← EReal.coe_sub, ← EReal.coe_mul, ← EReal.coe_add]
    exact EReal.coe_ne_top _

/-- A sum over eight chunks of 32 that is zero off one of them. -/
theorem sum_chunk (f : Fin 256 → EReal) (c : Fin 8) (hf : ∀ x : Fin 256, x.val / 32 ≠ c.val → f x = 0) :
    (∑ x, f x) = ∑ s : Fin 32, f ⟨32 * c.val + s.val, by omega⟩ := by
  rw [sum_blocks 8 32 256 rfl, Finset.sum_eq_single c]
  · exact Finset.sum_congr rfl fun s _ => congrArg f (Fin.ext (by show c.val * 32 + s.val = 32 * c.val + s.val; omega))
  · intro b _ hb
    refine Finset.sum_eq_zero fun d _ => hf _ fun e => hb (Fin.ext ?_)
    have e : (b.val * 32 + d.val) / 32 = c.val := e
    omega
  · exact fun h' => absurd (Finset.mem_univ _) h'

end Cert.HgMath

end
-- ==== Proof.HgSum.lean ====
module

public import proofs.«01_k».proof.Proof.HgMath
public import proofs.«01_k».proof.Proof.HgVec

@[expose] public section

set_option maxRecDepth 16384

noncomputable section

/-! # One sequence's state is the recurrence's -/

namespace Cert.Kernel5Ideal.Hgrn

open Cert.Kernel5Ideal Cert.Kernel5Ideal.Gen Idealize.ShloMosaic Idealize.ShloMosaic.TcCoe Idealize.SL.Sem Cert.HgMath

theorem rr64 (a b : Fin 256) : fdiv 64#32 rr (ix2 a b) = BitVec.ofNat 32 (a.val / 64) := by
  pointwise [fdiv, rr]
  revert a
  decide +kernel

theorem cc64 (a b : Fin 256) : fdiv 64#32 cc (ix2 a b) = BitVec.ofNat 32 (b.val / 64) := by
  pointwise [fdiv, cc]
  revert b
  decide +kernel

theorem rr32 (a b : Fin 256) : fdiv 32#32 rr (ix2 a b) = BitVec.ofNat 32 (a.val / 32) := by
  pointwise [fdiv, rr]
  revert a
  decide +kernel

theorem cc32 (a b : Fin 256) : fdiv 32#32 cc (ix2 a b) = BitVec.ofNat 32 (b.val / 32) := by
  pointwise [fdiv, cc]
  revert b
  decide +kernel

theorem cmp_eq : ∀ x y : Fin 8, IntOp.cmpi .eq (BitVec.ofNat 32 x.val) (BitVec.ofNat 32 y.val) = if x.val = y.val then 1#1 else 0#1 := by
  decide +kernel

theorem cmp_sle : ∀ x y : Fin 256, IntOp.cmpi .sle (BitVec.ofNat 32 x.val) (BitVec.ofNat 32 y.val) = if x.val ≤ y.val then 1#1 else 0#1 := by
  decide +kernel

theorem cmp_sge : ∀ x y : Fin 256, IntOp.cmpi .sge (BitVec.ofNat 32 x.val) (BitVec.ofNat 32 y.val) = if y.val ≤ x.val then 1#1 else 0#1 := by
  decide +kernel

theorem bd_apply (a b : Fin 256) : bd (ix2 a b) = if a.val / 64 = b.val / 64 then 1#1 else 0#1 := by
  unfold bd
  pointwise []
  rw [rr64, cc64]
  exact cmp_eq ⟨a.val / 64, by omega⟩ ⟨b.val / 64, by omega⟩

theorem sameChunk_apply (a b : Fin 256) : sameChunk (ix2 a b) = if a.val / 32 = b.val / 32 then 1#1 else 0#1 := by
  unfold sameChunk
  pointwise []
  rw [rr32, cc32]
  exact cmp_eq ⟨a.val / 32, by omega⟩ ⟨b.val / 32, by omega⟩

theorem rr_apply (a b : Fin 256) : rr (ix2 a b) = BitVec.ofNat 32 a.val := by pointwise [rr]

theorem cc_apply (a b : Fin 256) : cc (ix2 a b) = BitVec.ofNat 32 b.val := by pointwise [cc]

theorem select_and (p q : Prop) [Decidable p] [Decidable q] (x y : EReal) :
    Scalar.select (IntOp.andi (if p then 1#1 else 0#1) (if q then 1#1 else 0#1)) x y = if p ∧ q then x else y := by
  by_cases hp : p <;> by_cases hq : q <;> simp [hp, hq, Scalar.select, IntOp.andi]

theorem sumF_apply (a b : Fin 256) : sumF (ix2 a b) = if a.val / 32 = b.val / 32 ∧ b.val ≤ a.val then 1 else 0 := by
  unfold sumF
  pointwise []
  rw [sameChunk_apply, rr_apply, cc_apply, cmp_sle b a, select_and]

theorem sumB_apply (a b : Fin 256) : sumB (ix2 a b) = if a.val / 32 = b.val / 32 ∧ a.val ≤ b.val then 1 else 0 := by
  unfold sumB
  pointwise []
  rw [sameChunk_apply, rr_apply, cc_apply, cmp_sge b a, select_and]

/-- The three parts' products are the product with the whole, in a column without `+∞`. -/
theorem Gm_apply (sm g : FVec Ideal S256x256 .f32) (b : Fin 256) (hsm : ∀ a x, sm (ix2 a x) = (0 : EReal) ∨ sm (ix2 a x) = (1 : EReal))
    (hg : ∀ x, g (ix2 x b) ≠ (⊤ : EReal)) (a : Fin 256) : Gm sm g (ix2 a b) = ∑ x, sm (ix2 a x) * g (ix2 x b) := by
  pointwise [Gm]
  rw [← Finset.sum_add_distrib, ← Finset.sum_add_distrib]
  exact Finset.sum_congr rfl fun x _ => parts (hg x) (hsm a x)

/-- In an infinite column the sums are `-∞`. -/
theorem Gm_inf (sm g : FVec Ideal S256x256 .f32) (b : Fin 256) (hsm : ∀ a, sm (ix2 a a) = (1 : EReal))
    (hg : ∀ x, Inf (g (ix2 x b))) (a : Fin 256) : Gm sm g (ix2 a b) = (⊥ : EReal) := by
  pointwise [Gm]
  rw [sum_bot _ a, EReal.bot_add, EReal.bot_add]
  rw [hsm, (hg a).sub_self, bot_sub, one_mul]

theorem sumF_or (a b : Fin 256) : sumF (ix2 a b) = (0 : EReal) ∨ sumF (ix2 a b) = (1 : EReal) := by
  rw [sumF_apply]
  split
  · exact Or.inr rfl
  · exact Or.inl rfl

theorem sumB_or (a b : Fin 256) : sumB (ix2 a b) = (0 : EReal) ∨ sumB (ix2 a b) = (1 : EReal) := by
  rw [sumB_apply]
  split
  · exact Or.inr rfl
  · exact Or.inl rfl

theorem sumF_self (a : Fin 256) : sumF (ix2 a a) = (1 : EReal) := by
  rw [sumF_apply, if_pos ⟨rfl, le_refl _⟩]

theorem sumB_self (a : Fin 256) : sumB (ix2 a a) = (1 : EReal) := by
  rw [sumB_apply, if_pos ⟨rfl, le_refl _⟩]

theorem restF_apply (G : FVec Ideal S256x256 .f32) (a b : Fin 256) : restF G (ix2 a b) = G (ix2 ⟨a.val / 32 * 32 + 31, by omega⟩ b) - G (ix2 a b) := by
  pointwise [restF]

theorem restB_apply (G : FVec Ideal S256x256 .f32) (a b : Fin 256) : restB G (ix2 a b) = G (ix2 ⟨a.val / 32 * 32, by omega⟩ b) - G (ix2 a b) := by
  pointwise [restB]

theorem kend_apply (k R : FVec Ideal S256x256 .f32) (a b : Fin 256) : kend k R (ix2 a b) = k (ix2 a b) * Ideal.exp (R (ix2 a b)) := by
  pointwise [kend]

theorem dec_apply (G R : FVec Ideal S256x256 .f32) (a b : Fin 256) : dec G R (ix2 a b) = Ideal.exp (G (ix2 a b) + R (ix2 a b)) := by
  pointwise [dec]

theorem stp_apply (o : ℕ) (ho : o + 32 ≤ 256) (h1 : S256x256.Slices ![o, 0] S1x256) (h2 : S256x256.Slices ![o, 0] S32x256) (v k2 : FVec Ideal S256x256 .bf16)
    (d st : FVec Ideal S256x256 .f32) (a b : Fin 256) (hab : a.val / 64 = b.val / 64) :
    stp o h1 h2 v k2 d st (ix2 a b)
      = st (ix2 a b) * d (ix2 ⟨o, by omega⟩ b) + ∑ x : Fin 32, v (ix2 ⟨o + x.val, by omega⟩ a) * k2 (ix2 ⟨o + x.val, by omega⟩ b) := by
  pointwise [stp]
  rw [bd_apply, if_pos hab]
  rfl

/-! ## Forward -/

variable (k g u : FVec Ideal S256x256 .f32)

/-- Row `s` of chunk `c`, in column `b`. -/
def row (x : FVec Ideal S256x256 .f32) (b : Fin 256) (c : Fin 8) (s : Fin 32) : EReal := x (ix2 ⟨32 * c.val + s.val, by omega⟩ b)

/-- The same, counted from the sequence's end. -/
def row' (x : FVec Ideal S256x256 .f32) (b : Fin 256) (c : Fin 8) (s : Fin 32) : EReal := x (ix2 ⟨255 - (32 * c.val + s.val), by omega⟩ b)

theorem GF_apply (b : Fin 256) (hg : ∀ x, g (ix2 x b) ≠ (⊤ : EReal)) (c : Fin 8) (s : Fin 32) (n : Fin 256) (hn : n.val = 32 * c.val + s.val) : Gm sumF g (ix2 n b) = cum (row g b c) s := by
  rw [Gm_apply sumF g b sumF_or hg, sum_chunk _ c]
  · refine Finset.sum_congr rfl fun s' _ => ?_
    rw [sumF_apply]
    by_cases h : s' ≤ s
    · have : s'.val ≤ s.val := h
      rw [if_pos ⟨by show n.val / 32 = (32 * c.val + s'.val) / 32; omega, by show 32 * c.val + s'.val ≤ n.val; omega⟩, if_pos h, one_mul]; rfl
    · have : ¬ s'.val ≤ s.val := h
      rw [if_neg (fun e => by have : 32 * c.val + s'.val ≤ n.val := e.2; omega), if_neg h, zero_mul]
  · intro x hx
    rw [sumF_apply, if_neg (fun e => hx (by have := e.1; omega)), zero_mul]

theorem GB_apply (b : Fin 256) (hg : ∀ x, g (ix2 x b) ≠ (⊤ : EReal)) (c : Fin 8) (s : Fin 32) (n : Fin 256) (hn : n.val = 255 - (32 * c.val + s.val)) : Gm sumB g (ix2 n b) = cum (row' g b c) s := by
  rw [Gm_apply sumB g b sumB_or hg, sum_chunk _ (Fin.rev c), ← Equiv.sum_comp Fin.revPerm]
  · refine Finset.sum_congr rfl fun s' _ => ?_
    have hv : 32 * (Fin.rev c).val + (Fin.revPerm s').val = 255 - (32 * c.val + s'.val) := by
      simp only [Fin.revPerm_apply, Fin.val_rev]; omega
    have e : (⟨32 * (Fin.rev c).val + (Fin.revPerm s').val, by omega⟩ : Fin 256) = ⟨255 - (32 * c.val + s'.val), by omega⟩ := Fin.ext hv
    rw [e, sumB_apply]
    by_cases h : s' ≤ s
    · have : s'.val ≤ s.val := h
      rw [if_pos ⟨by show n.val / 32 = (255 - (32 * c.val + s'.val)) / 32; omega, by show n.val ≤ 255 - (32 * c.val + s'.val); omega⟩, if_pos h, one_mul]; rfl
    · have : ¬ s'.val ≤ s.val := h
      rw [if_neg (fun e => by have : n.val ≤ 255 - (32 * c.val + s'.val) := e.2; omega), if_neg h, zero_mul]
  · intro x hx
    rw [sumB_apply, if_neg (fun e => hx (by have := e.1; simp only [Fin.val_rev]; omega)), zero_mul]

theorem stepF (c : Fin 8) (o : ℕ) (ho : o = 32 * c.val) (h1 : S256x256.Slices ![o, 0] S1x256) (h2 : S256x256.Slices ![o, 0] S32x256) (st : FVec Ideal S256x256 .f32)
    (a b : Fin 256) (hab : a.val / 64 = b.val / 64) (hg : ∀ x, g (ix2 x b) ≠ (⊤ : EReal)) :
    stp o h1 h2 (truncf .bf16 u bitsLt_bf16_f32) (kend k (restF (Gm sumF g))) (dec (Gm sumF g) (restF (Gm sumF g))) st (ix2 a b)
      = step (row g b c) (row k b c) (row u a c) (st (ix2 a b)) := by
  subst ho
  rw [stp_apply _ (by omega) h1 h2 _ _ _ _ a b hab, dec_apply, restF_apply, GF_apply g b hg c 0 _ (by simp), GF_apply g b hg c 31 _ (by simp; omega),
    rest_add (g := row g b c) (fun s => hg _) 0, mul_comm]
  unfold step
  refine congrArg _ (Finset.sum_congr rfl fun s _ => ?_)
  rw [kend_apply, restF_apply, GF_apply g b hg c 31 _ (by simp; omega), GF_apply g b hg c s _ (by rfl), mul_comm]
  rfl

theorem stepB (c : Fin 8) (o : ℕ) (ho : o = 224 - 32 * c.val) (h1 : S256x256.Slices ![o, 0] S1x256) (h2 : S256x256.Slices ![o, 0] S32x256) (st : FVec Ideal S256x256 .f32)
    (a b : Fin 256) (hab : a.val / 64 = b.val / 64) (hg : ∀ x, g (ix2 x b) ≠ (⊤ : EReal)) :
    stp o h1 h2 (truncf .bf16 u bitsLt_bf16_f32) (kend k (restB (Gm sumB g))) (dec (Gm sumB g) (restB (Gm sumB g))) st (ix2 a b)
      = step (row' g b c) (row' k b c) (row' u a c) (st (ix2 a b)) := by
  subst ho
  rw [stp_apply _ (by omega) h1 h2 _ _ _ _ a b hab, dec_apply, restB_apply, GB_apply g b hg c 31 _ (by simp), GB_apply g b hg c 31 _ (by simp; omega),
    rest_add (g := row' g b c) (fun s => hg _) 31, mul_comm]
  unfold step
  rw [← Equiv.sum_comp Fin.revPerm]
  refine congrArg _ (Finset.sum_congr rfl fun s _ => ?_)
  have hv : 224 - 32 * c.val + (Fin.revPerm s).val = 255 - (32 * c.val + s.val) := by
    simp only [Fin.revPerm_apply, Fin.val_rev]; omega
  have e : (⟨224 - 32 * c.val + (Fin.revPerm s).val, by omega⟩ : Fin 256) = ⟨255 - (32 * c.val + s.val), by omega⟩ := Fin.ext hv
  rw [e, kend_apply, restB_apply, GB_apply g b hg c 31 _ (by simp; omega), GB_apply g b hg c s _ (by rfl), mul_comm]
  rfl

/-- A chunk adds nothing to an infinite column's state. -/
theorem stepF_inf (o : ℕ) (ho : o + 32 ≤ 256) (h1 : S256x256.Slices ![o, 0] S1x256) (h2 : S256x256.Slices ![o, 0] S32x256) (st : FVec Ideal S256x256 .f32)
    (a b : Fin 256) (hab : a.val / 64 = b.val / 64) (hg : ∀ x, Inf (g (ix2 x b))) (hst : st (ix2 a b) = (0 : EReal)) :
    stp o h1 h2 (truncf .bf16 u bitsLt_bf16_f32) (kend k (restF (Gm sumF g))) (dec (Gm sumF g) (restF (Gm sumF g))) st (ix2 a b) = (0 : EReal) := by
  rw [stp_apply _ ho h1 h2 _ _ _ _ a b hab, hst, zero_mul, zero_add]
  refine Finset.sum_eq_zero fun x _ => ?_
  rw [kend_apply, restF_apply, Gm_inf sumF g b sumF_self hg, Gm_inf sumF g b sumF_self hg, bot_sub, Ideal.exp_bot, mul_zero, mul_zero]

theorem stF_inf (st : FVec Ideal S1x256x256 .f32) (hst : ∀ i, st i = 0) (a b : Fin 256) (hab : a.val / 64 = b.val / 64)
    (hg : ∀ x, Inf (g (ix2 x b))) : stF k g u st (ix3 0 a b) = (0 : EReal) := by
  unfold stF
  pointwise []
  unfold upF
  iterate 8 refine stepF_inf k g u _ (by decide) _ _ _ a b hab hg ?_
  pointwise []
  exact hst _

theorem stF_apply (st : FVec Ideal S1x256x256 .f32) (hst : ∀ i, st i = 0) (a b : Fin 256) (hab : a.val / 64 = b.val / 64)
    (hg : (∀ x, g (ix2 x b) ≠ (⊤ : EReal)) ∨ (∀ x, Inf (g (ix2 x b)))) :
    stF k g u st (ix3 0 a b) = chain (row g b) (row k b) (row u a) := by
  rcases hg with hg | hg
  swap
  · exact (stF_inf k g u st hst a b hab hg).trans (chain_inf (fun c s => hg _) _ _).symm
  unfold stF
  pointwise []
  unfold upF
  rw [stepF k g u 7 224 rfl _ _ _ a b hab hg, stepF k g u 6 192 rfl _ _ _ a b hab hg, stepF k g u 5 160 rfl _ _ _ a b hab hg, stepF k g u 4 128 rfl _ _ _ a b hab hg,
    stepF k g u 3 96 rfl _ _ _ a b hab hg, stepF k g u 2 64 rfl _ _ _ a b hab hg, stepF k g u 1 32 rfl _ _ _ a b hab hg, stepF k g u 0 0 rfl _ _ _ a b hab hg]
  unfold chain
  pointwise []
  rw [hst]

/-- A chunk adds nothing to an infinite column's state. -/
theorem stepB_inf (o : ℕ) (ho : o + 32 ≤ 256) (h1 : S256x256.Slices ![o, 0] S1x256) (h2 : S256x256.Slices ![o, 0] S32x256) (st : FVec Ideal S256x256 .f32)
    (a b : Fin 256) (hab : a.val / 64 = b.val / 64) (hg : ∀ x, Inf (g (ix2 x b))) (hst : st (ix2 a b) = (0 : EReal)) :
    stp o h1 h2 (truncf .bf16 u bitsLt_bf16_f32) (kend k (restB (Gm sumB g))) (dec (Gm sumB g) (restB (Gm sumB g))) st (ix2 a b) = (0 : EReal) := by
  rw [stp_apply _ ho h1 h2 _ _ _ _ a b hab, hst, zero_mul, zero_add]
  refine Finset.sum_eq_zero fun x _ => ?_
  rw [kend_apply, restB_apply, Gm_inf sumB g b sumB_self hg, Gm_inf sumB g b sumB_self hg, bot_sub, Ideal.exp_bot, mul_zero, mul_zero]

theorem stB_inf (st : FVec Ideal S1x256x256 .f32) (hst : ∀ i, st i = 0) (a b : Fin 256) (hab : a.val / 64 = b.val / 64)
    (hg : ∀ x, Inf (g (ix2 x b))) : stB k g u st (ix3 0 a b) = (0 : EReal) := by
  unfold stB
  pointwise []
  unfold upB
  iterate 8 refine stepB_inf k g u _ (by decide) _ _ _ a b hab hg ?_
  pointwise []
  exact hst _

theorem stB_apply (st : FVec Ideal S1x256x256 .f32) (hst : ∀ i, st i = 0) (a b : Fin 256) (hab : a.val / 64 = b.val / 64)
    (hg : (∀ x, g (ix2 x b) ≠ (⊤ : EReal)) ∨ (∀ x, Inf (g (ix2 x b)))) :
    stB k g u st (ix3 0 a b) = chain (row' g b) (row' k b) (row' u a) := by
  rcases hg with hg | hg
  swap
  · exact (stB_inf k g u st hst a b hab hg).trans (chain_inf (fun c s => hg _) _ _).symm
  unfold stB
  pointwise []
  unfold upB
  rw [stepB k g u 7 0 rfl _ _ _ a b hab hg, stepB k g u 6 32 rfl _ _ _ a b hab hg, stepB k g u 5 64 rfl _ _ _ a b hab hg, stepB k g u 4 96 rfl _ _ _ a b hab hg,
    stepB k g u 3 128 rfl _ _ _ a b hab hg, stepB k g u 2 160 rfl _ _ _ a b hab hg, stepB k g u 1 192 rfl _ _ _ a b hab hg, stepB k g u 0 224 rfl _ _ _ a b hab hg]
  unfold chain
  pointwise []
  rw [hst]

end Cert.Kernel5Ideal.Hgrn

end
-- ==== Proof.HgRef.lean ====
module

public import proofs.«01_k».proof.Proof.HgMath
public import proofs.«01_k».proof.Proof.Gen.Reference5Ideal.Read
public import Idealize.ShloMosaic.Lib.Pointwise

@[expose] public section

set_option maxRecDepth 16384

noncomputable section

/-! # The reference's states, entry by entry -/

namespace Cert.Reference5Ideal.RefValue

open Cert.Reference5Ideal Cert.Reference5Ideal.Gen Cert.Reference5Ideal.Read Idealize.ShloMosaic Cert.HgMath

/-- The positions of a window of 32 rows. -/
def winEquiv : Fin 32 ≃ (⟨5, ![1, 1, 1, 32, 1]⟩ : Shape).Idx where
  toFun w := ix5 (0 : Fin 1) (0 : Fin 1) (0 : Fin 1) w (0 : Fin 1)
  invFun i := i 3
  left_inv _ := rfl
  right_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

/-- `cumsum` along the rows of a chunk. -/
theorem cumsum_apply (x : FVec Ideal S8x32x4x32x64 .f32) (init : FVec Ideal S_ .f32) (hinit : ∀ i, init i = (0 : EReal)) (h) (hu)
    (j : Fin 8) (b : Fin 32) (d : Fin 4) (s : Fin 32) (e : Fin 64) :
    Host.reduceWindowAdd (F := Ideal) ![1, 1, 1, 32, 1] ![1, 1, 1, 1, 1] ![0, 0, 0, 31, 0] ![0, 0, 0, 0, 0] x init h hu (ix5 j b d s e)
      = cum (fun s' => x (ix5 j b d s' e)) s := by
  let F : (⟨5, ![1, 1, 1, 32, 1]⟩ : Shape).Idx → EReal := fun q =>
    let p : Fin 5 → ℕ := fun a => (ix5 j b d s e a).val * (![1, 1, 1, 1, 1] : Fin 5 → ℕ) a + (q a).val
    if hin : ∀ a : Fin 5, (![0, 0, 0, 31, 0] : Fin 5 → ℕ) a ≤ p a ∧ p a - (![0, 0, 0, 31, 0] : Fin 5 → ℕ) a < S8x32x4x32x64.size a
      then x (fun a => ⟨p a - (![0, 0, 0, 31, 0] : Fin 5 → ℕ) a, (hin a).2⟩) else init (Shape.Idx.first hu)
  have e1 : Host.reduceWindowAdd (F := Ideal) ![1, 1, 1, 32, 1] ![1, 1, 1, 1, 1] ![0, 0, 0, 31, 0] ![0, 0, 0, 0, 0] x init h hu (ix5 j b d s e)
      = (List.finRange (⟨5, ![1, 1, 1, 32, 1]⟩ : Shape).numel).foldl (fun a i => a + F ((⟨5, ![1, 1, 1, 32, 1]⟩ : Shape).rowMajor.symm i))
          (init (Shape.Idx.first hu)) := by
    unfold Host.reduceWindowAdd
    rw [Ideal.hostReduceWindowAdd_def]
    unfold Ideal.hostReduceWindowAdd Host.reduceWindow
    refine congrArg (fun f => List.foldl f (init (Shape.Idx.first hu)) (List.finRange (⟨5, ![1, 1, 1, 32, 1]⟩ : Shape).numel)) (funext fun a => funext fun i => congrArg (a + ·) ?_)
    exact dite_congr rfl (fun _ => rfl) (fun _ => rfl)
  rw [e1, hinit, ← sum_idx_eq_foldl, ← Equiv.sum_comp winEquiv F]
  unfold cum
  refine Fintype.sum_equiv (Equiv.addRight (s + 1)) _ _ fun w => ?_
  have hw := w.isLt
  have hs := s.isLt
  have hv : ((Equiv.addRight (s + 1)) w).val = (w.val + s.val + 1) % 32 := by
    simp only [Equiv.coe_addRight, Fin.val_add]
    omega
  show F (ix5 (0 : Fin 1) (0 : Fin 1) (0 : Fin 1) w (0 : Fin 1)) = _
  dsimp only [F]
  by_cases hin : 31 ≤ s.val + w.val
  · rw [if_pos (Fin.le_def.2 (by rw [hv]; omega)), dif_pos]
    · refine congrArg x (funext fun a => Fin.ext ?_)
      match a with
      | ⟨0, _⟩ => show j.val * 1 + 0 - 0 = j.val; omega
      | ⟨1, _⟩ => show b.val * 1 + 0 - 0 = b.val; omega
      | ⟨2, _⟩ => show d.val * 1 + 0 - 0 = d.val; omega
      | ⟨3, _⟩ => show s.val * 1 + w.val - 31 = ((Equiv.addRight (s + 1)) w).val; rw [hv]; omega
      | ⟨4, _⟩ => show e.val * 1 + 0 - 0 = e.val; omega
    · intro a
      match a with
      | ⟨0, _⟩ => show 0 ≤ j.val * 1 + 0 ∧ j.val * 1 + 0 - 0 < 8; omega
      | ⟨1, _⟩ => show 0 ≤ b.val * 1 + 0 ∧ b.val * 1 + 0 - 0 < 32; omega
      | ⟨2, _⟩ => show 0 ≤ d.val * 1 + 0 ∧ d.val * 1 + 0 - 0 < 4; omega
      | ⟨3, _⟩ => show 31 ≤ s.val * 1 + w.val ∧ s.val * 1 + w.val - 31 < 32; omega
      | ⟨4, _⟩ => show 0 ≤ e.val * 1 + 0 ∧ e.val * 1 + 0 - 0 < 64; omega
  · rw [if_neg (fun q => by have := Fin.le_def.1 q; rw [hv] at this; omega), dif_neg, hinit]
    intro q
    have h3 : 31 ≤ s.val * 1 + w.val := (q 3).1
    omega

/-- A sequence's rows cut into chunks. -/
def ch (X : FVec Ideal S32x256x4x64 .f32) : FVec Ideal S8x32x4x32x64 .f32 :=
  transpose S8x32x4x32x64 [1, 0, 3, 2, 4] (shapeCast S32x8x32x4x64 X shapeCasts_S32x256x4x64_S32x8x32x4x64) transposes_S32x8x32x4x64_S8x32x4x32x64_1_0_3_2_4

def csum (G : FVec Ideal S32x256x4x64 .f32) : FVec Ideal S8x32x4x32x64 .f32 :=
  Host.reduceWindowAdd ![1, 1, 1, 32, 1] ![1, 1, 1, 1, 1] ![0, 0, 0, 31, 0] ![0, 0, 0, 0, 0] (ch G) (val_main_call0_call0_v0 (F := Ideal))
    reduceWindows_S8x32x4x32x64_S8x32x4x32x64_w1s1p0_0_w1s1p0_0_w1s1p0_0_w32s1p31_0_w1s1p0_0 h_S_

def last (G : FVec Ideal S32x256x4x64 .f32) : FVec Ideal S8x32x4x1x64 .f32 :=
  extractStridedSlice S8x32x4x1x64 ![0, 0, 0, 31, 0] (csum G) slices_S8x32x4x32x64_S8x32x4x1x64_0_0_0_31_0

def kd (K G : FVec Ideal S32x256x4x64 .f32) : FVec Ideal S8x32x4x32x64 .f32 :=
  mulf (ch K) (Host.exp (subf (broadcastInDim S8x32x4x32x64 ![0, 1, 2, 3, 4] bcast_S8x32x4x1x64_S8x32x4x32x64_0_1_2_3_4 (last G)) (csum G)))

def dc (G : FVec Ideal S32x256x4x64 .f32) : FVec Ideal S8x32x4x64 .f32 := Host.exp (shapeCast S8x32x4x64 (last G) shapeCasts_S8x32x4x1x64_S8x32x4x64)

def stp (n : ℕ) (h1 : S8x32x4x64.Slices ![n, 0, 0, 0] S1x32x4x64) (h2 : S8x32x4x32x64.Slices ![n, 0, 0, 0, 0] S1x32x4x32x64)
    (D : FVec Ideal S8x32x4x64 .f32) (K V : FVec Ideal S8x32x4x32x64 .f32) (P : FVec Ideal S32x4x64x64 .f32) : FVec Ideal S32x4x64x64 .f32 :=
  addf (mulf (broadcastInDim S32x4x64x64 ![0, 1, 2, 3] bcast_S32x4x64x1_S32x4x64x64_0_1_2_3 (broadcastInDim S32x4x64x1 ![0, 1, 2] bcast_S32x4x64_S32x4x64x1_0_1_2
      (shapeCast S32x4x64 (extractStridedSlice S1x32x4x64 ![n, 0, 0, 0] D h1) shapeCasts_S1x32x4x64_S32x4x64))) P)
    (Host.dotGeneral dot_S32x4x32x64_S32x4x32x64_S32x4x64x64_2_2_3_3_01_01 none
      (shapeCast S32x4x32x64 (extractStridedSlice S1x32x4x32x64 ![n, 0, 0, 0, 0] K h2) shapeCasts_S1x32x4x32x64_S32x4x32x64)
      (shapeCast S32x4x32x64 (extractStridedSlice S1x32x4x32x64 ![n, 0, 0, 0, 0] V h2) shapeCasts_S1x32x4x32x64_S32x4x32x64))

def fin (K V G : FVec Ideal S32x256x4x64 .f32) (P : FVec Ideal S32x4x64x64 .f32) : FVec Ideal S32x4x64x64 .f32 :=
  stp 7 slices_S8x32x4x64_S1x32x4x64_7_0_0_0 slices_S8x32x4x32x64_S1x32x4x32x64_7_0_0_0_0 (dc G) (kd K G) (ch V) <|
  stp 6 slices_S8x32x4x64_S1x32x4x64_6_0_0_0 slices_S8x32x4x32x64_S1x32x4x32x64_6_0_0_0_0 (dc G) (kd K G) (ch V) <|
  stp 5 slices_S8x32x4x64_S1x32x4x64_5_0_0_0 slices_S8x32x4x32x64_S1x32x4x32x64_5_0_0_0_0 (dc G) (kd K G) (ch V) <|
  stp 4 slices_S8x32x4x64_S1x32x4x64_4_0_0_0 slices_S8x32x4x32x64_S1x32x4x32x64_4_0_0_0_0 (dc G) (kd K G) (ch V) <|
  stp 3 slices_S8x32x4x64_S1x32x4x64_3_0_0_0 slices_S8x32x4x32x64_S1x32x4x32x64_3_0_0_0_0 (dc G) (kd K G) (ch V) <|
  stp 2 slices_S8x32x4x64_S1x32x4x64_2_0_0_0 slices_S8x32x4x32x64_S1x32x4x32x64_2_0_0_0_0 (dc G) (kd K G) (ch V) <|
  stp 1 slices_S8x32x4x64_S1x32x4x64_1_0_0_0 slices_S8x32x4x32x64_S1x32x4x32x64_1_0_0_0_0 (dc G) (kd K G) (ch V) <|
  stp 0 slices_S8x32x4x64_S1x32x4x64_0_0_0_0 slices_S8x32x4x32x64_S1x32x4x32x64_0_0_0_0_0 (dc G) (kd K G) (ch V) P

theorem v151_fin (x0 : FVec Ideal S10240x1280 .f32) (x1 : FVec Ideal S256 .f32) :
    val_main_v151 (F := Ideal) x0 x1 = fin (val_main_v24 (F := Ideal) x0 x1) (val_main_v7 (F := Ideal) x0) (val_main_v26 (F := Ideal) x0 x1) (val_main_v48 (F := Ideal)) := rfl

theorem v259_fin (x0 : FVec Ideal S10240x1280 .f32) (x2 : FVec Ideal S256 .f32) :
    val_main_v259 (F := Ideal) x0 x2 = fin (val_main_v152 (F := Ideal) x0 x2) (val_main_v153 (F := Ideal) x0) (val_main_v154 (F := Ideal) x0 x2) (val_main_v156 (F := Ideal)) := rfl

theorem ch_apply (X : FVec Ideal S32x256x4x64 .f32) (j : Fin 8) (b : Fin 32) (d : Fin 4) (s : Fin 32) (e : Fin 64) :
    ch X (ix5 j b d s e) = X (ix4 b ⟨j.val * 32 + s.val, by omega⟩ d e) := by
  pointwise [ch]

theorem csum_apply (G : FVec Ideal S32x256x4x64 .f32) (j : Fin 8) (b : Fin 32) (d : Fin 4) (s : Fin 32) (e : Fin 64) :
    csum G (ix5 j b d s e) = cum (fun s' => G (ix4 b ⟨j.val * 32 + s'.val, by omega⟩ d e)) s := by
  unfold csum
  rw [cumsum_apply _ _ (fun i => by pointwise [val_main_call0_call0_v0, val_main_call0_call0_cst])]
  simp only [ch_apply]

theorem last_apply (G : FVec Ideal S32x256x4x64 .f32) (j : Fin 8) (b : Fin 32) (d : Fin 4) (s : Fin 1) (e : Fin 64) :
    last G (ix5 j b d s e) = cum (fun s' => G (ix4 b ⟨j.val * 32 + s'.val, by omega⟩ d e)) 31 := by
  rw [← csum_apply]
  pointwise [last]

theorem kd_apply (K G : FVec Ideal S32x256x4x64 .f32) (j : Fin 8) (b : Fin 32) (d : Fin 4) (s : Fin 32) (e : Fin 64) :
    kd K G (ix5 j b d s e) = K (ix4 b ⟨j.val * 32 + s.val, by omega⟩ d e) * Ideal.exp (cum (fun s' => G (ix4 b ⟨j.val * 32 + s'.val, by omega⟩ d e)) 31
      - cum (fun s' => G (ix4 b ⟨j.val * 32 + s'.val, by omega⟩ d e)) s) := by
  rw [← csum_apply G j b d s e, ← last_apply G j b d 0 e, ← ch_apply K j b d s e]
  pointwise [kd]

theorem dc_apply (G : FVec Ideal S32x256x4x64 .f32) (j : Fin 8) (b : Fin 32) (d : Fin 4) (e : Fin 64) :
    dc G (ix4 j b d e) = Ideal.exp (cum (fun s' => G (ix4 b ⟨j.val * 32 + s'.val, by omega⟩ d e)) 31) := by
  rw [← last_apply G j b d 0 e]
  pointwise [dc]

theorem stp_apply (n : ℕ) (j : Fin 8) (hn : n = j.val) (h1) (h2) (K V G : FVec Ideal S32x256x4x64 .f32) (P : FVec Ideal S32x4x64x64 .f32)
    (b : Fin 32) (d : Fin 4) (e e' : Fin 64) :
    stp n h1 h2 (dc G) (kd K G) (ch V) P (ix4 b d e e')
      = step (fun s => G (ix4 b ⟨j.val * 32 + s.val, by omega⟩ d e)) (fun s => K (ix4 b ⟨j.val * 32 + s.val, by omega⟩ d e))
          (fun s => V (ix4 b ⟨j.val * 32 + s.val, by omega⟩ d e')) (P (ix4 b d e e')) := by
  subst hn
  unfold step
  pointwise [stp]
  simp only [dc_apply, kd_apply, ch_apply]

theorem fin_apply (K V G : FVec Ideal S32x256x4x64 .f32) (P : FVec Ideal S32x4x64x64 .f32) (b : Fin 32) (d : Fin 4) (e e' : Fin 64)
    (hP : P (ix4 b d e e') = 0) :
    fin K V G P (ix4 b d e e')
      = chain (fun j s => G (ix4 b ⟨j.val * 32 + s.val, by omega⟩ d e)) (fun j s => K (ix4 b ⟨j.val * 32 + s.val, by omega⟩ d e))
          (fun j s => V (ix4 b ⟨j.val * 32 + s.val, by omega⟩ d e')) := by
  unfold fin chain
  rw [stp_apply 7 7 rfl, stp_apply 6 6 rfl, stp_apply 5 5 rfl, stp_apply 4 4 rfl, stp_apply 3 3 rfl, stp_apply 2 2 rfl, stp_apply 1 1 rfl, stp_apply 0 0 rfl, hP]

/-! ## The gates -/

section

variable (x0 : FVec Ideal S10240x1280 .f32) (x1 x2 : FVec Ideal S256 .f32)

theorem f_apply (b : Fin 32) (r n : Fin 256) : val_main_v21 (F := Ideal) x0 x1 (ix3 b r n)
    = gate (x1 (ix1 n)) (x0 (ix2 ⟨b.val * 256 + r.val, by omega⟩ ⟨256 + n.val, by omega⟩)) := by
  pointwise [val_main_v21, val_main_v20, val_main_v19, val_main_v18, val_main_v17, val_main_v16, val_main_v15, val_main_v14, val_main_v13, val_main_v12, val_main_v11, val_main_v10, val_main_v9, val_main_v8, val_main_v3, val_main_v1, val_main_v0, val_main_cst, val_main_cst_0, val_main_cst_1]
  unfold gate Ideal.logistic
  rfl

theorem fb_apply (b : Fin 32) (r n : Fin 256) : val_main_v40 (F := Ideal) x0 x2 (ix3 b r n)
    = gate (x2 (ix1 n)) (x0 (ix2 ⟨b.val * 256 + r.val, by omega⟩ ⟨512 + n.val, by omega⟩)) := by
  pointwise [val_main_v40, val_main_v39, val_main_v38, val_main_v37, val_main_v36, val_main_v35, val_main_v34, val_main_v33, val_main_v32, val_main_v31, val_main_v30, val_main_v29, val_main_v28, val_main_v27, val_main_v4, val_main_v1, val_main_v0, val_main_cst_3, val_main_cst_4, val_main_cst_5]
  unfold gate Ideal.logistic
  rfl

theorem i_apply (b : Fin 32) (r : Fin 256) (d : Fin 4) (e : Fin 64) : val_main_v7 (F := Ideal) x0 (ix4 b r d e)
    = x0 (ix2 ⟨b.val * 256 + r.val, by omega⟩ ⟨768 + (d.val * 64 + e.val), by omega⟩) := by
  pointwise [val_main_v7, val_main_v5, val_main_v1, val_main_v0]

theorem k_apply (b : Fin 32) (r : Fin 256) (d : Fin 4) (e : Fin 64) : val_main_v24 (F := Ideal) x0 x1 (ix4 b r d e)
    = 1 - val_main_v21 (F := Ideal) x0 x1 (ix3 b r ⟨d.val * 64 + e.val, by omega⟩) := by
  pointwise [val_main_v24, val_main_v23, val_main_v22, val_main_cst_2]

theorem g_apply (b : Fin 32) (r : Fin 256) (d : Fin 4) (e : Fin 64) : val_main_v26 (F := Ideal) x0 x1 (ix4 b r d e)
    = Ideal.log (val_main_v21 (F := Ideal) x0 x1 (ix3 b r ⟨d.val * 64 + e.val, by omega⟩)) := by
  pointwise [val_main_v26, val_main_v25]

theorem kb_apply (b : Fin 32) (r : Fin 256) (d : Fin 4) (e : Fin 64) : val_main_v152 (F := Ideal) x0 x2 (ix4 b r d e)
    = 1 - val_main_v40 (F := Ideal) x0 x2 (ix3 b r.rev ⟨d.val * 64 + e.val, by omega⟩) := by
  pointwise [val_main_v152, val_main_v43, val_main_v42, val_main_v41, val_main_cst_6]
  rfl

theorem gb_apply (b : Fin 32) (r : Fin 256) (d : Fin 4) (e : Fin 64) : val_main_v154 (F := Ideal) x0 x2 (ix4 b r d e)
    = Ideal.log (val_main_v40 (F := Ideal) x0 x2 (ix3 b r.rev ⟨d.val * 64 + e.val, by omega⟩)) := by
  pointwise [val_main_v154, val_main_v45, val_main_v44]
  rfl

theorem ib_apply (b : Fin 32) (r : Fin 256) (d : Fin 4) (e : Fin 64) : val_main_v153 (F := Ideal) x0 (ix4 b r d e)
    = val_main_v7 (F := Ideal) x0 (ix4 b r.rev d e) := by
  pointwise [val_main_v153]
  rfl

/-- Row `s` of chunk `j`, of a sequence read forward. -/
def rowF (j : Fin 8) (s : Fin 32) : Fin 256 := ⟨j.val * 32 + s.val, by omega⟩

/-- Row `s` of chunk `j`, of a sequence read backward. -/
def rowB (j : Fin 8) (s : Fin 32) : Fin 256 := (rowF j s).rev

/-- One entry of a state: the gates from the columns at `o`, the rows of sequence `b` in the order `r`. -/
def state (lb : FVec Ideal S256 .f32) (o : ℕ) (ho : o + 256 ≤ 1280) (r : Fin 8 → Fin 32 → Fin 256) (b : Fin 32) (d : Fin 4) (e e' : Fin 64) : EReal :=
  chain (fun j s => Ideal.log (gate (lb (ix1 ⟨d.val * 64 + e.val, by omega⟩)) (x0 (ix2 ⟨b.val * 256 + (r j s).val, by omega⟩ ⟨o + (d.val * 64 + e.val), by omega⟩))))
    (fun j s => 1 - gate (lb (ix1 ⟨d.val * 64 + e.val, by omega⟩)) (x0 (ix2 ⟨b.val * 256 + (r j s).val, by omega⟩ ⟨o + (d.val * 64 + e.val), by omega⟩)))
    (fun j s => x0 (ix2 ⟨b.val * 256 + (r j s).val, by omega⟩ ⟨768 + (d.val * 64 + e'.val), by omega⟩))

theorem forward_apply (b : Fin 32) (d : Fin 4) (e e' : Fin 64) :
    val_main_v262 (F := Ideal) x0 x1 x2 (ix5 b 0 d e e') = state x0 x1 256 (by decide) rowF b d e e' := by
  refine Eq.trans (b := val_main_v151 (F := Ideal) x0 x1 (ix4 b d e e')) (by pointwise [val_main_v262, val_main_v260]) ?_
  rw [v151_fin, fin_apply _ _ _ _ _ _ _ _ (by pointwise [val_main_v48, val_main_v47, val_main_v46, val_main_cst_7])]
  simp only [k_apply, g_apply, i_apply, f_apply]
  rfl

theorem backward_apply (b : Fin 32) (d : Fin 4) (e e' : Fin 64) :
    val_main_v262 (F := Ideal) x0 x1 x2 (ix5 b 1 d e e') = state x0 x2 512 (by decide) rowB b d e e' := by
  refine Eq.trans (b := val_main_v259 (F := Ideal) x0 x2 (ix4 b d e e')) (by pointwise [val_main_v262, val_main_v261]) ?_
  rw [v259_fin, fin_apply _ _ _ _ _ _ _ _ (by pointwise [val_main_v156, val_main_v155, val_main_v46, val_main_cst_7])]
  simp only [kb_apply, gb_apply, ib_apply, i_apply, fb_apply]
  rfl

end

end Cert.Reference5Ideal.RefValue

end
-- ==== Proof.HgValue.lean ====
module

public import proofs.«01_k».proof.Proof.HgBlock
public import proofs.«01_k».proof.Proof.HgSum
public import proofs.«01_k».proof.Proof.HgRef
public import proofs.«01_k».proof.Proof.Gen.Kernel5Ideal.Frame
public import Idealize.ShloMosaic.Lib.Pointwise
public import Idealize.ShloMosaic.Init

@[expose] public section

set_option maxRecDepth 16384

noncomputable section

/-! # The recurrence's states

A grid point's block is the states of four sequences, each the transpose of the reference's. -/

namespace Cert.Kernel5Ideal.Hgrn

open Cert.Kernel5Ideal Cert.Kernel5Ideal.Gen Idealize.ShloMosaic Idealize.ShloMosaic.TcCoe Idealize.SL.Sem Cert.HgMath Cert.MlaMath
open Cert.Reference5Ideal.RefValue (state rowF rowB forward_apply backward_apply)
open Cert.Reference5Ideal.Read (val_main_v262)

/-! ## The gates of a block -/

theorem colF_apply (x : FVec Ideal S1024x1280 .f32) (r : Fin 1024) (n : Fin 256) : colF x (ix2 r n) = x (ix2 r ⟨256 + n.val, by omega⟩) := by
  show x _ = x _
  congr 1
  funext a
  fin_cases a <;> apply Fin.ext <;> simp [Rect.unit, Rect.emb, ix2]

theorem colB_apply (x : FVec Ideal S1024x1280 .f32) (r : Fin 1024) (n : Fin 256) : colB x (ix2 r n) = x (ix2 r ⟨512 + n.val, by omega⟩) := by
  show x _ = x _
  congr 1
  funext a
  fin_cases a <;> apply Fin.ext <;> simp [Rect.unit, Rect.emb, ix2]

section

variable (x0 : FVec Ideal S1024x1280 .f32) (x1 : FVec Ideal S1x256 .f32) (r : Fin 1024) (n : Fin 256)

theorem keyF : k0_pay4 (F := Ideal) x1 x1 (colF x0) (ix2 r n) = 1 - gate (x1 (ix2 0 n)) (x0 (ix2 r ⟨256 + n.val, by omega⟩)) := by
  rw [← colF_apply x0 r n]
  unfold k0_pay4 k0_pay3
  pointwise
  rfl

theorem logF : k0_pay5 (F := Ideal) x1 x1 (colF x0) (ix2 r n) = Ideal.log (gate (x1 (ix2 0 n)) (x0 (ix2 r ⟨256 + n.val, by omega⟩))) := by
  rw [← colF_apply x0 r n]
  unfold k0_pay5 k0_pay3
  pointwise
  rfl

theorem keyB : k0_pay9 (F := Ideal) (k0_pay6 x1) (k0_pay7 x1) (colB x0) (ix2 r n) = 1 - gate (x1 (ix2 0 n)) (x0 (ix2 r ⟨512 + n.val, by omega⟩)) := by
  rw [← colB_apply x0 r n]
  unfold k0_pay9 k0_pay8 k0_pay7 k0_pay6
  pointwise
  rfl

theorem logB : k0_pay10 (F := Ideal) (k0_pay6 x1) (k0_pay7 x1) (colB x0) (ix2 r n) = Ideal.log (gate (x1 (ix2 0 n)) (x0 (ix2 r ⟨512 + n.val, by omega⟩))) := by
  rw [← colB_apply x0 r n]
  unfold k0_pay10 k0_pay8 k0_pay7 k0_pay6
  pointwise
  rfl

end

theorem zero_apply (i : S1x256x256.Idx) : zero i = (0 : EReal) := by
  pointwise [zero]

variable (m : (ℓ : Loc nD τ sig) → Buf (Elt Ideal) ℓ)

/-! ## A grid point's arguments -/

theorem V_u (c : Dev nD) : V m c main_arg0 = m ((c : Thread nD τ).loc main_arg0) := by
  show StableHlo.after hostOps0 _ (Proc.devRef .tc main_arg0) = _
  after_results

theorem V_f (c : Dev nD) : V m c main_v0 = broadcastInDim S1x256 ![1] bcast_S256_S1x256_1 (m ((c : Thread nD τ).loc main_arg1)) := by
  show StableHlo.after hostOps0 _ (Proc.devRef .tc main_v0) = _
  after_results

theorem V_b (c : Dev nD) : V m c main_v1 = broadcastInDim S1x256 ![1] bcast_S256_S1x256_1 (m ((c : Thread nD τ).loc main_arg2)) := by
  show StableHlo.after hostOps0 _ (Proc.devRef .tc main_v1) = _
  after_results

theorem point_lt (t : Fin cfg0.N) : t.val < 8 := lt_of_lt_of_eq t.isLt N_0

theorem idx_all : ∀ t : Fin grid0.N, win0_0.index t 0 = t.val ∧ win0_0.index t 1 = 0
    ∧ win0_1.index t 0 = 0 ∧ win0_1.index t 1 = 0 ∧ win0_2.index t 0 = 0 ∧ win0_2.index t 1 = 0
    ∧ win0_5.index t 0 = t.val ∧ win0_5.index t 1 = 0 ∧ win0_5.index t 2 = 0 ∧ win0_5.index t 3 = 0 ∧ win0_5.index t 4 = 0 := by
  decide +kernel

/-- The three arguments the states depend on. -/
abbrev U (c : Dev nD) : FVec Ideal S10240x1280 .f32 := m ((c : Thread nD τ).loc main_arg0)
abbrev LF (c : Dev nD) : FVec Ideal S256 .f32 := m ((c : Thread nD τ).loc main_arg1)
abbrev LB (c : Dev nD) : FVec Ideal S256 .f32 := m ((c : Thread nD τ).loc main_arg2)

theorem blk0 (c : Dev nD) (t : Fin cfg0.N) (r : Fin 1024) (k : Fin 1280) :
    iblk m c 0 t (ix2 r k) = U m c (ix2 ⟨t.val * 1024 + r.val, by have := point_lt t; omega⟩ k) := by
  refine Eq.trans ?_ (congrFun (V_u m c) _)
  have h := idx_all t
  refine congrArg (V m c main_arg0) (funext fun a => Fin.ext ?_)
  match a with
  | ⟨0, _⟩ => show win0_0.index t 0 * 1024 + 1 * r.val = t.val * 1024 + r.val; rw [h.1]; omega
  | ⟨1, _⟩ => show win0_0.index t 1 * 1280 + 1 * k.val = k.val; rw [h.2.1]; omega

theorem row_apply (y : FVec Ideal S256 .f32) (k : Fin 256) : broadcastInDim S1x256 ![1] bcast_S256_S1x256_1 y (ix2 0 k) = y (ix1 k) := by
  pointwise

theorem blk1 (c : Dev nD) (t : Fin cfg0.N) (k : Fin 256) : iblk m c 1 t (ix2 0 k) = LF m c (ix1 k) := by
  refine Eq.trans ?_ (row_apply _ k)
  refine Eq.trans ?_ (congrFun (V_f m c) _)
  have h := idx_all t
  refine congrArg (V m c main_v0) (funext fun a => Fin.ext ?_)
  match a with
  | ⟨0, _⟩ => show win0_1.index t 0 * 1 + 1 * 0 = 0; rw [h.2.2.1]
  | ⟨1, _⟩ => show win0_1.index t 1 * 256 + 1 * k.val = k.val; rw [h.2.2.2.1]; omega

theorem blk2 (c : Dev nD) (t : Fin cfg0.N) (k : Fin 256) : iblk m c 2 t (ix2 0 k) = LB m c (ix1 k) := by
  refine Eq.trans ?_ (row_apply _ k)
  refine Eq.trans ?_ (congrFun (V_b m c) _)
  have h := idx_all t
  refine congrArg (V m c main_v1) (funext fun a => Fin.ext ?_)
  match a with
  | ⟨0, _⟩ => show win0_2.index t 0 * 1 + 1 * 0 = 0; rw [h.2.2.2.2.1]
  | ⟨1, _⟩ => show win0_2.index t 1 * 256 + 1 * k.val = k.val; rw [h.2.2.2.2.2.1]; omega

theorem gateF (c : Dev nD) (t : Fin cfg0.N) (r : Fin 1024) (n : Fin 256) :
    k0_pay4 (F := Ideal) (iblk m c 1 t) (iblk m c 1 t) (colF (iblk m c 0 t)) (ix2 r n)
        = 1 - gate (LF m c (ix1 n)) (U m c (ix2 ⟨t.val * 1024 + r.val, by have := point_lt t; omega⟩ ⟨256 + n.val, by omega⟩))
      ∧ k0_pay5 (F := Ideal) (iblk m c 1 t) (iblk m c 1 t) (colF (iblk m c 0 t)) (ix2 r n)
        = Ideal.log (gate (LF m c (ix1 n)) (U m c (ix2 ⟨t.val * 1024 + r.val, by have := point_lt t; omega⟩ ⟨256 + n.val, by omega⟩))) := by
  rw [keyF, logF, blk1, blk0]
  exact ⟨rfl, rfl⟩

theorem gateB (c : Dev nD) (t : Fin cfg0.N) (r : Fin 1024) (n : Fin 256) :
    k0_pay9 (F := Ideal) (k0_pay6 (iblk m c 2 t)) (k0_pay7 (iblk m c 2 t)) (colB (iblk m c 0 t)) (ix2 r n)
        = 1 - gate (LB m c (ix1 n)) (U m c (ix2 ⟨t.val * 1024 + r.val, by have := point_lt t; omega⟩ ⟨512 + n.val, by omega⟩))
      ∧ k0_pay10 (F := Ideal) (k0_pay6 (iblk m c 2 t)) (k0_pay7 (iblk m c 2 t)) (colB (iblk m c 0 t)) (ix2 r n)
        = Ideal.log (gate (LB m c (ix1 n)) (U m c (ix2 ⟨t.val * 1024 + r.val, by have := point_lt t; omega⟩ ⟨512 + n.val, by omega⟩))) := by
  rw [keyB, logB, blk2, blk0]
  exact ⟨rfl, rfl⟩

/-! ## A sequence's states -/

theorem at2 {a a' : Fin 10240} {b b' : Fin 1280} (x : FVec Ideal S10240x1280 .f32) (ha : a.val = a'.val) (hb : b.val = b'.val) :
    x (ix2 a b) = x (ix2 a' b') := by
  obtain rfl := Fin.ext ha
  obtain rfl := Fin.ext hb
  rfl

theorem at1 {a a' : Fin 256} (x : FVec Ideal S256 .f32) (ha : a.val = a'.val) : x (ix1 a) = x (ix1 a') := by
  obtain rfl := Fin.ext ha
  rfl

variable {m}

theorem S_forward (c : Dev nD) (t : Fin cfg0.N) (j h : Fin 4) (a e : Fin 64) :
    S (iblk m c 0 t) (iblk m c 1 t) (iblk m c 2 t) j 0 (ix3 0 ⟨64 * h.val + a.val, by omega⟩ ⟨64 * h.val + e.val, by omega⟩)
      = state (U m c) (LF m c) 256 (by decide) rowF ⟨t.val * 4 + j.val, by have := point_lt t; omega⟩ h e a := by
  have ht := point_lt t
  refine (stF_apply _ _ _ zero zero_apply _ _ (by show (64 * h.val + a.val) / 64 = (64 * h.val + e.val) / 64; omega) ?_).trans ?_
  · refine (log_gate (LF m c (ix1 ⟨64 * h.val + e.val, by omega⟩))).imp (fun H x => ?_) (fun H x => ?_)
    · unfold blk
      exact fun e => H _ ((gateF m c t _ _).2.symm.trans e)
    · unfold blk
      exact (H _).imp (gateF m c t _ _).2.trans (gateF m c t _ _).2.trans
  · unfold state
    congr 1
    · funext p s
      unfold row blk
      refine (gateF m c t _ _).2.trans (congrArg Ideal.log (congrArg₂ gate (at1 _ ?_) (at2 _ ?_ ?_))) <;> simp [rowF] <;> omega
    · funext p s
      unfold row blk
      refine (gateF m c t _ _).1.trans (congrArg (1 - ·) (congrArg₂ gate (at1 _ ?_) (at2 _ ?_ ?_))) <;> simp [rowF] <;> omega
    · funext p s
      unfold row ublk
      refine (blk0 m c t _ _).trans (at2 _ ?_ ?_) <;> simp [rowF] <;> omega

theorem S_backward (c : Dev nD) (t : Fin cfg0.N) (j h : Fin 4) (a e : Fin 64) :
    S (iblk m c 0 t) (iblk m c 1 t) (iblk m c 2 t) j 1 (ix3 0 ⟨64 * h.val + a.val, by omega⟩ ⟨64 * h.val + e.val, by omega⟩)
      = state (U m c) (LB m c) 512 (by decide) rowB ⟨t.val * 4 + j.val, by have := point_lt t; omega⟩ h e a := by
  have ht := point_lt t
  refine (stB_apply _ _ _ zero zero_apply _ _ (by show (64 * h.val + a.val) / 64 = (64 * h.val + e.val) / 64; omega) ?_).trans ?_
  · refine (log_gate (LB m c (ix1 ⟨64 * h.val + e.val, by omega⟩))).imp (fun H x => ?_) (fun H x => ?_)
    · unfold blk
      exact fun e => H _ ((gateB m c t _ _).2.symm.trans e)
    · unfold blk
      exact (H _).imp (gateB m c t _ _).2.trans (gateB m c t _ _).2.trans
  · unfold state
    congr 1
    · funext p s
      unfold row' blk
      refine (gateB m c t _ _).2.trans (congrArg Ideal.log (congrArg₂ gate (at1 _ ?_) (at2 _ ?_ ?_))) <;> simp [rowB, rowF] <;> omega
    · funext p s
      unfold row' blk
      refine (gateB m c t _ _).1.trans (congrArg (1 - ·) (congrArg₂ gate (at1 _ ?_) (at2 _ ?_ ?_))) <;> simp [rowB, rowF] <;> omega
    · funext p s
      unfold row' ublk
      refine (blk0 m c t _ _).trans (at2 _ ?_ ?_) <;> simp [rowB, rowF] <;> omega

/-! ## The array -/

variable (m) in
/-- Entry `(e, a)` of a state, key by value. -/
def G (c : Dev nD) (b : Fin 32) (d : Fin 2) (h : Fin 4) (e a : Fin 64) : EReal :=
  (![state (U m c) (LF m c) 256 (by decide) rowF, state (U m c) (LB m c) 512 (by decide) rowB] : Fin 2 → Fin 32 → Fin 4 → Fin 64 → Fin 64 → EReal) d b h e a

variable (m) in
/-- The array the call writes: value by key. -/
def A (c : Dev nD) : FVec Ideal S32x2x4x64x64 .f32 := fun i => G m c (i 0) (i 1) (i 2) (i 4) (i 3)

theorem block_apply (c : Dev nD) (t : Fin cfg0.N) (j : Fin 4) (d : Fin 2) (h : Fin 4) (a e : Fin 64) :
    block (iblk m c 0 t) (iblk m c 1 t) (iblk m c 2 t) (ix5 j d h a e) = G m c ⟨t.val * 4 + j.val, by have := point_lt t; omega⟩ d h e a := by
  fin_cases d
  · exact S_forward c t j h a e
  · exact S_backward c t j h a e

theorem flushed (c : Dev nD) (t : Fin cfg0.N) : (dats m 0 c).flushed 5 t = (win0_5.blk t).view.read (Elt Ideal) (A m c) := by
  have ht := point_lt t
  have h := idx_all t
  show (cfg0.win 5).cut (grid0.coords t) ((dats m 0 c).after 5 t) = _
  rw [after0_5, after_states]
  funext y
  change S4x2x4x64x64.Idx at y
  idx_vars y
  have e' : (win0_5.blk t).view.read (Elt Ideal) (A m c) (ix5 y0 y1 y2 y3 y4)
      = A m c (ix5 ⟨t.val * 4 + y0.val, by omega⟩ y1 y2 y3 y4) :=
    congrArg (A m c) (funext fun a => Fin.ext (match a with
      | ⟨0, _⟩ => by show win0_5.index t 0 * 4 + 1 * y0.val = t.val * 4 + y0.val; rw [h.2.2.2.2.2.2.1]; omega
      | ⟨1, _⟩ => by show win0_5.index t 1 * 2 + 1 * y1.val = y1.val; rw [h.2.2.2.2.2.2.2.1]; omega
      | ⟨2, _⟩ => by show win0_5.index t 2 * 4 + 1 * y2.val = y2.val; rw [h.2.2.2.2.2.2.2.2.1]; omega
      | ⟨3, _⟩ => by show win0_5.index t 3 * 64 + 1 * y3.val = y3.val; rw [h.2.2.2.2.2.2.2.2.2.1]; omega
      | ⟨4, _⟩ => by show win0_5.index t 4 * 64 + 1 * y4.val = y4.val; rw [h.2.2.2.2.2.2.2.2.2.2]; omega))
  refine Eq.trans ?_ e'.symm
  exact block_apply c t y0 y1 y2 y3 y4

theorem final (c : Dev nD) : (dats m 0 c).arrAt 5 cfg0.N = A m c :=
  (dats m 0 c).arrAt_eq_of_covers 5 (A m c) (by decide +kernel) fun t hf y => congrFun (flushed c t) y

/-! ## The result -/

theorem arr_inj : Function.Injective (Pipeline.arrRef spec0) := by decide

variable (m) in
/-- The buffers when the lines after the region begin. -/
abbrev W (c : Dev nD) : Valuation τ sig (Elt Ideal) :=
  Pipeline.withArrays spec0 c (V0 m c) fun w => (dats m 0 c).arrAt w cfg0.N

theorem W5 (c : Dev nD) : W m c (Proc.devRef .tc main_v6_1) = A m c :=
  (Pipeline.withArrays_arr spec0 arr_inj c (V0 m c) _ 5).trans (final c)

variable (m) in
/-- What the lines after the region leave in buffer `b`. -/
abbrev E (c : Dev nD) (b : Ref sig .tc) : Buf (Elt Ideal) ((c : Thread nD τ).loc b) :=
  Pipeline.afterTail₀ cfgs (dats m) 0 (V0 m) [hostOps1] c b

theorem E7 (c : Dev nD) : E m c main_v7 = transpose S32x2x4x64x64 [0, 1, 2, 4, 3] (A m c) transposes_S32x2x4x64x64_S32x2x4x64x64_0_1_2_4_3 := by
  show StableHlo.after hostOps1 (W m c) (Proc.devRef .tc main_v7) = _
  after_results
  rw [W5 c]

theorem same (c : Dev nD) : val_main_v262 (F := Ideal) (m ((c : Thread nD τ).loc main_arg0)) (m ((c : Thread nD τ).loc main_arg1)) (m ((c : Thread nD τ).loc main_arg2))
    = E m c main_v7 := by
  rw [E7 c]
  funext i
  change S32x2x4x64x64.Idx at i
  idx_vars i
  refine Eq.trans (b := G m c i0 i1 i2 i3 i4) ?_ (by pointwise [A])
  fin_cases i1
  · exact forward_apply _ _ _ _ _ _ _
  · exact backward_apply _ _ _ _ _ _ _

end Cert.Kernel5Ideal.Hgrn

end
-- ==== Proof.SwaPre.lean ====
module

public import proofs.«01_k».proof.Defs
public import proofs.«01_k».proof.Proof.MlaPre

@[expose] public section

set_option maxRecDepth 16384

noncomputable section

/-! # The precondition of the attention with sinks, read: every entry of the arguments is real -/

namespace Cert.Pre_finite_swa.Read

open Cert.Pre_finite_swa Idealize.ShloMosaic
open Cert.MlaMath (Rl)
open Cert.Pre_finite.Read (real_of_lt and_eq_one)

theorem facts : Cert.Pre_finite_swa.Facts where
  bcast_S_S10240x512 := by decide
  reducesTo_S10240x512_S_d0_1 := by decide
  h_S_ := by decide
  bcast_S_S4 := by decide
  reducesTo_S4_S_d0 := by decide

attribute [local instance] facts
open Facts

theorem real_of_fn (x : FVec Ideal S10240x512 .f32) (y : FVec Ideal S4 .f32) (h : fn (F := Ideal) x y = fun _ => 1#1) :
    (∀ i, Rl (x i)) ∧ (∀ i, Rl (y i)) := by
  have j : S_.Idx := fun i => i.elim0
  obtain ⟨h0, h1⟩ := and_eq_one _ _ (congrFun h j)
  exact ⟨fun i => real_of_lt _ (Host.reduce_andi_all _ _ _ _ j h0 i), fun i => real_of_lt _ (Host.reduce_andi_all _ _ _ _ j h1 i)⟩

end Cert.Pre_finite_swa.Read

end
-- ==== Proof.SwaBody.lean ====
module

public import proofs.«01_k».proof.Proof.Gen.Kernel6Ideal.Frame
public import proofs.«01_k».proof.Proof.MlaBody
public import Idealize.ShloMosaic.Lib.Pipeline.ValueKit
public import Idealize.ShloMosaic.Lib.Pipeline.ReadBack

@[expose] public section

set_option maxRecDepth 65536
set_option maxHeartbeats 0

noncomputable section

/-! # One sequence of the attention with sinks

The body treats eight sequences of 256 rows alike. Here is the arithmetic of one of them, as a function of its rows and
of the column of sinks, and the statement that a grid point's block is eight of them. -/

namespace Cert.Kernel6Ideal.Swa

open Cert.Kernel6Ideal Cert.Kernel6Ideal.Gen Idealize.ShloMosaic Idealize.ShloMosaic.TcCoe Idealize.SL.Sem
open Cert.KernelIdeal.Mla (grp)

section

variable {F : FTy → Type} [FloatOps F]

/-- The 64 lanes, of 128, of a pair's head `h`. -/
def m64 (h : BitVec 32) : IVec S256x128 1 := grp S256x128 (iota .tc S256x128 32 [1] iota_S256x128_d1_w32) 64#32 h

/-- A pair's queries with the other head's lanes set to zero. -/
def qh (x : FVec F S256x128 .f32) (h : BitVec 32) : FVec F S256x128 .f32 :=
  select (m64 h) x (broadcast S256x128 (Scalar.ofBits .f32 0x00000000#32))

/-- A pair's two heads under one another. -/
def pair (x : FVec F S256x128 .f32) : FVec F S512x128 .f32 :=
  concatenate S512x128 0 [⟨S256x128, qh x 0#32⟩, ⟨S256x128, qh x 1#32⟩] concatenates_S256x128_S256x128_S512x128_d0

/-- The rows' columns that hold the queries. -/
def qcols (u : Vec F S256x512 .f32) : FVec F S256x256 .f32 :=
  extractStridedSlice S256x256 ![0, 0] (shapeCast S256x512 u shapeCasts_S256x512_S256x512) slices_S256x512_o0_0_S256x256

/-- The four heads' queries under one another. -/
def stack (u : Vec F S256x512 .f32) : FVec F S1024x128 .bf16 :=
  truncf .bf16 (concatenate S1024x128 0
    [⟨S512x128, pair (extractStridedSlice S256x128 ![0, 0] (qcols u) slices_S256x256_o0_0_S256x128)⟩,
     ⟨S512x128, pair (extractStridedSlice S256x128 ![0, 128] (qcols u) slices_S256x256_o0_128_S256x128)⟩]
    concatenates_S512x128_S512x128_S1024x128_d0) bitsLt_bf16_f32

/-- The keys of both heads. -/
def keys (u : Vec F S256x512 .f32) : FVec F S256x128 .bf16 :=
  truncf .bf16 (extractStridedSlice S256x128 ![0, 256] (shapeCast S256x512 u shapeCasts_S256x512_S256x512) slices_S256x512_o0_256_S256x128) bitsLt_bf16_f32

/-- The values of both heads. -/
def vals (u : Vec F S256x512 .f32) : FVec F S256x128 .bf16 :=
  truncf .bf16 (extractStridedSlice S256x128 ![0, 384] (shapeCast S256x512 u shapeCasts_S256x512_S256x512) slices_S256x512_o0_384_S256x128) bitsLt_bf16_f32

/-- The scaled scores. -/
def scores (a : FVec F S1024x128 .bf16) (k : FVec F S256x128 .bf16) : FVec F S1024x256 .f32 :=
  mulf (matmul dot_S1024x128_S256x128_S1024x256_1_1_0_0_n_n none a k (constant S1024x256 .f32 0x00000000#32))
    (broadcast S1024x256 (Scalar.ofBits .f32 0x3E000000#32))

/-- A row's greatest among its scores and its sink. -/
def top (s : FVec F S1024x256 .f32) (z : FVec F S1024x1 .f32) : FVec F S1024x1 .f32 :=
  maximumf (shapeCast S1024x1 (multiReduction .maximumf [1] S1024 s 0xFF800000#32 reduces_S1024x256_S1024 (.inl rfl) rfl) shapeCasts_S1024_S1024x1) z

/-- The exponentials of the scores less the row's greatest. -/
def ex (s : FVec F S1024x256 .f32) (z : FVec F S1024x1 .f32) : FVec F S1024x256 .f32 :=
  exp (subf s (broadcastTo S1024x256 (top s z) broadcasts_S1024x1_S1024x256))

/-- A row's sum of exponentials, its sink's among them. -/
def den (s : FVec F S1024x256 .f32) (z : FVec F S1024x1 .f32) : FVec F S1024x1 .f32 :=
  addf (shapeCast S1024x1 (multiReduction .add [1] S1024 (ex s z) 0x00000000#32 reduces_S1024x256_S1024 (.inl rfl) rfl) shapeCasts_S1024_S1024x1)
    (exp (subf z (top s z)))

/-- The weighted values over the row's sum. -/
def avg (s : FVec F S1024x256 .f32) (z : FVec F S1024x1 .f32) (v : FVec F S256x128 .bf16) : FVec F S1024x128 .f32 :=
  divf (matmul dot_S1024x256_S256x128_S1024x128_1_0_0_1_n_n none (truncf .bf16 (ex s z) bitsLt_bf16_f32) v (constant S1024x128 .f32 0x00000000#32))
    (broadcastTo S1024x128 (den s z) broadcasts_S1024x1_S1024x128)

/-- A pair's two heads, each in its own lanes. -/
def unpair (o : FVec F S512x128 .f32) : FVec F S256x128 .f32 :=
  select (m64 1#32) (extractStridedSlice S256x128 ![256, 0] o slices_S512x128_o256_0_S256x128)
    (select (m64 0#32) (extractStridedSlice S256x128 ![0, 0] o slices_S512x128_o0_0_S256x128)
      (broadcast S256x128 (Scalar.ofBits .f32 0x00000000#32)))

/-- The two pairs beside one another. -/
def unstack (o : FVec F S1024x128 .f32) : FVec F S256x256 .bf16 :=
  truncf .bf16 (concatenate S256x256 1
    [⟨S256x128, unpair (extractStridedSlice S512x128 ![0, 0] o slices_S1024x128_o0_0_S512x128)⟩,
     ⟨S256x128, unpair (extractStridedSlice S512x128 ![512, 0] o slices_S1024x128_o512_0_S512x128)⟩]
    concatenates_S256x128_S256x128_S256x256_d1) bitsLt_bf16_f32

/-- The sinks, a row's by its head. -/
def sinks (a b c d : Elt F .f32) : FVec F S1024x1 .f32 :=
  concatenate S1024x1 0 [⟨S256x1, broadcast S256x1 a⟩, ⟨S256x1, broadcast S256x1 b⟩, ⟨S256x1, broadcast S256x1 c⟩, ⟨S256x1, broadcast S256x1 d⟩]
    concatenates_S256x1_S256x1_S256x1_S256x1_S1024x1_d0

/-- The attention of one sequence. -/
def att (u : Vec F S256x512 .f32) (z : FVec F S1024x1 .f32) : FVec F S256x256 .bf16 :=
  unstack (avg (scores (stack u) (keys u)) z (vals u))

end

/-- The rows of sequence `j`. -/
def rows (j : Fin 8) (x : FVec Ideal S2048x512 .f32) : FVec Ideal S256x512 .f32 :=
  fun i => x (ix2 ⟨256 * j.val + (i 0).val, by have : (i 0).val < 256 := (i 0).isLt; omega⟩ (i 1))

theorem ld_rows (j : Fin 8) (o : ℕ) (ho : o = 256 * j.val) (x : FVec Ideal S2048x512 .f32) (h) :
    View.ld (Val := Elt Ideal) (e' := .f32) x (Rect.unit (s := S2048x512) ![o, 0] S256x512.size h) = rows j x := by
  subst ho
  funext i
  show x _ = x _
  congr 1
  funext a
  fin_cases a <;> apply Fin.ext <;> simp [Rect.unit, Rect.emb, ix2]

/-- The column of sinks, in the order in which the heads are stacked. -/
def col (x : FVec Ideal S4 .f32) : FVec Ideal S1024x1 .f32 := sinks (x (ix1 0)) (x (ix1 2)) (x (ix1 1)) (x (ix1 3))

/-- A grid point's block. -/
def block (x0 : FVec Ideal S4 .f32) (x1 : FVec Ideal S2048x512 .f32) : FVec Ideal S2048x256 .bf16 := fun y =>
  att (rows ⟨(y 0).val / 256, by have : (y 0).val < 2048 := (y 0).isLt; omega⟩ x1) (col x0) (ix2 ⟨(y 0).val % 256, Nat.mod_lt _ (by decide)⟩ (y 1))

theorem canon_of_piecesOf (G : S2048x256.Idx → Elt Ideal .bf16) (L : List (View.Piece (Elt Ideal) S2048x256 .bf16)) (h : View.PiecesOf G L) (y : S2048x256.Idx)
    (hc : ∃ p ∈ L, y ∈ p.1.set) : View.canon L y = G y := by
  simpa using View.canon_append_of_piecesOf G [] L h y hc

theorem ld_sink (n : Fin 4) (k : ℕ) (hk : k = n.val) (x : FVec Ideal S4 .f32) (h) (g) :
    View.ld (Val := Elt Ideal) (e' := .f32) x (Rect.unit (s := S4) ![k] ![1] h) (Shape.Idx.first g) = x (ix1 n) := by
  subst hk
  show x _ = x _
  congr 1
  funext a
  fin_cases a
  apply Fin.ext
  simp [Rect.unit, Rect.emb, ix1, Shape.Idx.first]

theorem piece (x0 : FVec Ideal S4 .f32) (x1 : FVec Ideal S2048x512 .f32) (j : Fin 8) (o : ℕ) (ho : o = 256 * j.val) (inb) (w : FVec Ideal S256x256 .bf16)
    (hw : w = att (rows j x1) (col x0)) (x : S256x256.Idx) :
    w x = block x0 x1 ((Rect.unit (s := S2048x256) ![o, 0] S256x256.size inb).emb x) := by
  subst ho hw
  have h0 : (x 0).val < 256 := (x 0).isLt
  have hj : (⟨(((Rect.unit (s := S2048x256) ![256 * j.val, 0] S256x256.size inb).emb x) 0).val / 256, by
      have : (((Rect.unit (s := S2048x256) ![256 * j.val, 0] S256x256.size inb).emb x) 0).val < 2048 := Fin.isLt _
      omega⟩ : Fin 8) = j := by
    apply Fin.ext
    simp [Rect.unit, Rect.emb]
    omega
  unfold block
  rw [hj]
  congr 1
  funext a
  fin_cases a <;> apply Fin.ext <;> simp [Rect.unit, Rect.emb, ix2]
  omega

theorem after_point (m : (ℓ : Loc nD τ sig) → Buf (Elt Ideal) ℓ) (c : Dev nD) (t : Fin cfg0.N) :
    outsAt0 m c t = block (iblk m c 0 t) (iblk m c 1 t) := by
  funext y
  unfold outsAt0 out0_A_2 kernelRun0_A
  dsimp only
  frame_open
  simp (disch := decide) only [View.read_writes_junk_eq_canon, View.ld_unit_lit', View.readAt_eq_ld, Memref.IsWhole.read_unread,

    ld_rows 0 0 rfl, ld_rows 1 256 rfl, ld_rows 2 512 rfl, ld_rows 3 768 rfl, ld_rows 4 1024 rfl, ld_rows 5 1280 rfl, ld_rows 6 1536 rfl, ld_rows 7 1792 rfl]
  generalize iblk m c 0 t = x0
  generalize iblk m c 1 t = x1
  change FVec Ideal S4 .f32 at x0
  change FVec Ideal S2048x512 .f32 at x1
  have e0 : View.ld (Val := Elt Ideal) (e' := .f32) x0 (Rect.unit (s := S4) ![0] ![1] inb_S4_S1_0) (Shape.Idx.first (by decide)) = x0 (ix1 0) := ld_sink 0 0 rfl x0 _ _
  have e1 : View.ld (Val := Elt Ideal) (e' := .f32) x0 (Rect.unit (s := S4) ![1] ![1] inb_S4_S1_1) (Shape.Idx.first (by decide)) = x0 (ix1 1) := ld_sink 1 1 rfl x0 _ _
  have e2 : View.ld (Val := Elt Ideal) (e' := .f32) x0 (Rect.unit (s := S4) ![2] ![1] inb_S4_S1_2) (Shape.Idx.first (by decide)) = x0 (ix1 2) := ld_sink 2 2 rfl x0 _ _
  have e3 : View.ld (Val := Elt Ideal) (e' := .f32) x0 (Rect.unit (s := S4) ![3] ![1] inb_S4_S1_3) (Shape.Idx.first (by decide)) = x0 (ix1 3) := ld_sink 3 3 rfl x0 _ _
  have hz : k0_pay2 (F := Ideal) (View.ld (Val := Elt Ideal) (e' := .f32) x0 (Rect.unit (s := S4) ![0] ![1] inb_S4_S1_0) (Shape.Idx.first (by decide)))
      (View.ld (Val := Elt Ideal) (e' := .f32) x0 (Rect.unit (s := S4) ![2] ![1] inb_S4_S1_2) (Shape.Idx.first (by decide)))
      (View.ld (Val := Elt Ideal) (e' := .f32) x0 (Rect.unit (s := S4) ![1] ![1] inb_S4_S1_1) (Shape.Idx.first (by decide)))
      (View.ld (Val := Elt Ideal) (e' := .f32) x0 (Rect.unit (s := S4) ![3] ![1] inb_S4_S1_3) (Shape.Idx.first (by decide))) = col x0 := by
    rw [e0, e1, e2, e3]
    rfl
  refine canon_of_piecesOf _ _ ?_ y (View.cover_of_tiledL (s := S2048x256) _ S256x256.size (by sl_kernel_rfl) y)
  refine ⟨fun x => ?_, fun x => ?_, fun x => ?_, fun x => ?_, fun x => ?_, fun x => ?_, fun x => ?_, fun x => ?_, trivial⟩
  all_goals dsimp only
  · refine piece x0 x1 7 1792 rfl inb_S2048x256_S256x256_1792_0 _ ?_ x
    rw [hz]
    generalize rows 7 x1 = u
    generalize col x0 = z
    rfl
  · refine piece x0 x1 6 1536 rfl inb_S2048x256_S256x256_1536_0 _ ?_ x
    rw [hz]
    generalize rows 6 x1 = u
    generalize col x0 = z
    rfl
  · refine piece x0 x1 5 1280 rfl inb_S2048x256_S256x256_1280_0 _ ?_ x
    rw [hz]
    generalize rows 5 x1 = u
    generalize col x0 = z
    rfl
  · refine piece x0 x1 4 1024 rfl inb_S2048x256_S256x256_1024_0 _ ?_ x
    rw [hz]
    generalize rows 4 x1 = u
    generalize col x0 = z
    rfl
  · refine piece x0 x1 3 768 rfl inb_S2048x256_S256x256_768_0 _ ?_ x
    rw [hz]
    generalize rows 3 x1 = u
    generalize col x0 = z
    rfl
  · refine piece x0 x1 2 512 rfl inb_S2048x256_S256x256_512_0 _ ?_ x
    rw [hz]
    generalize rows 2 x1 = u
    generalize col x0 = z
    rfl
  · refine piece x0 x1 1 256 rfl inb_S2048x256_S256x256_256_0 _ ?_ x
    rw [hz]
    generalize rows 1 x1 = u
    generalize col x0 = z
    rfl
  · refine piece x0 x1 0 0 rfl inb_S2048x256_S256x256_0_0 _ ?_ x
    rw [hz]
    generalize rows 0 x1 = u
    generalize col x0 = z
    rfl

end Cert.Kernel6Ideal.Swa

end
-- ==== Proof.SwaMath.lean ====
module

public import proofs.«01_k».proof.Proof.MlaMath

@[expose] public section

set_option maxRecDepth 16384

noncomputable section

/-! # Attention with a sink over one sequence, in extended reals

Two heads of keys and values, each read by two heads of queries; every head of queries has a sink, a number that takes
part in the softmax as one more score and whose weight is dropped. -/

namespace Cert.SwaMath

open Idealize.ShloMosaic Cert.MlaMath

/-! ## A row's softmax with its sink -/

variable (s : Fin 256 → EReal) (z : EReal)

/-- A row's scores and after them its sink. -/
def row (k : Fin 257) : EReal := if h : k.val < 256 then s ⟨k.val, h⟩ else z

/-- The greatest of a row's scores and its sink. -/
def top : EReal := max (Finset.univ.fold max ninf s) z

/-- The sum of the exponentials, the sink's among them. -/
def den : EReal := (∑ k, Ideal.exp (s k - top s z)) + Ideal.exp (z - top s z)

theorem row_castSucc (k : Fin 256) : row s z k.castSucc = s k := dif_pos k.isLt

theorem row_last : row s z (Fin.last 256) = z := dif_neg (lt_irrefl 256)

theorem top_eq : (Finset.univ.fold max ninf fun k => row s z k) = top s z := by
  rw [Fin.univ_castSuccEmb, Finset.fold_cons, Finset.fold_map, max_comm]
  unfold top
  rw [row_last]
  congr 2
  funext k
  exact row_castSucc s z k

theorem den_eq (t : EReal) : (∑ k, Ideal.exp (row s z k - t)) = (∑ k, Ideal.exp (s k - t)) + Ideal.exp (z - t) := by
  rw [Fin.sum_univ_castSucc, row_last]
  simp only [row_castSucc]

theorem exp_self {x : EReal} (hx : Rl x) : Ideal.exp (x - x) = 1 := by
  obtain ⟨r, rfl⟩ := hx
  rw [← EReal.coe_sub, sub_self]
  show ((Real.exp 0 : ℝ) : EReal) = 1
  rw [Real.exp_zero]; rfl

variable {s z}

/-- With real scores and a real sink the sum is at least one: the greatest contributes one. -/
theorem one_le_den (hs : ∀ k, Rl (s k)) (hz : Rl z) : 1 ≤ den s z := by
  unfold den top
  rcases le_total z (Finset.univ.fold max ninf s) with h | h
  · rw [max_eq_left h]
    exact (one_le_sum hs).trans (le_add_of_nonneg_right (exp_nonneg _))
  · rw [max_eq_right h, exp_self hz]
    exact le_add_of_nonneg_left (Finset.sum_nonneg fun k _ => exp_nonneg _)

/-! ## Attention -/

abbrev scale : EReal := Ideal.ofBits .f32 0x3E000000#32

theorem scale_real : Rl scale := by
  simp only [Rl, Ideal.ofBits, Ideal.ieee]
  simp
  exact ⟨_, (EReal.coe_mul _ _).symm⟩

/-- A sum over two halves of 64 that is zero off half `h` is the sum over that half. -/
theorem sum_half (f : Fin 128 → EReal) (h : Fin 2) :
    (∑ k : Fin 128, if k.val / 64 = h.val then f k else 0) = ∑ d : Fin 64, f ⟨h.val * 64 + d.val, by omega⟩ := by
  rw [sum_blocks 2 64 128 rfl, Finset.sum_eq_single h]
  · exact Finset.sum_congr rfl fun d _ => if_pos (by show (h.val * 64 + d.val) / 64 = h.val; omega)
  · intro b _ hb
    refine Finset.sum_eq_zero fun d _ => if_neg ?_
    show ¬ (b.val * 64 + d.val) / 64 = h.val
    exact fun e => hb (Fin.ext (by omega))
  · exact fun h' => absurd (Finset.mem_univ _) h'

variable (u : Fin 256 → Fin 512 → EReal) (sk : Fin 4 → EReal)

/-- The score of key `k` for query `r`, in head `g` of those that read the keys of head `h`. -/
def S (h g : Fin 2) (r k : Fin 256) : EReal :=
  (∑ d : Fin 64, u r ⟨(h.val * 2 + g.val) * 64 + d.val, by omega⟩ * u k ⟨256 + (h.val * 64 + d.val), by omega⟩) * scale

/-- The head's sink. -/
def Z (h g : Fin 2) : EReal := sk ⟨h.val * 2 + g.val, by omega⟩

/-- The attention's result. -/
def O (h g : Fin 2) (r : Fin 256) (e : Fin 64) : EReal :=
  Ideal.div (∑ k, Ideal.exp (S u h g r k - top (S u h g r) (Z sk h g)) * u k ⟨384 + (h.val * 64 + e.val), by omega⟩)
    (den (S u h g r) (Z sk h g))

variable {u sk}

/-- The result with each weight divided first, as a softmax does. -/
theorem O_eq (hu : ∀ r i, Rl (u r i)) (hsk : ∀ i, Rl (sk i)) (h g : Fin 2) (r : Fin 256) (e : Fin 64) :
    (∑ k, u k ⟨384 + (h.val * 64 + e.val), by omega⟩
        * Ideal.div (Ideal.exp (S u h g r k - top (S u h g r) (Z sk h g))) (den (S u h g r) (Z sk h g)))
      = O u sk h g r e :=
  sum_div _ _ (one_le_den (fun _ => (Rl.sum fun _ => (hu _ _).mul (hu _ _)).mul scale_real) (hsk _))

end Cert.SwaMath

end
-- ==== Proof.SwaIdeal.lean ====
module

public import proofs.«01_k».proof.Proof.SwaBody
public import proofs.«01_k».proof.Proof.SwaMath
public import proofs.«01_k».proof.Proof.MlaIdeal
public import Idealize.ShloMosaic.Lib.Pointwise

@[expose] public section

set_option maxRecDepth 16384

noncomputable section

/-! # One sequence of the attention with sinks, in extended reals

The body's arithmetic of one sequence, read at an index, is `SwaMath`'s: the masks that keep one head's lanes among
zeros leave the sum over that head's lanes. -/

namespace Cert.Kernel6Ideal.Swa

open Cert.Kernel6Ideal Cert.Kernel6Ideal.Gen Idealize.ShloMosaic Cert.SwaMath
open Cert.KernelIdeal.Mla (grp select_ofBool)
open Cert.MlaMath (Rl ninf)

theorem m64_apply (h : Fin 2) (r : Fin 256) (c : Fin 128) :
    m64 (BitVec.ofNat 32 h.val) (ix2 r c) = BitVec.ofBool (decide (c.val / 64 = h.val)) := by
  pointwise [m64, grp]
  revert h c
  decide +kernel

theorem qh_apply (x : FVec Ideal S256x128 .f32) (h : Fin 2) (r : Fin 256) (i : Fin 128) :
    qh x (BitVec.ofNat 32 h.val) (ix2 r i) = if i.val / 64 = h.val then x (ix2 r i) else 0 := by
  pointwise [qh]
  rw [m64_apply, select_ofBool]

/-- One of two blocks of rows. -/
theorem two {n : ℕ} (f : Fin 2 → Fin n → EReal) (h : Fin 2) (r : Fin n) (k : ℕ) (hk : k = h.val * n + r.val) (H : ¬ k < n → k - n < n) :
    (if h_1 : k < n then f 0 ⟨k, h_1⟩ else f 1 ⟨k - n, H h_1⟩) = f h r := by
  have hr := r.isLt
  match h, hk with
  | 0, hk =>
    have hk' : k = r.val := by rw [hk]; show 0 * n + r.val = r.val; omega
    rw [dif_pos (by omega)]; exact congrArg (f 0) (Fin.ext hk')
  | 1, hk =>
    have hk' : k = n + r.val := by rw [hk]; show 1 * n + r.val = _; omega
    rw [dif_neg (by omega)]; exact congrArg (f 1) (Fin.ext (by show k - n = r.val; omega))

theorem pair_apply (x : FVec Ideal S256x128 .f32) (h : Fin 2) (r : Fin 256) (i : Fin 128) :
    pair x (ix2 ⟨h.val * 256 + r.val, by omega⟩ i) = if i.val / 64 = h.val then x (ix2 r i) else 0 := by
  pointwise [pair]
  exact (two (fun h r => qh x (BitVec.ofNat 32 h.val) (ix2 r i)) h r _ rfl (fun _ => by omega)).trans (qh_apply x h r i)

theorem qcols_apply (U : FVec Ideal S256x512 .f32) (r i : Fin 256) : qcols U (ix2 r i) = U (ix2 r ⟨i.val, by omega⟩) := by
  pointwise [qcols]

theorem stack_apply (U : FVec Ideal S256x512 .f32) (h g : Fin 2) (r : Fin 256) (i : Fin 128) :
    stack (F := Ideal) U (ix2 ⟨(g.val * 2 + h.val) * 256 + r.val, by omega⟩ i) = if i.val / 64 = h.val then U (ix2 r ⟨g.val * 128 + i.val, by omega⟩) else 0 := by
  pointwise [stack]
  refine (two (n := 512) (fun g k => if g = 0 then pair (extractStridedSlice S256x128 ![0, 0] (qcols (F := Ideal) U) slices_S256x256_o0_0_S256x128) (ix2 k i)
    else pair (extractStridedSlice S256x128 ![0, 128] (qcols (F := Ideal) U) slices_S256x256_o0_128_S256x128) (ix2 k i)) g ⟨h.val * 256 + r.val, by omega⟩ ((g.val * 2 + h.val) * 256 + r.val) (by show _ = g.val * 512 + (h.val * 256 + r.val); omega) (fun _ => by omega)).trans ?_
  fin_cases g
  · refine (pair_apply _ h r i).trans ?_
    congr 1
    pointwise [qcols]
  · refine (pair_apply _ h r i).trans ?_
    congr 1
    pointwise [qcols]

theorem scores_apply (U : FVec Ideal S256x512 .f32) (k : FVec Ideal S256x128 .bf16) (h g : Fin 2) (r c : Fin 256) :
    scores (stack (F := Ideal) U) k (ix2 ⟨(g.val * 2 + h.val) * 256 + r.val, by omega⟩ c)
      = (∑ d : Fin 64, U (ix2 r ⟨g.val * 128 + (h.val * 64 + d.val), by omega⟩) * k (ix2 c ⟨h.val * 64 + d.val, by omega⟩)) * scale := by
  have e : scores (stack (F := Ideal) U) k (ix2 ⟨(g.val * 2 + h.val) * 256 + r.val, by omega⟩ c)
      = (∑ i : Fin 128, stack (F := Ideal) U (ix2 ⟨(g.val * 2 + h.val) * 256 + r.val, by omega⟩ i) * k (ix2 c i)) * scale := by
    generalize stack (F := Ideal) U = y
    pointwise [scores]
  rw [e]
  congr 1
  rw [← sum_half (fun i => U (ix2 r ⟨g.val * 128 + i.val, by omega⟩) * k (ix2 c i)) h]
  refine Finset.sum_congr rfl fun i _ => ?_
  rw [stack_apply, ite_mul, zero_mul]

theorem top_apply (s : FVec Ideal S1024x256 .f32) (z : FVec Ideal S1024x1 .f32) (r : Fin 1024) (i : Fin 1) :
    top s z (ix2 r i) = SwaMath.top (fun k => s (ix2 r k)) (z (ix2 r i)) := by
  pointwise [top, SwaMath.top]

theorem ex_apply (s : FVec Ideal S1024x256 .f32) (z : FVec Ideal S1024x1 .f32) (r : Fin 1024) (k : Fin 256) :
    ex s z (ix2 r k) = Ideal.exp (s (ix2 r k) - SwaMath.top (fun k => s (ix2 r k)) (z (ix2 r 0))) := by
  rw [← top_apply]
  pointwise [ex]

theorem den_apply (s : FVec Ideal S1024x256 .f32) (z : FVec Ideal S1024x1 .f32) (r : Fin 1024) (i : Fin 1) :
    den s z (ix2 r i) = SwaMath.den (fun k => s (ix2 r k)) (z (ix2 r 0)) := by
  obtain rfl : i = 0 := Subsingleton.elim _ _
  unfold SwaMath.den
  simp only [← ex_apply]
  rw [← top_apply s z r 0]
  pointwise [den]

theorem avg_apply (s : FVec Ideal S1024x256 .f32) (z : FVec Ideal S1024x1 .f32) (v : FVec Ideal S256x128 .bf16) (r : Fin 1024) (i : Fin 128) :
    avg s z v (ix2 r i)
      = Ideal.div (∑ k, Ideal.exp (s (ix2 r k) - SwaMath.top (fun k => s (ix2 r k)) (z (ix2 r 0))) * v (ix2 k i)) (SwaMath.den (fun k => s (ix2 r k)) (z (ix2 r 0))) := by
  rw [← den_apply s z r 0]
  simp only [← ex_apply]
  pointwise [avg]

theorem unpair_apply (o : FVec Ideal S512x128 .f32) (r : Fin 256) (h : Fin 2) (e : Fin 64) :
    unpair o (ix2 r ⟨h.val * 64 + e.val, by omega⟩) = o (ix2 ⟨h.val * 256 + r.val, by omega⟩ ⟨h.val * 64 + e.val, by omega⟩) := by
  pointwise [unpair]
  have m := fun a : Fin 2 => m64_apply a r ⟨h.val * 64 + e.val, by omega⟩
  have m0 := m 0; have m1 := m 1
  have he : (h.val * 64 + e.val) / 64 = h.val := by omega
  simp only [he] at m0 m1
  change m64 0#32 _ = _ at m0; change m64 1#32 _ = _ at m1
  rw [m0, m1, select_ofBool, select_ofBool]
  match h with
  | 0 => simp
  | 1 => simp

theorem unstack_apply (o : FVec Ideal S1024x128 .f32) (r : Fin 256) (h g : Fin 2) (e : Fin 64) :
    unstack o (ix2 r ⟨(g.val * 2 + h.val) * 64 + e.val, by omega⟩)
      = o (ix2 ⟨(g.val * 2 + h.val) * 256 + r.val, by omega⟩ ⟨h.val * 64 + e.val, by omega⟩) := by
  pointwise [unstack]
  refine (two (n := 128) (fun g k => if g = 0 then unpair (extractStridedSlice S512x128 ![0, 0] o slices_S1024x128_o0_0_S512x128) (ix2 r k)
    else unpair (extractStridedSlice S512x128 ![512, 0] o slices_S1024x128_o512_0_S512x128) (ix2 r k)) g ⟨h.val * 64 + e.val, by omega⟩ ((g.val * 2 + h.val) * 64 + e.val) (by show _ = g.val * 128 + (h.val * 64 + e.val); omega) (fun _ => by omega)).trans ?_
  fin_cases g
  · refine (unpair_apply _ r h e).trans ?_
    pointwise
  · refine (unpair_apply _ r h e).trans ?_
    pointwise
    congr 2
    apply Fin.ext
    show 512 + (h.val * 256 + r.val) = (2 + h.val) * 256 + r.val
    omega

theorem sinks_apply (a b c d : EReal) (h g : Fin 2) (r : Fin 256) (i : Fin 1) :
    sinks (F := Ideal) a b c d (ix2 ⟨(g.val * 2 + h.val) * 256 + r.val, by omega⟩ i) = ![![a, c], ![b, d]] h g := by
  pointwise [sinks]
  fin_cases h <;> fin_cases g <;> simp <;> (repeat' split) <;> first | rfl | omega

theorem keys_apply (U : FVec Ideal S256x512 .f32) (r : Fin 256) (i : Fin 128) : keys (F := Ideal) U (ix2 r i) = U (ix2 r ⟨256 + i.val, by omega⟩) := by
  pointwise [keys]

theorem vals_apply (U : FVec Ideal S256x512 .f32) (r : Fin 256) (i : Fin 128) : vals (F := Ideal) U (ix2 r i) = U (ix2 r ⟨384 + i.val, by omega⟩) := by
  pointwise [vals]

/-! ## The whole sequence -/

variable {U : FVec Ideal S256x512 .f32} {z : FVec Ideal S1024x1 .f32} {u : Fin 256 → Fin 512 → EReal} {sk : Fin 4 → EReal}

variable (U z u sk) in
/-- What the operands hold: the rows with the heads of queries that read one head of keys beside the other's, and the sinks alike. -/
structure Holds : Prop where
  q : ∀ (r : Fin 256) (h g : Fin 2) (d : Fin 64), U (ix2 r ⟨g.val * 128 + (h.val * 64 + d.val), by omega⟩) = u r ⟨(h.val * 2 + g.val) * 64 + d.val, by omega⟩
  k : ∀ (r : Fin 256) (i : Fin 256), U (ix2 r ⟨256 + i.val, by omega⟩) = u r ⟨256 + i.val, by omega⟩
  z : ∀ (r : Fin 256) (h g : Fin 2), z (ix2 ⟨(g.val * 2 + h.val) * 256 + r.val, by omega⟩ 0) = Z sk h g

theorem s_eq (H : Holds U z u sk) (h g : Fin 2) (r c : Fin 256) :
    scores (stack (F := Ideal) U) (keys (F := Ideal) U) (ix2 ⟨(g.val * 2 + h.val) * 256 + r.val, by omega⟩ c) = S u h g r c := by
  rw [scores_apply]
  unfold S
  congr 1
  refine Finset.sum_congr rfl fun d _ => ?_
  rw [H.q, keys_apply]
  exact congrArg (_ * ·) (H.k c ⟨h.val * 64 + d.val, by omega⟩)

theorem v_eq (H : Holds U z u sk) (h : Fin 2) (c : Fin 256) (e : Fin 64) :
    vals (F := Ideal) U (ix2 c ⟨h.val * 64 + e.val, by omega⟩) = u c ⟨384 + (h.val * 64 + e.val), by omega⟩ := by
  rw [vals_apply]
  have := H.k c ⟨128 + (h.val * 64 + e.val), by omega⟩
  simp only [← Nat.add_assoc, Nat.reduceAdd] at this ⊢
  exact this

theorem att_eq (H : Holds U z u sk) (h g : Fin 2) (r : Fin 256) (e : Fin 64) :
    att (F := Ideal) U z (ix2 r ⟨(g.val * 2 + h.val) * 64 + e.val, by omega⟩) = O u sk h g r e := by
  unfold att
  rw [unstack_apply, avg_apply]
  unfold O
  rw [H.z]
  simp only [s_eq H, v_eq H]

end Cert.Kernel6Ideal.Swa

end
-- ==== Proof.SwaRef.lean ====
module

public import proofs.«01_k».proof.Proof.SwaMath
public import proofs.«01_k».proof.Proof.Gen.Reference6Ideal.Read
public import Idealize.ShloMosaic.Lib.Pointwise

@[expose] public section

set_option maxRecDepth 16384

noncomputable section

/-! # The reference's attention with sinks -/

namespace Cert.Reference6Ideal.RefValue

open Cert.Reference6Ideal Cert.Reference6Ideal.Gen Cert.Reference6Ideal.Read Idealize.ShloMosaic Cert.SwaMath
open Cert.MlaMath (Rl ninf ninf_eq)

/-- The rows of sequence `b`. -/
def uu (x0 : FVec Ideal S10240x512 .f32) (b : Fin 32) (r : Fin 256) (i : Fin 512) : EReal :=
  x0 (ix2 ⟨b.val * 256 + r.val, by omega⟩ i)

/-- The sinks. -/
def ss (x1 : FVec Ideal S4 .f32) (i : Fin 4) : EReal := x1 (ix1 i)

variable (x0 : FVec Ideal S10240x512 .f32) (x1 : FVec Ideal S4 .f32)

theorem q_apply (b : Fin 32) (r : Fin 256) (h g : Fin 2) (d : Fin 64) :
    val_main_v5 (F := Ideal) x0 (ix5 b r h g d) = uu x0 b r ⟨(h.val * 2 + g.val) * 64 + d.val, by omega⟩ := by
  pointwise [val_main_v5, val_main_v2, val_main_v1, val_main_v0, uu]
  congr 2
  apply Fin.ext
  show h.val * 128 + g.val * 64 + d.val = (h.val * 2 + g.val) * 64 + d.val
  omega

theorem k_apply (b : Fin 32) (r : Fin 256) (h : Fin 2) (d : Fin 64) :
    val_main_v6 (F := Ideal) x0 (ix4 b r h d) = uu x0 b r ⟨256 + (h.val * 64 + d.val), by omega⟩ := by
  pointwise [val_main_v6, val_main_v3, val_main_v1, val_main_v0, uu]

theorem v_apply (b : Fin 32) (r : Fin 256) (h : Fin 2) (d : Fin 64) :
    val_main_v7 (F := Ideal) x0 (ix4 b r h d) = uu x0 b r ⟨384 + (h.val * 64 + d.val), by omega⟩ := by
  pointwise [val_main_v7, val_main_v4, val_main_v1, val_main_v0, uu]

theorem s_apply (b : Fin 32) (h g : Fin 2) (r k : Fin 256) :
    val_main_v11 (F := Ideal) x0 (ix5 b h g r k) = S (uu x0 b) h g r k := by
  pointwise [val_main_v11, val_main_v10, val_main_cst, val_main_v9, val_main_v8]
  unfold S
  congr 1
  refine Finset.sum_congr rfl fun d _ => ?_
  rw [q_apply, k_apply, mul_comm]

theorem z_apply (b : Fin 32) (h g : Fin 2) (r : Fin 256) (i : Fin 1) :
    val_main_v14 (F := Ideal) x1 (ix5 b h g r i) = Z (ss x1) h g := by
  pointwise [val_main_v14, val_main_v13, val_main_v12, Z, ss]

theorem row_apply (b : Fin 32) (h g : Fin 2) (r : Fin 256) (k : Fin 257) :
    val_main_v15 (F := Ideal) x0 x1 (ix5 b h g r k) = row (S (uu x0 b) h g r) (Z (ss x1) h g) k := by
  pointwise [val_main_v15]
  simp only [s_apply, z_apply]
  rfl

theorem m_apply (y : FVec Ideal S32x2x2x256x257 .f32) (b : Fin 32) (h g : Fin 2) (r : Fin 256) (t : EReal)
    (ht : (Finset.univ.fold max ninf fun k => y (ix5 b h g r k)) = t) :
    Host.reduce FloatOps.maximumf y (constant S_ .f32 0xFF800000#32) reducesTo_S32x2x2x256x257_S32x2x2x256_d4 h_S_ (ix4 b h g r) = t := by
  pointwise
  exact ht

theorem top_apply (b : Fin 32) (h g : Fin 2) (r : Fin 256) :
    val_main_v18 (F := Ideal) x0 x1 (ix4 b h g r) = top (S (uu x0 b) h g r) (Z (ss x1) h g) := by
  rw [val_main_v18_apply, val_main_v17_apply, val_main_cst_1_apply]
  have e : val_main_v16 (F := Ideal) x0 x1 (ix4 b h g r) = top (S (uu x0 b) h g r) (Z (ss x1) h g) := by
    unfold val_main_v16 val_main_cst_0
    refine m_apply _ b h g r _ ?_
    rw [← top_eq]
    congr 1
    funext k
    exact row_apply x0 x1 b h g r k
  rw [e]
  show max ninf _ = _
  rw [ninf_eq, max_eq_right bot_le]

theorem p_apply (b : Fin 32) (h g : Fin 2) (r : Fin 256) (k : Fin 257) :
    val_main_v22 (F := Ideal) x0 x1 (ix5 b h g r k)
      = Ideal.exp (row (S (uu x0 b) h g r) (Z (ss x1) h g) k - top (S (uu x0 b) h g r) (Z (ss x1) h g)) := by
  rw [← row_apply x0 x1, ← top_apply x0 x1]
  pointwise [val_main_v22, val_main_v21, val_main_v20, val_main_v19]

theorem o_apply (b : Fin 32) (hu : ∀ i, Rl (x0 i)) (hz : ∀ i, Rl (x1 i)) (r : Fin 256) (h g : Fin 2) (e : Fin 64) :
    val_main_v31 (F := Ideal) x0 x1 (ix2 ⟨b.val * 256 + r.val, by omega⟩ ⟨(h.val * 2 + g.val) * 64 + e.val, by omega⟩)
      = O (uu x0 b) (ss x1) h g r e := by
  rw [← O_eq (u := uu x0 b) (sk := ss x1) (fun _ _ => hu _) (fun _ => hz _)]
  pointwise [val_main_v31, val_main_v30, val_main_v29, val_main_v28, val_main_v27, val_main_v26, val_main_v25, val_main_v24, val_main_v23, val_main_cst_2]
  simp only [v_apply, p_apply, den_eq]
  rfl

end Cert.Reference6Ideal.RefValue

end
-- ==== Proof.SwaValue.lean ====
module

public import proofs.«01_k».proof.Proof.SwaIdeal
public import proofs.«01_k».proof.Proof.SwaRef
public import Idealize.ShloMosaic.Init

@[expose] public section

set_option maxRecDepth 16384

noncomputable section

/-! # The result of the attention with sinks

The host puts the heads of queries that read one head of keys beside those that read the other; a grid point's block is
eight sequences in that order; and the host puts the heads of the result back. -/

namespace Cert.Kernel6Ideal.Swa

open Cert.Kernel6Ideal Cert.Kernel6Ideal.Gen Idealize.ShloMosaic Idealize.ShloMosaic.TcCoe Idealize.SL.Sem Cert.SwaMath
open Cert.MlaMath (Rl)
open Cert.Reference6Ideal.RefValue (uu ss o_apply)
open Cert.Reference6Ideal.Read (val_main_v31)

/-! ## The two reorderings -/

/-- The latents with the query's second and third heads exchanged. -/
def packU (x : FVec Ideal S10240x512 .f32) : FVec Ideal S10240x512 .f32 :=
  concatenate S10240x512 1
    [⟨S10240x64, extractStridedSlice S10240x64 ![0, 0] x slices_S10240x512_S10240x64_0_0⟩,
     ⟨S10240x64, extractStridedSlice S10240x64 ![0, 128] x slices_S10240x512_S10240x64_0_128⟩,
     ⟨S10240x64, extractStridedSlice S10240x64 ![0, 64] x slices_S10240x512_S10240x64_0_64⟩,
     ⟨S10240x64, extractStridedSlice S10240x64 ![0, 192] x slices_S10240x512_S10240x64_0_192⟩,
     ⟨S10240x256, extractStridedSlice S10240x256 ![0, 256] x slices_S10240x512_S10240x256_0_256⟩]
    concatenates_S10240x64_S10240x64_S10240x64_S10240x64_S10240x256_S10240x512_d1

/-- The result with its second and third heads exchanged. -/
def unpackO (x : FVec Ideal S8192x256 .bf16) : FVec Ideal S8192x256 .bf16 :=
  concatenate S8192x256 1
    [⟨S8192x64, extractStridedSlice S8192x64 ![0, 0] x slices_S8192x256_S8192x64_0_0⟩,
     ⟨S8192x64, extractStridedSlice S8192x64 ![0, 128] x slices_S8192x256_S8192x64_0_128⟩,
     ⟨S8192x64, extractStridedSlice S8192x64 ![0, 64] x slices_S8192x256_S8192x64_0_64⟩,
     ⟨S8192x64, extractStridedSlice S8192x64 ![0, 192] x slices_S8192x256_S8192x64_0_192⟩]
    concatenates_S8192x64_S8192x64_S8192x64_S8192x64_S8192x256_d1

theorem packU_q (x : FVec Ideal S10240x512 .f32) (r : Fin 10240) (h g : Fin 2) (d : Fin 64) :
    packU x (ix2 r ⟨g.val * 128 + (h.val * 64 + d.val), by omega⟩) = x (ix2 r ⟨(h.val * 2 + g.val) * 64 + d.val, by omega⟩) := by
  fin_cases h <;> fin_cases g <;> pointwise [packU] <;> (repeat' split) <;> first | omega | (congr 2; simp only [Fin.mk.injEq]; omega)

theorem packU_k (x : FVec Ideal S10240x512 .f32) (r : Fin 10240) (i : Fin 256) :
    packU x (ix2 r ⟨256 + i.val, by omega⟩) = x (ix2 r ⟨256 + i.val, by omega⟩) := by
  pointwise [packU] <;> (repeat' split) <;> first | omega | (congr 2; simp only [Fin.mk.injEq]; omega)

theorem unpackO_apply (x : FVec Ideal S8192x256 .bf16) (r : Fin 8192) (h g : Fin 2) (e : Fin 64) :
    unpackO x (ix2 r ⟨(h.val * 2 + g.val) * 64 + e.val, by omega⟩) = x (ix2 r ⟨(g.val * 2 + h.val) * 64 + e.val, by omega⟩) := by
  fin_cases h <;> fin_cases g <;> pointwise [unpackO] <;> (repeat' split) <;> first | omega | (congr 2; simp only [Fin.mk.injEq]; omega)

/-! ## A grid point's arguments -/

variable (m : (ℓ : Loc nD τ sig) → Buf (Elt Ideal) ℓ)

/-- The two arguments. -/
abbrev X (c : Dev nD) : FVec Ideal S10240x512 .f32 := m ((c : Thread nD τ).loc main_arg0)
abbrev Y (c : Dev nD) : FVec Ideal S4 .f32 := m ((c : Thread nD τ).loc main_arg1)

theorem V_u (c : Dev nD) : V m c main_v5 = packU (X m c) := by
  show StableHlo.after hostOps0 _ (Proc.devRef .tc main_v5) = _
  after_results
  rfl

theorem V_s (c : Dev nD) : V m c main_arg1 = Y m c := by
  show StableHlo.after hostOps0 _ (Proc.devRef .tc main_arg1) = _
  after_results

theorem point_lt (t : Fin cfg0.N) : t.val < 4 := lt_of_lt_of_eq t.isLt N_0

theorem idx_all : ∀ t : Fin grid0.N, win0_0.index t 0 = 0 ∧ win0_1.index t 0 = t.val ∧ win0_1.index t 1 = 0
    ∧ win0_2.index t 0 = t.val ∧ win0_2.index t 1 = 0 := by
  decide +kernel

theorem blk0 (c : Dev nD) (t : Fin cfg0.N) (k : Fin 4) : iblk m c 0 t (ix1 k) = Y m c (ix1 k) := by
  refine Eq.trans ?_ (congrFun (V_s m c) _)
  have h := idx_all t
  refine congrArg (V m c main_arg1) (funext fun a => Fin.ext ?_)
  match a with
  | ⟨0, _⟩ => show win0_0.index t 0 * 4 + 1 * k.val = k.val; rw [h.1]; omega

theorem blk1 (c : Dev nD) (t : Fin cfg0.N) (r : Fin 2048) (k : Fin 512) :
    iblk m c 1 t (ix2 r k) = packU (X m c) (ix2 ⟨t.val * 2048 + r.val, by have := point_lt t; omega⟩ k) := by
  refine Eq.trans ?_ (congrFun (V_u m c) _)
  have h := idx_all t
  refine congrArg (V m c main_v5) (funext fun a => Fin.ext ?_)
  match a with
  | ⟨0, _⟩ => show win0_1.index t 0 * 2048 + 1 * r.val = t.val * 2048 + r.val; rw [h.2.1]; omega
  | ⟨1, _⟩ => show win0_1.index t 1 * 512 + 1 * k.val = k.val; rw [h.2.2.1]; omega

theorem at2 {a a' : Fin 10240} {b b' : Fin 512} (x : FVec Ideal S10240x512 .f32) (ha : a.val = a'.val) (hb : b.val = b'.val) :
    x (ix2 a b) = x (ix2 a' b') := by
  obtain rfl := Fin.ext ha
  obtain rfl := Fin.ext hb
  rfl

/-- Sequence `j` of a grid point. -/
theorem holds (c : Dev nD) (t : Fin cfg0.N) (j : Fin 8) :
    Holds (rows j (iblk m c 1 t)) (col (iblk m c 0 t)) (uu (X m c) ⟨t.val * 8 + j.val, by have := point_lt t; omega⟩) (ss (Y m c)) where
  q r h g d := by
    have ht := point_lt t
    refine (blk1 m c t _ _).trans ((packU_q (X m c) _ h g d).trans (at2 _ ?_ rfl))
    show t.val * 2048 + (256 * j.val + r.val) = (t.val * 8 + j.val) * 256 + r.val
    omega
  k r i := by
    have ht := point_lt t
    refine (blk1 m c t _ _).trans ((packU_k (X m c) _ i).trans (at2 _ ?_ rfl))
    show t.val * 2048 + (256 * j.val + r.val) = (t.val * 8 + j.val) * 256 + r.val
    omega
  z r h g := by
    unfold col
    rw [sinks_apply]
    fin_cases h <;> fin_cases g <;> exact blk0 m c t _

/-! ## The array -/

/-- The array the call writes, its heads in the kernel's order. -/
def A (c : Dev nD) : FVec Ideal S8192x256 .bf16 := fun i =>
  O (uu (X m c) ⟨(i 0).val / 256, by have : (i 0).val < 8192 := (i 0).isLt; omega⟩) (ss (Y m c))
    ⟨(i 1).val / 64 % 2, by omega⟩ ⟨(i 1).val / 128, by have : (i 1).val < 256 := (i 1).isLt; omega⟩
    ⟨(i 0).val % 256, by omega⟩ ⟨(i 1).val % 64, by omega⟩

theorem O_congr {b b' : Fin 32} {h h' g g' : Fin 2} {r r' : Fin 256} {e e' : Fin 64} (c : Dev nD)
    (hb : b.val = b'.val) (hh : h.val = h'.val) (hg : g.val = g'.val) (hr : r.val = r'.val) (he : e.val = e'.val) :
    O (uu (X m c) b) (ss (Y m c)) h g r e = O (uu (X m c) b') (ss (Y m c)) h' g' r' e' := by
  obtain rfl := Fin.ext hb
  obtain rfl := Fin.ext hh
  obtain rfl := Fin.ext hg
  obtain rfl := Fin.ext hr
  obtain rfl := Fin.ext he
  rfl

theorem A_apply (c : Dev nD) (b : Fin 32) (h g : Fin 2) (r : Fin 256) (e : Fin 64) :
    A m c (ix2 ⟨b.val * 256 + r.val, by omega⟩ ⟨(g.val * 2 + h.val) * 64 + e.val, by omega⟩) = O (uu (X m c) b) (ss (Y m c)) h g r e := by
  unfold A
  refine O_congr m c ?_ ?_ ?_ ?_ ?_
  · show (b.val * 256 + r.val) / 256 = b.val; omega
  · show ((g.val * 2 + h.val) * 64 + e.val) / 64 % 2 = h.val; omega
  · show ((g.val * 2 + h.val) * 64 + e.val) / 128 = g.val; omega
  · show (b.val * 256 + r.val) % 256 = r.val; omega
  · show ((g.val * 2 + h.val) * 64 + e.val) % 64 = e.val; omega

/-- A lane of 256 by its head and its place in it. -/
theorem lane (k : Fin 256) : ∃ (h g : Fin 2) (e : Fin 64), k = ⟨(g.val * 2 + h.val) * 64 + e.val, by omega⟩ :=
  ⟨⟨k.val / 64 % 2, by omega⟩, ⟨k.val / 128, by omega⟩, ⟨k.val % 64, by omega⟩, Fin.ext (by
    show k.val = (k.val / 128 * 2 + k.val / 64 % 2) * 64 + k.val % 64; omega)⟩

/-- A row of the result by its sequence and its place in it. -/
theorem line (k : Fin 8192) : ∃ (b : Fin 32) (r : Fin 256), k = ⟨b.val * 256 + r.val, by omega⟩ :=
  ⟨⟨k.val / 256, by omega⟩, ⟨k.val % 256, by omega⟩, Fin.ext (by
    show k.val = k.val / 256 * 256 + k.val % 256; omega)⟩

theorem flushed (c : Dev nD) (t : Fin cfg0.N) : (dats m 0 c).flushed 2 t = (win0_2.blk t).view.read (Elt Ideal) (A m c) := by
  have ht := point_lt t
  have h := idx_all t
  show (cfg0.win 2).cut (grid0.coords t) ((dats m 0 c).after 2 t) = _
  rw [after0_2, after_point]
  funext y
  change S2048x256.Idx at y
  idx_vars y
  have e' : (win0_2.blk t).view.read (Elt Ideal) (A m c) (ix2 y0 y1) = A m c (ix2 ⟨t.val * 2048 + y0.val, by omega⟩ y1) :=
    congrArg (A m c) (funext fun a => Fin.ext (match a with
      | ⟨0, _⟩ => by show win0_2.index t 0 * 2048 + 1 * y0.val = t.val * 2048 + y0.val; rw [h.2.2.2.1]; omega
      | ⟨1, _⟩ => by show win0_2.index t 1 * 256 + 1 * y1.val = y1.val; rw [h.2.2.2.2]; omega))
  refine Eq.trans ?_ e'.symm
  obtain ⟨hh, g, e, rfl⟩ := lane y1
  have hj : y0.val / 256 < 8 := by omega
  refine (att_eq (holds m c t ⟨y0.val / 256, hj⟩) hh g ⟨y0.val % 256, by omega⟩ e).trans ?_
  rw [← A_apply]
  refine congrArg (A m c) (congrArg (fun q => ix2 q _) (Fin.ext ?_))
  show (t.val * 8 + y0.val / 256) * 256 + y0.val % 256 = t.val * 2048 + y0.val
  omega

theorem final (c : Dev nD) : (dats m 0 c).arrAt 2 cfg0.N = A m c :=
  (dats m 0 c).arrAt_eq_of_covers 2 (A m c) (by decide +kernel) fun t _ y => congrFun (flushed m c t) y

/-! ## The result -/

theorem arr_inj : Function.Injective (Pipeline.arrRef spec0) := by decide

/-- The buffers when the lines after the region begin. -/
abbrev W (c : Dev nD) : Valuation τ sig (Elt Ideal) :=
  Pipeline.withArrays spec0 c (V0 m c) fun w => (dats m 0 c).arrAt w cfg0.N

theorem W2 (c : Dev nD) : W m c (Proc.devRef .tc main_v6) = A m c :=
  (Pipeline.withArrays_arr spec0 arr_inj c (V0 m c) _ 2).trans (final m c)

/-- What the lines after the region leave in buffer `b`. -/
abbrev E (c : Dev nD) (b : Ref sig .tc) : Buf (Elt Ideal) ((c : Thread nD τ).loc b) :=
  Pipeline.afterTail₀ cfgs (dats m) 0 (V0 m) [hostOps1] c b

theorem E11 (c : Dev nD) : E m c main_v11 = unpackO (A m c) := by
  show StableHlo.after hostOps1 (W m c) (Proc.devRef .tc main_v11) = _
  after_results
  exact congrArg unpackO (W2 m c)

theorem same (c : Dev nD) (hx : ∀ i, Rl (X m c i)) (hy : ∀ i, Rl (Y m c i)) :
    val_main_v31 (F := Ideal) (m ((c : Thread nD τ).loc main_arg0)) (m ((c : Thread nD τ).loc main_arg1)) = E m c main_v11 := by
  rw [E11 m c]
  funext i
  change S8192x256.Idx at i
  idx_vars i
  obtain ⟨g, h, e, rfl⟩ := lane i1
  obtain ⟨b, r, rfl⟩ := line i0
  rw [unpackO_apply, A_apply]
  exact o_apply _ _ b hx hy r h g e

end Cert.Kernel6Ideal.Swa

end
-- ==== Proof.InMath.lean ====
module

public import Idealize.ShloMosaic.Lib.Pointwise
public import Idealize.ShloMosaic.PureOps.Ideal
public import Idealize.ShloMosaic.PureOps.Ideal.Laws

@[expose] public section

noncomputable section

/-! # A token's columns of the input projection, in extended reals

The normalised, modulated row of one token, multiplied by one column of the weight. -/

namespace Cert.InMath

open Idealize.ShloMosaic

/-- The reciprocal root of a row's mean square. -/
def rinv (x : Fin 1024 → EReal) : EReal :=
  Ideal.rsqrt (Ideal.div (∑ d, x d * x d) (Ideal.ofBits .f32 0x44800000#32) + Ideal.ofBits .f32 0x358637BD#32)

/-- The row after the norm with gains `g` and the modulation by shift `sh` and scale `sc`. -/
def row (x g sh sc : Fin 1024 → EReal) (d : Fin 1024) : EReal :=
  x d * rinv x * g d * (1 + sc d) + sh d

/-- One column of the projection. -/
def col (x g sh sc w : Fin 1024 → EReal) : EReal := ∑ d, row x g sh sc d * w d

/-- A layer's arguments: the context's and the samples' rows, their modulation, and both layers' gains and weights. -/
structure Args where
  x0 : FVec Ideal ⟨3, ![32, 256, 1024]⟩ .f32
  x1 : FVec Ideal ⟨3, ![2, 1024, 1024]⟩ .f32
  x2 : FVec Ideal ⟨2, ![1, 6144]⟩ .f32
  x3 : FVec Ideal ⟨2, ![2, 6144]⟩ .f32
  x4 : FVec Ideal ⟨2, ![2, 1024]⟩ .f32
  x5 : FVec Ideal ⟨3, ![2, 1024, 2464]⟩ .f32

variable (a : Args) (l : Fin 2)

/-- A context token's column in layer `l`. -/
def ctx (b : Fin 32) (t : Fin 256) (w : Fin 1024 → EReal) : EReal :=
  col (fun d => a.x0 (ix3 b t d)) (fun d => a.x4 (ix2 l d)) (fun d => a.x2 (ix2 0 ⟨d.val, by omega⟩)) (fun d => a.x2 (ix2 0 ⟨1024 + d.val, by omega⟩)) w

/-- A latent token's column in layer `l`. -/
def lat (b : Fin 2) (t : Fin 1024) (w : Fin 1024 → EReal) : EReal :=
  col (fun d => a.x1 (ix3 b t d)) (fun d => a.x4 (ix2 l d)) (fun d => a.x3 (ix2 b ⟨d.val, by omega⟩)) (fun d => a.x3 (ix2 b ⟨1024 + d.val, by omega⟩)) w

/-- A token's column with the weight column `w`: the context's rows first, then the latent ones. -/
def tok (n : Fin 10240) (w : Fin 1024 → EReal) : EReal :=
  if h : n.val < 8192 then ctx a l ⟨n.val / 256, by omega⟩ ⟨n.val % 256, by omega⟩ w
  else lat a l ⟨(n.val - 8192) / 1024, by omega⟩ ⟨(n.val - 8192) % 1024, by omega⟩ w

/-- Column `k` of the layer's weight. -/
def wcol (k : Fin 2464) (d : Fin 1024) : EReal := a.x5 (ix3 l d k)

/-- Token `n`'s column `k` of the projection. -/
def R (n : Fin 10240) (k : Fin 2464) : EReal := tok a l n (wcol a l k)

end Cert.InMath

end
-- ==== Proof.InRef.lean ====
module

public import proofs.«01_k».proof.Proof.InMath
public import proofs.«01_k».proof.Proof.Gen.Reference3Ideal.Read
public import Idealize.ShloMosaic.Lib.Pointwise

@[expose] public section

set_option maxRecDepth 16384

noncomputable section

/-! # The reference's columns, token by token -/

namespace Cert.Reference3Ideal.RefValue

open Cert.Reference3Ideal Cert.Reference3Ideal.Gen Cert.Reference3Ideal.Read Idealize.ShloMosaic Cert.InMath

variable (x0 : FVec Ideal S32x256x1024 .f32) (x1 : FVec Ideal S2x1024x1024 .f32) (x2 : FVec Ideal S1x6144 .f32)
  (x3 : FVec Ideal S2x6144 .f32) (x4 : FVec Ideal S2x1024 .f32) (x5 : FVec Ideal S2x1024x2464 .f32) (a : Args)

theorem row_apply (b : Fin 32) (t : Fin 256) (d : Fin 1024) :
    val_main_v27 (F := Ideal) x0 x2 x4 (ix3 b t d)
      = row (fun d => x0 (ix3 b t d)) (fun d => x4 (ix2 0 d)) (fun d => x2 (ix2 0 ⟨d.val, by omega⟩)) (fun d => x2 (ix2 0 ⟨1024 + d.val, by omega⟩)) d := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v2, val_main_v1, val_main_v0, val_main_cst, val_main_cst_0, val_main_cst_1, val_main_cst_2]
  unfold row rinv
  rfl

theorem ctx_apply (b : Fin 32) (t : Fin 256) (k : Fin 2464) : val_main_v30 (F := Ideal) a.x0 a.x2 a.x4 a.x5 (ix3 b t k) = ctx a 0 b t (wcol a 0 k) := by
  pointwise [val_main_v30, val_main_v29, val_main_v28]
  unfold ctx col
  exact Finset.sum_congr rfl fun d _ => by rw [row_apply]; rfl

theorem row_apply' (b : Fin 2) (t : Fin 1024) (d : Fin 1024) :
    val_main_v62 (F := Ideal) x1 x3 x4 (ix3 b t d)
      = row (fun d => x1 (ix3 b t d)) (fun d => x4 (ix2 0 d)) (fun d => x3 (ix2 b ⟨d.val, by omega⟩)) (fun d => x3 (ix2 b ⟨1024 + d.val, by omega⟩)) d := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v37, val_main_v36, val_main_v35, val_main_cst_3, val_main_cst_4, val_main_cst_5, val_main_cst_6]
  unfold row rinv
  rfl

theorem lat_apply (b : Fin 2) (t : Fin 1024) (k : Fin 2464) : val_main_v65 (F := Ideal) a.x1 a.x3 a.x4 a.x5 (ix3 b t k) = lat a 0 b t (wcol a 0 k) := by
  pointwise [val_main_v65, val_main_v64, val_main_v63]
  unfold lat col
  exact Finset.sum_congr rfl fun d _ => by rw [row_apply']; rfl

theorem ctx78 (n : Fin 8192) (k : Fin 416) :
    val_main_v76 (F := Ideal) a.x0 a.x2 a.x4 a.x5 (ix2 n k) = ctx a 0 ⟨n.val / 256, by omega⟩ ⟨n.val % 256, by omega⟩ (wcol a 0 ⟨k.val, by omega⟩) := by
  pointwise [val_main_v76, val_main_v31]
  rw [ctx_apply]

theorem lat78 (n : Fin 2048) (k : Fin 416) :
    val_main_v77 (F := Ideal) a.x1 a.x3 a.x4 a.x5 (ix2 n k) = lat a 0 ⟨n.val / 1024, by omega⟩ ⟨n.val % 1024, by omega⟩ (wcol a 0 ⟨k.val, by omega⟩) := by
  pointwise [val_main_v77, val_main_v66]
  rw [lat_apply]

theorem rows78 (n : Fin 10240) (k : Fin 416) :
    val_main_v78 (F := Ideal) a.x0 a.x1 a.x2 a.x3 a.x4 a.x5 (ix2 n k) = R a 0 n ⟨k.val, by omega⟩ := by
  pointwise [val_main_v78]
  unfold R tok
  split
  · exact ctx78 a _ k
  · exact lat78 a _ k

theorem ctx81 (n : Fin 8192) (k : Fin 1280) :
    val_main_v79 (F := Ideal) a.x0 a.x2 a.x4 a.x5 (ix2 n k) = ctx a 0 ⟨n.val / 256, by omega⟩ ⟨n.val % 256, by omega⟩ (wcol a 0 ⟨416 + k.val, by omega⟩) := by
  pointwise [val_main_v79, val_main_v32]
  rw [ctx_apply]

theorem lat81 (n : Fin 2048) (k : Fin 1280) :
    val_main_v80 (F := Ideal) a.x1 a.x3 a.x4 a.x5 (ix2 n k) = lat a 0 ⟨n.val / 1024, by omega⟩ ⟨n.val % 1024, by omega⟩ (wcol a 0 ⟨416 + k.val, by omega⟩) := by
  pointwise [val_main_v80, val_main_v67]
  rw [lat_apply]

theorem rows81 (n : Fin 10240) (k : Fin 1280) :
    val_main_v81 (F := Ideal) a.x0 a.x1 a.x2 a.x3 a.x4 a.x5 (ix2 n k) = R a 0 n ⟨416 + k.val, by omega⟩ := by
  pointwise [val_main_v81]
  unfold R tok
  split
  · exact ctx81 a _ k
  · exact lat81 a _ k

theorem ctx84 (n : Fin 8192) (k : Fin 256) :
    val_main_v82 (F := Ideal) a.x0 a.x2 a.x4 a.x5 (ix2 n k) = ctx a 0 ⟨n.val / 256, by omega⟩ ⟨n.val % 256, by omega⟩ (wcol a 0 ⟨1696 + k.val, by omega⟩) := by
  pointwise [val_main_v82, val_main_v33]
  rw [ctx_apply]

theorem lat84 (n : Fin 2048) (k : Fin 256) :
    val_main_v83 (F := Ideal) a.x1 a.x3 a.x4 a.x5 (ix2 n k) = lat a 0 ⟨n.val / 1024, by omega⟩ ⟨n.val % 1024, by omega⟩ (wcol a 0 ⟨1696 + k.val, by omega⟩) := by
  pointwise [val_main_v83, val_main_v68]
  rw [lat_apply]

theorem rows84 (n : Fin 10240) (k : Fin 256) :
    val_main_v84 (F := Ideal) a.x0 a.x1 a.x2 a.x3 a.x4 a.x5 (ix2 n k) = R a 0 n ⟨1696 + k.val, by omega⟩ := by
  pointwise [val_main_v84]
  unfold R tok
  split
  · exact ctx84 a _ k
  · exact lat84 a _ k

theorem ctx87 (n : Fin 8192) (k : Fin 512) :
    val_main_v85 (F := Ideal) a.x0 a.x2 a.x4 a.x5 (ix2 n k) = ctx a 0 ⟨n.val / 256, by omega⟩ ⟨n.val % 256, by omega⟩ (wcol a 0 ⟨1952 + k.val, by omega⟩) := by
  pointwise [val_main_v85, val_main_v34]
  rw [ctx_apply]

theorem lat87 (n : Fin 2048) (k : Fin 512) :
    val_main_v86 (F := Ideal) a.x1 a.x3 a.x4 a.x5 (ix2 n k) = lat a 0 ⟨n.val / 1024, by omega⟩ ⟨n.val % 1024, by omega⟩ (wcol a 0 ⟨1952 + k.val, by omega⟩) := by
  pointwise [val_main_v86, val_main_v69]
  rw [lat_apply]

theorem rows87 (n : Fin 10240) (k : Fin 512) :
    val_main_v87 (F := Ideal) a.x0 a.x1 a.x2 a.x3 a.x4 a.x5 (ix2 n k) = R a 0 n ⟨1952 + k.val, by omega⟩ := by
  pointwise [val_main_v87]
  unfold R tok
  split
  · exact ctx87 a _ k
  · exact lat87 a _ k

theorem kr_apply (b : Fin 32) (t : Fin 256) (k : Fin 32) :
    val_main_v72 (F := Ideal) a.x0 a.x2 a.x4 a.x5 (ix3 b t k) = ctx a 0 b t (wcol a 0 ⟨384 + k.val, by omega⟩) := by
  pointwise [val_main_v72, val_main_v31]
  rw [ctx_apply]

theorem k_apply (b : Fin 32) (t : Fin 256) (h : Fin 2) (e : Fin 64) :
    val_main_v88 (F := Ideal) a.x0 a.x2 a.x4 a.x5 (ix4 b t h e) = ctx a 0 b t (wcol a 0 ⟨2208 + (h.val * 64 + e.val), by omega⟩) := by
  pointwise [val_main_v88, val_main_v74, val_main_v34]
  exact (congrArg _ (congrArg (ix3 b t) (Fin.ext (by simp only []; omega)))).trans (ctx_apply a b t _)

theorem v_apply (b : Fin 32) (t : Fin 256) (h : Fin 2) (e : Fin 64) :
    val_main_v89 (F := Ideal) a.x0 a.x2 a.x4 a.x5 (ix4 b t h e) = ctx a 0 b t (wcol a 0 ⟨2336 + (h.val * 64 + e.val), by omega⟩) := by
  pointwise [val_main_v89, val_main_v75, val_main_v34]
  exact (congrArg _ (congrArg (ix3 b t) (Fin.ext (by simp only []; omega)))).trans (ctx_apply a b t _)

end Cert.Reference3Ideal.RefValue

end
-- ==== Proof.InTok.lean ====
module

public import proofs.«01_k».proof.Proof.InMath
public import proofs.«01_k».proof.Proof.Gen.Kernel3Ideal
public import Idealize.ShloMosaic.Lib.Pointwise

@[expose] public section

set_option maxRecDepth 16384

noncomputable section

/-! # The packed columns of the input projection

The weight's columns as the host packs them, the arrays of packed columns that a call writes, and the host's reading of them back
in the order of the reference's columns; for either layer. -/

namespace Cert.InTok

open Cert.Kernel3Ideal Cert.Kernel3Ideal.Gen Idealize.ShloMosaic Cert.InMath

/-! ## The packed arrays -/

def packW (x : FVec Ideal S2x1024x2464 .f32) : FVec Ideal S2x1024x2560 .bf16 :=
  truncf .bf16 (concatenate S2x1024x2560 2
    [⟨S2x1024x384, extractStridedSlice S2x1024x384 ![0, 0, 0] x slices_S2x1024x2464_S2x1024x384_0_0_0⟩,
     ⟨S2x1024x32, extractStridedSlice S2x1024x32 ![0, 0, 384] x slices_S2x1024x2464_S2x1024x32_0_0_384⟩,
     ⟨S2x1024x32, extractStridedSlice S2x1024x32 ![0, 0, 384] x slices_S2x1024x2464_S2x1024x32_0_0_384⟩,
     ⟨S2x1024x32, extractStridedSlice S2x1024x32 ![0, 0, 384] x slices_S2x1024x2464_S2x1024x32_0_0_384⟩,
     ⟨S2x1024x32, extractStridedSlice S2x1024x32 ![0, 0, 384] x slices_S2x1024x2464_S2x1024x32_0_0_384⟩,
     ⟨S2x1024x1536, extractStridedSlice S2x1024x1536 ![0, 0, 416] x slices_S2x1024x2464_S2x1024x1536_0_0_416⟩,
     ⟨S2x1024x64, extractStridedSlice S2x1024x64 ![0, 0, 1952] x slices_S2x1024x2464_S2x1024x64_0_0_1952⟩,
     ⟨S2x1024x64, extractStridedSlice S2x1024x64 ![0, 0, 2080] x slices_S2x1024x2464_S2x1024x64_0_0_2080⟩,
     ⟨S2x1024x64, extractStridedSlice S2x1024x64 ![0, 0, 2016] x slices_S2x1024x2464_S2x1024x64_0_0_2016⟩,
     ⟨S2x1024x64, extractStridedSlice S2x1024x64 ![0, 0, 2144] x slices_S2x1024x2464_S2x1024x64_0_0_2144⟩,
     ⟨S2x1024x256, extractStridedSlice S2x1024x256 ![0, 0, 2208] x slices_S2x1024x2464_S2x1024x256_0_0_2208⟩]
    concatenates_S2x1024x384_S2x1024x32_S2x1024x32_S2x1024x32_S2x1024x32_S2x1024x1536_S2x1024x64_S2x1024x64_S2x1024x64_S2x1024x64_S2x1024x256_S2x1024x2560_d2) bitsLt_bf16_f32

def packM (x : FVec Ideal S1x6144 .f32) (y : FVec Ideal S2x6144 .f32) : FVec Ideal S8x1x6144 .f32 :=
  shapeCast S8x1x6144 (concatenate S8x6144 0
    [⟨S1x6144, x⟩, ⟨S2x6144, y⟩, ⟨S5x6144, broadcastInDim S5x6144 ![] bcast_S_S5x6144 (constant S_ .f32 0x00000000#32)⟩]
    concatenates_S1x6144_S2x6144_S5x6144_S8x6144_d0) shapeCasts_S8x6144_S8x1x6144

theorem packM_ctx (x : FVec Ideal S1x6144 .f32) (y : FVec Ideal S2x6144 .f32) (k : Fin 6144) :
    packM x y (ix3 0 0 k) = x (ix2 0 k) := by
  pointwise [packM]

theorem packM_lat (x : FVec Ideal S1x6144 .f32) (y : FVec Ideal S2x6144 .f32) (b : Fin 2) (k : Fin 6144) :
    packM x y (ix3 ⟨1 + b.val, by omega⟩ 0 k) = y (ix2 b k) := by
  fin_cases b <;> pointwise [packM] <;> rfl

theorem packW_mla (x : FVec Ideal S2x1024x2464 .f32) (l : Fin 2) (d : Fin 1024) (k : Fin 416) :
    packW x (ix3 l d ⟨k.val, by omega⟩) = x (ix3 l d ⟨k.val, by omega⟩) := by
  pointwise [packW]
  by_cases h : k.val < 384
  · rw [dif_pos h]
  · rw [dif_neg h, dif_pos (by omega)]
    exact congrArg (fun j => x (ix3 l d j)) (Fin.ext (by show 384 + (k.val - 384) = k.val; omega))

theorem packW_mid (x : FVec Ideal S2x1024x2464 .f32) (l : Fin 2) (d : Fin 1024) (k : Fin 1536) :
    packW x (ix3 l d ⟨512 + k.val, by omega⟩) = x (ix3 l d ⟨416 + k.val, by omega⟩) := by
  pointwise [packW]
  repeat rw [dif_neg (by omega)]
  rw [dif_pos (by omega)]
  exact congrArg (fun j => x (ix3 l d j)) (Fin.ext (by show 416 + (512 + k.val - 384 - 32 - 32 - 32 - 32) = 416 + k.val; omega))

theorem packW_kv (x : FVec Ideal S2x1024x2464 .f32) (l : Fin 2) (d : Fin 1024) (k : Fin 256) :
    packW x (ix3 l d ⟨2304 + k.val, by omega⟩) = x (ix3 l d ⟨2208 + k.val, by omega⟩) := by
  pointwise [packW]
  repeat rw [dif_neg (by omega)]
  exact congrArg (fun j => x (ix3 l d j)) (Fin.ext (by show 2208 + (2304 + k.val - 384 - 32 - 32 - 32 - 32 - 1536 - 64 - 64 - 64 - 64) = 2208 + k.val; omega))

/-! The query heads: one and two are exchanged. -/

theorem packW_q0 (x : FVec Ideal S2x1024x2464 .f32) (l : Fin 2) (d : Fin 1024) (k : Fin 64) :
    packW x (ix3 l d ⟨2048 + k.val, by omega⟩) = x (ix3 l d ⟨1952 + k.val, by omega⟩) := by
  pointwise [packW]
  repeat rw [dif_neg (by omega)]
  rw [dif_pos (by omega)]
  exact congrArg (fun j => x (ix3 l d j)) (Fin.ext (by show 1952 + (2048 + k.val - 384 - 32 - 32 - 32 - 32 - 1536) = 1952 + k.val; omega))

theorem packW_q1 (x : FVec Ideal S2x1024x2464 .f32) (l : Fin 2) (d : Fin 1024) (k : Fin 64) :
    packW x (ix3 l d ⟨2112 + k.val, by omega⟩) = x (ix3 l d ⟨2080 + k.val, by omega⟩) := by
  pointwise [packW]
  repeat rw [dif_neg (by omega)]
  rw [dif_pos (by omega)]
  exact congrArg (fun j => x (ix3 l d j)) (Fin.ext (by show 2080 + (2112 + k.val - 384 - 32 - 32 - 32 - 32 - 1536 - 64) = 2080 + k.val; omega))

theorem packW_q2 (x : FVec Ideal S2x1024x2464 .f32) (l : Fin 2) (d : Fin 1024) (k : Fin 64) :
    packW x (ix3 l d ⟨2176 + k.val, by omega⟩) = x (ix3 l d ⟨2016 + k.val, by omega⟩) := by
  pointwise [packW]
  repeat rw [dif_neg (by omega)]
  rw [dif_pos (by omega)]
  exact congrArg (fun j => x (ix3 l d j)) (Fin.ext (by show 2016 + (2176 + k.val - 384 - 32 - 32 - 32 - 32 - 1536 - 64 - 64) = 2016 + k.val; omega))

theorem packW_q3 (x : FVec Ideal S2x1024x2464 .f32) (l : Fin 2) (d : Fin 1024) (k : Fin 64) :
    packW x (ix3 l d ⟨2240 + k.val, by omega⟩) = x (ix3 l d ⟨2144 + k.val, by omega⟩) := by
  pointwise [packW]
  repeat rw [dif_neg (by omega)]
  rw [dif_pos (by omega)]
  exact congrArg (fun j => x (ix3 l d j)) (Fin.ext (by show 2144 + (2240 + k.val - 384 - 32 - 32 - 32 - 32 - 1536 - 64 - 64 - 64) = 2144 + k.val; omega))

/-! ## The arrays -/

variable (a : Args) (l : Fin 2)

/-- Token `n`'s column `k` of the packed projection. -/
def K (n : Fin 10240) (k : Fin 2560) : EReal := tok a l n fun d => packW a.x5 (ix3 l d k)

theorem K_eq (n : Fin 10240) (k : Fin 2560) (k' : Fin 2464) (h : ∀ d, packW a.x5 (ix3 l d k) = a.x5 (ix3 l d k')) :
    K a l n k = R a l n k' :=
  congrArg (tok a l n) (funext h)

theorem K_at (n : Fin 10240) {k k₀ : Fin 2560} {k' b : Fin 2464} (hk : k.val = k₀.val) (hb : k'.val = b.val)
    (h : ∀ d, packW a.x5 (ix3 l d k₀) = a.x5 (ix3 l d b)) : K a l n k = R a l n k' := by
  obtain rfl := Fin.ext hk
  obtain rfl := Fin.ext hb
  exact K_eq a l n k k' h

/-- 512 columns of every token, from packed column 0. -/
def A5 : FVec Ideal S10240x512 .f32 := fun i =>
  K a l ⟨(i 0).val, (i 0).isLt⟩ ⟨0 + (i 1).val, by have : (i 1).val < 512 := (i 1).isLt; omega⟩

/-- 1280 columns of every token, from packed column 512. -/
def A6 : FVec Ideal S10240x1280 .f32 := fun i =>
  K a l ⟨(i 0).val, (i 0).isLt⟩ ⟨512 + (i 1).val, by have : (i 1).val < 1280 := (i 1).isLt; omega⟩

/-- 256 columns of every token, from packed column 1792. -/
def A7 : FVec Ideal S10240x256 .f32 := fun i =>
  K a l ⟨(i 0).val, (i 0).isLt⟩ ⟨1792 + (i 1).val, by have : (i 1).val < 256 := (i 1).isLt; omega⟩

/-- 512 columns of every token, from packed column 2048. -/
def A8 : FVec Ideal S10240x512 .f32 := fun i =>
  K a l ⟨(i 0).val, (i 0).isLt⟩ ⟨2048 + (i 1).val, by have : (i 1).val < 512 := (i 1).isLt; omega⟩

/-! ## The results -/

/-- The query heads put back in order, then the keys and values. -/
def order (x : FVec Ideal S10240x512 .f32) : FVec Ideal S10240x512 .f32 :=
  concatenate S10240x512 1
    [⟨S10240x256, concatenate S10240x256 1
      [⟨S10240x64, extractStridedSlice S10240x64 ![0, 0] x slices_S10240x512_S10240x64_0_0⟩,
       ⟨S10240x64, extractStridedSlice S10240x64 ![0, 128] x slices_S10240x512_S10240x64_0_128⟩,
       ⟨S10240x64, extractStridedSlice S10240x64 ![0, 64] x slices_S10240x512_S10240x64_0_64⟩,
       ⟨S10240x64, extractStridedSlice S10240x64 ![0, 192] x slices_S10240x512_S10240x64_0_192⟩]
      concatenates_S10240x64_S10240x64_S10240x64_S10240x64_S10240x256_d1⟩,
     ⟨S10240x256, extractStridedSlice S10240x256 ![0, 256] x slices_S10240x512_S10240x256_0_256⟩]
    concatenates_S10240x256_S10240x256_S10240x512_d1

/-- The latent mixer's columns, without the further copies of the rotary key. -/
def O0 : FVec Ideal S10240x416 .f32 := extractStridedSlice S10240x416 ![0, 0] (A5 a l) slices_S10240x512_S10240x416_0_0

/-- The context's rotary keys. -/
def O4 : FVec Ideal S32x256x32 .f32 :=
  shapeCast S32x256x32 (extractStridedSlice S8192x32 ![0, 384] (A5 a l) slices_S10240x512_S8192x32_0_384) shapeCasts_S8192x32_S32x256x32

/-- The context's keys of the windowed attention. -/
def O5 : FVec Ideal S32x256x2x64 .f32 :=
  shapeCast S32x256x2x64 (extractStridedSlice S8192x128 ![0, 256] (A8 a l) slices_S10240x512_S8192x128_0_256) shapeCasts_S8192x128_S32x256x2x64

/-- The context's values of the windowed attention. -/
def O6 : FVec Ideal S32x256x2x64 .f32 :=
  shapeCast S32x256x2x64 (extractStridedSlice S8192x128 ![0, 384] (A8 a l) slices_S10240x512_S8192x128_0_384) shapeCasts_S8192x128_S32x256x2x64

/-! The results at an index: the reference's columns. -/

theorem r0 (n : Fin 10240) (k : Fin 416) : O0 a l (ix2 n k) = R a l n ⟨k.val, by omega⟩ := by
  pointwise [O0, A5]
  exact K_eq a l n _ _ fun d => packW_mla _ l d k

theorem r1 (n : Fin 10240) (k : Fin 1280) : A6 a l (ix2 n k) = R a l n ⟨416 + k.val, by omega⟩ := by
  pointwise [A6]
  exact K_eq a l n _ _ fun d => packW_mid _ l d ⟨k.val, by omega⟩

theorem r2 (n : Fin 10240) (k : Fin 256) : A7 a l (ix2 n k) = R a l n ⟨1696 + k.val, by omega⟩ := by
  pointwise [A7]
  refine K_eq a l n _ _ fun d => ?_
  have e := packW_mid a.x5 l d ⟨1280 + k.val, by omega⟩
  simpa only [← Nat.add_assoc, Nat.reduceAdd] using e

theorem order_apply (x : FVec Ideal S10240x512 .f32) (n : Fin 10240) (k : Fin 512) :
    order x (ix2 n k) = if k.val < 64 then x (ix2 n k) else if h : k.val < 128 then x (ix2 n ⟨k.val + 64, by omega⟩)
      else if h : k.val < 192 then x (ix2 n ⟨k.val - 64, by omega⟩) else x (ix2 n k) := by
  pointwise [order]
  (repeat' split) <;> first | omega | rfl | exact congrArg (fun j => x (ix2 n j)) (Fin.ext (by dsimp only; omega))

theorem A8_apply (n : Fin 10240) (k : Fin 512) : A8 a l (ix2 n k) = K a l n ⟨2048 + k.val, by omega⟩ := rfl

theorem K_q0 (n : Fin 10240) (e : Fin 64) : K a l n ⟨2048 + e.val, by omega⟩ = R a l n ⟨1952 + e.val, by omega⟩ :=
  K_eq a l n _ _ fun d => packW_q0 _ l d e

theorem K_q1 (n : Fin 10240) (e : Fin 64) : K a l n ⟨2112 + e.val, by omega⟩ = R a l n ⟨2080 + e.val, by omega⟩ :=
  K_eq a l n _ _ fun d => packW_q1 _ l d e

theorem K_q2 (n : Fin 10240) (e : Fin 64) : K a l n ⟨2176 + e.val, by omega⟩ = R a l n ⟨2016 + e.val, by omega⟩ :=
  K_eq a l n _ _ fun d => packW_q2 _ l d e

theorem K_q3 (n : Fin 10240) (e : Fin 64) : K a l n ⟨2240 + e.val, by omega⟩ = R a l n ⟨2144 + e.val, by omega⟩ :=
  K_eq a l n _ _ fun d => packW_q3 _ l d e

theorem K_kv (n : Fin 10240) (e : Fin 256) : K a l n ⟨2304 + e.val, by omega⟩ = R a l n ⟨2208 + e.val, by omega⟩ :=
  K_eq a l n _ _ fun d => packW_kv _ l d e

theorem K_via (n : Fin 10240) {k k₀ : Fin 2560} {k' b : Fin 2464} (h : K a l n k₀ = R a l n b)
    (ha : k.val = k₀.val) (hb : b.val = k'.val) : K a l n k = R a l n k' := by
  obtain rfl := Fin.ext ha
  obtain rfl := Fin.ext hb
  exact h

/-- The kernel's query columns in the reference's order of the heads, and the keys and values behind them. -/
theorem K_order (n : Fin 10240) (k : Fin 512) :
    (if k.val < 64 then K a l n ⟨2048 + k.val, by omega⟩
      else if h : k.val < 128 then K a l n ⟨2048 + (k.val + 64), by omega⟩
      else if h : k.val < 192 then K a l n ⟨2048 + (k.val - 64), by omega⟩ else K a l n ⟨2048 + k.val, by omega⟩)
      = R a l n ⟨1952 + k.val, by omega⟩ := by
  by_cases h1 : k.val < 64
  · rw [if_pos h1]
    exact K_q0 a l n ⟨k.val, h1⟩
  rw [if_neg h1]
  by_cases h2 : k.val < 128
  · rw [dif_pos h2]
    exact K_via a l n (K_q2 a l n ⟨k.val - 64, by omega⟩) (by dsimp only; omega) (by dsimp only; omega)
  rw [dif_neg h2]
  by_cases h3 : k.val < 192
  · rw [dif_pos h3]
    exact K_via a l n (K_q1 a l n ⟨k.val - 128, by omega⟩) (by dsimp only; omega) (by dsimp only; omega)
  rw [dif_neg h3]
  by_cases h4 : k.val < 256
  · exact K_via a l n (K_q3 a l n ⟨k.val - 192, by omega⟩) (by dsimp only; omega) (by dsimp only; omega)
  · exact K_via a l n (K_kv a l n ⟨k.val - 256, by omega⟩) (by dsimp only; omega) (by dsimp only; omega)

theorem r3 (n : Fin 10240) (k : Fin 512) : order (A8 a l) (ix2 n k) = R a l n ⟨1952 + k.val, by omega⟩ := by
  rw [order_apply]
  simp only [A8_apply]
  exact K_order a l n k

/-- The row of context sequence `b`'s token `t`. -/
theorem R_ctx (b : Fin 32) (t : Fin 256) (k : Fin 2464) :
    R a l ⟨b.val * 256 + t.val, by omega⟩ k = ctx a l b t (wcol a l k) := by
  unfold R tok
  rw [dif_pos (show b.val * 256 + t.val < 8192 by omega)]
  congr 1 <;> exact Fin.ext (by dsimp only; omega)

theorem r4 (b : Fin 32) (t : Fin 256) (k : Fin 32) : O4 a l (ix3 b t k) = ctx a l b t (wcol a l ⟨384 + k.val, by omega⟩) := by
  rw [← R_ctx]
  pointwise [O4, A5]
  exact K_eq a l _ _ _ fun d => packW_mla _ l d ⟨384 + k.val, by omega⟩

theorem r5 (b : Fin 32) (t : Fin 256) (h : Fin 2) (e : Fin 64) :
    O5 a l (ix4 b t h e) = ctx a l b t (wcol a l ⟨2208 + (h.val * 64 + e.val), by omega⟩) := by
  rw [← R_ctx]
  pointwise [O5, A8]
  refine K_at a l _ ?_ ?_ (fun d => packW_kv _ l d ⟨h.val * 64 + e.val, by omega⟩) <;> (try dsimp only) <;> omega

theorem r6 (b : Fin 32) (t : Fin 256) (h : Fin 2) (e : Fin 64) :
    O6 a l (ix4 b t h e) = ctx a l b t (wcol a l ⟨2336 + (h.val * 64 + e.val), by omega⟩) := by
  rw [← R_ctx]
  pointwise [O6, A8]
  refine K_at a l _ ?_ ?_ (fun d => packW_kv _ l d ⟨128 + (h.val * 64 + e.val), by omega⟩) <;> (try dsimp only) <;> omega

/-! Arrays that agree at every index. -/

theorem ext2 {S T : Nat} (f g : FVec Ideal ⟨2, ![S, T]⟩ .f32)
    (h : ∀ (n : Fin S) (k : Fin T), f (ix2 n k) = g (ix2 n k)) : f = g := by
  funext i
  have e : i = ix2 (i 0) (i 1) := funext fun a => by fin_cases a <;> rfl
  exact (congrArg f e).trans ((h _ _).trans (congrArg g e.symm))

theorem ext3 {S T U : Nat} (f g : FVec Ideal ⟨3, ![S, T, U]⟩ .f32)
    (h : ∀ (a : Fin S) (b : Fin T) (d : Fin U), f (ix3 a b d) = g (ix3 a b d)) : f = g := by
  funext i
  have e : i = ix3 (i 0) (i 1) (i 2) := funext fun a => by fin_cases a <;> rfl
  exact (congrArg f e).trans ((h _ _ _).trans (congrArg g e.symm))

theorem ext4 {S T U V : Nat} (f g : FVec Ideal ⟨4, ![S, T, U, V]⟩ .f32)
    (h : ∀ (a : Fin S) (b : Fin T) (d : Fin U) (e : Fin V), f (ix4 a b d e) = g (ix4 a b d e)) : f = g := by
  funext i
  have e : i = ix4 (i 0) (i 1) (i 2) (i 3) := funext fun a => by fin_cases a <;> rfl
  exact (congrArg f e).trans ((h _ _ _ _).trans (congrArg g e.symm))

end Cert.InTok

end
-- ==== Proof.InValue.lean ====
module

public import proofs.«01_k».proof.Proof.InTok
public import proofs.«01_k».proof.Proof.Gen.Kernel3Ideal.Frame
public import Idealize.ShloMosaic.Lib.Pointwise

@[expose] public section

set_option maxRecDepth 16384

noncomputable section

/-! # The input projection's arrays

A grid point's block is 512 rows of one group; its columns are those of the packed weight. The host reads the results' columns back
in the order of the reference's. -/

namespace Cert.Kernel3Ideal.InProj

open Cert.Kernel3Ideal Cert.Kernel3Ideal.Gen Idealize.ShloMosaic Idealize.ShloMosaic.TcCoe Idealize.SL.Sem Cert.InMath Cert.InTok

/-! ## The gain -/

def packG (x : FVec Ideal S2x1024 .f32) : FVec Ideal S1x1024 .f32 :=
  broadcastInDim S1x1024 ![1] bcast_S1024_S1x1024_1
    (shapeCast S1024 (extractStridedSlice S1x1024 ![0, 0] x slices_S2x1024_S1x1024_0_0) shapeCasts_S1x1024_S1024)

theorem packG_apply (x : FVec Ideal S2x1024 .f32) (d : Fin 1024) : packG x (ix2 0 d) = x (ix2 0 d) := by
  pointwise [packG]

/-! ## A block's columns -/

section
variable (i : grid0.Coords) (v1 v3 : Vec Ideal S512x1024 .f32) (v6 v8 : Vec Ideal S1x1x1024 .f32) (v10 : Vec Ideal S1x1024 .f32)
  (v31 : Vec Ideal S1x1024x2560 .bf16)

theorem pay_ctx (h : Scalar.cmpi .slt (BitVec.ofNat 32 (i 0).val) 16#32 = 1#1) (r : Fin 512) (k : Fin 2560) :
    k0_pay4 (F := Ideal) i v1 v3 v6 v8 v10 v31 (ix2 r k)
      = col (fun d => v1 (ix2 r d)) (fun d => v10 (ix2 0 d)) (fun d => v6 (ix3 0 0 d)) (fun d => v8 (ix3 0 0 d)) (fun d => v31 (ix3 0 d k)) := by
  unfold k0_pay4
  simp only [h]
  pointwise [Scalar.select]
  unfold col row rinv
  rfl

theorem pay_lat (h : Scalar.cmpi .slt (BitVec.ofNat 32 (i 0).val) 16#32 = 0#1) (r : Fin 512) (k : Fin 2560) :
    k0_pay4 (F := Ideal) i v1 v3 v6 v8 v10 v31 (ix2 r k)
      = col (fun d => v3 (ix2 r d)) (fun d => v10 (ix2 0 d)) (fun d => v6 (ix3 0 0 d)) (fun d => v8 (ix3 0 0 d)) (fun d => v31 (ix3 0 d k)) := by
  unfold k0_pay4
  simp only [h]
  pointwise [Scalar.select]
  unfold col row rinv
  rfl
end

variable (m : (ℓ : Loc nD τ sig) → Buf (Elt Ideal) ℓ) (ρ : Dev nD → PrngReg)

theorem V_xp (c : Dev nD) : V m c main_v0 = shapeCast S8192x1024 (m ((c : Thread nD τ).loc main_arg0)) shapeCasts_S32x256x1024_S8192x1024 := by
  show StableHlo.after hostOps0 _ (Proc.devRef .tc main_v0) = _
  after_results
  rfl

theorem V_xs (c : Dev nD) : V m c main_v1 = shapeCast S2048x1024 (m ((c : Thread nD τ).loc main_arg1)) shapeCasts_S2x1024x1024_S2048x1024 := by
  show StableHlo.after hostOps0 _ (Proc.devRef .tc main_v1) = _
  after_results
  rfl

theorem V_mod (c : Dev nD) : V m c main_v4 = packM (m ((c : Thread nD τ).loc main_arg2)) (m ((c : Thread nD τ).loc main_arg3)) := by
  show StableHlo.after hostOps0 _ (Proc.devRef .tc main_v4) = _
  after_results
  rfl

theorem V_g (c : Dev nD) : V m c main_v7 = packG (m ((c : Thread nD τ).loc main_arg4)) := by
  show StableHlo.after hostOps0 _ (Proc.devRef .tc main_v7) = _
  after_results
  rfl

theorem V_w (c : Dev nD) : V m c main_v17 = packW (m ((c : Thread nD τ).loc main_arg5)) := by
  show StableHlo.after hostOps0 _ (Proc.devRef .tc main_v17) = _
  after_results
  rfl

/-! ## A grid point's blocks -/

theorem point_lt (t : Fin cfg0.N) : t.val < 20 := lt_of_lt_of_eq t.isLt N_0

theorem idx_in : ∀ t : Fin grid0.N, win0_0.index t 0 = min t.val 15 ∧ win0_0.index t 1 = 0 ∧ win0_1.index t 0 = t.val - 16 ∧ win0_1.index t 1 = 0
    ∧ win0_2.index t 0 = (if t.val < 16 then 0 else 1 + (t.val - 16) / 2) ∧ win0_2.index t 1 = 0 ∧ win0_2.index t 2 = 0
    ∧ win0_3.index t 0 = 0 ∧ win0_3.index t 1 = 0 ∧ win0_4.index t 0 = 0 ∧ win0_4.index t 1 = 0 ∧ win0_4.index t 2 = 0 := by
  decide +kernel

theorem idx_out : ∀ t : Fin grid0.N, win0_5.index t 0 = t.val ∧ win0_5.index t 1 = 0 ∧ win0_6.index t 0 = t.val ∧ win0_6.index t 1 = 0
    ∧ win0_7.index t 0 = t.val ∧ win0_7.index t 1 = 0 ∧ win0_8.index t 0 = t.val ∧ win0_8.index t 1 = 0 := by
  decide +kernel

theorem group : ∀ t : Fin grid0.N, Scalar.cmpi .slt (BitVec.ofNat 32 ((grid0.coords t) 0).val) 16#32 = if t.val < 16 then 1#1 else 0#1 := by
  decide +kernel

theorem rows_ctx (y : FVec Ideal S32x256x1024 .f32) (n : Fin 8192) (d : Fin 1024) :
    shapeCast S8192x1024 y shapeCasts_S32x256x1024_S8192x1024 (ix2 n d) = y (ix3 ⟨n.val / 256, by omega⟩ ⟨n.val % 256, by omega⟩ d) := by
  pointwise

theorem rows_lat (y : FVec Ideal S2x1024x1024 .f32) (n : Fin 2048) (d : Fin 1024) :
    shapeCast S2048x1024 y shapeCasts_S2x1024x1024_S2048x1024 (ix2 n d) = y (ix3 ⟨n.val / 1024, by omega⟩ ⟨n.val % 1024, by omega⟩ d) := by
  pointwise

theorem blk0 (c : Dev nD) (t : Fin cfg0.N) (ht : t.val < 16) (r : Fin 512) (d : Fin 1024) :
    iblk m c 0 t (ix2 r d) = (m ((c : Thread nD τ).loc main_arg0) : FVec Ideal S32x256x1024 .f32)
      (ix3 ⟨(t.val * 512 + r.val) / 256, by omega⟩ ⟨(t.val * 512 + r.val) % 256, by omega⟩ d) := by
  have h := idx_in t
  have e : iblk m c 0 t (ix2 r d) = V m c main_v0 (ix2 ⟨t.val * 512 + r.val, by omega⟩ d) := by
    refine congrArg (V m c main_v0) (funext fun a => Fin.ext ?_)
    match a with
    | ⟨0, _⟩ => show win0_0.index t 0 * 512 + 1 * r.val = t.val * 512 + r.val; rw [h.1]; omega
    | ⟨1, _⟩ => show win0_0.index t 1 * 1024 + 1 * d.val = d.val; rw [h.2.1]; omega
  rw [e, V_xp]
  exact rows_ctx _ ⟨t.val * 512 + r.val, by omega⟩ d

theorem blk1 (c : Dev nD) (t : Fin cfg0.N) (ht : ¬ t.val < 16) (r : Fin 512) (d : Fin 1024) :
    iblk m c 1 t (ix2 r d) = (m ((c : Thread nD τ).loc main_arg1) : FVec Ideal S2x1024x1024 .f32)
      (ix3 ⟨(t.val * 512 + r.val - 8192) / 1024, by have := point_lt t; omega⟩ ⟨(t.val * 512 + r.val - 8192) % 1024, by omega⟩ d) := by
  have h := idx_in t
  have hl := point_lt t
  have e : iblk m c 1 t (ix2 r d) = V m c main_v1 (ix2 ⟨t.val * 512 + r.val - 8192, by omega⟩ d) := by
    refine congrArg (V m c main_v1) (funext fun a => Fin.ext ?_)
    match a with
    | ⟨0, _⟩ => show win0_1.index t 0 * 512 + 1 * r.val = t.val * 512 + r.val - 8192; rw [h.2.2.1]; omega
    | ⟨1, _⟩ => show win0_1.index t 1 * 1024 + 1 * d.val = d.val; rw [h.2.2.2.1]; omega
  rw [e, V_xs]
  exact rows_lat _ ⟨t.val * 512 + r.val - 8192, by omega⟩ d

theorem blk2 (c : Dev nD) (t : Fin cfg0.N) (k : Fin 6144) :
    iblk m c 2 t (ix3 0 0 k) = packM (m ((c : Thread nD τ).loc main_arg2)) (m ((c : Thread nD τ).loc main_arg3))
      (ix3 ⟨if t.val < 16 then 0 else 1 + (t.val - 16) / 2, by have := point_lt t; split <;> omega⟩ 0 k) := by
  rw [← V_mod]
  have h := idx_in t
  refine congrArg (V m c main_v4) (funext fun a => Fin.ext ?_)
  match a with
  | ⟨0, _⟩ => show win0_2.index t 0 * 1 + 1 * 0 = if t.val < 16 then 0 else 1 + (t.val - 16) / 2; rw [h.2.2.2.2.1]; omega
  | ⟨1, _⟩ => show win0_2.index t 1 * 1 + 1 * 0 = 0; rw [h.2.2.2.2.2.1]
  | ⟨2, _⟩ => show win0_2.index t 2 * 6144 + 1 * k.val = k.val; rw [h.2.2.2.2.2.2.1]; omega

theorem blk3 (c : Dev nD) (t : Fin cfg0.N) (d : Fin 1024) :
    iblk m c 3 t (ix2 0 d) = (m ((c : Thread nD τ).loc main_arg4) : FVec Ideal S2x1024 .f32) (ix2 0 d) := by
  have h := idx_in t
  have e : iblk m c 3 t (ix2 0 d) = V m c main_v7 (ix2 0 d) := by
    refine congrArg (V m c main_v7) (funext fun a => Fin.ext ?_)
    match a with
    | ⟨0, _⟩ => show win0_3.index t 0 * 1 + 1 * 0 = 0; rw [h.2.2.2.2.2.2.2.1]
    | ⟨1, _⟩ => show win0_3.index t 1 * 1024 + 1 * d.val = d.val; rw [h.2.2.2.2.2.2.2.2.1]; omega
  rw [e, V_g, packG_apply]

theorem blk4 (c : Dev nD) (t : Fin cfg0.N) (d : Fin 1024) (k : Fin 2560) :
    iblk m c 4 t (ix3 0 d k) = packW (m ((c : Thread nD τ).loc main_arg5)) (ix3 0 d k) := by
  rw [← V_w]
  have h := idx_in t
  refine congrArg (V m c main_v17) (funext fun a => Fin.ext ?_)
  match a with
  | ⟨0, _⟩ => show win0_4.index t 0 * 1 + 1 * 0 = 0; rw [h.2.2.2.2.2.2.2.2.2.1]
  | ⟨1, _⟩ => show win0_4.index t 1 * 1024 + 1 * d.val = d.val; rw [h.2.2.2.2.2.2.2.2.2.2.1]; omega
  | ⟨2, _⟩ => show win0_4.index t 2 * 2560 + 1 * k.val = k.val; rw [h.2.2.2.2.2.2.2.2.2.2.2]; omega

theorem hz2 : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S512x1024 .f32) : View.ld x r0_0 = x := by unfold r0_0; rw [View.ld_unit_zero hz2]
theorem ld3 (x : Vec Ideal S1x1024 .f32) : View.ld x r0_3 = x := by unfold r0_3; rw [View.ld_unit_zero hz2]
theorem ld4 (x : Vec Ideal S1x1024x2560 .bf16) : View.ld x r0_4 = x := by unfold r0_4; rw [View.ld_unit_zero hz3]

theorem ld1 (x : Vec Ideal S1x1x6144 .f32) (d : Fin 1024) : View.ld x r0_1 (ix3 0 0 d) = x (ix3 0 0 ⟨d.val, by omega⟩) := by
  refine congrArg x (funext fun a => Fin.ext ?_)
  match a with
  | ⟨0, _⟩ => rfl
  | ⟨1, _⟩ => rfl
  | ⟨2, _⟩ => show 0 + 1 * d.val = d.val; omega

theorem ld2 (x : Vec Ideal S1x1x6144 .f32) (d : Fin 1024) : View.ld x r0_2 (ix3 0 0 d) = x (ix3 0 0 ⟨1024 + d.val, by omega⟩) := by
  refine congrArg x (funext fun a => Fin.ext ?_)
  match a with
  | ⟨0, _⟩ => rfl
  | ⟨1, _⟩ => rfl
  | ⟨2, _⟩ => show 1024 + 1 * d.val = 1024 + d.val; omega

/-! ## The arrays -/

/-- The call's arguments. -/
abbrev args (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

theorem pay_apply (c : Dev nD) (t : Fin cfg0.N) (r : Fin 512) (k : Fin 2560) :
    k0_pay4 (F := Ideal) (grid0.coords t) (View.ld (iblk m c 0 t) r0_0) (View.ld (iblk m c 1 t) r0_0) (View.ld (iblk m c 2 t) r0_1)
        (View.ld (iblk m c 2 t) r0_2) (View.ld (iblk m c 3 t) r0_3) (View.ld (iblk m c 4 t) r0_4) (ix2 r k)
      = K (args m c) 0 ⟨t.val * 512 + r.val, by have := point_lt t; omega⟩ k := by
  have hl := point_lt t
  have hg := group t
  rw [ld0, ld0, ld3, ld4]
  have eg : (fun d => iblk m c 3 t (ix2 0 d)) = fun d => (m ((c : Thread nD τ).loc main_arg4) : FVec Ideal S2x1024 .f32) (ix2 0 d) :=
    funext fun d => blk3 m c t d
  have ew : (fun d => iblk m c 4 t (ix3 0 d k)) = fun d => packW (m ((c : Thread nD τ).loc main_arg5)) (ix3 0 d k) :=
    funext fun d => blk4 m c t d k
  unfold K tok ctx lat
  by_cases ht : t.val < 16
  · rw [if_pos ht] at hg
    rw [dif_pos (show t.val * 512 + r.val < 8192 by omega)]
    refine (pay_ctx _ _ _ _ _ _ _ hg r k).trans ?_
    have e2 : ∀ j : Fin 6144, iblk m c 2 t (ix3 0 0 j) = (m ((c : Thread nD τ).loc main_arg2) : FVec Ideal S1x6144 .f32) (ix2 0 j) := fun j =>
      (blk2 m c t j).trans ((congrArg (fun b => packM _ _ (ix3 b 0 j)) (Fin.ext (if_pos ht))).trans (packM_ctx _ _ j))
    have ex := funext fun d => blk0 m c t ht r d
    have es : (fun d => View.ld (iblk m c 2 t) r0_1 (ix3 0 0 d)) = fun d => (m ((c : Thread nD τ).loc main_arg2) : FVec Ideal S1x6144 .f32) (ix2 0 ⟨d.val, by omega⟩) :=
      funext fun d => (ld1 _ d).trans (e2 _)
    have ec : (fun d => View.ld (iblk m c 2 t) r0_2 (ix3 0 0 d)) = fun d => (m ((c : Thread nD τ).loc main_arg2) : FVec Ideal S1x6144 .f32) (ix2 0 ⟨1024 + d.val, by omega⟩) :=
      funext fun d => (ld2 _ d).trans (e2 _)
    rw [es, ec, ex, eg, ew]
  · rw [if_neg ht] at hg
    rw [dif_neg (show ¬ t.val * 512 + r.val < 8192 by omega)]
    refine (pay_lat _ _ _ _ _ _ _ hg r k).trans ?_
    have e2 : ∀ j : Fin 6144, iblk m c 2 t (ix3 0 0 j)
        = (m ((c : Thread nD τ).loc main_arg3) : FVec Ideal S2x6144 .f32) (ix2 ⟨(t.val * 512 + r.val - 8192) / 1024, by omega⟩ j) := fun j =>
      (blk2 m c t j).trans ((congrArg (fun b => packM _ _ (ix3 b 0 j)) (Fin.ext (by
        show (if t.val < 16 then 0 else 1 + (t.val - 16) / 2) = 1 + (t.val * 512 + r.val - 8192) / 1024
        rw [if_neg ht]; omega))).trans (packM_lat _ _ ⟨(t.val * 512 + r.val - 8192) / 1024, by omega⟩ j))
    have ex := funext fun d => blk1 m c t ht r d
    have es : (fun d => View.ld (iblk m c 2 t) r0_1 (ix3 0 0 d)) = fun d => (m ((c : Thread nD τ).loc main_arg3) : FVec Ideal S2x6144 .f32) (ix2 ⟨(t.val * 512 + r.val - 8192) / 1024, by omega⟩ ⟨d.val, by omega⟩) :=
      funext fun d => (ld1 _ d).trans (e2 _)
    have ec : (fun d => View.ld (iblk m c 2 t) r0_2 (ix3 0 0 d)) = fun d => (m ((c : Thread nD τ).loc main_arg3) : FVec Ideal S2x6144 .f32) (ix2 ⟨(t.val * 512 + r.val - 8192) / 1024, by omega⟩ ⟨1024 + d.val, by omega⟩) :=
      funext fun d => (ld2 _ d).trans (e2 _)
    rw [es, ec, ex, eg, ew]

theorem cols5 (i : grid0.Coords) (v1 v3 : Vec Ideal S512x1024 .f32) (v6 v8 : Vec Ideal S1x1x1024 .f32) (v10 : Vec Ideal S1x1024 .f32)
    (v31 : Vec Ideal S1x1024x2560 .bf16) (r j : Fin 512) :
    k0_pay5 (F := Ideal) i v1 v3 v6 v8 v10 v31 (ix2 r j) = k0_pay4 (F := Ideal) i v1 v3 v6 v8 v10 v31 (ix2 r ⟨0 + j.val, by omega⟩) := by
  unfold k0_pay5
  generalize k0_pay4 (F := Ideal) i v1 v3 v6 v8 v10 v31 = p
  pointwise

theorem flushed5 (c : Dev nD) (t : Fin cfg0.N) :
    (dats m 0 c).flushed 5 t = (win0_5.blk t).view.read (Elt Ideal) (A5 (args m c) 0) := by
  have ht := point_lt t
  have h := idx_out t
  show (cfg0.win 5).cut (grid0.coords t) ((dats m 0 c).after 5 t) = _
  rw [after0_5]
  unfold_out out0_5
  funext y
  change S512x512.Idx at y
  idx_vars y
  refine (congrFun (View.canon_unit_zero hz2 _ _) (ix2 y0 y1)).trans ?_
  have e' : (win0_5.blk t).view.read (Elt Ideal) (A5 (args m c) 0) (ix2 y0 y1) = A5 (args m c) 0 (ix2 ⟨t.val * 512 + y0.val, by omega⟩ y1) :=
    congrArg (A5 (args m c) 0) (funext fun a => Fin.ext (match a with
      | ⟨0, _⟩ => by show win0_5.index t 0 * 512 + 1 * y0.val = t.val * 512 + y0.val; rw [h.1]; omega
      | ⟨1, _⟩ => by show win0_5.index t 1 * 512 + 1 * y1.val = y1.val; rw [h.2.1]; omega))
  refine Eq.trans ?_ e'.symm
  refine Eq.trans ?_ (pay_apply m c t y0 ⟨0 + y1.val, by omega⟩)
  exact cols5 _ _ _ _ _ _ _ y0 y1

theorem mem_blk5 (t : Fin cfg0.N) (i : S10240x512.Idx) :
    i ∈ ((cfg0.win 5).blk t).view.set ↔ t.val * 512 ≤ (i 0 : Nat) ∧ (i 0 : Nat) < t.val * 512 + 512 := by
  show i ∈ ((View.whole main_v18_0).slice (win0_5.rect t)).set ↔ _
  rw [View.set_slice_whole, Rect.mem_set_unit]
  have h1 : (i 1 : Nat) < 512 := (i 1).isLt
  have e : win0_5.index t 0 * win0_5.size 0 = t.val * 512 ∧ win0_5.xsize (grid0.coords t) 0 = 512
      ∧ win0_5.index t 1 * win0_5.size 1 = 0 ∧ win0_5.xsize (grid0.coords t) 1 = 512 :=
    (by decide +kernel : ∀ t : Fin grid0.N, win0_5.index t 0 * win0_5.size 0 = t.val * 512 ∧ win0_5.xsize (grid0.coords t) 0 = 512
      ∧ win0_5.index t 1 * win0_5.size 1 = 0 ∧ win0_5.xsize (grid0.coords t) 1 = 512) t
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

theorem final5 (c : Dev nD) : (dats m 0 c).arrAt 5 cfg0.N = A5 (args m c) 0 :=
  (dats m 0 c).arrAt_eq_of_cover 5 (A5 (args m c) 0) (fun t _ => flushed5 m c t) fun i => by
    have h0 : (i 0 : Nat) < 10240 := (i 0).isLt
    have hN : cfg0.N = 20 := N_0
    refine ⟨⟨(i 0 : Nat) / 512, by omega⟩, flush0_5 _, ?_⟩
    rw [mem_blk5]
    dsimp only
    omega

theorem cols6 (p : FVec Ideal S512x2560 .f32) (r : Fin 512) (j : Fin 1280) :
    k0_pay1 (F := Ideal) p (ix2 r j) = p (ix2 r ⟨512 + j.val, by omega⟩) := by
  unfold k0_pay1
  pointwise

theorem flushed6 (c : Dev nD) (t : Fin cfg0.N) :
    (dats m 0 c).flushed 6 t = (win0_6.blk t).view.read (Elt Ideal) (A6 (args m c) 0) := by
  have ht := point_lt t
  have h := idx_out t
  show (cfg0.win 6).cut (grid0.coords t) ((dats m 0 c).after 6 t) = _
  rw [after0_6]
  unfold_out out0_6
  funext y
  change S512x1280.Idx at y
  idx_vars y
  refine (congrFun (View.canon_unit_zero hz2 _ _) (ix2 y0 y1)).trans ?_
  have e' : (win0_6.blk t).view.read (Elt Ideal) (A6 (args m c) 0) (ix2 y0 y1) = A6 (args m c) 0 (ix2 ⟨t.val * 512 + y0.val, by omega⟩ y1) :=
    congrArg (A6 (args m c) 0) (funext fun a => Fin.ext (match a with
      | ⟨0, _⟩ => by show win0_6.index t 0 * 512 + 1 * y0.val = t.val * 512 + y0.val; rw [h.2.2.1]; omega
      | ⟨1, _⟩ => by show win0_6.index t 1 * 1280 + 1 * y1.val = y1.val; rw [h.2.2.2.1]; omega))
  refine Eq.trans ?_ e'.symm
  refine Eq.trans ?_ (pay_apply m c t y0 ⟨512 + y1.val, by omega⟩)
  exact cols6 _ y0 y1

theorem mem_blk6 (t : Fin cfg0.N) (i : S10240x1280.Idx) :
    i ∈ ((cfg0.win 6).blk t).view.set ↔ t.val * 512 ≤ (i 0 : Nat) ∧ (i 0 : Nat) < t.val * 512 + 512 := by
  show i ∈ ((View.whole main_v18_1).slice (win0_6.rect t)).set ↔ _
  rw [View.set_slice_whole, Rect.mem_set_unit]
  have h1 : (i 1 : Nat) < 1280 := (i 1).isLt
  have e : win0_6.index t 0 * win0_6.size 0 = t.val * 512 ∧ win0_6.xsize (grid0.coords t) 0 = 512
      ∧ win0_6.index t 1 * win0_6.size 1 = 0 ∧ win0_6.xsize (grid0.coords t) 1 = 1280 :=
    (by decide +kernel : ∀ t : Fin grid0.N, win0_6.index t 0 * win0_6.size 0 = t.val * 512 ∧ win0_6.xsize (grid0.coords t) 0 = 512
      ∧ win0_6.index t 1 * win0_6.size 1 = 0 ∧ win0_6.xsize (grid0.coords t) 1 = 1280) t
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e.1, e.2.1]; exact h
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

theorem final6 (c : Dev nD) : (dats m 0 c).arrAt 6 cfg0.N = A6 (args m c) 0 :=
  (dats m 0 c).arrAt_eq_of_cover 6 (A6 (args m c) 0) (fun t _ => flushed6 m c t) fun i => by
    have h0 : (i 0 : Nat) < 10240 := (i 0).isLt
    have hN : cfg0.N = 20 := N_0
    refine ⟨⟨(i 0 : Nat) / 512, by omega⟩, flush0_6 _, ?_⟩
    rw [mem_blk6]
    dsimp only
    omega

theorem cols7 (p : FVec Ideal S512x2560 .f32) (r : Fin 512) (j : Fin 256) :
    k0_pay2 (F := Ideal) p (ix2 r j) = p (ix2 r ⟨1792 + j.val, by omega⟩) := by
  unfold k0_pay2
  pointwise

theorem flushed7 (c : Dev nD) (t : Fin cfg0.N) :
    (dats m 0 c).flushed 7 t = (win0_7.blk t).view.read (Elt Ideal) (A7 (args m c) 0) := by
  have ht := point_lt t
  have h := idx_out t
  show (cfg0.win 7).cut (grid0.coords t) ((dats m 0 c).after 7 t) = _
  rw [after0_7]
  unfold_out out0_7
  funext y
  change S512x256.Idx at y
  idx_vars y
  refine (congrFun (View.canon_unit_zero hz2 _ _) (ix2 y0 y1)).trans ?_
  have e' : (win0_7.blk t).view.read (Elt Ideal) (A7 (args m c) 0) (ix2 y0 y1) = A7 (args m c) 0 (ix2 ⟨t.val * 512 + y0.val, by omega⟩ y1) :=
    congrArg (A7 (args m c) 0) (funext fun a => Fin.ext (match a with
      | ⟨0, _⟩ => by show win0_7.index t 0 * 512 + 1 * y0.val = t.val * 512 + y0.val; rw [h.2.2.2.2.1]; omega
      | ⟨1, _⟩ => by show win0_7.index t 1 * 256 + 1 * y1.val = y1.val; rw [h.2.2.2.2.2.1]; omega))
  refine Eq.trans ?_ e'.symm
  refine Eq.trans ?_ (pay_apply m c t y0 ⟨1792 + y1.val, by omega⟩)
  exact cols7 _ y0 y1

theorem mem_blk7 (t : Fin cfg0.N) (i : S10240x256.Idx) :
    i ∈ ((cfg0.win 7).blk t).view.set ↔ t.val * 512 ≤ (i 0 : Nat) ∧ (i 0 : Nat) < t.val * 512 + 512 := by
  show i ∈ ((View.whole main_v18_2).slice (win0_7.rect t)).set ↔ _
  rw [View.set_slice_whole, Rect.mem_set_unit]
  have h1 : (i 1 : Nat) < 256 := (i 1).isLt
  have e : win0_7.index t 0 * win0_7.size 0 = t.val * 512 ∧ win0_7.xsize (grid0.coords t) 0 = 512
      ∧ win0_7.index t 1 * win0_7.size 1 = 0 ∧ win0_7.xsize (grid0.coords t) 1 = 256 :=
    (by decide +kernel : ∀ t : Fin grid0.N, win0_7.index t 0 * win0_7.size 0 = t.val * 512 ∧ win0_7.xsize (grid0.coords t) 0 = 512
      ∧ win0_7.index t 1 * win0_7.size 1 = 0 ∧ win0_7.xsize (grid0.coords t) 1 = 256) t
  refine ⟨fun h => ?_, fun h a => ?_⟩
  · have : win0_7.index t 0 * win0_7.size 0 ≤ (i 0 : Nat) ∧ (i 0 : Nat) < win0_7.index t 0 * win0_7.size 0 + win0_7.xsize (grid0.coords t) 0 := h 0
    rw [e.1, e.2.1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e.1, e.2.1]; exact h
    | ⟨1, _⟩ => show win0_7.index t 1 * win0_7.size 1 ≤ (i 1 : Nat) ∧ (i 1 : Nat) < win0_7.index t 1 * win0_7.size 1 + win0_7.xsize (grid0.coords t) 1
                rw [e.2.2.1, e.2.2.2]; omega

theorem final7 (c : Dev nD) : (dats m 0 c).arrAt 7 cfg0.N = A7 (args m c) 0 :=
  (dats m 0 c).arrAt_eq_of_cover 7 (A7 (args m c) 0) (fun t _ => flushed7 m c t) fun i => by
    have h0 : (i 0 : Nat) < 10240 := (i 0).isLt
    have hN : cfg0.N = 20 := N_0
    refine ⟨⟨(i 0 : Nat) / 512, by omega⟩, flush0_7 _, ?_⟩
    rw [mem_blk7]
    dsimp only
    omega

theorem cols8 (p : FVec Ideal S512x2560 .f32) (r : Fin 512) (j : Fin 512) :
    k0_pay3 (F := Ideal) p (ix2 r j) = p (ix2 r ⟨2048 + j.val, by omega⟩) := by
  unfold k0_pay3
  pointwise

theorem flushed8 (c : Dev nD) (t : Fin cfg0.N) :
    (dats m 0 c).flushed 8 t = (win0_8.blk t).view.read (Elt Ideal) (A8 (args m c) 0) := by
  have ht := point_lt t
  have h := idx_out t
  show (cfg0.win 8).cut (grid0.coords t) ((dats m 0 c).after 8 t) = _
  rw [after0_8]
  unfold_out out0_8
  funext y
  change S512x512.Idx at y
  idx_vars y
  refine (congrFun (View.canon_unit_zero hz2 _ _) (ix2 y0 y1)).trans ?_
  have e' : (win0_8.blk t).view.read (Elt Ideal) (A8 (args m c) 0) (ix2 y0 y1) = A8 (args m c) 0 (ix2 ⟨t.val * 512 + y0.val, by omega⟩ y1) :=
    congrArg (A8 (args m c) 0) (funext fun a => Fin.ext (match a with
      | ⟨0, _⟩ => by show win0_8.index t 0 * 512 + 1 * y0.val = t.val * 512 + y0.val; rw [h.2.2.2.2.2.2.1]; omega
      | ⟨1, _⟩ => by show win0_8.index t 1 * 512 + 1 * y1.val = y1.val; rw [h.2.2.2.2.2.2.2]; omega))
  refine Eq.trans ?_ e'.symm
  refine Eq.trans ?_ (pay_apply m c t y0 ⟨2048 + y1.val, by omega⟩)
  exact cols8 _ y0 y1

theorem mem_blk8 (t : Fin cfg0.N) (i : S10240x512.Idx) :
    i ∈ ((cfg0.win 8).blk t).view.set ↔ t.val * 512 ≤ (i 0 : Nat) ∧ (i 0 : Nat) < t.val * 512 + 512 := by
  show i ∈ ((View.whole main_v18_3).slice (win0_8.rect t)).set ↔ _
  rw [View.set_slice_whole, Rect.mem_set_unit]
  have h1 : (i 1 : Nat) < 512 := (i 1).isLt
  have e : win0_8.index t 0 * win0_8.size 0 = t.val * 512 ∧ win0_8.xsize (grid0.coords t) 0 = 512
      ∧ win0_8.index t 1 * win0_8.size 1 = 0 ∧ win0_8.xsize (grid0.coords t) 1 = 512 :=
    (by decide +kernel : ∀ t : Fin grid0.N, win0_8.index t 0 * win0_8.size 0 = t.val * 512 ∧ win0_8.xsize (grid0.coords t) 0 = 512
      ∧ win0_8.index t 1 * win0_8.size 1 = 0 ∧ win0_8.xsize (grid0.coords t) 1 = 512) t
  refine ⟨fun h => ?_, fun h a => ?_⟩
  · have : win0_8.index t 0 * win0_8.size 0 ≤ (i 0 : Nat) ∧ (i 0 : Nat) < win0_8.index t 0 * win0_8.size 0 + win0_8.xsize (grid0.coords t) 0 := h 0
    rw [e.1, e.2.1] at this; exact this
  · match a with
    | ⟨0, _⟩ => show win0_8.index t 0 * win0_8.size 0 ≤ (i 0 : Nat) ∧ (i 0 : Nat) < win0_8.index t 0 * win0_8.size 0 + win0_8.xsize (grid0.coords t) 0
                rw [e.1, e.2.1]; exact h
    | ⟨1, _⟩ => show win0_8.index t 1 * win0_8.size 1 ≤ (i 1 : Nat) ∧ (i 1 : Nat) < win0_8.index t 1 * win0_8.size 1 + win0_8.xsize (grid0.coords t) 1
                rw [e.2.2.1, e.2.2.2]; omega

theorem final8 (c : Dev nD) : (dats m 0 c).arrAt 8 cfg0.N = A8 (args m c) 0 :=
  (dats m 0 c).arrAt_eq_of_cover 8 (A8 (args m c) 0) (fun t _ => flushed8 m c t) fun i => by
    have h0 : (i 0 : Nat) < 10240 := (i 0).isLt
    have hN : cfg0.N = 20 := N_0
    refine ⟨⟨(i 0 : Nat) / 512, by omega⟩, flush0_8 _, ?_⟩
    rw [mem_blk8]
    dsimp only
    omega

/-! ## The results -/

theorem arr_inj : Function.Injective (Pipeline.arrRef spec0) := by decide

/-- The buffers when the lines after the region begin. -/
abbrev W (c : Dev nD) : Valuation τ sig (Elt Ideal) :=
  Pipeline.withArrays spec0 c (V0 m c) fun w => (dats m 0 c).arrAt w cfg0.N

theorem W5 (c : Dev nD) : W m c (Proc.devRef .tc main_v18_0) = A5 (args m c) 0 :=
  (Pipeline.withArrays_arr spec0 arr_inj c (V0 m c) _ 5).trans (final5 m c)

theorem W8 (c : Dev nD) : W m c (Proc.devRef .tc main_v18_3) = A8 (args m c) 0 :=
  (Pipeline.withArrays_arr spec0 arr_inj c (V0 m c) _ 8).trans (final8 m c)

/-- What the lines after the region leave in buffer `b`. -/
abbrev E (c : Dev nD) (b : Ref sig .tc) : Buf (Elt Ideal) ((c : Thread nD τ).loc b) :=
  Pipeline.afterTail₀ cfgs (dats m) 0 (V0 m) [hostOps1] c b

theorem E24 (c : Dev nD) : E m c main_v24 = O0 (args m c) 0 := by
  show StableHlo.after hostOps1 (W m c) (Proc.devRef .tc main_v24) = _
  after_results
  rw [W5]
  rfl

theorem E26 (c : Dev nD) : E m c main_v26 = order (A8 (args m c) 0) := by
  show StableHlo.after hostOps1 (W m c) (Proc.devRef .tc main_v26) = _
  after_results
  show order (W m c (Proc.devRef .tc main_v18_3)) = _
  rw [W8]

theorem E28 (c : Dev nD) : E m c main_v28 = O4 (args m c) 0 := by
  show StableHlo.after hostOps1 (W m c) (Proc.devRef .tc main_v28) = _
  after_results
  rw [W5]
  rfl

theorem E30 (c : Dev nD) : E m c main_v30 = O5 (args m c) 0 := by
  show StableHlo.after hostOps1 (W m c) (Proc.devRef .tc main_v30) = _
  after_results
  rw [W8]
  rfl

theorem E32 (c : Dev nD) : E m c main_v32 = O6 (args m c) 0 := by
  show StableHlo.after hostOps1 (W m c) (Proc.devRef .tc main_v32) = _
  after_results
  rw [W8]
  rfl

end Cert.Kernel3Ideal.InProj

end
-- ==== Proof.InSame.lean ====
/- The input projection's arrays are the reference's. -/
module

public import proofs.«01_k».proof.Proof.InRef
public import proofs.«01_k».proof.Proof.InValue
public import Idealize.ShloMosaic.Lib.Pointwise
public import Idealize.ShloMosaic.Init

@[expose] public section

noncomputable section

namespace Cert.Kernel3Ideal.InProj

open Idealize.ShloMosaic Idealize.ShloMosaic.TcCoe Idealize.SL.Sem
open Cert.Kernel3Ideal Cert.Kernel3Ideal.Gen Cert.Reference3Ideal.RefValue Cert.Reference3Ideal.Read Cert.InTok

variable (m : (ℓ : Loc nD τ sig) → Buf (Elt Ideal) ℓ) (c : Dev nD)

theorem same0 : val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    = E m c main_v24 :=
  ext2 _ _ fun n k => (rows78 (args m c) n k).trans ((congrFun (E24 m c) _).trans (r0 (args m c) 0 n k)).symm

theorem same1 : val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    = A6 (args m c) 0 :=
  ext2 _ _ fun n k => (rows81 (args m c) n k).trans (r1 (args m c) 0 n k).symm

theorem same2 : val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    = A7 (args m c) 0 :=
  ext2 _ _ fun n k => (rows84 (args m c) n k).trans (r2 (args m c) 0 n k).symm

theorem same3 : val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    = E m c main_v26 :=
  ext2 _ _ fun n k => (rows87 (args m c) n k).trans ((congrFun (E26 m c) _).trans (r3 (args m c) 0 n k)).symm

theorem same4 : val_main_v72 (F := Ideal) (m ((c : Thread nD τ).loc main_arg0)) (m ((c : Thread nD τ).loc main_arg2)) (m ((c : Thread nD τ).loc main_arg4)) (m ((c : Thread nD τ).loc main_arg5)) = E m c main_v28 :=
  ext3 _ _ fun b t k => (kr_apply (args m c) b t k).trans ((congrFun (E28 m c) _).trans (r4 (args m c) 0 b t k)).symm

theorem same5 : val_main_v88 (F := Ideal) (m ((c : Thread nD τ).loc main_arg0)) (m ((c : Thread nD τ).loc main_arg2)) (m ((c : Thread nD τ).loc main_arg4)) (m ((c : Thread nD τ).loc main_arg5)) = E m c main_v30 :=
  ext4 _ _ fun b t h e => (k_apply (args m c) b t h e).trans ((congrFun (E30 m c) _).trans (r5 (args m c) 0 b t h e)).symm

theorem same6 : val_main_v89 (F := Ideal) (m ((c : Thread nD τ).loc main_arg0)) (m ((c : Thread nD τ).loc main_arg2)) (m ((c : Thread nD τ).loc main_arg4)) (m ((c : Thread nD τ).loc main_arg5)) = E m c main_v32 :=
  ext4 _ _ fun b t h e => (v_apply (args m c) b t h e).trans ((congrFun (E32 m c) _).trans (r6 (args m c) 0 b t h e)).symm

end Cert.Kernel3Ideal.InProj

end
-- ==== Proof.In1Ref.lean ====
module

public import proofs.«01_k».proof.Proof.InMath
public import proofs.«01_k».proof.Proof.Gen.Reference7Ideal.Read
public import Idealize.ShloMosaic.Lib.Pointwise

@[expose] public section

set_option maxRecDepth 16384

noncomputable section

/-! # The second layer's columns of the reference, token by token -/

namespace Cert.Reference7Ideal.RefValue

open Cert.Reference7Ideal Cert.Reference7Ideal.Gen Cert.Reference7Ideal.Read Idealize.ShloMosaic Cert.InMath

variable (x0 : FVec Ideal S32x256x1024 .f32) (x1 : FVec Ideal S2x1024x1024 .f32) (x2 : FVec Ideal S1x6144 .f32)
  (x3 : FVec Ideal S2x6144 .f32) (x4 : FVec Ideal S2x1024 .f32) (x5 : FVec Ideal S2x1024x2464 .f32) (a : Args)

theorem row_apply (b : Fin 32) (t : Fin 256) (d : Fin 1024) :
    val_main_v27 (F := Ideal) x0 x2 x4 (ix3 b t d)
      = row (fun d => x0 (ix3 b t d)) (fun d => x4 (ix2 1 d)) (fun d => x2 (ix2 0 ⟨d.val, by omega⟩)) (fun d => x2 (ix2 0 ⟨1024 + d.val, by omega⟩)) d := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v2, val_main_v1, val_main_v0, val_main_cst, val_main_cst_0, val_main_cst_1, val_main_cst_2]
  unfold row rinv
  rfl

theorem ctx_apply (b : Fin 32) (t : Fin 256) (k : Fin 2464) : val_main_v30 (F := Ideal) a.x0 a.x2 a.x4 a.x5 (ix3 b t k) = ctx a 1 b t (wcol a 1 k) := by
  pointwise [val_main_v30, val_main_v29, val_main_v28]
  unfold ctx col
  exact Finset.sum_congr rfl fun d _ => by rw [row_apply]; rfl

theorem row_apply' (b : Fin 2) (t : Fin 1024) (d : Fin 1024) :
    val_main_v62 (F := Ideal) x1 x3 x4 (ix3 b t d)
      = row (fun d => x1 (ix3 b t d)) (fun d => x4 (ix2 1 d)) (fun d => x3 (ix2 b ⟨d.val, by omega⟩)) (fun d => x3 (ix2 b ⟨1024 + d.val, by omega⟩)) d := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v37, val_main_v36, val_main_v35, val_main_cst_3, val_main_cst_4, val_main_cst_5, val_main_cst_6]
  unfold row rinv
  rfl

theorem lat_apply (b : Fin 2) (t : Fin 1024) (k : Fin 2464) : val_main_v65 (F := Ideal) a.x1 a.x3 a.x4 a.x5 (ix3 b t k) = lat a 1 b t (wcol a 1 k) := by
  pointwise [val_main_v65, val_main_v64, val_main_v63]
  unfold lat col
  exact Finset.sum_congr rfl fun d _ => by rw [row_apply']; rfl

theorem ctx78 (n : Fin 8192) (k : Fin 416) :
    val_main_v76 (F := Ideal) a.x0 a.x2 a.x4 a.x5 (ix2 n k) = ctx a 1 ⟨n.val / 256, by omega⟩ ⟨n.val % 256, by omega⟩ (wcol a 1 ⟨k.val, by omega⟩) := by
  pointwise [val_main_v76, val_main_v31]
  rw [ctx_apply]

theorem lat78 (n : Fin 2048) (k : Fin 416) :
    val_main_v77 (F := Ideal) a.x1 a.x3 a.x4 a.x5 (ix2 n k) = lat a 1 ⟨n.val / 1024, by omega⟩ ⟨n.val % 1024, by omega⟩ (wcol a 1 ⟨k.val, by omega⟩) := by
  pointwise [val_main_v77, val_main_v66]
  rw [lat_apply]

theorem rows78 (n : Fin 10240) (k : Fin 416) :
    val_main_v78 (F := Ideal) a.x0 a.x1 a.x2 a.x3 a.x4 a.x5 (ix2 n k) = R a 1 n ⟨k.val, by omega⟩ := by
  pointwise [val_main_v78]
  unfold R tok
  split
  · exact ctx78 a _ k
  · exact lat78 a _ k

theorem ctx81 (n : Fin 8192) (k : Fin 1280) :
    val_main_v79 (F := Ideal) a.x0 a.x2 a.x4 a.x5 (ix2 n k) = ctx a 1 ⟨n.val / 256, by omega⟩ ⟨n.val % 256, by omega⟩ (wcol a 1 ⟨416 + k.val, by omega⟩) := by
  pointwise [val_main_v79, val_main_v32]
  rw [ctx_apply]

theorem lat81 (n : Fin 2048) (k : Fin 1280) :
    val_main_v80 (F := Ideal) a.x1 a.x3 a.x4 a.x5 (ix2 n k) = lat a 1 ⟨n.val / 1024, by omega⟩ ⟨n.val % 1024, by omega⟩ (wcol a 1 ⟨416 + k.val, by omega⟩) := by
  pointwise [val_main_v80, val_main_v67]
  rw [lat_apply]

theorem rows81 (n : Fin 10240) (k : Fin 1280) :
    val_main_v81 (F := Ideal) a.x0 a.x1 a.x2 a.x3 a.x4 a.x5 (ix2 n k) = R a 1 n ⟨416 + k.val, by omega⟩ := by
  pointwise [val_main_v81]
  unfold R tok
  split
  · exact ctx81 a _ k
  · exact lat81 a _ k

theorem ctx84 (n : Fin 8192) (k : Fin 256) :
    val_main_v82 (F := Ideal) a.x0 a.x2 a.x4 a.x5 (ix2 n k) = ctx a 1 ⟨n.val / 256, by omega⟩ ⟨n.val % 256, by omega⟩ (wcol a 1 ⟨1696 + k.val, by omega⟩) := by
  pointwise [val_main_v82, val_main_v33]
  rw [ctx_apply]

theorem lat84 (n : Fin 2048) (k : Fin 256) :
    val_main_v83 (F := Ideal) a.x1 a.x3 a.x4 a.x5 (ix2 n k) = lat a 1 ⟨n.val / 1024, by omega⟩ ⟨n.val % 1024, by omega⟩ (wcol a 1 ⟨1696 + k.val, by omega⟩) := by
  pointwise [val_main_v83, val_main_v68]
  rw [lat_apply]

theorem rows84 (n : Fin 10240) (k : Fin 256) :
    val_main_v84 (F := Ideal) a.x0 a.x1 a.x2 a.x3 a.x4 a.x5 (ix2 n k) = R a 1 n ⟨1696 + k.val, by omega⟩ := by
  pointwise [val_main_v84]
  unfold R tok
  split
  · exact ctx84 a _ k
  · exact lat84 a _ k

theorem ctx87 (n : Fin 8192) (k : Fin 512) :
    val_main_v85 (F := Ideal) a.x0 a.x2 a.x4 a.x5 (ix2 n k) = ctx a 1 ⟨n.val / 256, by omega⟩ ⟨n.val % 256, by omega⟩ (wcol a 1 ⟨1952 + k.val, by omega⟩) := by
  pointwise [val_main_v85, val_main_v34]
  rw [ctx_apply]

theorem lat87 (n : Fin 2048) (k : Fin 512) :
    val_main_v86 (F := Ideal) a.x1 a.x3 a.x4 a.x5 (ix2 n k) = lat a 1 ⟨n.val / 1024, by omega⟩ ⟨n.val % 1024, by omega⟩ (wcol a 1 ⟨1952 + k.val, by omega⟩) := by
  pointwise [val_main_v86, val_main_v69]
  rw [lat_apply]

theorem rows87 (n : Fin 10240) (k : Fin 512) :
    val_main_v87 (F := Ideal) a.x0 a.x1 a.x2 a.x3 a.x4 a.x5 (ix2 n k) = R a 1 n ⟨1952 + k.val, by omega⟩ := by
  pointwise [val_main_v87]
  unfold R tok
  split
  · exact ctx87 a _ k
  · exact lat87 a _ k

theorem kr_apply (b : Fin 32) (t : Fin 256) (k : Fin 32) :
    val_main_v72 (F := Ideal) a.x0 a.x2 a.x4 a.x5 (ix3 b t k) = ctx a 1 b t (wcol a 1 ⟨384 + k.val, by omega⟩) := by
  pointwise [val_main_v72, val_main_v31]
  rw [ctx_apply]

theorem k_apply (b : Fin 32) (t : Fin 256) (h : Fin 2) (e : Fin 64) :
    val_main_v88 (F := Ideal) a.x0 a.x2 a.x4 a.x5 (ix4 b t h e) = ctx a 1 b t (wcol a 1 ⟨2208 + (h.val * 64 + e.val), by omega⟩) := by
  pointwise [val_main_v88, val_main_v74, val_main_v34]
  exact (congrArg _ (congrArg (ix3 b t) (Fin.ext (by simp only []; omega)))).trans (ctx_apply a b t _)

theorem v_apply (b : Fin 32) (t : Fin 256) (h : Fin 2) (e : Fin 64) :
    val_main_v89 (F := Ideal) a.x0 a.x2 a.x4 a.x5 (ix4 b t h e) = ctx a 1 b t (wcol a 1 ⟨2336 + (h.val * 64 + e.val), by omega⟩) := by
  pointwise [val_main_v89, val_main_v75, val_main_v34]
  exact (congrArg _ (congrArg (ix3 b t) (Fin.ext (by simp only []; omega)))).trans (ctx_apply a b t _)

end Cert.Reference7Ideal.RefValue

end
-- ==== Proof.In1Value.lean ====
module

public import proofs.«01_k».proof.Proof.InValue
public import proofs.«01_k».proof.Proof.In1Ref
public import proofs.«01_k».proof.Proof.Gen.Kernel7Ideal.Frame
public import Idealize.ShloMosaic.Lib.Pointwise
public import Idealize.ShloMosaic.Lib.Pipeline.ValueKit
public import Idealize.ShloMosaic.Init

@[expose] public section

set_option maxRecDepth 16384

noncomputable section

/-! # The input projection of the second layer

The rows are one array, the context's first. Otherwise the call is the first layer's, and its packed columns are read back alike. -/

namespace Cert.Kernel7Ideal.InProj

open Cert.Kernel7Ideal Cert.Kernel7Ideal.Gen Idealize.ShloMosaic Idealize.ShloMosaic.TcCoe Idealize.SL.Sem Cert.InMath Cert.InTok
open Cert.Kernel3Ideal.InProj (rows_ctx rows_lat hz2 ld0 ld1 ld2 ld3 ld4)
open Cert.Reference7Ideal.RefValue Cert.Reference7Ideal.Read

/-! ## The rows and the gain -/

def packX (x : FVec Ideal S32x256x1024 .f32) (y : FVec Ideal S2x1024x1024 .f32) : FVec Ideal S10240x1024 .f32 :=
  concatenate S10240x1024 0
    [⟨S8192x1024, shapeCast S8192x1024 x shapeCasts_S32x256x1024_S8192x1024⟩,
     ⟨S2048x1024, shapeCast S2048x1024 y shapeCasts_S2x1024x1024_S2048x1024⟩]
    concatenates_S8192x1024_S2048x1024_S10240x1024_d0

theorem packX_ctx (x : FVec Ideal S32x256x1024 .f32) (y : FVec Ideal S2x1024x1024 .f32) (n : Fin 10240) (h : n.val < 8192) (d : Fin 1024) :
    packX x y (ix2 n d) = x (ix3 ⟨n.val / 256, by omega⟩ ⟨n.val % 256, by omega⟩ d) := by
  unfold packX
  generalize hp : shapeCast S8192x1024 x shapeCasts_S32x256x1024_S8192x1024 = p
  generalize shapeCast S2048x1024 y shapeCasts_S2x1024x1024_S2048x1024 = q
  pointwise
  rw [dif_pos h, ← hp]
  exact rows_ctx x ⟨n.val, h⟩ d

theorem packX_lat (x : FVec Ideal S32x256x1024 .f32) (y : FVec Ideal S2x1024x1024 .f32) (n : Fin 10240) (h : ¬ n.val < 8192) (d : Fin 1024) :
    packX x y (ix2 n d) = y (ix3 ⟨(n.val - 8192) / 1024, by omega⟩ ⟨(n.val - 8192) % 1024, by omega⟩ d) := by
  unfold packX
  generalize shapeCast S8192x1024 x shapeCasts_S32x256x1024_S8192x1024 = p
  generalize hq : shapeCast S2048x1024 y shapeCasts_S2x1024x1024_S2048x1024 = q
  pointwise
  rw [dif_neg h, ← hq]
  exact rows_lat y ⟨n.val - 8192, by omega⟩ d

def packG (x : FVec Ideal S2x1024 .f32) : FVec Ideal S1x1024 .f32 :=
  broadcastInDim S1x1024 ![1] bcast_S1024_S1x1024_1
    (shapeCast S1024 (extractStridedSlice S1x1024 ![1, 0] x slices_S2x1024_S1x1024_1_0) shapeCasts_S1x1024_S1024)

theorem packG_apply (x : FVec Ideal S2x1024 .f32) (d : Fin 1024) : packG x (ix2 0 d) = x (ix2 1 d) := by
  pointwise [packG]

/-! ## A block's columns -/

theorem pay (v0 : Vec Ideal S512x1024 .f32) (v2 v4 : Vec Ideal S1x1x1024 .f32) (v6 : Vec Ideal S1x1024 .f32)
    (v27 : Vec Ideal S1x1024x2560 .bf16) (r : Fin 512) (k : Fin 2560) :
    k0_pay2 (F := Ideal) v0 v2 v4 v6 v27 (ix2 r k)
      = col (fun d => v0 (ix2 r d)) (fun d => v6 (ix2 0 d)) (fun d => v2 (ix3 0 0 d)) (fun d => v4 (ix3 0 0 d)) (fun d => v27 (ix3 0 d k)) := by
  unfold k0_pay2
  pointwise
  unfold col row rinv
  rfl

variable (m : (ℓ : Loc nD τ sig) → Buf (Elt Ideal) ℓ)

/-- The call's arguments. -/
abbrev args (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

theorem V_x (c : Dev nD) : V m c main_v2 = packX (args m c).x0 (args m c).x1 := by
  show StableHlo.after hostOps0 _ (Proc.devRef .tc main_v2) = _
  after_results
  rfl

theorem V_mod (c : Dev nD) : V m c main_v5 = packM (args m c).x2 (args m c).x3 := by
  show StableHlo.after hostOps0 _ (Proc.devRef .tc main_v5) = _
  after_results
  rfl

theorem V_g (c : Dev nD) : V m c main_v8 = packG (args m c).x4 := by
  show StableHlo.after hostOps0 _ (Proc.devRef .tc main_v8) = _
  after_results
  rfl

theorem V_w (c : Dev nD) : V m c main_v18 = packW (args m c).x5 := by
  show StableHlo.after hostOps0 _ (Proc.devRef .tc main_v18) = _
  after_results
  rfl

/-! ## A grid point's blocks -/

theorem point_lt (t : Fin cfg0.N) : t.val < 20 := lt_of_lt_of_eq t.isLt N_0

theorem idx_in : ∀ t : Fin grid0.N, win0_0.index t 0 = t.val ∧ win0_0.index t 1 = 0
    ∧ win0_1.index t 0 = (if t.val < 16 then 0 else 1 + (t.val - 16) / 2) ∧ win0_1.index t 1 = 0 ∧ win0_1.index t 2 = 0
    ∧ win0_2.index t 0 = 0 ∧ win0_2.index t 1 = 0 ∧ win0_3.index t 0 = 1 ∧ win0_3.index t 1 = 0 ∧ win0_3.index t 2 = 0 := by
  decide +kernel

theorem idx_out : ∀ t : Fin grid0.N, win0_4.index t 0 = t.val ∧ win0_4.index t 1 = 0 ∧ win0_5.index t 0 = t.val ∧ win0_5.index t 1 = 0
    ∧ win0_6.index t 0 = t.val ∧ win0_6.index t 1 = 0 ∧ win0_7.index t 0 = t.val ∧ win0_7.index t 1 = 0 := by
  decide +kernel

theorem blk0 (c : Dev nD) (t : Fin cfg0.N) (r : Fin 512) (d : Fin 1024) :
    iblk m c 0 t (ix2 r d) = packX (args m c).x0 (args m c).x1 (ix2 ⟨t.val * 512 + r.val, by have := point_lt t; omega⟩ d) := by
  refine Eq.trans ?_ (congrFun (V_x m c) _)
  have h := idx_in t
  refine congrArg (V m c main_v2) (funext fun a => Fin.ext ?_)
  match a with
  | ⟨0, _⟩ => show win0_0.index t 0 * 512 + 1 * r.val = t.val * 512 + r.val; rw [h.1]; omega
  | ⟨1, _⟩ => show win0_0.index t 1 * 1024 + 1 * d.val = d.val; rw [h.2.1]; omega

theorem blk1 (c : Dev nD) (t : Fin cfg0.N) (k : Fin 6144) :
    iblk m c 1 t (ix3 0 0 k) = packM (args m c).x2 (args m c).x3
      (ix3 ⟨if t.val < 16 then 0 else 1 + (t.val - 16) / 2, by have := point_lt t; split <;> omega⟩ 0 k) := by
  refine Eq.trans ?_ (congrFun (V_mod m c) _)
  have h := idx_in t
  refine congrArg (V m c main_v5) (funext fun a => Fin.ext ?_)
  match a with
  | ⟨0, _⟩ => show win0_1.index t 0 * 1 + 1 * 0 = if t.val < 16 then 0 else 1 + (t.val - 16) / 2; rw [h.2.2.1]; omega
  | ⟨1, _⟩ => show win0_1.index t 1 * 1 + 1 * 0 = 0; rw [h.2.2.2.1]
  | ⟨2, _⟩ => show win0_1.index t 2 * 6144 + 1 * k.val = k.val; rw [h.2.2.2.2.1]; omega

theorem blk2 (c : Dev nD) (t : Fin cfg0.N) (d : Fin 1024) : iblk m c 2 t (ix2 0 d) = (args m c).x4 (ix2 1 d) := by
  refine Eq.trans ?_ ((congrFun (V_g m c) (ix2 0 d)).trans (packG_apply _ d))
  have h := idx_in t
  refine congrArg (V m c main_v8) (funext fun a => Fin.ext ?_)
  match a with
  | ⟨0, _⟩ => show win0_2.index t 0 * 1 + 1 * 0 = 0; rw [h.2.2.2.2.2.1]
  | ⟨1, _⟩ => show win0_2.index t 1 * 1024 + 1 * d.val = d.val; rw [h.2.2.2.2.2.2.1]; omega

theorem blk3 (c : Dev nD) (t : Fin cfg0.N) (d : Fin 1024) (k : Fin 2560) :
    iblk m c 3 t (ix3 0 d k) = packW (args m c).x5 (ix3 1 d k) := by
  refine Eq.trans ?_ (congrFun (V_w m c) _)
  have h := idx_in t
  refine congrArg (V m c main_v18) (funext fun a => Fin.ext ?_)
  match a with
  | ⟨0, _⟩ => show win0_3.index t 0 * 1 + 1 * 0 = 1; rw [h.2.2.2.2.2.2.2.1]
  | ⟨1, _⟩ => show win0_3.index t 1 * 1024 + 1 * d.val = d.val; rw [h.2.2.2.2.2.2.2.2.1]; omega
  | ⟨2, _⟩ => show win0_3.index t 2 * 2560 + 1 * k.val = k.val; rw [h.2.2.2.2.2.2.2.2.2]; omega

/-! ## The arrays -/

theorem col_congr {x x' g sh sh' sc sc' w : Fin 1024 → EReal} (hx : x = x') (hs : sh = sh') (hc : sc = sc') :
    col x g sh sc w = col x' g sh' sc' w := by
  subst hx hs hc
  rfl

theorem pay_apply (c : Dev nD) (t : Fin cfg0.N) (r : Fin 512) (k : Fin 2560) :
    k0_pay2 (F := Ideal) (View.ld (iblk m c 0 t) r0_0) (View.ld (iblk m c 1 t) r0_1) (View.ld (iblk m c 1 t) r0_2)
        (View.ld (iblk m c 2 t) r0_3) (View.ld (iblk m c 3 t) r0_4) (ix2 r k)
      = K (args m c) 1 ⟨t.val * 512 + r.val, by have := point_lt t; omega⟩ k := by
  have hl := point_lt t
  refine (pay _ _ _ _ _ r k).trans ?_
  have eg : (fun d => View.ld (iblk m c 2 t) r0_3 (ix2 0 d)) = fun d => (args m c).x4 (ix2 1 d) :=
    funext fun d => (congrFun (ld3 _) _).trans (blk2 m c t d)
  have ew : (fun d => View.ld (iblk m c 3 t) r0_4 (ix3 0 d k)) = fun d => packW (args m c).x5 (ix3 1 d k) :=
    funext fun d => (congrFun (ld4 _) _).trans (blk3 m c t d k)
  rw [eg, ew]
  unfold K tok ctx lat
  by_cases ht : t.val < 16
  · rw [dif_pos (show t.val * 512 + r.val < 8192 by omega)]
    have e2 : ∀ j : Fin 6144, iblk m c 1 t (ix3 0 0 j) = (args m c).x2 (ix2 0 j) := fun j =>
      (blk1 m c t j).trans ((congrArg (fun b => packM _ _ (ix3 b 0 j)) (Fin.ext (if_pos ht))).trans (packM_ctx _ _ j))
    have ex := funext fun d => (congrFun (ld0 (iblk m c 0 t)) (ix2 r d)).trans
      ((blk0 m c t r d).trans (packX_ctx _ _ ⟨t.val * 512 + r.val, by omega⟩ (by dsimp only; omega) d))
    have es := funext fun d => (ld1 (iblk m c 1 t) d).trans (e2 _)
    have ec := funext fun d => (ld2 (iblk m c 1 t) d).trans (e2 _)
    exact col_congr ex es ec
  · rw [dif_neg (show ¬ t.val * 512 + r.val < 8192 by omega)]
    have e2 : ∀ j : Fin 6144, iblk m c 1 t (ix3 0 0 j) = (args m c).x3 (ix2 ⟨(t.val * 512 + r.val - 8192) / 1024, by omega⟩ j) := fun j =>
      (blk1 m c t j).trans ((congrArg (fun b => packM _ _ (ix3 b 0 j)) (Fin.ext (by
        show (if t.val < 16 then 0 else 1 + (t.val - 16) / 2) = 1 + (t.val * 512 + r.val - 8192) / 1024
        rw [if_neg ht]; omega))).trans (packM_lat _ _ ⟨(t.val * 512 + r.val - 8192) / 1024, by omega⟩ j))
    have ex := funext fun d => (congrFun (ld0 (iblk m c 0 t)) (ix2 r d)).trans
      ((blk0 m c t r d).trans (packX_lat _ _ ⟨t.val * 512 + r.val, by omega⟩ (by dsimp only; omega) d))
    have es := funext fun d => (ld1 (iblk m c 1 t) d).trans (e2 _)
    have ec := funext fun d => (ld2 (iblk m c 1 t) d).trans (e2 _)
    exact col_congr ex es ec

theorem cols4 (v0 : Vec Ideal S512x1024 .f32) (v2 v4 : Vec Ideal S1x1x1024 .f32) (v6 : Vec Ideal S1x1024 .f32)
    (v27 : Vec Ideal S1x1024x2560 .bf16) (r : Fin 512) (j : Fin 512) :
    k0_pay3 (F := Ideal) v0 v2 v4 v6 v27 (ix2 r j) = k0_pay2 (F := Ideal) v0 v2 v4 v6 v27 (ix2 r ⟨0 + j.val, by omega⟩) := by
  unfold k0_pay3
  generalize k0_pay2 (F := Ideal) v0 v2 v4 v6 v27 = p
  pointwise

theorem flushed4 (c : Dev nD) (t : Fin cfg0.N) :
    (dats m 0 c).flushed 4 t = (win0_4.blk t).view.read (Elt Ideal) (A5 (args m c) 1) := by
  have ht := point_lt t
  have h := idx_out t
  show (cfg0.win 4).cut (grid0.coords t) ((dats m 0 c).after 4 t) = _
  rw [after0_4]
  unfold Cert.Kernel7Ideal.Gen.out0_4
  funext y
  change S512x512.Idx at y
  idx_vars y
  refine (congrFun (View.canon_unit_zero hz2 _ _) (ix2 y0 y1)).trans ?_
  have e' : (win0_4.blk t).view.read (Elt Ideal) (A5 (args m c) 1) (ix2 y0 y1) = A5 (args m c) 1 (ix2 ⟨t.val * 512 + y0.val, by omega⟩ y1) :=
    congrArg (A5 (args m c) 1) (funext fun a => Fin.ext (match a with
      | ⟨0, _⟩ => by show win0_4.index t 0 * 512 + 1 * y0.val = t.val * 512 + y0.val; rw [h.1]; omega
      | ⟨1, _⟩ => by show win0_4.index t 1 * 512 + 1 * y1.val = y1.val; rw [h.2.1]; omega))
  refine Eq.trans ?_ e'.symm
  refine Eq.trans ?_ (pay_apply m c t y0 ⟨0 + y1.val, by omega⟩)
  exact cols4 _ _ _ _ _ y0 y1

theorem final4 (c : Dev nD) : (dats m 0 c).arrAt 4 cfg0.N = A5 (args m c) 1 :=
  (dats m 0 c).arrAt_eq_of_covers 4 (A5 (args m c) 1) (by decide +kernel) fun t _ y => congrFun (flushed4 m c t) y

theorem cols5 (v0 : Vec Ideal S512x1024 .f32) (v2 v4 : Vec Ideal S1x1x1024 .f32) (v6 : Vec Ideal S1x1024 .f32)
    (v27 : Vec Ideal S1x1024x2560 .bf16) (r : Fin 512) (j : Fin 1280) :
    k0_pay4 (F := Ideal) v0 v2 v4 v6 v27 (ix2 r j) = k0_pay2 (F := Ideal) v0 v2 v4 v6 v27 (ix2 r ⟨512 + j.val, by omega⟩) := by
  unfold k0_pay4
  generalize k0_pay2 (F := Ideal) v0 v2 v4 v6 v27 = p
  pointwise

theorem flushed5 (c : Dev nD) (t : Fin cfg0.N) :
    (dats m 0 c).flushed 5 t = (win0_5.blk t).view.read (Elt Ideal) (A6 (args m c) 1) := by
  have ht := point_lt t
  have h := idx_out t
  show (cfg0.win 5).cut (grid0.coords t) ((dats m 0 c).after 5 t) = _
  rw [after0_5]
  unfold Cert.Kernel7Ideal.Gen.out0_5
  funext y
  change S512x1280.Idx at y
  idx_vars y
  refine (congrFun (View.canon_unit_zero hz2 _ _) (ix2 y0 y1)).trans ?_
  have e' : (win0_5.blk t).view.read (Elt Ideal) (A6 (args m c) 1) (ix2 y0 y1) = A6 (args m c) 1 (ix2 ⟨t.val * 512 + y0.val, by omega⟩ y1) :=
    congrArg (A6 (args m c) 1) (funext fun a => Fin.ext (match a with
      | ⟨0, _⟩ => by show win0_5.index t 0 * 512 + 1 * y0.val = t.val * 512 + y0.val; rw [h.2.2.1]; omega
      | ⟨1, _⟩ => by show win0_5.index t 1 * 1280 + 1 * y1.val = y1.val; rw [h.2.2.2.1]; omega))
  refine Eq.trans ?_ e'.symm
  refine Eq.trans ?_ (pay_apply m c t y0 ⟨512 + y1.val, by omega⟩)
  exact cols5 _ _ _ _ _ y0 y1

theorem final5 (c : Dev nD) : (dats m 0 c).arrAt 5 cfg0.N = A6 (args m c) 1 :=
  (dats m 0 c).arrAt_eq_of_covers 5 (A6 (args m c) 1) (by decide +kernel) fun t _ y => congrFun (flushed5 m c t) y

theorem cols6 (v0 : Vec Ideal S512x1024 .f32) (v2 v4 : Vec Ideal S1x1x1024 .f32) (v6 : Vec Ideal S1x1024 .f32)
    (v27 : Vec Ideal S1x1024x2560 .bf16) (r : Fin 512) (j : Fin 256) :
    k0_pay5 (F := Ideal) v0 v2 v4 v6 v27 (ix2 r j) = k0_pay2 (F := Ideal) v0 v2 v4 v6 v27 (ix2 r ⟨1792 + j.val, by omega⟩) := by
  unfold k0_pay5
  generalize k0_pay2 (F := Ideal) v0 v2 v4 v6 v27 = p
  pointwise

theorem flushed6 (c : Dev nD) (t : Fin cfg0.N) :
    (dats m 0 c).flushed 6 t = (win0_6.blk t).view.read (Elt Ideal) (A7 (args m c) 1) := by
  have ht := point_lt t
  have h := idx_out t
  show (cfg0.win 6).cut (grid0.coords t) ((dats m 0 c).after 6 t) = _
  rw [after0_6]
  unfold Cert.Kernel7Ideal.Gen.out0_6
  funext y
  change S512x256.Idx at y
  idx_vars y
  refine (congrFun (View.canon_unit_zero hz2 _ _) (ix2 y0 y1)).trans ?_
  have e' : (win0_6.blk t).view.read (Elt Ideal) (A7 (args m c) 1) (ix2 y0 y1) = A7 (args m c) 1 (ix2 ⟨t.val * 512 + y0.val, by omega⟩ y1) :=
    congrArg (A7 (args m c) 1) (funext fun a => Fin.ext (match a with
      | ⟨0, _⟩ => by show win0_6.index t 0 * 512 + 1 * y0.val = t.val * 512 + y0.val; rw [h.2.2.2.2.1]; omega
      | ⟨1, _⟩ => by show win0_6.index t 1 * 256 + 1 * y1.val = y1.val; rw [h.2.2.2.2.2.1]; omega))
  refine Eq.trans ?_ e'.symm
  refine Eq.trans ?_ (pay_apply m c t y0 ⟨1792 + y1.val, by omega⟩)
  exact cols6 _ _ _ _ _ y0 y1

theorem final6 (c : Dev nD) : (dats m 0 c).arrAt 6 cfg0.N = A7 (args m c) 1 :=
  (dats m 0 c).arrAt_eq_of_covers 6 (A7 (args m c) 1) (by decide +kernel) fun t _ y => congrFun (flushed6 m c t) y

theorem cols7 (p : FVec Ideal S512x2560 .f32) (r : Fin 512) (j : Fin 512) :
    k0_pay1 (F := Ideal) p (ix2 r j) = p (ix2 r ⟨2048 + j.val, by omega⟩) := by
  unfold k0_pay1
  pointwise

theorem flushed7 (c : Dev nD) (t : Fin cfg0.N) :
    (dats m 0 c).flushed 7 t = (win0_7.blk t).view.read (Elt Ideal) (A8 (args m c) 1) := by
  have ht := point_lt t
  have h := idx_out t
  show (cfg0.win 7).cut (grid0.coords t) ((dats m 0 c).after 7 t) = _
  rw [after0_7]
  unfold Cert.Kernel7Ideal.Gen.out0_7
  funext y
  change S512x512.Idx at y
  idx_vars y
  refine (congrFun (View.canon_unit_zero hz2 _ _) (ix2 y0 y1)).trans ?_
  have e' : (win0_7.blk t).view.read (Elt Ideal) (A8 (args m c) 1) (ix2 y0 y1) = A8 (args m c) 1 (ix2 ⟨t.val * 512 + y0.val, by omega⟩ y1) :=
    congrArg (A8 (args m c) 1) (funext fun a => Fin.ext (match a with
      | ⟨0, _⟩ => by show win0_7.index t 0 * 512 + 1 * y0.val = t.val * 512 + y0.val; rw [h.2.2.2.2.2.2.1]; omega
      | ⟨1, _⟩ => by show win0_7.index t 1 * 512 + 1 * y1.val = y1.val; rw [h.2.2.2.2.2.2.2]; omega))
  refine Eq.trans ?_ e'.symm
  refine Eq.trans ?_ (pay_apply m c t y0 ⟨2048 + y1.val, by omega⟩)
  exact cols7 _ y0 y1

theorem final7 (c : Dev nD) : (dats m 0 c).arrAt 7 cfg0.N = A8 (args m c) 1 :=
  (dats m 0 c).arrAt_eq_of_covers 7 (A8 (args m c) 1) (by decide +kernel) fun t _ y => congrFun (flushed7 m c t) y

/-! ## The results -/

theorem arr_inj : Function.Injective (Pipeline.arrRef spec0) := by decide

/-- The buffers when the lines after the region begin. -/
abbrev W (c : Dev nD) : Valuation τ sig (Elt Ideal) :=
  Pipeline.withArrays spec0 c (V0 m c) fun w => (dats m 0 c).arrAt w cfg0.N

theorem W4 (c : Dev nD) : W m c (Proc.devRef .tc main_v19_0) = A5 (args m c) 1 :=
  (Pipeline.withArrays_arr spec0 arr_inj c (V0 m c) _ 4).trans (final4 m c)

theorem W7 (c : Dev nD) : W m c (Proc.devRef .tc main_v19_3) = A8 (args m c) 1 :=
  (Pipeline.withArrays_arr spec0 arr_inj c (V0 m c) _ 7).trans (final7 m c)

/-- What the lines after the region leave in buffer `b`. -/
abbrev E (c : Dev nD) (b : Ref sig .tc) : Buf (Elt Ideal) ((c : Thread nD τ).loc b) :=
  Pipeline.afterTail₀ cfgs (dats m) 0 (V0 m) [hostOps1] c b

theorem E25 (c : Dev nD) : E m c main_v25 = O0 (args m c) 1 := by
  show StableHlo.after hostOps1 (W m c) (Proc.devRef .tc main_v25) = _
  after_results
  rw [W4]
  rfl

theorem E27 (c : Dev nD) : E m c main_v27 = order (A8 (args m c) 1) := by
  show StableHlo.after hostOps1 (W m c) (Proc.devRef .tc main_v27) = _
  after_results
  show order (W m c (Proc.devRef .tc main_v19_3)) = _
  rw [W7]

theorem E29 (c : Dev nD) : E m c main_v29 = O4 (args m c) 1 := by
  show StableHlo.after hostOps1 (W m c) (Proc.devRef .tc main_v29) = _
  after_results
  rw [W4]
  rfl

theorem E31 (c : Dev nD) : E m c main_v31 = O5 (args m c) 1 := by
  show StableHlo.after hostOps1 (W m c) (Proc.devRef .tc main_v31) = _
  after_results
  rw [W7]
  rfl

theorem E33 (c : Dev nD) : E m c main_v33 = O6 (args m c) 1 := by
  show StableHlo.after hostOps1 (W m c) (Proc.devRef .tc main_v33) = _
  after_results
  rw [W7]
  rfl

/-! The arrays are the reference's. -/

variable (c : Dev nD)

theorem same0 : val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    = E m c main_v25 :=
  ext2 _ _ fun n k => (rows78 (args m c) n k).trans ((congrFun (E25 m c) _).trans (r0 (args m c) 1 n k)).symm

theorem same1 : val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    = A6 (args m c) 1 :=
  ext2 _ _ fun n k => (rows81 (args m c) n k).trans (r1 (args m c) 1 n k).symm

theorem same2 : val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    = A7 (args m c) 1 :=
  ext2 _ _ fun n k => (rows84 (args m c) n k).trans (r2 (args m c) 1 n k).symm

theorem same3 : val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    = E m c main_v27 :=
  ext2 _ _ fun n k => (rows87 (args m c) n k).trans ((congrFun (E27 m c) _).trans (r3 (args m c) 1 n k)).symm

theorem same4 : val_main_v72 (F := Ideal) (m ((c : Thread nD τ).loc main_arg0)) (m ((c : Thread nD τ).loc main_arg2)) (m ((c : Thread nD τ).loc main_arg4)) (m ((c : Thread nD τ).loc main_arg5)) = E m c main_v29 :=
  ext3 _ _ fun b t k => (kr_apply (args m c) b t k).trans ((congrFun (E29 m c) _).trans (r4 (args m c) 1 b t k)).symm

theorem same5 : val_main_v88 (F := Ideal) (m ((c : Thread nD τ).loc main_arg0)) (m ((c : Thread nD τ).loc main_arg2)) (m ((c : Thread nD τ).loc main_arg4)) (m ((c : Thread nD τ).loc main_arg5)) = E m c main_v31 :=
  ext4 _ _ fun b t h e => (k_apply (args m c) b t h e).trans ((congrFun (E31 m c) _).trans (r5 (args m c) 1 b t h e)).symm

theorem same6 : val_main_v89 (F := Ideal) (m ((c : Thread nD τ).loc main_arg0)) (m ((c : Thread nD τ).loc main_arg2)) (m ((c : Thread nD τ).loc main_arg4)) (m ((c : Thread nD τ).loc main_arg5)) = E m c main_v33 :=
  ext4 _ _ fun b t h e => (v_apply (args m c) b t h e).trans ((congrFun (E33 m c) _).trans (r6 (args m c) 1 b t h e)).symm

end Cert.Kernel7Ideal.InProj

end
-- ==== Proof.ExpRun.lean ====
module

public import proofs.«01_k».proof.Kernel2Ideal
public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.TableIdle
public import Idealize.ShloMosaic.Lib.Pipeline.AliasedRuns
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

/-! # The body of the expert kernel, run along its four paths

A grid point may load its expert's weights into the scratches or find them there, and may be a tile in use or not.
Each run states what the scratches and the block of results hold afterwards. -/

namespace Cert.Kernel2Ideal.Exp

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables and the scratches the body is handed. -/
abbrev tb0 : Memref sig .tc .smem S199 .i32 := Memref.whole main_arg0
abbrev tb1 : Memref sig .tc .smem S1 .i32 := Memref.whole main_arg1
abbrev sc0 : Memref sig .tc .vmem S1024x256 .bf16 := Memref.whole cc0_scratch0
abbrev sc1 : Memref sig .tc .vmem S1024x256 .bf16 := Memref.whole cc0_scratch1
abbrev sc2 : Memref sig .tc .vmem S256x1024 .bf16 := Memref.whole cc0_scratch2

/-- The expert of point `i`, as the body reads it from the first table. -/
abbrev word0 (F : FTy → Type) [FloatOps F] (i : grid0.Coords) (T0 : S199.Idx → Elt F .i32) : Elt F .i32 :=
  View.readAt (Elt F) tb0.view (Rect.unit (s := S199) (k0_off1 i) S1.size (k0_off1_inb i)).toLoadRect T0
    (Shape.Idx.first (numel1_S1.symm ▸ Nat.one_pos))

/-- The expert of the point before `i`, as the body reads it. -/
abbrev word1 (F : FTy → Type) [FloatOps F] (i : grid0.Coords) (T0 : S199.Idx → Elt F .i32) : Elt F .i32 :=
  View.readAt (Elt F) tb0.view (Rect.unit (s := S199) (k0_off2 i) S1.size (k0_off2_inb i)).toLoadRect T0
    (Shape.Idx.first (numel1_S1.symm ▸ Nat.one_pos))

/-- The number of tiles in use, as the body reads it from the second table. -/
abbrev word2 (F : FTy → Type) [FloatOps F] (T1 : S1.Idx → Elt F .i32) : Elt F .i32 :=
  View.readAt (Elt F) tb1.view (Rect.unit (s := S1) ![0] S1.size inb_S1_S1_0).toLoadRect T1
    (Shape.Idx.first (numel1_S1.symm ▸ Nat.one_pos))

/-- The body's decision to load the weights. -/
abbrev loads (i : grid0.Coords) (T0 : S199.Idx → Elt F .i32) : Prop :=
  (Scalar.cmpi .ne (Scalar.extui (Scalar.ori (Scalar.cmpi .eq (BitVec.ofNat 32 (i 0).val) 0#32)
    (Scalar.cmpi .ne (word0 F i T0) (word1 F i T0)))) 0#32) = 1#1

/-- The body's decision to compute the tile. -/
abbrev active (i : grid0.Coords) (T1 : S1.Idx → Elt F .i32) : Prop := k0_cond2 i (word2 F T1) = 1#1

/-- A load of a whole buffer reads its contents. -/
theorem readAt_unread {sp : Space} {s : Shape} {e : EltTy} {M : Memref sig .tc sp s e} (h : M.IsWhole) {off : Fin s.rank → ℕ}
    (inb : ∀ a, off a + s.size a ≤ s.size a) (x : s.Idx → Elt F e) :
    M.view.readAt (Elt F) (Rect.unit off s.size inb).toLoadRect (h.unread x) = x :=
  (View.readAt_full _ _ _).trans (h.read_unread x)

theorem pay4_congr {a a' : Vec F S768x1024 .bf16} {b b' c c' : Vec F S1024x256 .bf16} {d d' : Vec F S256x1024 .bf16}
    (ha : a = a') (hb : b = b') (hc : c = c') (hd : d = d') : k0_pay4 a b c d = k0_pay4 a' b' c' d' := by
  subst ha hb hc hd; rfl

set_option backward.proofsInPublic true in
set_option maxHeartbeats 8000000 in
/-- A tile in use whose expert is a new one. -/
theorem run_load_active (c : Dev nD) (i : grid0.Coords) (arg3 : Memref sig .tc .vmem S768x1024 .bf16) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S768x1024 .bf16) (harg7 : arg7.IsWhole)
    (T0 : S199.Idx → Elt F .i32) (T1 : S1.Idx → Elt F .i32)
    (x0 : S768x1024.Idx → Elt F .bf16) (x1 : S1x1x1024x256.Idx → Elt F .f32) (x2 : S1x1x1024x256.Idx → Elt F .f32)
    (x3 : S1x1x256x1024.Idx → Elt F .f32) (y : S768x1024.Idx → Elt F .bf16) (w1 w2 : S1024x256.Idx → Elt F .bf16)
    (w3 : S256x1024.Idx → Elt F .bf16) (hc0 : loads (F := F) i T0) (k0_h2 : active (F := F) i T1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ owns (c : Thread nD τ) arg7 fullShare (y)
      ∗ owns (c : Thread nD τ) sc0 fullShare (w1)
      ∗ owns (c : Thread nD τ) sc1 fullShare (w2)
      ∗ owns (c : Thread nD τ) sc2 fullShare (w3)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare (k0_pay4 x0 (k0_pay1 x1) (k0_pay2 x2) (k0_pay3 x3))
          ∗ owns (c : Thread nD τ) sc0 fullShare (k0_pay1 x1)
          ∗ owns (c : Thread nD τ) sc1 fullShare (k0_pay2 x2)
          ∗ owns (c : Thread nD τ) sc2 fullShare (k0_pay3 x3)) -∗ K ⟨⟩))
      ⊢ wp frame (wpE (defs₀ (F := F)) Variants.none c none) Set.univ (cc0_experts i tb0 (Memref.isWhole_whole _) tb1 (Memref.isWhole_whole _) arg3 harg3 arg4 harg4 arg5 harg5 arg6 harg6 arg7 harg7 sc0 (Memref.isWhole_whole _) sc1 (Memref.isWhole_whole _) sc2 (Memref.isWhole_whole _)) K := by
  unfold owns
  rw [cc0_experts_eq_skeleton]; unfold cc0_experts_skel
  iintro ⟨⟨%f0, %hf0, H0⟩, ⟨%f1, %hf1, H1⟩, ⟨%f2, %hf2, H2⟩, ⟨%f3, %hf3, H3⟩, HT0, HT1, ⟨%f4, %hf4, H4⟩, ⟨%f5, %hf5, HS0⟩, ⟨%f6, %hf6, HS1⟩, ⟨%f7, %hf7, HS2⟩, Hk⟩
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  obtain rfl := harg3.eq_unread hf0
  obtain rfl := harg4.eq_unread hf1
  obtain rfl := harg5.eq_unread hf2
  obtain rfl := harg6.eq_unread hf3
  obtain rfl := harg7.eq_unread hf4
  obtain rfl := hS0.eq_unread hf5
  obtain rfl := hS1.eq_unread hf6
  obtain rfl := hS2.eq_unread hf7
  sl_exec! (disch := first | (guard_target = Scalar.cmpi = _; exact hc0) | (guard_target = k0_cond2 _ _ = _; exact k0_h2))
  sl_step
  iapply Hk
  isplitl [H0]
  · iexists _; isplitr; · ipureintro; assumption
    iexact H0
  isplitl [H1]
  · iexists _; isplitr; · ipureintro; assumption
    iexact H1
  isplitl [H2]
  · iexists _; isplitr; · ipureintro; assumption
    iexact H2
  isplitl [H3]
  · iexists _; isplitr; · ipureintro; assumption
    iexact H3
  isplitl [HT0]; · iexact HT0
  isplitl [HT1]; · iexact HT1
  isplitl [H4]
  · iexists _; isplitr; swap; · iexact H4
    ipureintro
    exact (View.read_writes_full _ _ _ _ _).trans (pay4_congr (readAt_unread harg3 _ x0) ((View.readCov_full _ _ _ _ _).trans (congrArg k0_pay1 (readAt_unread harg4 _ x1))) ((View.readCov_full _ _ _ _ _).trans (congrArg k0_pay2 (readAt_unread harg5 _ x2))) ((View.readCov_full _ _ _ _ _).trans (congrArg k0_pay3 (readAt_unread harg6 _ x3))))
  isplitl [HS0]
  · iexists _; isplitr; swap; · iexact HS0
    ipureintro
    exact (View.read_writes_full _ _ _ _ _).trans (congrArg k0_pay1 (readAt_unread harg4 _ x1))
  isplitl [HS1]
  · iexists _; isplitr; swap; · iexact HS1
    ipureintro
    exact (View.read_writes_full _ _ _ _ _).trans (congrArg k0_pay2 (readAt_unread harg5 _ x2))
  iexists _; isplitr; swap; · iexact HS2
  ipureintro
  exact (View.read_writes_full _ _ _ _ _).trans (congrArg k0_pay3 (readAt_unread harg6 _ x3))

set_option backward.proofsInPublic true in
set_option maxHeartbeats 8000000 in
/-- A tile not in use whose expert is a new one. -/
theorem run_load_idle (c : Dev nD) (i : grid0.Coords) (arg3 : Memref sig .tc .vmem S768x1024 .bf16) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S768x1024 .bf16) (harg7 : arg7.IsWhole)
    (T0 : S199.Idx → Elt F .i32) (T1 : S1.Idx → Elt F .i32)
    (x0 : S768x1024.Idx → Elt F .bf16) (x1 : S1x1x1024x256.Idx → Elt F .f32) (x2 : S1x1x1024x256.Idx → Elt F .f32)
    (x3 : S1x1x256x1024.Idx → Elt F .f32) (y : S768x1024.Idx → Elt F .bf16) (w1 w2 : S1024x256.Idx → Elt F .bf16)
    (w3 : S256x1024.Idx → Elt F .bf16) (hc0 : loads (F := F) i T0) (k0_h2 : ¬ active (F := F) i T1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ owns (c : Thread nD τ) arg7 fullShare (y)
      ∗ owns (c : Thread nD τ) sc0 fullShare (w1)
      ∗ owns (c : Thread nD τ) sc1 fullShare (w2)
      ∗ owns (c : Thread nD τ) sc2 fullShare (w3)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare (y)
          ∗ owns (c : Thread nD τ) sc0 fullShare (k0_pay1 x1)
          ∗ owns (c : Thread nD τ) sc1 fullShare (k0_pay2 x2)
          ∗ owns (c : Thread nD τ) sc2 fullShare (k0_pay3 x3)) -∗ K ⟨⟩))
      ⊢ wp frame (wpE (defs₀ (F := F)) Variants.none c none) Set.univ (cc0_experts i tb0 (Memref.isWhole_whole _) tb1 (Memref.isWhole_whole _) arg3 harg3 arg4 harg4 arg5 harg5 arg6 harg6 arg7 harg7 sc0 (Memref.isWhole_whole _) sc1 (Memref.isWhole_whole _) sc2 (Memref.isWhole_whole _)) K := by
  unfold owns
  rw [cc0_experts_eq_skeleton]; unfold cc0_experts_skel
  iintro ⟨⟨%f0, %hf0, H0⟩, ⟨%f1, %hf1, H1⟩, ⟨%f2, %hf2, H2⟩, ⟨%f3, %hf3, H3⟩, HT0, HT1, ⟨%f4, %hf4, H4⟩, ⟨%f5, %hf5, HS0⟩, ⟨%f6, %hf6, HS1⟩, ⟨%f7, %hf7, HS2⟩, Hk⟩
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  obtain rfl := harg3.eq_unread hf0
  obtain rfl := harg4.eq_unread hf1
  obtain rfl := harg5.eq_unread hf2
  obtain rfl := harg6.eq_unread hf3
  obtain rfl := harg7.eq_unread hf4
  obtain rfl := hS0.eq_unread hf5
  obtain rfl := hS1.eq_unread hf6
  obtain rfl := hS2.eq_unread hf7
  sl_exec! (disch := first | (guard_target = Scalar.cmpi = _; exact hc0) | (guard_target = ¬(k0_cond2 _ _ = _); exact k0_h2))
  sl_step
  iapply Hk
  isplitl [H0]
  · iexists _; isplitr; · ipureintro; assumption
    iexact H0
  isplitl [H1]
  · iexists _; isplitr; · ipureintro; assumption
    iexact H1
  isplitl [H2]
  · iexists _; isplitr; · ipureintro; assumption
    iexact H2
  isplitl [H3]
  · iexists _; isplitr; · ipureintro; assumption
    iexact H3
  isplitl [HT0]; · iexact HT0
  isplitl [HT1]; · iexact HT1
  isplitl [H4]
  · iexists _; isplitr; swap; · iexact H4
    ipureintro
    exact hf4
  isplitl [HS0]
  · iexists _; isplitr; swap; · iexact HS0
    ipureintro
    exact (View.read_writes_full _ _ _ _ _).trans (congrArg k0_pay1 (readAt_unread harg4 _ x1))
  isplitl [HS1]
  · iexists _; isplitr; swap; · iexact HS1
    ipureintro
    exact (View.read_writes_full _ _ _ _ _).trans (congrArg k0_pay2 (readAt_unread harg5 _ x2))
  iexists _; isplitr; swap; · iexact HS2
  ipureintro
  exact (View.read_writes_full _ _ _ _ _).trans (congrArg k0_pay3 (readAt_unread harg6 _ x3))

set_option backward.proofsInPublic true in
set_option maxHeartbeats 8000000 in
/-- A tile in use whose expert is the previous point's. -/
theorem run_keep_active (c : Dev nD) (i : grid0.Coords) (arg3 : Memref sig .tc .vmem S768x1024 .bf16) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S768x1024 .bf16) (harg7 : arg7.IsWhole)
    (T0 : S199.Idx → Elt F .i32) (T1 : S1.Idx → Elt F .i32)
    (x0 : S768x1024.Idx → Elt F .bf16) (x1 : S1x1x1024x256.Idx → Elt F .f32) (x2 : S1x1x1024x256.Idx → Elt F .f32)
    (x3 : S1x1x256x1024.Idx → Elt F .f32) (y : S768x1024.Idx → Elt F .bf16) (w1 w2 : S1024x256.Idx → Elt F .bf16)
    (w3 : S256x1024.Idx → Elt F .bf16) (hc0 : ¬ loads (F := F) i T0) (k0_h2 : active (F := F) i T1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ owns (c : Thread nD τ) arg7 fullShare (y)
      ∗ owns (c : Thread nD τ) sc0 fullShare (w1)
      ∗ owns (c : Thread nD τ) sc1 fullShare (w2)
      ∗ owns (c : Thread nD τ) sc2 fullShare (w3)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare (k0_pay4 x0 (w1) (w2) (w3))
          ∗ owns (c : Thread nD τ) sc0 fullShare (w1)
          ∗ owns (c : Thread nD τ) sc1 fullShare (w2)
          ∗ owns (c : Thread nD τ) sc2 fullShare (w3)) -∗ K ⟨⟩))
      ⊢ wp frame (wpE (defs₀ (F := F)) Variants.none c none) Set.univ (cc0_experts i tb0 (Memref.isWhole_whole _) tb1 (Memref.isWhole_whole _) arg3 harg3 arg4 harg4 arg5 harg5 arg6 harg6 arg7 harg7 sc0 (Memref.isWhole_whole _) sc1 (Memref.isWhole_whole _) sc2 (Memref.isWhole_whole _)) K := by
  unfold owns
  rw [cc0_experts_eq_skeleton]; unfold cc0_experts_skel
  iintro ⟨⟨%f0, %hf0, H0⟩, ⟨%f1, %hf1, H1⟩, ⟨%f2, %hf2, H2⟩, ⟨%f3, %hf3, H3⟩, HT0, HT1, ⟨%f4, %hf4, H4⟩, ⟨%f5, %hf5, HS0⟩, ⟨%f6, %hf6, HS1⟩, ⟨%f7, %hf7, HS2⟩, Hk⟩
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  obtain rfl := harg3.eq_unread hf0
  obtain rfl := harg4.eq_unread hf1
  obtain rfl := harg5.eq_unread hf2
  obtain rfl := harg6.eq_unread hf3
  obtain rfl := harg7.eq_unread hf4
  obtain rfl := hS0.eq_unread hf5
  obtain rfl := hS1.eq_unread hf6
  obtain rfl := hS2.eq_unread hf7
  sl_exec! (disch := first | (guard_target = ¬(Scalar.cmpi = _); exact hc0) | (guard_target = k0_cond2 _ _ = _; exact k0_h2))
  sl_step
  iapply Hk
  isplitl [H0]
  · iexists _; isplitr; · ipureintro; assumption
    iexact H0
  isplitl [H1]
  · iexists _; isplitr; · ipureintro; assumption
    iexact H1
  isplitl [H2]
  · iexists _; isplitr; · ipureintro; assumption
    iexact H2
  isplitl [H3]
  · iexists _; isplitr; · ipureintro; assumption
    iexact H3
  isplitl [HT0]; · iexact HT0
  isplitl [HT1]; · iexact HT1
  isplitl [H4]
  · iexists _; isplitr; swap; · iexact H4
    ipureintro
    exact (View.read_writes_full _ _ _ _ _).trans (pay4_congr (readAt_unread harg3 _ x0) (readAt_unread hS0 _ w1) (readAt_unread hS1 _ w2) (readAt_unread hS2 _ w3))
  isplitl [HS0]
  · iexists _; isplitr; swap; · iexact HS0
    ipureintro
    exact hf5
  isplitl [HS1]
  · iexists _; isplitr; swap; · iexact HS1
    ipureintro
    exact hf6
  iexists _; isplitr; swap; · iexact HS2
  ipureintro
  exact hf7

set_option backward.proofsInPublic true in
set_option maxHeartbeats 8000000 in
/-- A tile not in use whose expert is the previous point's. -/
theorem run_keep_idle (c : Dev nD) (i : grid0.Coords) (arg3 : Memref sig .tc .vmem S768x1024 .bf16) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S768x1024 .bf16) (harg7 : arg7.IsWhole)
    (T0 : S199.Idx → Elt F .i32) (T1 : S1.Idx → Elt F .i32)
    (x0 : S768x1024.Idx → Elt F .bf16) (x1 : S1x1x1024x256.Idx → Elt F .f32) (x2 : S1x1x1024x256.Idx → Elt F .f32)
    (x3 : S1x1x256x1024.Idx → Elt F .f32) (y : S768x1024.Idx → Elt F .bf16) (w1 w2 : S1024x256.Idx → Elt F .bf16)
    (w3 : S256x1024.Idx → Elt F .bf16) (hc0 : ¬ loads (F := F) i T0) (k0_h2 : ¬ active (F := F) i T1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ owns (c : Thread nD τ) arg7 fullShare (y)
      ∗ owns (c : Thread nD τ) sc0 fullShare (w1)
      ∗ owns (c : Thread nD τ) sc1 fullShare (w2)
      ∗ owns (c : Thread nD τ) sc2 fullShare (w3)
      ∗ (iprop(owns (c : Thread nD τ) arg3 fullShare x0
          ∗ owns (c : Thread nD τ) arg4 fullShare x1
          ∗ owns (c : Thread nD τ) arg5 fullShare x2
          ∗ owns (c : Thread nD τ) arg6 fullShare x3
          ∗ (tb0.view.loc (c : Thread nD τ) ↦{fullShare.right} T0)
          ∗ (tb1.view.loc (c : Thread nD τ) ↦{fullShare.right} T1)
          ∗ owns (c : Thread nD τ) arg7 fullShare (y)
          ∗ owns (c : Thread nD τ) sc0 fullShare (w1)
          ∗ owns (c : Thread nD τ) sc1 fullShare (w2)
          ∗ owns (c : Thread nD τ) sc2 fullShare (w3)) -∗ K ⟨⟩))
      ⊢ wp frame (wpE (defs₀ (F := F)) Variants.none c none) Set.univ (cc0_experts i tb0 (Memref.isWhole_whole _) tb1 (Memref.isWhole_whole _) arg3 harg3 arg4 harg4 arg5 harg5 arg6 harg6 arg7 harg7 sc0 (Memref.isWhole_whole _) sc1 (Memref.isWhole_whole _) sc2 (Memref.isWhole_whole _)) K := by
  unfold owns
  rw [cc0_experts_eq_skeleton]; unfold cc0_experts_skel
  iintro ⟨⟨%f0, %hf0, H0⟩, ⟨%f1, %hf1, H1⟩, ⟨%f2, %hf2, H2⟩, ⟨%f3, %hf3, H3⟩, HT0, HT1, ⟨%f4, %hf4, H4⟩, ⟨%f5, %hf5, HS0⟩, ⟨%f6, %hf6, HS1⟩, ⟨%f7, %hf7, HS2⟩, Hk⟩
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  obtain rfl := harg3.eq_unread hf0
  obtain rfl := harg4.eq_unread hf1
  obtain rfl := harg5.eq_unread hf2
  obtain rfl := harg6.eq_unread hf3
  obtain rfl := harg7.eq_unread hf4
  obtain rfl := hS0.eq_unread hf5
  obtain rfl := hS1.eq_unread hf6
  obtain rfl := hS2.eq_unread hf7
  sl_exec! (disch := first | (guard_target = ¬(Scalar.cmpi = _); exact hc0) | (guard_target = ¬(k0_cond2 _ _ = _); exact k0_h2))
  sl_step
  iapply Hk
  isplitl [H0]
  · iexists _; isplitr; · ipureintro; assumption
    iexact H0
  isplitl [H1]
  · iexists _; isplitr; · ipureintro; assumption
    iexact H1
  isplitl [H2]
  · iexists _; isplitr; · ipureintro; assumption
    iexact H2
  isplitl [H3]
  · iexists _; isplitr; · ipureintro; assumption
    iexact H3
  isplitl [HT0]; · iexact HT0
  isplitl [HT1]; · iexact HT1
  isplitl [H4]
  · iexists _; isplitr; swap; · iexact H4
    ipureintro
    exact hf4
  isplitl [HS0]
  · iexists _; isplitr; swap; · iexact HS0
    ipureintro
    exact hf5
  isplitl [HS1]
  · iexists _; isplitr; swap; · iexact HS1
    ipureintro
    exact hf6
  iexists _; isplitr; swap; · iexact HS2
  ipureintro
  exact hf7

end Cert.Kernel2Ideal.Exp

end
-- ==== Proof.ExpOk.lean ====
module

public import proofs.«01_k».proof.Proof.ExpRun
public import Idealize.ShloMosaic.Lib.Pointwise

@[expose] public section

set_option maxRecDepth 16384

noncomputable section

/-! # The two tables of the expert kernel

Where every entry of the first table names one of 64 experts and the second counts from 1 to 199 tiles, every block lies
in its array, and the block of rows at point `i` is the smaller of `i` and the last tile in use. -/

namespace Cert.Kernel2Ideal.Exp

open Cert.Kernel2Ideal Cert.Kernel2Ideal.Gen
open Idealize.ShloMosaic
open Idealize.ShloMosaic.TcCoe

variable {F : FTy → Type} [FloatOps F]

/-- The entries of the tables are in range. -/
structure Good (T0 : S199.Idx → BitVec 32) (T1 : S1.Idx → BitVec 32) : Prop where
  te : ∀ x, (T0 x).toNat < 64
  pos : ∀ x, 1 ≤ (T1 x).toNat
  le : ∀ x, (T1 x).toNat ≤ 199

/-- The expert of tile `k`. -/
def te (T0 : S199.Idx → BitVec 32) (k : ℕ) : ℕ := (T0 (ix1 ⟨min k 198, by omega⟩)).toNat

/-- The number of tiles in use. -/
def nt (T1 : S1.Idx → BitVec 32) : ℕ := (T1 (ix1 0)).toNat

/-- The tables as the kernel's prefetched contents. -/
def pf (F : FTy → Type) [FloatOps F] (T0 : S199.Idx → BitVec 32) (T1 : S1.Idx → BitVec 32) : pre0.Contents (Elt F) :=
  fun | ⟨0, _⟩ => T0 | ⟨1, _⟩ => T1 | ⟨_ + 2, h⟩ => absurd h (by simp)

theorem coord_lt (i : grid0.Coords) : (i 0).val < 199 := (i 0).isLt

theorem off1 (i : grid0.Coords) : k0_off1 i = ![(i 0).val] := by
  have h := coord_lt i
  show ![(BitVec.ofNat 32 (i 0).val).toNat] = _
  rw [BitVec.toNat_ofNat, Nat.mod_eq_of_lt (by omega)]

theorem prev_word : ∀ k : Fin 199, (Scalar.indexCast (Scalar.maxsi (Scalar.subi (BitVec.ofNat 32 k.val) 1#32) 0#32)).toNat = k.val - 1 := by
  decide +kernel

theorem off2 (i : grid0.Coords) : k0_off2 i = ![(i 0).val - 1] :=
  congrArg (fun n : ℕ => ![n]) (prev_word ⟨(i 0).val, coord_lt i⟩)

section
variable {T0 : S199.Idx → BitVec 32} {T1 : S1.Idx → BitVec 32}

theorem T1_eq (x : S1.Idx) : (T1 x).toNat = nt T1 := by
  refine congrArg (fun y => (T1 y).toNat) (funext fun a => ?_)
  match a with
  | ⟨0, _⟩ => exact Fin.ext (Nat.lt_one_iff.mp (x 0).isLt)

theorem T0_eq (x : S199.Idx) : (T0 x).toNat = te T0 (x 0).val := by
  refine congrArg (fun y => (T0 y).toNat) (funext fun a => ?_)
  match a with
  | ⟨0, _⟩ =>
    have h : (x 0).val < 199 := (x 0).isLt
    refine Fin.ext ?_
    show (x 0).val = min (x 0).val 198
    omega

theorem min_word (k : ℕ) (n : BitVec 32) (hk : k < 199) (h1 : 1 ≤ n.toNat) (h2 : n.toNat ≤ 199) :
    (Scalar.minsi (BitVec.ofNat 32 k) (Scalar.subi n 1#32)).toNat = min k (n.toNat - 1) := by
  have e : Scalar.subi n 1#32 = BitVec.ofNat 32 (n.toNat - 1) := by
    apply BitVec.eq_of_toNat_eq
    show (n - 1#32).toNat = _
    rw [BitVec.toNat_sub, BitVec.toNat_ofNat, BitVec.toNat_ofNat]
    omega
  rw [e]
  generalize hm : n.toNat - 1 = m
  have hm' : m < 199 := by omega
  show (if (BitVec.ofNat 32 k).slt (BitVec.ofNat 32 m) then _ else _ : BitVec 32).toNat = _
  have hs : (BitVec.ofNat 32 k).slt (BitVec.ofNat 32 m) = decide (k < m) := by
    rw [BitVec.slt_eq_decide, BitVec.toInt_ofNat', BitVec.toInt_ofNat']
    rw [Int.bmod_eq_of_le (by omega) (by omega), Int.bmod_eq_of_le (by omega) (by omega)]
    simp
  rw [hs]
  by_cases h : k < m
  · rw [if_pos (by simpa using h), BitVec.toNat_ofNat, Nat.mod_eq_of_lt (by omega)]; omega
  · rw [if_neg (by simpa using h), BitVec.toNat_ofNat, Nat.mod_eq_of_lt (by omega)]; omega

theorem active_word (k : ℕ) (n : BitVec 32) (hk : k < 199) (h2 : n.toNat ≤ 199) :
    Scalar.cmpi .ne (Scalar.extui (Scalar.cmpi .slt (BitVec.ofNat 32 k) n)) 0#32 = 1#1 ↔ k < n.toNat := by
  have e : n = BitVec.ofNat 32 n.toNat := by simp
  rw [e]
  generalize hm : n.toNat = m at *
  have hs : (BitVec.ofNat 32 k).slt (BitVec.ofNat 32 m) = decide (k < m) := by
    rw [BitVec.slt_eq_decide, BitVec.toInt_ofNat', BitVec.toInt_ofNat']
    rw [Int.bmod_eq_of_le (by omega) (by omega), Int.bmod_eq_of_le (by omega) (by omega)]
    simp
  have hc : Scalar.cmpi .slt (BitVec.ofNat 32 k) (BitVec.ofNat 32 m) = BitVec.ofBool (decide (k < m)) := by
    show BitVec.ofBool ((BitVec.ofNat 32 k).slt (BitVec.ofNat 32 m)) = _
    rw [hs]
  rw [hc, BitVec.toNat_ofNat, Nat.mod_eq_of_lt (by omega)]
  by_cases h : k < m
  · simp only [h, decide_true, iff_true]; decide
  · simp only [h, decide_false, iff_false]; decide

variable (hg : Good T0 T1)
include hg

theorem nt_pos : 1 ≤ nt T1 := hg.pos _
theorem nt_le : nt T1 ≤ 199 := hg.le _
theorem te_lt (k : ℕ) : te T0 k < 64 := hg.te _

theorem tr0 (i : grid0.Coords) : cc0_transform_0 inb_S1_S1_0 numel1_S1 (pf F T0 T1) i = ![min (i 0).val (nt T1 - 1), 0] := by
  have h := min_word (i 0).val (T1 ((Rect.unit (s := S1) ![0] S1.size inb_S1_S1_0).emb (Shape.Idx.first (numel1_S1.symm ▸ Nat.one_pos)))) (coord_lt i) (hg.pos _) (hg.le _)
  rw [T1_eq] at h
  exact congrArg (fun n : ℕ => ![n, 0]) h

theorem tr4 (i : grid0.Coords) : cc0_transform_4 inb_S1_S1_0 numel1_S1 (pf F T0 T1) i = ![min (i 0).val (nt T1 - 1), 0] := tr0 hg i

omit hg in
theorem T0_at (i : grid0.Coords) (j : Fin 1 → ℕ) (h) (x) :
    (T0 ((Rect.unit (s := S199) j S1.size h).emb x)).toNat = te T0 (j 0) := by
  rw [T0_eq]
  refine congrArg (te T0) ?_
  show j 0 + 1 * (x 0).val = _
  have : (x 0).val < 1 := (x 0).isLt
  omega

omit hg in
theorem tr1 (i : grid0.Coords) : cc0_transform_1 k0_off1_inb numel1_S1 (pf F T0 T1) i = ![0, te T0 (i 0).val, 0, 0] := by
  have h := T0_at (T0 := T0) i (k0_off1 i) (k0_off1_inb i) (Shape.Idx.first (numel1_S1.symm ▸ Nat.one_pos))
  rw [show k0_off1 i 0 = (i 0).val from congrFun (off1 i) 0] at h
  exact congrArg (fun n : ℕ => ![0, n, 0, 0]) h
omit hg in
theorem tr2 (i : grid0.Coords) : cc0_transform_2 k0_off1_inb numel1_S1 (pf F T0 T1) i = ![0, te T0 (i 0).val, 0, 0] := tr1 i
omit hg in
theorem tr3 (i : grid0.Coords) : cc0_transform_3 k0_off1_inb numel1_S1 (pf F T0 T1) i = ![0, te T0 (i 0).val, 0, 0] := tr1 i

theorem inb0 (i : grid0.Coords) : ∀ a, (cc0_transform_0 inb_S1_S1_0 numel1_S1 (pf F T0 T1) i a + 1) * S768x1024.size a ≤ S152832x1024.size a := by
  rw [tr0 hg]
  have := coord_lt i
  intro a
  match a with
  | ⟨0, _⟩ => show (min (i 0).val (nt T1 - 1) + 1) * 768 ≤ 152832; omega
  | ⟨1, _⟩ => exact (by decide : (0 + 1) * 1024 ≤ 1024)

theorem inb1 (i : grid0.Coords) : ∀ a, (cc0_transform_1 k0_off1_inb numel1_S1 (pf F T0 T1) i a + 1) * S1x1x1024x256.size a ≤ S2x64x1024x256.size a := by
  rw [tr1]
  have := te_lt hg (i 0).val
  intro a
  match a with
  | ⟨0, _⟩ => exact (by decide : (0 + 1) * 1 ≤ 2)
  | ⟨1, _⟩ => show (te T0 (i 0).val + 1) * 1 ≤ 64; omega
  | ⟨2, _⟩ => exact (by decide : (0 + 1) * 1024 ≤ 1024)
  | ⟨3, _⟩ => exact (by decide : (0 + 1) * 256 ≤ 256)

theorem inb3 (i : grid0.Coords) : ∀ a, (cc0_transform_3 k0_off1_inb numel1_S1 (pf F T0 T1) i a + 1) * S1x1x256x1024.size a ≤ S2x64x256x1024.size a := by
  rw [tr3]
  have := te_lt hg (i 0).val
  intro a
  match a with
  | ⟨0, _⟩ => exact (by decide : (0 + 1) * 1 ≤ 2)
  | ⟨1, _⟩ => show (te T0 (i 0).val + 1) * 1 ≤ 64; omega
  | ⟨2, _⟩ => exact (by decide : (0 + 1) * 256 ≤ 256)
  | ⟨3, _⟩ => exact (by decide : (0 + 1) * 1024 ≤ 1024)

omit hg in
theorem crd_val (t : Fin grid0.N) : (grid0.coords t 0).val = t.val := by
  rw [Pipeline.Grid.coords_val t 0 (S := 1) (B := 199) (by decide) rfl]
  have : t.val < 199 := lt_of_lt_of_eq t.isLt (by decide)
  omega

/-- No later read of the rows falls on a tile already written. -/
theorem aliased : Pipeline.WinSpec.Aliased (G := grid0) spec0 (ix0 (pf F T0 T1)) 0 4 where
  isIn := by decide
  isOut := by decide
  rank := by decide
  size := by decide
  index := by intro x a a' h; cases (Fin.ext h : a = a'); rfl
  ordered := by
    intro u u' hlt _ hfl heq
    have hN : grid0.N = 199 := by decide
    have hu := u.isLt
    simp only [Pipeline.WinSpec.flushAt, Bool.and_eq_true, Bool.or_eq_true, decide_eq_true_eq] at hfl
    have e : ∀ t : Fin grid0.N, ix0 (pf F T0 T1) 4 (grid0.coords t) = ![min t.val (nt T1 - 1), 0] := fun t => by
      rw [← crd_val t]; exact tr4 hg _
    rcases hfl.2 with h | ⟨h, hne⟩
    · omega
    · rw [e, e] at hne heq
      have h0 : min u'.val (nt T1 - 1) = min u.val (nt T1 - 1) := congrFun heq 0
      exact hne (by
        rw [show min (u'.val + 1) (nt T1 - 1) = min u'.val (nt T1 - 1) by omega])

theorem ok : ok0 (F := F) (pf F T0 T1) :=
  ⟨fun i => ⟨inb0 hg i, .inr (Affine.block_words_dvd (s := S152832x1024) (p := EltTy.packing .bf16) (by decide) (by decide))⟩,
   fun i => ⟨inb1 hg i, .inl rfl⟩, fun i => ⟨inb1 hg i, .inl rfl⟩, fun i => ⟨inb3 hg i, .inl rfl⟩,
   fun i => ⟨inb0 hg i, .inr (Affine.block_words_dvd (s := S152832x1024) (p := EltTy.packing .bf16) (by decide) (by decide))⟩,
   aliased hg⟩

/-- The body computes the tile exactly where it is in use. -/
theorem active_iff (i : grid0.Coords) : active (F := F) i T1 ↔ (i 0).val < nt T1 := by
  have h := active_word (i 0).val (T1 ((Rect.unit (s := S1) ![0] S1.size inb_S1_S1_0).emb (Shape.Idx.first (numel1_S1.symm ▸ Nat.one_pos)))) (coord_lt i) (hg.le _)
  rw [T1_eq] at h
  exact h

omit hg in
/-- Where the body keeps the weights it holds, the expert is the one of the point before. -/
theorem keep_te (i : grid0.Coords) (h : ¬ loads (F := F) i T0) : (i 0).val ≠ 0 ∧ te T0 (i 0).val = te T0 ((i 0).val - 1) := by
  have h1 := T0_at (T0 := T0) i (k0_off1 i) (k0_off1_inb i) (Shape.Idx.first (numel1_S1.symm ▸ Nat.one_pos))
  have h2 := T0_at (T0 := T0) i (k0_off2 i) (k0_off2_inb i) (Shape.Idx.first (numel1_S1.symm ▸ Nat.one_pos))
  rw [show k0_off1 i 0 = (i 0).val from congrFun (off1 i) 0] at h1
  rw [show k0_off2 i 0 = (i 0).val - 1 from congrFun (off2 i) 0] at h2
  have key : ∀ a b : BitVec 1, ¬ (Scalar.cmpi .ne (Scalar.extui (Scalar.ori a b)) 0#32 = 1#1) → a ≠ 1#1 ∧ b ≠ 1#1 := by decide
  obtain ⟨ha, hb⟩ := key _ _ h
  constructor
  · intro h0
    apply ha
    rw [h0]; decide
  · have hw : (word0 F i T0 : BitVec 32) = word1 F i T0 := by
      by_contra hne
      apply hb
      show BitVec.ofBool ((word0 F i T0 : BitVec 32) != word1 F i T0) = 1#1
      rw [bne_iff_ne.mpr hne]; rfl
    rw [← h1, ← h2]
    exact congrArg BitVec.toNat hw

end

end Cert.Kernel2Ideal.Exp

end
-- ==== Proof.ExpData.lean ====
module

public import proofs.«01_k».proof.Proof.ExpOk
public import Idealize.ShloMosaic.Lib.Pipeline.Quiescent
public import Idealize.ShloMosaic.Lib.Claim

@[expose] public section

set_option maxRecDepth 16384
set_option Elab.async false

noncomputable section

/-! # What the buffers of the expert kernel hold at each grid point

The inputs hold their blocks. The scratches hold the weights of the expert of the point before. The block of results
holds the result of the point's tile, and past the last tile in use that tile's result. -/

namespace Cert.Kernel2Ideal.Exp

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable {T0 : S199.Idx → BitVec 32} {T1 : S1.Idx → BitVec 32}

/-- The tables, admissible where they are in range, and the kernel's schedule at them. -/
def adm (hg : Good T0 T1) : (pcfg0 (F := F)).Adm := ⟨pf F T0 T1, ok hg⟩
abbrev cfgA (F : FTy → Type) [FloatOps F] (hg : Good T0 T1) : Pipeline.Cfg sig Λ₀ := cfg0 (F := F) (adm hg)
abbrev pcs (F : FTy → Type) [FloatOps F] (hg : Good T0 T1) : Fin 1 → Pipeline.Cfg sig Λ₀ := Pipeline.pin (pcfgs (F := F)) fun _ => adm hg

variable (hg : Good T0 T1) (m : (ℓ : Loc nD τ sig) → Buf (Elt F) ℓ)

/-- The buffers of core `c` when the kernel starts. -/
abbrev V (c : Dev nD) (b : Ref sig .tc) : Buf (Elt F) ((c : Thread nD τ).loc b) :=
  StableHlo.after (hostOps0 (F := F)) (fun b => m (c, b)) b

theorem hostOps0_fresh : (hostOps0 (F := F) : List (HloOp τ sig (Elt F))).Forall fun op => op.fresh = ∅ := by
  simp only [List.Forall]; repeat' constructor

abbrev hostOps0_W : List (Ref sig .tc) := [main_v0]
theorem hostOps0_writes : ((hostOps0 (F := F)) : List (HloOp τ sig (Elt F))).Forall fun op => op.writes ⊆ (hostOps0_W.map (Proc.devRef (τ := τ) .tc)).toFinset :=
  StableHlo.forall_writes_sub_of_map rfl

set_option maxHeartbeats 800000 in
theorem hmain : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main (hostOps0 (F := F)) hostOps0_sub hostOps0_fresh main_chain

theorem V_main_arg0 (c : Dev nD) : V m c main_arg0 = m ((c : Thread nD τ).loc main_arg0) :=
  StableHlo.after_of_writes_sub (hostOps0 (F := F)) _ hostOps0_writes (by decide)
theorem V_main_arg1 (c : Dev nD) : V m c main_arg1 = m ((c : Thread nD τ).loc main_arg1) :=
  StableHlo.after_of_writes_sub (hostOps0 (F := F)) _ hostOps0_writes (by decide)
theorem V_main_arg2 (c : Dev nD) : V m c main_arg2 = m ((c : Thread nD τ).loc main_arg2) :=
  StableHlo.after_of_writes_sub (hostOps0 (F := F)) _ hostOps0_writes (by decide)
theorem V_main_arg3 (c : Dev nD) : V m c main_arg3 = m ((c : Thread nD τ).loc main_arg3) :=
  StableHlo.after_of_writes_sub (hostOps0 (F := F)) _ hostOps0_writes (by decide)
theorem V_main_arg4 (c : Dev nD) : V m c main_arg4 = m ((c : Thread nD τ).loc main_arg4) :=
  StableHlo.after_of_writes_sub (hostOps0 (F := F)) _ hostOps0_writes (by decide)
theorem V_main_arg5 (c : Dev nD) : V m c main_arg5 = m ((c : Thread nD τ).loc main_arg5) :=
  StableHlo.after_of_writes_sub (hostOps0 (F := F)) _ hostOps0_writes (by decide)

/-- The array of results starts as a copy of the rows. -/
theorem V_main_v0 (c : Dev nD) : V m c main_v0 = m ((c : Thread nD τ).loc main_arg2) := by
  show StableHlo.after hostOps0 _ (Proc.devRef .tc main_v0) = _
  after_results
  rfl

/-- Point `t`'s coordinates. -/
abbrev crd (t : Fin (cfgA F hg).N) : (cfgA F hg).grid.Coords := (cfgA F hg).grid.coords t

theorem N_eq : (cfgA F hg).N = 199 := by
  show Pipeline.Grid.N grid0 = 199; decide

theorem crd0 (t : Fin (cfgA F hg).N) : (crd hg t 0).val = t.val := crd_val t

/-- The windows' staging buffers at point `t`. -/
abbrev ms0 (t : Fin (cfgA F hg).N) : Memref sig .tc .vmem S768x1024 .bf16 := spec0_0.stage ((cfgA F hg).slots t (0 : Fin 5))
abbrev hs0 (t : Fin (cfgA F hg).N) : (ms0 hg t).IsWhole := hstage0_0 (((cfgA F hg).slots t (0 : Fin 5)).cast nbuf0_0)
abbrev ms1 (t : Fin (cfgA F hg).N) : Memref sig .tc .vmem S1x1x1024x256 .f32 := spec0_1.stage ((cfgA F hg).slots t (1 : Fin 5))
abbrev hs1 (t : Fin (cfgA F hg).N) : (ms1 hg t).IsWhole := hstage0_1 (((cfgA F hg).slots t (1 : Fin 5)).cast nbuf0_1)
abbrev ms2 (t : Fin (cfgA F hg).N) : Memref sig .tc .vmem S1x1x1024x256 .f32 := spec0_2.stage ((cfgA F hg).slots t (2 : Fin 5))
abbrev hs2 (t : Fin (cfgA F hg).N) : (ms2 hg t).IsWhole := hstage0_2 (((cfgA F hg).slots t (2 : Fin 5)).cast nbuf0_2)
abbrev ms3 (t : Fin (cfgA F hg).N) : Memref sig .tc .vmem S1x1x256x1024 .f32 := spec0_3.stage ((cfgA F hg).slots t (3 : Fin 5))
abbrev hs3 (t : Fin (cfgA F hg).N) : (ms3 hg t).IsWhole := hstage0_3 (((cfgA F hg).slots t (3 : Fin 5)).cast nbuf0_3)
abbrev ms4 (t : Fin (cfgA F hg).N) : Memref sig .tc .vmem S768x1024 .bf16 := spec0_4.stage ((cfgA F hg).slots t (4 : Fin 5))
abbrev hs4 (t : Fin (cfgA F hg).N) : (ms4 hg t).IsWhole := hstage0_4 (((cfgA F hg).slots t (4 : Fin 5)).cast nbuf0_4)

/-- Window `w`'s block at point `t`, of its array when the kernel starts. -/
def iblk (c : Dev nD) (w : Fin (cfgA F hg).W) (t : Fin (cfgA F hg).N) : (((cfgA F hg).win w).xblock (crd hg t)).Idx → Elt F ((cfgA F hg).win w).elt :=
  (((cfgA F hg).win w).blk t).view.read (Elt F) (V m c (Pipeline.arrRef spec0 w))

theorem index0 (t : Fin (cfgA F hg).N) : ((cfgA F hg).win (0 : Fin 5)).index t = ![min t.val (nt T1 - 1), 0] := by
  rw [← crd0 hg t]; exact tr0 hg _
theorem index4 (t : Fin (cfgA F hg).N) : ((cfgA F hg).win (4 : Fin 5)).index t = ![min t.val (nt T1 - 1), 0] := by
  rw [← crd0 hg t]; exact tr4 hg _
theorem index1 (t : Fin (cfgA F hg).N) : ((cfgA F hg).win (1 : Fin 5)).index t = ![0, te T0 t.val, 0, 0] := by
  rw [← crd0 hg t]; exact tr1 _
theorem index2 (t : Fin (cfgA F hg).N) : ((cfgA F hg).win (2 : Fin 5)).index t = ![0, te T0 t.val, 0, 0] := by
  rw [← crd0 hg t]; exact tr2 _
theorem index3 (t : Fin (cfgA F hg).N) : ((cfgA F hg).win (3 : Fin 5)).index t = ![0, te T0 t.val, 0, 0] := by
  rw [← crd0 hg t]; exact tr3 _

/-- The block of rows at point `t`. -/
theorem iblk0 (c : Dev nD) (t : Fin (cfgA F hg).N) (r : Fin 768) (d : Fin 1024) :
    (iblk hg m c (0 : Fin 5) t : S768x1024.Idx → Elt F .bf16) (ix2 r d)
      = (V m c main_arg2 : S152832x1024.Idx → Elt F .bf16) (ix2 ⟨min t.val (nt T1 - 1) * 768 + r.val, by have := nt_le hg; have := nt_pos hg; omega⟩ d) := by
  refine congrArg (V m c main_arg2) (funext fun a => Fin.ext ?_)
  match a with
  | ⟨0, _⟩ =>
    show ((cfgA F hg).win (0 : Fin 5)).index t 0 * 768 + 1 * r.val = min t.val (nt T1 - 1) * 768 + r.val
    rw [index0]
    show min t.val (nt T1 - 1) * 768 + 1 * r.val = _
    omega
  | ⟨1, _⟩ =>
    show ((cfgA F hg).win (0 : Fin 5)).index t 1 * 1024 + 1 * d.val = d.val
    rw [index0]
    show 0 * 1024 + 1 * d.val = _
    omega

/-- The block of the gate weights at point `t`: its expert's. -/
theorem iblk1 (c : Dev nD) (t : Fin (cfgA F hg).N) (a b : Fin 1) (d : Fin 1024) (f : Fin 256) :
    (iblk hg m c (1 : Fin 5) t : S1x1x1024x256.Idx → Elt F .f32) (ix4 a b d f)
      = (V m c main_arg3 : S2x64x1024x256.Idx → Elt F .f32) (ix4 0 ⟨te T0 t.val, te_lt hg _⟩ d f) := by
  refine congrArg (V m c main_arg3) (funext fun x => Fin.ext ?_)
  match x with
  | ⟨0, _⟩ =>
    show ((cfgA F hg).win (1 : Fin 5)).index t 0 * 1 + 1 * a.val = 0
    rw [index1]; show 0 * 1 + 1 * a.val = 0; omega
  | ⟨1, _⟩ =>
    show ((cfgA F hg).win (1 : Fin 5)).index t 1 * 1 + 1 * b.val = te T0 t.val
    rw [index1]; show te T0 t.val * 1 + 1 * b.val = _; omega
  | ⟨2, _⟩ =>
    show ((cfgA F hg).win (1 : Fin 5)).index t 2 * 1024 + 1 * d.val = d.val
    rw [index1]; show 0 * 1024 + 1 * d.val = _; omega
  | ⟨3, _⟩ =>
    show ((cfgA F hg).win (1 : Fin 5)).index t 3 * 256 + 1 * f.val = f.val
    rw [index1]; show 0 * 256 + 1 * f.val = _; omega

/-- The block of the up weights at point `t`. -/
theorem iblk2 (c : Dev nD) (t : Fin (cfgA F hg).N) (a b : Fin 1) (d : Fin 1024) (f : Fin 256) :
    (iblk hg m c (2 : Fin 5) t : S1x1x1024x256.Idx → Elt F .f32) (ix4 a b d f)
      = (V m c main_arg4 : S2x64x1024x256.Idx → Elt F .f32) (ix4 0 ⟨te T0 t.val, te_lt hg _⟩ d f) := by
  refine congrArg (V m c main_arg4) (funext fun x => Fin.ext ?_)
  match x with
  | ⟨0, _⟩ =>
    show ((cfgA F hg).win (2 : Fin 5)).index t 0 * 1 + 1 * a.val = 0
    rw [index2]; show 0 * 1 + 1 * a.val = 0; omega
  | ⟨1, _⟩ =>
    show ((cfgA F hg).win (2 : Fin 5)).index t 1 * 1 + 1 * b.val = te T0 t.val
    rw [index2]; show te T0 t.val * 1 + 1 * b.val = _; omega
  | ⟨2, _⟩ =>
    show ((cfgA F hg).win (2 : Fin 5)).index t 2 * 1024 + 1 * d.val = d.val
    rw [index2]; show 0 * 1024 + 1 * d.val = _; omega
  | ⟨3, _⟩ =>
    show ((cfgA F hg).win (2 : Fin 5)).index t 3 * 256 + 1 * f.val = f.val
    rw [index2]; show 0 * 256 + 1 * f.val = _; omega

/-- The block of the down weights at point `t`. -/
theorem iblk3 (c : Dev nD) (t : Fin (cfgA F hg).N) (a b : Fin 1) (f : Fin 256) (d : Fin 1024) :
    (iblk hg m c (3 : Fin 5) t : S1x1x256x1024.Idx → Elt F .f32) (ix4 a b f d)
      = (V m c main_arg5 : S2x64x256x1024.Idx → Elt F .f32) (ix4 0 ⟨te T0 t.val, te_lt hg _⟩ f d) := by
  refine congrArg (V m c main_arg5) (funext fun x => Fin.ext ?_)
  match x with
  | ⟨0, _⟩ =>
    show ((cfgA F hg).win (3 : Fin 5)).index t 0 * 1 + 1 * a.val = 0
    rw [index3]; show 0 * 1 + 1 * a.val = 0; omega
  | ⟨1, _⟩ =>
    show ((cfgA F hg).win (3 : Fin 5)).index t 1 * 1 + 1 * b.val = te T0 t.val
    rw [index3]; show te T0 t.val * 1 + 1 * b.val = _; omega
  | ⟨2, _⟩ =>
    show ((cfgA F hg).win (3 : Fin 5)).index t 2 * 256 + 1 * f.val = f.val
    rw [index3]; show 0 * 256 + 1 * f.val = _; omega
  | ⟨3, _⟩ =>
    show ((cfgA F hg).win (3 : Fin 5)).index t 3 * 1024 + 1 * d.val = d.val
    rw [index3]; show 0 * 1024 + 1 * d.val = _; omega

section
variable {hg}

/-- Points of one expert read the same weights. -/
theorem same1 (c : Dev nD) {s t : Fin (cfgA F hg).N} (h : te T0 s.val = te T0 t.val) :
    (iblk hg m c (1 : Fin 5) s : S1x1x1024x256.Idx → Elt F .f32) = iblk hg m c (1 : Fin 5) t := by
  funext j; idx_vars j
  rw [iblk1, iblk1]; simp only [h]
theorem same2 (c : Dev nD) {s t : Fin (cfgA F hg).N} (h : te T0 s.val = te T0 t.val) :
    (iblk hg m c (2 : Fin 5) s : S1x1x1024x256.Idx → Elt F .f32) = iblk hg m c (2 : Fin 5) t := by
  funext j; idx_vars j
  rw [iblk2, iblk2]; simp only [h]
theorem same3 (c : Dev nD) {s t : Fin (cfgA F hg).N} (h : te T0 s.val = te T0 t.val) :
    (iblk hg m c (3 : Fin 5) s : S1x1x256x1024.Idx → Elt F .f32) = iblk hg m c (3 : Fin 5) t := by
  funext j; idx_vars j
  rw [iblk3, iblk3]; simp only [h]
end

/-- The weights of point `t`'s expert, as the scratches hold them. -/
def w1 (c : Dev nD) (t : Fin (cfgA F hg).N) : S1024x256.Idx → Elt F .bf16 := k0_pay1 (iblk hg m c (1 : Fin 5) t)
def w2 (c : Dev nD) (t : Fin (cfgA F hg).N) : S1024x256.Idx → Elt F .bf16 := k0_pay2 (iblk hg m c (2 : Fin 5) t)
def w3 (c : Dev nD) (t : Fin (cfgA F hg).N) : S256x1024.Idx → Elt F .bf16 := k0_pay3 (iblk hg m c (3 : Fin 5) t)

/-- The result of point `t`'s tile. -/
def outE (c : Dev nD) (t : Fin (cfgA F hg).N) : S768x1024.Idx → Elt F .bf16 :=
  k0_pay4 (iblk hg m c (0 : Fin 5) t) (w1 hg m c t) (w2 hg m c t) (w3 hg m c t)

/-- The last tile in use up to point `t`. -/
def lastUsed (t : Fin (cfgA F hg).N) : Fin (cfgA F hg).N := ⟨min t.val (nt T1 - 1), lt_of_le_of_lt (min_le_left _ _) t.isLt⟩

/-- The scratches before position `n` and the tables. -/
def Phi (c : Dev nD) (n : Fin ((cfgA F hg).N + 1)) : sProp 𝕄 :=
  iprop((∃ a, ⌜∀ t : Fin (cfgA F hg).N, n.val = t.val + 1 → a = w1 hg m c t⌝ ∗ owns (c : Thread nD τ) sc0 fullShare a)
    ∗ (∃ a, ⌜∀ t : Fin (cfgA F hg).N, n.val = t.val + 1 → a = w2 hg m c t⌝ ∗ owns (c : Thread nD τ) sc1 fullShare a)
    ∗ (∃ a, ⌜∀ t : Fin (cfgA F hg).N, n.val = t.val + 1 → a = w3 hg m c t⌝ ∗ owns (c : Thread nD τ) sc2 fullShare a)
    ∗ (tb0.view.loc (c : Thread nD τ) ↦{fullShare.right} T0)
    ∗ (tb1.view.loc (c : Thread nD τ) ↦{fullShare.right} T1))

/-- What every buffer holds at every point. -/
def dats (_ : Fin 1) (c : Dev nD) : Dat τ (Elt F) Unit ℕ (UR sig nD τ) ℕ (cfgA F hg) c where
  A w := V m c (Pipeline.arrRef spec0 w)
  after w t := match w with
    | ⟨0, _⟩ => iblk hg m c (0 : Fin 5) t
    | ⟨1, _⟩ => iblk hg m c (1 : Fin 5) t
    | ⟨2, _⟩ => iblk hg m c (2 : Fin 5) t
    | ⟨3, _⟩ => iblk hg m c (3 : Fin 5) t
    | ⟨4, _⟩ => outE hg m c (lastUsed hg t)
  Φ n := Phi hg m c n
  q _ := fullShare
  owed _ := 0

theorem after0 (c : Dev nD) (t : Fin (cfgA F hg).N) : (dats hg m 0 c).after (0 : Fin 5) t = iblk hg m c (0 : Fin 5) t := rfl
theorem after1 (c : Dev nD) (t : Fin (cfgA F hg).N) : (dats hg m 0 c).after (1 : Fin 5) t = iblk hg m c (1 : Fin 5) t := rfl
theorem after2 (c : Dev nD) (t : Fin (cfgA F hg).N) : (dats hg m 0 c).after (2 : Fin 5) t = iblk hg m c (2 : Fin 5) t := rfl
theorem after3 (c : Dev nD) (t : Fin (cfgA F hg).N) : (dats hg m 0 c).after (3 : Fin 5) t = iblk hg m c (3 : Fin 5) t := rfl
theorem after4 (c : Dev nD) (t : Fin (cfgA F hg).N) : (dats hg m 0 c).after (4 : Fin 5) t = outE hg m c (lastUsed hg t) := rfl

theorem before0 (c : Dev nD) (t : Fin (cfgA F hg).N) (d) : (dats hg m 0 c).before (0 : Fin 5) t d = iblk hg m c (0 : Fin 5) t :=
  ((dats hg m 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA F hg).N) (d) : (dats hg m 0 c).before (1 : Fin 5) t d = iblk hg m c (1 : Fin 5) t :=
  ((dats hg m 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA F hg).N) (d) : (dats hg m 0 c).before (2 : Fin 5) t d = iblk hg m c (2 : Fin 5) t :=
  ((dats hg m 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA F hg).N) (d) : (dats hg m 0 c).before (3 : Fin 5) t d = iblk hg m c (3 : Fin 5) t :=
  ((dats hg m 0 c).before_in_eq_fetched (3 : Fin 5) rfl (fun _ => rfl) (fun _ _ _ => rfl) (fun t => by rw [after3]; unfold Dat.blockOf iblk; rfl) t d).trans
    (by unfold Dat.fetched Dat.blockOf iblk; rfl)

/-- A tile is skipped exactly where it is not in use. -/
theorem idle4 (t : Fin (cfgA F hg).N) : (cfgA F hg).idle (4 : Fin 5) (crd hg t) = !decide (t.val < nt T1) := by
  have h : ((k0_cond2 (crd hg t) (word2 F T1)) == 1#1) = decide (t.val < nt T1) := by
    rw [beq_eq_decide]
    have := active_iff (F := F) hg (crd hg t)
    rw [crd0] at this
    exact decide_eq_decide.mpr this
  exact congrArg (! ·) h

/-- From the last tile in use on, the block of results is written back at the last point alone. -/
theorem flush4 (t : Fin (cfgA F hg).N) : ((cfgA F hg).win (4 : Fin 5)).flush t = decide (t.val < nt T1 - 1 ∨ t.val = 198) := by
  have hN := N_eq (F := F) hg
  have hn := nt_le hg
  rw [Bool.eq_iff_iff, decide_eq_true_iff]
  show (true && (decide (t.val + 1 = (cfgA F hg).N) || decide (∃ h : t.val + 1 < (cfgA F hg).N, ((cfgA F hg).win (4 : Fin 5)).index ⟨t.val + 1, h⟩ ≠ ((cfgA F hg).win (4 : Fin 5)).index t))) = true ↔ _
  simp only [Bool.true_and, Bool.or_eq_true, decide_eq_true_eq]
  constructor
  · rintro (h | ⟨h, hne⟩)
    · right; omega
    · left
      by_contra hlt
      apply hne
      rw [index4, index4]
      show ![min (t.val + 1) (nt T1 - 1), 0] = _
      rw [show min (t.val + 1) (nt T1 - 1) = min t.val (nt T1 - 1) by omega]
  · rintro (h | h)
    · right
      refine ⟨by omega, fun e => ?_⟩
      rw [index4, index4] at e
      have e0 : min (t.val + 1) (nt T1 - 1) = min t.val (nt T1 - 1) := congrFun e 0
      omega
    · left; omega

theorem fresh4 : ∀ n, nt T1 ≤ n → n ≤ 198 → (cfgA F hg).fresh (4 : Fin 5) n = false := by
  have hN := N_eq (F := F) hg
  have hp := nt_pos hg
  intro n
  induction n with
  | zero => intro h; omega
  | succ n ih =>
    intro h h'
    have hn : n < (cfgA F hg).N := by omega
    rw [Cfg.fresh_succ _ _ n hn, flush4, show (cfgA F hg).idle (4 : Fin 5) ((cfgA F hg).grid.coords ⟨n, hn⟩) = _ from idle4 hg ⟨n, hn⟩]
    have e1 : decide (n < nt T1 - 1 ∨ n = 198) = false := decide_eq_false (by omega)
    show (decide (n < nt T1 - 1 ∨ n = 198) || (!decide (n < nt T1) && _)) = false
    rw [e1, Bool.false_or]
    by_cases hl : n < nt T1
    · rw [decide_eq_true hl]; rfl
    · rw [ih (by omega) (by omega), Bool.and_false]

theorem hcarry4 (c : Dev nD) : ∀ (t : Fin (cfgA F hg).N) (ht : t.val ≠ 0), (cfgA F hg).idle (4 : Fin 5) ((cfgA F hg).grid.coords t) = true → (cfgA F hg).fresh (4 : Fin 5) t.val = false →
    (dats hg m 0 c).after (4 : Fin 5) t = (dats hg m 0 c).after (4 : Fin 5) ⟨t.val - 1, by omega⟩ := by
  intro t ht hi _
  rw [show (cfgA F hg).idle (4 : Fin 5) ((cfgA F hg).grid.coords t) = _ from idle4 hg t] at hi
  have hi' : ¬ t.val < nt T1 := by simpa using hi
  rw [after4, after4]
  refine congrArg (outE hg m c) (Fin.ext ?_)
  show min t.val (nt T1 - 1) = min (t.val - 1) (nt T1 - 1)
  omega

/-- Past the last tile in use the block of results still holds that tile's. -/
theorem before4 (c : Dev nD) (t : Fin (cfgA F hg).N) (ht : nt T1 ≤ t.val) (d) :
    (dats hg m 0 c).before (4 : Fin 5) t d = outE hg m c (lastUsed hg t) := by
  have hN := N_eq (F := F) hg
  have hp := nt_pos hg
  rw [(dats hg m 0 c).before_out_traj (4 : Fin 5) rfl (fun _ _ => rfl) (hcarry4 hg m c) t.val t rfl d]
  rw [fresh4 hg t.val ht (by omega), if_neg Bool.false_ne_true, after4]
  refine congrArg (outE hg m c) (Fin.ext ?_)
  show min (t.val - 1) (nt T1 - 1) = min t.val (nt T1 - 1)
  omega

end Cert.Kernel2Ideal.Exp

end
-- ==== Proof.ExpFrame.lean ====
module

public import proofs.«01_k».proof.Proof.ExpData
public import Idealize.ShloMosaic.Lib.Pipeline.Quiescent
public import Idealize.ShloMosaic.Lib.Claim

@[expose] public section

set_option maxRecDepth 16384
set_option Elab.async false

noncomputable section

/-! # The run of the expert kernel

From a memory whose tables are in range, every execution ends with every array at what the schedule computes. -/

namespace Cert.Kernel2Ideal.Exp

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable {T0 : S199.Idx → BitVec 32} {T1 : S1.Idx → BitVec 32}

abbrev EP : Emb (UR sig nD τ) 𝕄 := emb₁

/-- The body at a tile in use: the scratches end with the weights of the tile's expert, the block of results with the tile's result. -/
theorem run_active (c : Dev nD) (i : grid0.Coords) (arg3 : Memref sig .tc .vmem S768x1024 .bf16) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S768x1024 .bf16) (harg7 : arg7.IsWhole)
    (x0 : S768x1024.Idx → Elt F .bf16) (x1 : S1x1x1024x256.Idx → Elt F .f32) (x2 : S1x1x1024x256.Idx → Elt F .f32)
    (x3 : S1x1x256x1024.Idx → Elt F .f32) (y : S768x1024.Idx → Elt F .bf16) (w1 w2 : S1024x256.Idx → Elt F .bf16)
    (w3 : S256x1024.Idx → Elt F .bf16)
    (hk : ¬ loads (F := F) i T0 → w1 = k0_pay1 x1 ∧ w2 = k0_pay2 x2 ∧ w3 = k0_pay3 x3) (ha : active (F := F) i T1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ owns (c : Thread nD τ) arg7 fullShare (y)
      ∗ owns (c : Thread nD τ) sc0 fullShare (w1)
      ∗ owns (c : Thread nD τ) sc1 fullShare (w2)
      ∗ owns (c : Thread nD τ) sc2 fullShare (w3)
      ∗ (iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ owns (c : Thread nD τ) arg7 fullShare (k0_pay4 x0 (k0_pay1 x1) (k0_pay2 x2) (k0_pay3 x3))
      ∗ owns (c : Thread nD τ) sc0 fullShare (k0_pay1 x1)
      ∗ owns (c : Thread nD τ) sc1 fullShare (k0_pay2 x2)
      ∗ owns (c : Thread nD τ) sc2 fullShare (k0_pay3 x3)) -∗ K ⟨⟩))
      ⊢ wp frame (wpE (defs₀ (F := F)) Variants.none c none) Set.univ
          (cc0_experts i tb0 (Memref.isWhole_whole _) tb1 (Memref.isWhole_whole _) arg3 harg3 arg4 harg4 arg5 harg5 arg6 harg6 arg7 harg7 sc0 (Memref.isWhole_whole _) sc1 (Memref.isWhole_whole _) sc2 (Memref.isWhole_whole _)) K := by
  by_cases hl : loads (F := F) i T0
  · exact run_load_active c i arg3 harg3 arg4 harg4 arg5 harg5 arg6 harg6 arg7 harg7 T0 T1 x0 x1 x2 x3 y w1 w2 w3 hl ha K
  · obtain ⟨rfl, rfl, rfl⟩ := hk hl
    exact run_keep_active c i arg3 harg3 arg4 harg4 arg5 harg5 arg6 harg6 arg7 harg7 T0 T1 x0 x1 x2 x3 y _ _ _ hl ha K

/-- The body at a tile not in use leaves the block of results alone. -/
theorem run_idle (c : Dev nD) (i : grid0.Coords) (arg3 : Memref sig .tc .vmem S768x1024 .bf16) (harg3 : arg3.IsWhole) (arg4 : Memref sig .tc .vmem S1x1x1024x256 .f32) (harg4 : arg4.IsWhole)
    (arg5 : Memref sig .tc .vmem S1x1x1024x256 .f32) (harg5 : arg5.IsWhole) (arg6 : Memref sig .tc .vmem S1x1x256x1024 .f32) (harg6 : arg6.IsWhole)
    (arg7 : Memref sig .tc .vmem S768x1024 .bf16) (harg7 : arg7.IsWhole)
    (x0 : S768x1024.Idx → Elt F .bf16) (x1 : S1x1x1024x256.Idx → Elt F .f32) (x2 : S1x1x1024x256.Idx → Elt F .f32)
    (x3 : S1x1x256x1024.Idx → Elt F .f32) (y : S768x1024.Idx → Elt F .bf16) (w1 w2 : S1024x256.Idx → Elt F .bf16)
    (w3 : S256x1024.Idx → Elt F .bf16)
    (hk : ¬ loads (F := F) i T0 → w1 = k0_pay1 x1 ∧ w2 = k0_pay2 x2 ∧ w3 = k0_pay3 x3) (ha : ¬ active (F := F) i T1) (K : PUnit → sProp 𝕄) :
    iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ owns (c : Thread nD τ) arg7 fullShare (y)
      ∗ owns (c : Thread nD τ) sc0 fullShare (w1)
      ∗ owns (c : Thread nD τ) sc1 fullShare (w2)
      ∗ owns (c : Thread nD τ) sc2 fullShare (w3)
      ∗ (iprop(owns (c : Thread nD τ) arg3 fullShare x0
      ∗ owns (c : Thread nD τ) arg4 fullShare x1
      ∗ owns (c : Thread nD τ) arg5 fullShare x2
      ∗ owns (c : Thread nD τ) arg6 fullShare x3
      ∗ (tb0.view.loc (c : Thread nD τ) ↦{fullShare.right} T0)
      ∗ (tb1.view.loc (c : Thread nD τ) ↦{fullShare.right} T1)
      ∗ owns (c : Thread nD τ) arg7 fullShare (y)
      ∗ owns (c : Thread nD τ) sc0 fullShare (k0_pay1 x1)
      ∗ owns (c : Thread nD τ) sc1 fullShare (k0_pay2 x2)
      ∗ owns (c : Thread nD τ) sc2 fullShare (k0_pay3 x3)) -∗ K ⟨⟩))
      ⊢ wp frame (wpE (defs₀ (F := F)) Variants.none c none) Set.univ
          (cc0_experts i tb0 (Memref.isWhole_whole _) tb1 (Memref.isWhole_whole _) arg3 harg3 arg4 harg4 arg5 harg5 arg6 harg6 arg7 harg7 sc0 (Memref.isWhole_whole _) sc1 (Memref.isWhole_whole _) sc2 (Memref.isWhole_whole _)) K := by
  by_cases hl : loads (F := F) i T0
  · exact run_load_idle c i arg3 harg3 arg4 harg4 arg5 harg5 arg6 harg6 arg7 harg7 T0 T1 x0 x1 x2 x3 y w1 w2 w3 hl ha K
  · obtain ⟨rfl, rfl, rfl⟩ := hk hl
    exact run_keep_idle c i arg3 harg3 arg4 harg4 arg5 harg5 arg6 harg6 arg7 harg7 T0 T1 x0 x1 x2 x3 y _ _ _ hl ha K

variable (hg : Good T0 T1) (m : (ℓ : Loc nD τ sig) → Buf (Elt F) ℓ) (ρ : Dev nD → PrngReg)

/-- Where the scratches are not filled anew, they hold the weights of the point's expert already. -/
theorem kept (c : Dev nD) (t : Fin (cfgA F hg).N) (h : ¬ loads (F := F) (crd hg t) T0) :
    ∃ s : Fin (cfgA F hg).N, t.val = s.val + 1 ∧ w1 hg m c s = w1 hg m c t ∧ w2 hg m c s = w2 hg m c t ∧ w3 hg m c s = w3 hg m c t := by
  obtain ⟨h0, he⟩ := keep_te (crd hg t) h
  rw [crd0] at h0 he
  refine ⟨⟨t.val - 1, by omega⟩, ?_, ?_, ?_, ?_⟩
  · show t.val = t.val - 1 + 1
    omega
  · exact congrArg k0_pay1 (same1 m c he.symm)
  · exact congrArg k0_pay2 (same2 m c he.symm)
  · exact congrArg k0_pay3 (same3 m c he.symm)

/-- The body at point `t` on its staging memrefs, as the pipeline calls it. -/
abbrev bodyAt (t : Fin (cfgA F hg).N) : Prog (TpuEff nD τ sig (Elt F) Λ₀ .tc) PUnit :=
  cc0_experts (crd hg t) tb0 (Memref.isWhole_whole _) tb1 (Memref.isWhole_whole _) (ms0 hg t) (hs0 hg t) (ms1 hg t) (hs1 hg t) (ms2 hg t) (hs2 hg t) (ms3 hg t) (hs3 hg t) (ms4 hg t) (hs4 hg t) sc0 (Memref.isWhole_whole _) sc1 (Memref.isWhole_whole _) sc2 (Memref.isWhole_whole _)

set_option maxHeartbeats 4000000 in
/-- The body at point `t`, from what the buffers hold before it to what they hold after it. -/
theorem sound_body (c : Dev nD) (t : Fin (cfgA F hg).N) :
    iprop((dats hg m 0 c).Φ t.castSucc ∗ (dats hg m 0 c).owesAt () t.castSucc
        ∗ (∃ d, owns (c : Thread nD τ) (ms0 hg t) fullShare ((dats hg m 0 c).before (0 : Fin 5) t d))
        ∗ (∃ d, owns (c : Thread nD τ) (ms1 hg t) fullShare ((dats hg m 0 c).before (1 : Fin 5) t d))
        ∗ (∃ d, owns (c : Thread nD τ) (ms2 hg t) fullShare ((dats hg m 0 c).before (2 : Fin 5) t d))
        ∗ (∃ d, owns (c : Thread nD τ) (ms3 hg t) fullShare ((dats hg m 0 c).before (3 : Fin 5) t d))
        ∗ (∃ d, owns (c : Thread nD τ) (ms4 hg t) fullShare ((dats hg m 0 c).before (4 : Fin 5) t d)))
      ⊢ wp frame (wpE (defs₀ (F := F)) Variants.none c none) Set.univ (bodyAt hg t) fun _ =>
          iprop((dats hg m 0 c).Φ t.succ ∗ (dats hg m 0 c).owesAt () t.succ
            ∗ bigSep Finset.univ fun w : Fin (cfgA F hg).W =>
                match (cfgA F hg).idle w ((cfgA F hg).grid.coords t) with
                | true =>
                  match ((cfgA F hg).win w).flush t with
                  | false => iprop(∃ d, owns (c : Thread nD τ) (((cfgA F hg).win w).stage ((cfgA F hg).slots t w)) fullShare ((dats hg m 0 c).before w t d))
                  | true => owns (c : Thread nD τ) (((cfgA F hg).win w).stage ((cfgA F hg).slots t w)) fullShare ((dats hg m 0 c).after w t)
                | false => owns (c : Thread nD τ) (((cfgA F hg).win w).stage ((cfgA F hg).slots t w)) fullShare ((dats hg m 0 c).after w t)) := by
  rw [bigSep_W0]
  have hact := active_iff (F := F) hg (crd hg t)
  rw [crd0] at hact
  have i4 := idle4 hg t
  have hk : ∀ a0 a1 a2, (∀ s : Fin (cfgA F hg).N, t.val = s.val + 1 → a0 = w1 hg m c s) → (∀ s : Fin (cfgA F hg).N, t.val = s.val + 1 → a1 = w2 hg m c s)
      → (∀ s : Fin (cfgA F hg).N, t.val = s.val + 1 → a2 = w3 hg m c s) → ¬ loads (F := F) (crd hg t) T0
      → a0 = w1 hg m c t ∧ a1 = w2 hg m c t ∧ a2 = w3 hg m c t := by
    intro a0 a1 a2 h0 h1 h2 hl
    obtain ⟨s, hs, e1, e2, e3⟩ := kept hg m c t hl
    exact ⟨(h0 s hs).trans e1, (h1 s hs).trans e2, (h2 s hs).trans e3⟩
  by_cases ht : t.val < nt T1
  · rw [decide_eq_true ht] at i4
    rewrite [i4]
    have hlast : lastUsed hg t = t := Fin.ext (by show min t.val (nt T1 - 1) = t.val; omega)
    simp only [before0, before1, before2, before3, after0, after1, after2, after3, after4, hlast, Bool.not_true]
    rewrite [show (dats hg m 0 c).Φ t.succ = Phi hg m c t.succ from rfl, show (dats hg m 0 c).Φ t.castSucc = Phi hg m c t.castSucc from rfl,
      show (dats hg m 0 c).owesAt () t.succ = (dats hg m 0 c).owesAt () t.castSucc from rfl]
    unfold Phi; simp only [Fin.val_castSucc, Fin.val_succ]
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply (run_active c (crd hg t) (ms0 hg t) (hs0 hg t) (ms1 hg t) (hs1 hg t) (ms2 hg t) (hs2 hg t) (ms3 hg t) (hs3 hg t) (ms4 hg t) (hs4 hg t) (iblk hg m c (0 : Fin 5) t) (iblk hg m c (1 : Fin 5) t) (iblk hg m c (2 : Fin 5) t) (iblk hg m c (3 : Fin 5) t) _ a0 a1 a2 (hk a0 a1 a2 ha0 ha1 ha2) (hact.mpr ht) _)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    iintro ⟨H0, H1, H2, H3, HT0, HT1, H4, HS0, HS1, HS2⟩
    isplitl [HS0 HS1 HS2 HT0 HT1]
    · isplitl [HS0]
      · iexists _; isplitr; swap
        · iexact HS0
        · ipureintro; intro s hs; rw [show s = t from Fin.ext (by omega)]; rfl
      isplitl [HS1]
      · iexists _; isplitr; swap
        · iexact HS1
        · ipureintro; intro s hs; rw [show s = t from Fin.ext (by omega)]; rfl
      isplitl [HS2]
      · iexists _; isplitr; swap
        · iexact HS2
        · ipureintro; intro s hs; rw [show s = t from Fin.ext (by omega)]; rfl
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [decide_eq_false ht] at i4
    rewrite [i4]
    have hb := before4 hg m c t (by omega)
    simp only [before0, before1, before2, before3, hb, after0, after1, after2, after3, after4, Bool.not_false]
    rewrite [show (dats hg m 0 c).Φ t.succ = Phi hg m c t.succ from rfl, show (dats hg m 0 c).Φ t.castSucc = Phi hg m c t.castSucc from rfl,
      show (dats hg m 0 c).owesAt () t.succ = (dats hg m 0 c).owesAt () t.castSucc from rfl]
    unfold Phi; simp only [Fin.val_castSucc, Fin.val_succ]
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
    iapply (run_idle c (crd hg t) (ms0 hg t) (hs0 hg t) (ms1 hg t) (hs1 hg t) (ms2 hg t) (hs2 hg t) (ms3 hg t) (hs3 hg t) (ms4 hg t) (hs4 hg t) (iblk hg m c (0 : Fin 5) t) (iblk hg m c (1 : Fin 5) t) (iblk hg m c (2 : Fin 5) t) (iblk hg m c (3 : Fin 5) t) _ a0 a1 a2 (hk a0 a1 a2 ha0 ha1 ha2) (fun h => ht (hact.mp h)) _)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    iintro ⟨H0, H1, H2, H3, HT0, HT1, H4, HS0, HS1, HS2⟩
    isplitl [HS0 HS1 HS2 HT0 HT1]
    · isplitl [HS0]
      · iexists _; isplitr; swap
        · iexact HS0
        · ipureintro; intro s hs; rw [show s = t from Fin.ext (by omega)]; rfl
      isplitl [HS1]
      · iexists _; isplitr; swap
        · iexact HS1
        · ipureintro; intro s hs; rw [show s = t from Fin.ext (by omega)]; rfl
      isplitl [HS2]
      · iexists _; isplitr; swap
        · iexact HS2
        · ipureintro; intro s hs; rw [show s = t from Fin.ext (by omega)]; rfl
      isplitl [HT0]; · iexact HT0
      iexact HT1
    isplitl [Ho]; · iexact Ho
    isplitl [H0]; · iexact H0
    isplitl [H1]; · iexact H1
    isplitl [H2]; · iexact H2
    isplitl [H3]; · iexact H3
    cases f4 : ((cfgA F hg).win (4 : Fin 5)).flush t
    · iexists d4; iexact H4
    · iexact H4

/-- The tables in memory are `T0` and `T1`. -/
def Pinned (T0 : S199.Idx → BitVec 32) (T1 : S1.Idx → BitVec 32) (m : (ℓ : Loc nD τ sig) → Buf (Elt F) ℓ) : Prop :=
  (∀ c : Dev nD, m ((c : Thread nD τ).loc main_arg0) = T0) ∧ (∀ c : Dev nD, m ((c : Thread nD τ).loc main_arg1) = T1)

/-- The body at every point. -/
theorem body_obligation (c : Dev nD) : BodyObligation (dats hg m 0 c) (defs₀ (F := F)) Variants.none () Set.univ := fun t => by
  rw [bigSep_W0]
  exact sound_body hg m c t

/-! ## The launch -/

/-- The launch element. -/
def u₀ : UR sig nD τ :=
  initOf (Pipeline.cells (pcs F hg) ((launch0 (F := F)).cellOf_inj fun _ => adm hg))
    (Pipeline.launchToks (pcs F hg) ((launch0 (F := F)).cellOf_inj fun _ => adm hg))

theorem share_eq (c : Dev nD) (w : Fin (cfgA F hg).W) : (dats hg m 0 c).share w = fullShare := by unfold Dat.share; split <;> rfl

/-- The tables, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- A whole scoped buffer at some contents, as its memref's ownership, -/
theorem owns_of_pt (c : Dev nD) (b : Ref sig .tc) (a : Buf (Elt F) ((c : Thread nD τ).loc b)) :
    (((c : Thread nD τ).loc b) ↦{fullShare} a : sProp 𝕄) ⊢ iprop(∃ x, owns (c : Thread nD τ) (Memref.whole b) fullShare x) := by
  have h : (Memref.whole b : Memref sig .tc _ _ _).view.set = Finset.univ := (Memref.isWhole_whole b).set_eq_univ
  unfold owns
  simp only [h]
  iintro H
  iexists _
  iexists a
  isplitr; swap
  · iexact H
  · ipureintro; rfl

/-- and back. -/
theorem pt_of_owns (c : Dev nD) (b : Ref sig .tc) (x) :
    (owns (c : Thread nD τ) (Memref.whole b) fullShare x : sProp 𝕄)
      ⊢ iprop(∃ a : Buf (Elt F) ((c : Thread nD τ).loc b), ((c : Thread nD τ).loc b) ↦{fullShare} a) := by
  have h : (Memref.whole b : Memref sig .tc _ _ _).view.set = Finset.univ := (Memref.isWhole_whole b).set_eq_univ
  unfold owns
  simp only [h]
  iintro ⟨%a, -, H⟩
  iexists a
  iexact H

/-- The invariant at the first point, from the tables and the scratch buffers. -/
theorem phi0_intro (c : Dev nD) :
    iprop(BI.emp ∗ Pipeline.prefHeld pre0 c (fun _ => fullShare.right) (adm (F := F) hg).1 ∗ Pipeline.scopedRest spec0 c) ⊢ (dats hg m 0 c).Φ 0 := by
  rw [prefHeld_eq, scopedRest0_eq, show (dats hg m 0 c).Φ 0 = Phi hg m c 0 from rfl]
  unfold Phi
  iintro ⟨-, ⟨HT0, HT1⟩, ⟨%a0, HS0⟩, ⟨%a1, HS1⟩, ⟨%a2, HS2⟩⟩
  ihave HS0 := (owns_of_pt c cc0_scratch0 a0) $$ [HS0]
  · iexact HS0
  icases HS0 with ⟨%x0, HS0⟩
  ihave HS1 := (owns_of_pt c cc0_scratch1 a1) $$ [HS1]
  · iexact HS1
  icases HS1 with ⟨%x1, HS1⟩
  ihave HS2 := (owns_of_pt c cc0_scratch2 a2) $$ [HS2]
  · iexact HS2
  icases HS2 with ⟨%x2, HS2⟩
  isplitl [HS0]
  · iexists x0; isplitr; swap
    · iexact HS0
    · ipureintro; intro s hs; exact absurd hs (Nat.succ_ne_zero _).symm
  isplitl [HS1]
  · iexists x1; isplitr; swap
    · iexact HS1
    · ipureintro; intro s hs; exact absurd hs (Nat.succ_ne_zero _).symm
  isplitl [HS2]
  · iexists x2; isplitr; swap
    · iexact HS2
    · ipureintro; intro s hs; exact absurd hs (Nat.succ_ne_zero _).symm
  isplitl [HT0]
  · iexact HT0
  iexact HT1

/-- The invariant at the last point gives the scratch buffers back. -/
theorem phiN_exit (c : Dev nD) : (dats hg m 0 c).Φ (Fin.last (cfgA F hg).N) ⊢ iprop(BI.emp ∗ Pipeline.scopedRest spec0 c) := by
  rw [scopedRest0_eq, show (dats hg m 0 c).Φ (Fin.last (cfgA F hg).N) = Phi hg m c (Fin.last _) from rfl]
  unfold Phi
  iintro ⟨⟨%a0, -, HS0⟩, ⟨%a1, -, HS1⟩, ⟨%a2, -, HS2⟩, -, -⟩
  isplitr; · iempintro
  isplitl [HS0]
  · iapply (pt_of_owns c cc0_scratch0 a0); iexact HS0
  isplitl [HS1]
  · iapply (pt_of_owns c cc0_scratch1 a1); iexact HS1
  iapply (pt_of_owns c cc0_scratch2 a2); iexact HS2

/-- Every array ends at what the schedule computes, every table as it was. -/
def QC : PUnit × MemSt nD τ sig (Elt F) → Prop := fun r =>
  ∀ c : Dev nD, (∀ w : Fin (cfgA F hg).W, r.2.mem (((cfgA F hg).win w).arr.view.loc (c : Thread nD τ)) = (dats hg m 0 c).arrAt w (cfgA F hg).N)
    ∧ ∀ j, r.2.mem ((c : Thread nD τ).loc (pre0.ref j)) = (adm hg).1 j

theorem V_pre (hp : Pinned T0 T1 m) (c : Dev nD) (j : Fin 2) : V m c (pre0.ref j) = (adm hg).1 j := by
  fin_cases j
  · exact (V_main_arg0 m c).trans (hp.1 c)
  · exact (V_main_arg1 m c).trans (hp.2 c)

set_option backward.isDefEq.respectTransparency.types false in
set_option maxHeartbeats 4000000 in
/-- From a memory whose tables are these: every execution terminates, every array ends at what the schedule computes, and every
    counter at zero. -/
theorem run_main_quiescent (hp : Pinned T0 T1 m) : θ_run (defs (F := F)) (onTc (τ := τ) (main (F := F))) (s₀ m ρ) (fun r => QC hg m r ∧ r.2.sem = fun _ => 0) :=
  Pipeline.θ_run_region_noSem_pf_quiescent pcfgs (fun _ => adm hg) (dats hg m) () ((launch0 (F := F)).cellOf_inj fun _ => adm hg) (0 : Fin 1)
    (launch0 (F := F)).win.to₀ (launch0 (F := F)).pre EP defs₀ Variants.none m ρ main
    (hbody := fun c => (body_obligation hg m c).loose) (hne := (launch0 (F := F)).block_pos)
    (harr := (launch0 (F := F)).arr_whole) (hstage := (launch0 (F := F)).stage_whole) (howed := fun _ _ => rfl)
    (u₀ := u₀ (F := F) hg) (hu₀ := .rfl)
    (V := V m)
    (hmain := hmain m)
    (hsplit := fun c => Pipeline.arrays_split (pcs F hg) (dats hg m) 0 (launch0 (F := F)).win.arr_inj c (launch0 (F := F)).arr_whole
      (share_eq hg m c) _ _ fun _ => rfl)
    (hpf := V_pre hg m hp)
    (X := fun _ => iprop(emp)) (Y := fun _ => iprop(emp)) (Z := fun _ => iprop(emp))
    (hX := fun c => by rw [unscopedRestP0_eq]; iintro -; isplitr <;> iempintro)
    (hin := phi0_intro hg m)
    (hout := phiN_exit hg m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned T0 T1 m) : θ_run (defs (F := F)) (onTc (τ := τ) (main (F := F))) (s₀ m ρ) (QC hg m) :=
  (θ_run defs _ _).mono (fun _ h => h.1) (run_main_quiescent hg m ρ hp)

include hg in
/-- `frame` without the counters: the argument arrays end unchanged. -/
theorem unchanged (hp : Pinned T0 T1 m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans (((dats hg m 0 c).arrAt_in (0 : Fin 5) rfl _).trans (V_main_arg2 m c)), ((h c).1 (1 : Fin 5)).trans (((dats hg m 0 c).arrAt_in (1 : Fin 5) rfl _).trans (V_main_arg3 m c)), ((h c).1 (2 : Fin 5)).trans (((dats hg m 0 c).arrAt_in (2 : Fin 5) rfl _).trans (V_main_arg4 m c)), ((h c).1 (3 : Fin 5)).trans (((dats hg m 0 c).arrAt_in (3 : Fin 5) rfl _).trans (V_main_arg5 m c))⟩) (run_main hg m ρ hp)

include hg in
/-- From a memory whose tables are these: every execution terminates, the argument arrays end unchanged and every counter
    at zero. -/
theorem frame (hp : Pinned T0 T1 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged hg m ρ hp) ((θ_run defs _ _).mono (fun _ h => h.2) (run_main_quiescent hg m ρ hp))

end Cert.Kernel2Ideal.Exp

end
-- ==== Proof.ExpSame.lean ====
module

public import proofs.«01_k».proof.Proof.ExpFrame
public import proofs.«01_k».proof.Proof.Gen.Kernel2

@[expose] public section

set_option maxRecDepth 16384

/-! # The expert kernel and its reading over the extended reals have one text -/

namespace Cert.Kernel2.Same

open Idealize.ShloMosaic Idealize.ShloMosaic.TcCoe Idealize.SL.Sem

variable {F : FTy → Type} [FloatOps F]

theorem pipelines : Cert.Kernel2.pcfg0 (F := F) = Cert.Kernel2Ideal.pcfg0 (F := F) := rfl
theorem mains : Cert.Kernel2.main (F := F) = Cert.Kernel2Ideal.main (F := F) := rfl

set_option maxHeartbeats 2000000 in
theorem bodies : Cert.Kernel2.defs₀ (F := F) = Cert.Kernel2Ideal.defs₀ (F := F) := by
  unfold Cert.Kernel2.defs₀ Cert.Kernel2Ideal.defs₀
  refine congrArg (Defs.onTc (nD := 1) (τ := Topo.v7x) (sig := Cert.Kernel2.sig) (Val := Elt F) (Λ := Cert.Kernel2.Λ₀)) ?_
  funext l x
  match l, x with
  | 0, _ => rfl

set_option maxHeartbeats 2000000 in
theorem tables : Cert.Kernel2.defs (F := F) = Cert.Kernel2Ideal.defs (F := F) := by
  unfold Cert.Kernel2.defs Cert.Kernel2Ideal.defs
  exact congrArg (Idealize.ShloMosaic.Pipeline.defs Cert.Kernel2.pcfgs) bodies

set_option maxHeartbeats 2000000 in
theorem runs (s) (Q) (h : θ_run (Cert.Kernel2Ideal.defs (F := F)) (onTc (τ := Cert.Kernel2Ideal.τ) (Cert.Kernel2Ideal.main (F := F))) s Q) :
    θ_run (Cert.Kernel2.defs (F := F)) (onTc (τ := Cert.Kernel2.τ) (Cert.Kernel2.main (F := F))) s Q := by
  rw [tables]
  exact h

end Cert.Kernel2.Same
-- ==== Proof.ExpMath.lean ====
module

public import proofs.«01_k».proof.Proof.ExpOk
public import Idealize.ShloMosaic.PureOps.Ideal
public import Idealize.ShloMosaic.PureOps.Ideal.Laws

@[expose] public section

set_option maxRecDepth 16384

noncomputable section

/-! # One expert's feed-forward layer on one row, in extended reals -/

namespace Cert.ExpMath

open Idealize.ShloMosaic Cert.Kernel2Ideal Cert.Kernel2Ideal.Exp

/-- The hidden units: the gate through `h ↦ h / (1 + exp (-h))`, times the up projection. -/
def hid (x : Fin 1024 → EReal) (wg wu : Fin 1024 → Fin 256 → EReal) (f : Fin 256) : EReal :=
  (∑ d, x d * wg d f) * Ideal.logistic (∑ d, x d * wg d f) * (∑ d, x d * wu d f)

/-- The row's result. -/
def out (x : Fin 1024 → EReal) (wg wu : Fin 1024 → Fin 256 → EReal) (wd : Fin 256 → Fin 1024 → EReal) (c : Fin 1024) : EReal :=
  ∑ f, hid x wg wu f * wd f c

variable {T0 : S199.Idx → BitVec 32} {T1 : S1.Idx → BitVec 32} (hg : Good T0 T1)

/-- The expert of row `r`. -/
def expert (r : Fin 152832) : Fin 64 := ⟨te T0 (r.val / 768), te_lt hg _⟩

/-- The array of results: a row of a tile in use goes through its tile's expert, every other row is left alone. -/
def result (x : S152832x1024.Idx → EReal) (wg wu : S2x64x1024x256.Idx → EReal) (wd : S2x64x256x1024.Idx → EReal)
    (r : Fin 152832) (c : Fin 1024) : EReal :=
  if r.val / 768 < nt T1 then
    out (fun d => x (ix2 r d)) (fun d f => wg (ix4 0 (expert hg r) d f)) (fun d f => wu (ix4 0 (expert hg r) d f)) (fun f c => wd (ix4 0 (expert hg r) f c)) c
  else x (ix2 r c)

end Cert.ExpMath

end
-- ==== Proof.ExpRef.lean ====
module

public import proofs.«01_k».proof.Proof.ExpMath
public import proofs.«01_k».proof.Proof.Gen.Reference2Ideal.Run
public import proofs.«01_k».proof.Proof.Gen.Reference2Ideal.Read
public import Idealize.ShloMosaic.Lib.Pointwise

@[expose] public section

set_option maxRecDepth 16384

noncomputable section

/-! # The experts' reference, row by row -/

namespace Cert.Reference2Ideal.RefValue

open Cert.Reference2Ideal Cert.Reference2Ideal.Gen Cert.Reference2Ideal.Read Idealize.ShloMosaic Cert.ExpMath
open Cert.Kernel2Ideal.Exp (Good te nt te_lt nt_pos nt_le)

/-- Whole slabs of a rank-3 array, one per row of a column of slab numbers. -/
abbrev slabDims (E A B R : ℕ) (wf : GatherDims.WF ⟨3, ![E, A, B]⟩ ⟨2, ![R, 1]⟩ ⟨3, ![R, A, B]⟩ [1, 2] [0] [] [0] [] 1 ![1, A, B]) :
    GatherDims ⟨3, ![E, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

theorem slab_apply {α : Type} {E A B R : ℕ} (wf : GatherDims.WF ⟨3, ![E, A, B]⟩ ⟨2, ![R, 1]⟩ ⟨3, ![R, A, B]⟩ [1, 2] [0] [] [0] [] 1 ![1, A, B])
    (x : (⟨3, ![E, A, B]⟩ : Shape).Idx → α) (idx : IVec ⟨2, ![R, 1]⟩ 32) (r : Fin R) (a : Fin A) (b : Fin B) (k : Fin E)
    (hk : (idx (ix2 r 0)).toInt.toNat = k.val) :
    Host.gather (slabDims E A B R wf) x idx (ix3 r a b) = x (ix3 k a b) := by
  have hsi : (slabDims E A B R wf).siIdx (ix3 r a b) ⟨List.idxOf (0 : Fin 3) (slabDims E A B R wf).startIndexMap,
      List.idxOf_lt_length_iff.2 (List.mem_singleton.mpr rfl)⟩ = ix2 r 0 := by
    funext b'; refine Fin.ext ?_
    match b' with
    | ⟨0, _⟩ => rfl
    | ⟨1, _⟩ => rfl
  have s0 : (slabDims E A B R wf).start (ix3 r a b) idx (0 : Fin 3) = k.val := by
    unfold GatherDims.start
    rw [dif_pos (show (0 : Fin 3) ∈ (slabDims E A B R wf).startIndexMap from List.mem_singleton.mpr rfl), hsi, hk]
    show min k.val (E - 1) = k.val
    have := k.isLt
    omega
  have s1 : (slabDims E A B R wf).start (ix3 r a b) idx (1 : Fin 3) = 0 := by
    unfold GatherDims.start
    exact dif_neg (show ¬ (1 : Fin 3) ∈ ([0] : List (Fin 3)) from by decide)
  have s2 : (slabDims E A B R wf).start (ix3 r a b) idx (2 : Fin 3) = 0 := by
    unfold GatherDims.start
    exact dif_neg (show ¬ (2 : Fin 3) ∈ ([0] : List (Fin 3)) from by decide)
  unfold Host.gather
  refine congrArg x (funext fun c => Fin.ext ?_)
  show (slabDims E A B R wf).start (ix3 r a b) idx c + (slabDims E A B R wf).batchCoord (ix3 r a b) c + (slabDims E A B R wf).offCoord (ix3 r a b) c = _
  rw [GatherDims.batchCoord_eq_zero _ _ _ List.not_mem_nil]
  match c with
  | ⟨0, _⟩ =>
    rw [GatherDims.offCoord_eq_zero _ _ _ (fun h => ((GatherDims.mem_sKept _ _).mp h).1 (List.mem_singleton.mpr rfl))]
    exact s0
  | ⟨1, _⟩ =>
    show (slabDims E A B R wf).start (ix3 r a b) idx (1 : Fin 3) + 0 + (slabDims E A B R wf).offCoord (ix3 r a b) (1 : Fin 3) = a.val
    rw [s1, Nat.zero_add]
    rfl
  | ⟨2, _⟩ =>
    show (slabDims E A B R wf).start (ix3 r a b) idx (2 : Fin 3) + 0 + (slabDims E A B R wf).offCoord (ix3 r a b) (2 : Fin 3) = b.val
    rw [s2, Nat.zero_add]
    rfl

variable {x0 : IVec S199 32} {x1 : IVec S1 32} (hg : Good x0 x1) (x2 : FVec Ideal S152832x1024 .bf16)
  (x3 x4 : FVec Ideal S2x64x1024x256 .f32) (x5 : FVec Ideal S2x64x256x1024 .f32)

/-- A word that holds an expert's number, read as the host's index arithmetic reads it. -/
theorem word_nonneg (w : BitVec 32) (h : w.toNat < 64) :
    Scalar.select (IntOp.cmpi .slt w 0#32) (IntOp.addi w 64#32) w = w := by
  have h1 : IntOp.cmpi .slt w 0#32 = 0#1 := by
    show BitVec.ofBool (w.slt 0#32) = 0#1
    rw [show w.slt 0#32 = false from by
      rw [BitVec.slt, decide_eq_false_iff_not, BitVec.toInt_eq_toNat_of_lt (by omega)]
      simp]
    rfl
  rw [h1]
  rfl

theorem word_toInt (w : BitVec 32) (h : w.toNat < 64) : w.toInt.toNat = w.toNat := by
  rw [BitVec.toInt_eq_toNat_of_lt (by omega)]
  rfl

/-- The expert of row `r`, as the reference spreads the table over the rows. -/
theorem word_apply (r : Fin 152832) : val_main_v2 (F := Ideal) x0 (ix1 r) = x0 (ix1 ⟨r.val / 768, by omega⟩) := by
  rw [val_main_v2_apply, val_main_v1_apply]
  refine congrArg x0 (funext fun a => Fin.ext ?_)
  match a with
  | ⟨0, _⟩ => rfl

include hg in
theorem word_expert (r : Fin 152832) : (x0 (ix1 ⟨r.val / 768, by omega⟩)).toNat = (expert hg r).val := by
  show _ = (x0 (ix1 ⟨min (r.val / 768) 198, _⟩)).toNat
  refine congrArg (fun k : Fin 199 => (x0 (ix1 k)).toNat) (Fin.ext ?_)
  show r.val / 768 = min (r.val / 768) 198
  omega

include hg in
theorem idx10 (r : Fin 152832) : (val_main_v10 (F := Ideal) x0 (ix2 r 0)).toInt.toNat = (expert hg r).val := by
  have h : val_main_v10 (F := Ideal) x0 (ix2 r 0) = x0 (ix1 ⟨r.val / 768, by omega⟩) := by
    rw [val_main_v10_apply]
    show val_main_v9 (F := Ideal) x0 (ix1 r) = _
    rw [val_main_v9_apply, val_main_v6_apply, val_main_v8_apply, word_apply]
    exact word_nonneg _ (hg.te _)
  rw [h, word_toInt _ (hg.te _), word_expert hg]

include hg in
theorem idx21 (r : Fin 152832) : (val_main_v21 (F := Ideal) x0 (ix2 r 0)).toInt.toNat = (expert hg r).val := idx10 hg r
include hg in
theorem idx32 (r : Fin 152832) : (val_main_v32 (F := Ideal) x0 (ix2 r 0)).toInt.toNat = (expert hg r).val := idx10 hg r

theorem slab4 (e : Fin 64) (d : Fin 1024) (f : Fin 256) : val_main_v4 (F := Ideal) x3 (ix3 e d f) = x3 (ix4 0 e d f) := by
  pointwise [val_main_v4, val_main_v3]
theorem slab26 (e : Fin 64) (f : Fin 256) (d : Fin 1024) : val_main_v26 (F := Ideal) x5 (ix3 e f d) = x5 (ix4 0 e f d) := by
  pointwise [val_main_v26, val_main_v25]

include hg in
theorem gate_apply (r : Fin 152832) (d : Fin 1024) (f : Fin 256) :
    val_main_v11 (F := Ideal) x0 x3 (ix3 r d f) = x3 (ix4 0 (expert hg r) d f) :=
  (slab_apply _ _ _ r d f (expert hg r) (idx10 hg r)).trans (slab4 x3 _ d f)
include hg in
theorem up_apply (r : Fin 152832) (d : Fin 1024) (f : Fin 256) :
    val_main_v22 (F := Ideal) x0 x4 (ix3 r d f) = x4 (ix4 0 (expert hg r) d f) :=
  (slab_apply _ _ _ r d f (expert hg r) (idx21 hg r)).trans (slab4 x4 _ d f)
include hg in
theorem down_apply (r : Fin 152832) (f : Fin 256) (d : Fin 1024) :
    val_main_v33 (F := Ideal) x0 x5 (ix3 r f d) = x5 (ix4 0 (expert hg r) f d) :=
  (slab_apply _ _ _ r f d (expert hg r) (idx32 hg r)).trans (slab26 x5 _ f d)

include hg in
theorem v12_apply (r : Fin 152832) (f : Fin 256) :
    val_main_v12 (F := Ideal) x0 x2 x3 (ix2 r f) = ∑ d, x2 (ix2 r d) * x3 (ix4 0 (expert hg r) d f) := by
  rw [val_main_v12_apply]
  refine Finset.sum_congr rfl fun d _ => ?_
  rw [show ridx_main_v12 (ix2 r f) d = ix3 r d f from funext fun a => by fin_cases a <;> rfl,
    show lidx_main_v12 (ix2 r f) d = ix2 r d from funext fun a => by fin_cases a <;> rfl, gate_apply hg]

include hg in
theorem v23_apply (r : Fin 152832) (f : Fin 256) :
    val_main_v23 (F := Ideal) x0 x2 x4 (ix2 r f) = ∑ d, x2 (ix2 r d) * x4 (ix4 0 (expert hg r) d f) := by
  rw [val_main_v23_apply]
  refine Finset.sum_congr rfl fun d _ => ?_
  rw [show ridx_main_v23 (ix2 r f) d = ix3 r d f from funext fun a => by fin_cases a <;> rfl,
    show lidx_main_v23 (ix2 r f) d = ix2 r d from funext fun a => by fin_cases a <;> rfl, up_apply hg]

include hg in
theorem v24_apply (r : Fin 152832) (f : Fin 256) :
    val_main_v24 (F := Ideal) x0 x2 x3 x4 (ix2 r f)
      = hid (fun d => x2 (ix2 r d)) (fun d f => x3 (ix4 0 (expert hg r) d f)) (fun d f => x4 (ix4 0 (expert hg r) d f)) f := by
  pointwise [val_main_v24, val_main_v13, val_main_call0_v5, val_main_call0_v4, val_main_call0_cst_0, val_main_call0_v3, val_main_call0_v2, val_main_call0_cst, val_main_call0_v1, val_main_call0_v0]
  simp only [v12_apply hg, v23_apply hg]
  rfl

include hg in
theorem v34_apply (r : Fin 152832) (c : Fin 1024) :
    val_main_v34 (F := Ideal) x0 x2 x3 x4 x5 (ix2 r c)
      = out (fun d => x2 (ix2 r d)) (fun d f => x3 (ix4 0 (expert hg r) d f)) (fun d f => x4 (ix4 0 (expert hg r) d f)) (fun f c => x5 (ix4 0 (expert hg r) f c)) c := by
  rw [val_main_v34_apply]
  refine Finset.sum_congr rfl fun f _ => ?_
  rw [show ridx_main_v34 (ix2 r c) f = ix3 r f c from funext fun a => by fin_cases a <;> rfl,
    show lidx_main_v34 (ix2 r c) f = ix2 r f from funext fun a => by fin_cases a <;> rfl, down_apply hg, v24_apply hg]

/-- The row number against the first row past the tiles in use. -/
theorem used_word (n : ℕ) (hn : n < 152832) (w : BitVec 32) (h : w.toNat ≤ 199) :
    IntOp.cmpi .slt (BitVec.ofNat 32 n) (IntOp.muli w 768#32) = BitVec.ofBool (decide (n / 768 < w.toNat)) := by
  show BitVec.ofBool ((BitVec.ofNat 32 n).slt (w * 768#32)) = _
  have e1 : (w * 768#32).toNat = w.toNat * 768 := by
    rw [BitVec.toNat_mul]
    show w.toNat * 768 % 2 ^ 32 = _
    omega
  have e2 : (BitVec.ofNat 32 n).toNat = n := by
    rw [BitVec.toNat_ofNat]; omega
  congr 1
  rw [BitVec.slt, BitVec.toInt_eq_toNat_of_lt (by omega), BitVec.toInt_eq_toNat_of_lt (by omega), e1, e2]
  refine decide_eq_decide.mpr ?_
  omega

include hg in
theorem used_apply (r : Fin 152832) (c : Fin 1024) :
    val_main_call1_v0 (F := Ideal) x1 (ix2 r c) = BitVec.ofBool (decide (r.val / 768 < nt x1)) := by
  rw [val_main_call1_v0_apply, val_main_v39_apply, val_main_v38_apply, val_main_v37_apply, val_main_v36_apply]
  refine Eq.trans ?_ (used_word r.val r.isLt (x1 (ix1 0)) (hg.le _))
  have h35 : ∀ i, val_main_v35 (F := Ideal) x1 i = x1 (ix1 0) := by
    intro i
    unfold val_main_v35
    exact congrArg x1 (funext fun a => match a with | ⟨0, _⟩ => Subsingleton.elim (α := Fin 1) _ _)
  rw [h35]
  rfl

include hg in
/-- The reference's result at row `r`, column `c`. -/
theorem result_apply (r : Fin 152832) (c : Fin 1024) :
    val_main_v42 (F := Ideal) x0 x1 x2 x3 x4 x5 (ix2 r c) = result hg x2 x3 x4 x5 r c := by
  rw [val_main_v42_apply, val_main_v41_apply, used_apply hg, v34_apply hg]
  unfold result
  by_cases h : r.val / 768 < nt x1
  · rw [if_pos h, decide_eq_true h]; rfl
  · rw [if_neg h, decide_eq_false h]; rfl

end Cert.Reference2Ideal.RefValue

end
-- ==== Proof.ExpValue.lean ====
module

public import proofs.«01_k».proof.Proof.ExpData
public import proofs.«01_k».proof.Proof.ExpMath
public import Idealize.ShloMosaic.Lib.Pointwise
public import Idealize.ShloMosaic.Lib.Pipeline.ValueKit.Geometry

@[expose] public section

set_option maxRecDepth 16384

noncomputable section

/-! # The experts' result array

A tile in use ends holding its expert's results; the rows past the tiles in use keep what the array started with, the rows
themselves. -/

namespace Cert.Kernel2Ideal.Exp

open Cert.Kernel2Ideal Cert.Kernel2Ideal.Gen
open Idealize.ShloMosaic Idealize.ShloMosaic.TcCoe Idealize.SL.Sem
open Idealize.ShloMosaic.Pipeline (Dat Cfg Window)
open Cert.ExpMath (hid out expert result)

/-! ## One tile -/

theorem pay1_apply (v : Vec Ideal S1x1x1024x256 .f32) (d : Fin 1024) (f : Fin 256) : k0_pay1 (F := Ideal) v (ix2 d f) = v (ix4 0 0 d f) := by
  pointwise [k0_pay1]
theorem pay2_apply (v : Vec Ideal S1x1x1024x256 .f32) (d : Fin 1024) (f : Fin 256) : k0_pay2 (F := Ideal) v (ix2 d f) = v (ix4 0 0 d f) := by
  pointwise [k0_pay2]
theorem pay3_apply (v : Vec Ideal S1x1x256x1024 .f32) (f : Fin 256) (d : Fin 1024) : k0_pay3 (F := Ideal) v (ix2 f d) = v (ix4 0 0 f d) := by
  pointwise [k0_pay3]

theorem pay4_apply (x : Vec Ideal S768x1024 .bf16) (a b : Vec Ideal S1024x256 .bf16) (w : Vec Ideal S256x1024 .bf16) (r : Fin 768) (c : Fin 1024) :
    k0_pay4 (F := Ideal) x a b w (ix2 r c)
      = out (fun d => x (ix2 r d)) (fun d f => a (ix2 d f)) (fun d f => b (ix2 d f)) (fun f c => w (ix2 f c)) c := by
  pointwise [k0_pay4]
  rfl

variable {T0 : S199.Idx → BitVec 32} {T1 : S1.Idx → BitVec 32} (hg : Good T0 T1) (m : (ℓ : Loc nD τ sig) → Buf (Elt Ideal) ℓ)

/-- The array of results as a formula in the arguments. -/
def R (c : Dev nD) (i : S152832x1024.Idx) : EReal :=
  result hg (m ((c : Thread nD τ).loc main_arg2)) (m ((c : Thread nD τ).loc main_arg3)) (m ((c : Thread nD τ).loc main_arg4)) (m ((c : Thread nD τ).loc main_arg5)) (i 0) (i 1)

/-- A used tile's result is the formula on the tile's rows. -/
theorem outE_apply (c : Dev nD) (t : Fin (cfgA Ideal hg).N) (ht : t.val < nt T1) (r : Fin 768) (d : Fin 1024)
    (h : t.val * 768 + r.val < 152832) :
    outE hg m c t (ix2 r d) = R hg m c (ix2 ⟨t.val * 768 + r.val, h⟩ d) := by
  have hdiv : (t.val * 768 + r.val) / 768 = t.val := by omega
  have hmin : min t.val (nt T1 - 1) = t.val := by omega
  unfold outE
  refine (pay4_apply _ _ _ _ r d).trans ?_
  show _ = result hg _ _ _ _ (⟨t.val * 768 + r.val, h⟩ : Fin 152832) d
  unfold result
  rw [if_pos (by show (t.val * 768 + r.val) / 768 < nt T1; omega)]
  have he : expert hg ⟨t.val * 768 + r.val, h⟩ = ⟨te T0 t.val, te_lt hg _⟩ := Fin.ext (congrArg (te T0) hdiv)
  have e0 : ∀ d : Fin 1024, (iblk hg m c (0 : Fin 5) t : S768x1024.Idx → EReal) (ix2 r d)
      = m ((c : Thread nD τ).loc main_arg2) (ix2 ⟨t.val * 768 + r.val, h⟩ d) := fun d => by
    refine (iblk0 hg m c t r d).trans ?_
    rw [V_main_arg2]
    refine congrArg (m ((c : Thread nD τ).loc main_arg2)) (congrArg (fun k : Fin 152832 => ix2 k d) (Fin.ext ?_))
    show min t.val (nt T1 - 1) * 768 + r.val = _
    rw [hmin]
  have e1 : ∀ (d : Fin 1024) (f : Fin 256), w1 hg m c t (ix2 d f)
      = m ((c : Thread nD τ).loc main_arg3) (ix4 0 (expert hg ⟨t.val * 768 + r.val, h⟩) d f) := fun d f => by
    rw [he]
    exact (pay1_apply _ d f).trans ((iblk1 hg m c t 0 0 d f).trans (by rw [V_main_arg3]))
  have e2 : ∀ (d : Fin 1024) (f : Fin 256), w2 hg m c t (ix2 d f)
      = m ((c : Thread nD τ).loc main_arg4) (ix4 0 (expert hg ⟨t.val * 768 + r.val, h⟩) d f) := fun d f => by
    rw [he]
    exact (pay2_apply _ d f).trans ((iblk2 hg m c t 0 0 d f).trans (by rw [V_main_arg4]))
  have e3 : ∀ (f : Fin 256) (d : Fin 1024), w3 hg m c t (ix2 f d)
      = m ((c : Thread nD τ).loc main_arg5) (ix4 0 (expert hg ⟨t.val * 768 + r.val, h⟩) f d) := fun f d => by
    rw [he]
    exact (pay3_apply _ f d).trans ((iblk3 hg m c t 0 0 f d).trans (by rw [V_main_arg5]))
  rw [funext e0, funext fun d => funext (e1 d), funext fun d => funext (e2 d), funext fun f => funext (e3 f)]

/-! ## The whole array -/

/-- Where the result block of point `t` lies. -/
theorem emb4 (t : Fin (cfgA Ideal hg).N) (y : S768x1024.Idx) (h : min t.val (nt T1 - 1) * 768 + (y 0).val < 152832) :
    (((cfgA Ideal hg).win (4 : Fin 5)).blk t).view.emb y = ix2 ⟨min t.val (nt T1 - 1) * 768 + (y 0).val, h⟩ (y 1) := by
  refine funext fun a => Fin.ext ?_
  match a with
  | ⟨0, _⟩ =>
    show ((cfgA Ideal hg).win (4 : Fin 5)).index t 0 * 768 + 1 * (y 0).val = _
    rw [index4]
    show min t.val (nt T1 - 1) * 768 + 1 * (y 0).val = min t.val (nt T1 - 1) * 768 + (y 0).val
    omega
  | ⟨1, _⟩ =>
    show ((cfgA Ideal hg).win (4 : Fin 5)).index t 1 * 1024 + 1 * (y 1).val = _
    rw [index4]
    show 0 * 1024 + 1 * (y 1).val = (y 1).val
    omega

include hg in
theorem row_lt (k : ℕ) (r : ℕ) (hr : r < 768) : min k (nt T1 - 1) * 768 + r < 152832 := by
  have := nt_le hg; have := nt_pos hg; omega

/-- What a point writes back is the formula on its rows. -/
theorem flushed4 (c : Dev nD) (t : Fin (cfgA Ideal hg).N) :
    (dats hg m 0 c).flushed (4 : Fin 5) t = (((cfgA Ideal hg).win (4 : Fin 5)).blk t).view.read (Elt Ideal) (R hg m c) := by
  have hp := nt_pos hg
  funext y
  change S768x1024.Idx at y
  have hy : (y 0).val < 768 := (y 0).isLt
  refine Eq.trans (b := outE hg m c (lastUsed hg t) y) rfl ?_
  refine Eq.trans ?_ (congrArg (R hg m c) (emb4 hg t y (row_lt hg _ _ hy))).symm
  refine (congrArg (outE hg m c (lastUsed hg t)) (show y = ix2 (y 0) (y 1) from funext fun a => by fin_cases a <;> rfl)).trans ?_
  exact outE_apply hg m c (lastUsed hg t) (by show min t.val (nt T1 - 1) < nt T1; omega) (y 0) (y 1) (row_lt hg _ _ hy)

/-- The array ends holding the formula. -/
theorem final4 (c : Dev nD) : (dats hg m 0 c).arrAt (4 : Fin 5) (cfgA Ideal hg).N = R hg m c := by
  have hp := nt_pos hg
  have hl := nt_le hg
  have hN := N_eq (F := Ideal) hg
  funext i
  change S152832x1024.Idx at i
  have hi : (i 0).val < 152832 := (i 0).isLt
  by_cases h : (i 0).val / 768 < nt T1
  · -- the point that writes the tile back
    have hk : ∃ t : Fin (cfgA Ideal hg).N, (t.val < nt T1 - 1 ∨ t.val = 198) ∧ min t.val (nt T1 - 1) = (i 0).val / 768 := by
      by_cases h' : (i 0).val / 768 < nt T1 - 1
      · exact ⟨⟨(i 0).val / 768, by omega⟩, Or.inl h', by show min ((i 0).val / 768) _ = _; omega⟩
      · exact ⟨⟨198, by omega⟩, Or.inr rfl, by show min 198 _ = _; omega⟩
    obtain ⟨t, hf, ht⟩ := hk
    refine (dats hg m 0 c).arrAt_apply_of_mem (4 : Fin 5) (R hg m c) (fun t _ => flushed4 hg m c t) _ t i t.isLt
      ((flush4 hg t).trans (decide_eq_true hf)) ?_
    have hm := View.emb_mem_set (((cfgA Ideal hg).win (4 : Fin 5)).blk t).view
      (ix2 (⟨(i 0).val % 768, by omega⟩ : Fin 768) (i 1) : S768x1024.Idx)
    rw [emb4 hg t _ (row_lt hg _ _ (Nat.mod_lt _ (by omega)))] at hm
    refine Eq.mp (congrArg (· ∈ _) ?_) hm
    funext a
    refine Fin.ext ?_
    match a with
    | ⟨0, _⟩ =>
      show min t.val (nt T1 - 1) * 768 + (i 0).val % 768 = (i 0).val
      rw [ht]; omega
    | ⟨1, _⟩ => rfl
  · refine ((dats hg m 0 c).arrAt_apply_of_forall_not_mem (4 : Fin 5) _ i fun t _ _ hm => ?_).trans ?_
    · obtain ⟨y, hy⟩ := View.exists_emb_of_mem_set _ hm
      change S768x1024.Idx at y
      have hy0 : (y 0).val < 768 := (y 0).isLt
      have e := congrArg (fun j : S152832x1024.Idx => (j 0).val) ((emb4 hg t y (row_lt hg _ _ hy0)).symm.trans hy)
      have e' : min t.val (nt T1 - 1) * 768 + (y 0).val = (i 0).val := e
      omega
    · show V m c main_v0 i = result hg _ _ _ _ (i 0) (i 1)
      unfold result
      rw [if_neg h, V_main_v0]
      exact congrArg (m ((c : Thread nD τ).loc main_arg2)) (funext fun a => by fin_cases a <;> rfl)

end Cert.Kernel2Ideal.Exp

end
-- ==== Proof.ExpPre.lean ====
module

public import proofs.«01_k».proof.Defs
public import proofs.«01_k».proof.Proof.ExpOk
public import Idealize.ShloMosaic.Lib.ReduceAll

@[expose] public section

set_option maxRecDepth 16384

noncomputable section

/-! # The tables' precondition, read: expert numbers below 64, one to 199 tiles in use -/

namespace Cert.Pre_plan_ranges.Read

open Cert.Pre_plan_ranges Idealize.ShloMosaic
open Cert.Kernel2Ideal.Exp (Good)

theorem facts : Cert.Pre_plan_ranges.Facts where
  bcast_S_S199 := by decide
  reducesTo_S199_S_d0 := by decide
  h_S_ := by decide
  bcast_S_S1 := by decide
  reducesTo_S1_S_d0 := by decide

attribute [local instance] facts
open Facts

instance : Subsingleton S_.Idx := ⟨fun a b => funext fun i => i.elim0⟩

theorem both (a b : BitVec 1) (h : IntOp.andi a b = 1#1) : a = 1#1 ∧ b = 1#1 := by
  revert a b; decide

theorem of_ofBool (b : Bool) (h : BitVec.ofBool b = 1#1) : b = true := by
  revert b; decide

/-- A word at least 0 and below 64, read signed, is below 64. -/
theorem expert_range (w : BitVec 32) (h0 : IntOp.cmpi .sge w 0#32 = 1#1) (h1 : IntOp.cmpi .slt w 64#32 = 1#1) : w.toNat < 64 := by
  have a0 : (0#32).sle w = true := of_ofBool _ h0
  have a1 : w.slt 64#32 = true := of_ofBool _ h1
  rw [BitVec.sle, decide_eq_true_eq] at a0
  rw [BitVec.slt, decide_eq_true_eq] at a1
  have b0 : (0#32 : BitVec 32).toInt = 0 := by decide
  have b1 : (64#32 : BitVec 32).toInt = 64 := by decide
  rw [b0] at a0
  rw [b1] at a1
  have := BitVec.toInt_eq_toNat_cond w
  split at this <;> omega

theorem count_range (w : BitVec 32) (h0 : IntOp.cmpi .sge w 1#32 = 1#1) (h1 : IntOp.cmpi .sle w 199#32 = 1#1) : 1 ≤ w.toNat ∧ w.toNat ≤ 199 := by
  have a0 : (1#32).sle w = true := of_ofBool _ h0
  have a1 : w.sle 199#32 = true := of_ofBool _ h1
  rw [BitVec.sle, decide_eq_true_eq] at a0 a1
  have b0 : (1#32 : BitVec 32).toInt = 1 := by decide
  have b1 : (199#32 : BitVec 32).toInt = 199 := by decide
  rw [b0] at a0
  rw [b1] at a1
  have := BitVec.toInt_eq_toNat_cond w
  split at this <;> omega

theorem good_of_fn {F : FTy → Type} [FloatOps F] (x0 : IVec S199 32) (x1 : IVec S1 32) (x2 : FVec F S152832x1024 .bf16)
    (x3 x4 : FVec F S2x64x1024x256 .f32) (x5 : FVec F S2x64x256x1024 .f32) (h : fn x0 x1 x2 x3 x4 x5 = fun _ => 1#1) : Good x0 x1 := by
  have j : S_.Idx := fun i => i.elim0
  obtain ⟨h0, h1⟩ := both _ _ (congrFun h j)
  have g0 := fun i => both _ _ (Host.reduce_andi_all _ _ _ _ j h0 i)
  have g1 := fun i => both _ _ (Host.reduce_andi_all _ _ _ _ j h1 i)
  exact ⟨fun i => expert_range _ (g0 i).1 (g0 i).2, fun i => (count_range _ (g1 i).1 (g1 i).2).1, fun i => (count_range _ (g1 i).1 (g1 i).2).2⟩

end Cert.Pre_plan_ranges.Read

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.MlaPre
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.AdaValue
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.HgValue
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.SwaPre
public import proofs.«01_k».proof.Proof.SwaValue
public import proofs.«01_k».proof.Proof.InSame
public import proofs.«01_k».proof.Proof.In1Value
public import proofs.«01_k».proof.Proof.ExpFrame
public import proofs.«01_k».proof.Proof.ExpSame
public import proofs.«01_k».proof.Proof.ExpRef
public import proofs.«01_k».proof.Proof.ExpValue
public import proofs.«01_k».proof.Proof.ExpPre
public import Idealize.ShloMosaic.Adequacy
public import Idealize.ShloMosaic.Init

@[expose] public section

noncomputable section

namespace Cert.Proof

open Idealize.ShloMosaic Idealize.ShloMosaic.TcCoe Idealize.SL.Sem

attribute [local instance] Cert.Pre_finite.Read.facts Cert.Pre_plan_ranges.Read.facts Cert.Pre_finite_swa.Read.facts

/-- The precondition makes every entry of the attention's arguments real. -/
theorem mla_real (m : (ℓ : Loc Cert.KernelIdeal.nD Cert.KernelIdeal.τ Cert.KernelIdeal.sig) → Buf (Elt Ideal) ℓ)
    (h : Pre_KernelIdeal_finite m) (c : Dev Cert.KernelIdeal.nD) : Cert.KernelIdeal.Mla.Real m c := by
  obtain ⟨h0, h1, h2, h3, h4⟩ := Cert.Pre_finite.Read.real_of_fn _ _ _ _ _ (h c)
  exact ⟨h0, h1, h2, h3, h4⟩

/-- The attention call computes the reference's two arrays. -/
theorem mla_algebraic : algebraic_KernelIdeal_ReferenceIdeal_pre_finite := by
  intro m ρ m' ρ' hpre hag
  refine ⟨fun c => Cert.KernelIdeal.Mla.G5 m c, fun c => Cert.KernelIdeal.Mla.G6 m c, ?_, ?_⟩
  · exact (θ_run _ _ _).mono (fun _ h c => ⟨(h c).1.trans (Cert.KernelIdeal.Mla.final5 m c (mla_real m hpre c)),
      (h c).2.1.trans (Cert.KernelIdeal.Mla.final6 m c), (h c).2.2⟩) (Cert.KernelIdeal.Value.run_blocks m ρ)
  · refine (θ_run _ _ _).mono (fun _ h c => ⟨(h c).1.trans ?_, (h c).2.1.trans ?_, (h c).2.2⟩) (Cert.ReferenceIdeal.Value.run m' ρ')
    · obtain ⟨e0, e1, e2, e3, e4⟩ := hag c
      rw [Cert.ReferenceIdeal.Read.val_main_v57_eq, e0, e1, e2, e3, e4]
    · obtain ⟨e0, e1, e2, e3, e4⟩ := hag c
      refine (Cert.ReferenceIdeal.Read.val_main_v58_eq _ _).trans ?_
      rw [e0, e3]

/-- The reference runs, changes no argument and leaves no counter. -/
theorem mla_ref_frame : quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-! ## The experts -/

/-- A memory with one device holds the tables its arguments hold. -/
theorem pinned {F : FTy → Type} [FloatOps F] (m : (ℓ : Loc Cert.Kernel2Ideal.nD Cert.Kernel2Ideal.τ Cert.Kernel2Ideal.sig) → Buf (Elt F) ℓ) (c : Dev Cert.Kernel2Ideal.nD) :
    Cert.Kernel2Ideal.Exp.Pinned (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)) m :=
  ⟨fun c' => by rw [Subsingleton.elim (α := Fin 1) c' c], fun c' => by rw [Subsingleton.elim (α := Fin 1) c' c]⟩

theorem exp_frame : quiescent_Kernel2 := fun m ρ hpre =>
  Cert.Kernel2.Same.runs _ _
    (Cert.Kernel2Ideal.Exp.frame (F := Bits) (T0 := m (((0 : Dev Cert.Kernel2Ideal.nD).tc : Thread Cert.Kernel2Ideal.nD Cert.Kernel2Ideal.τ).loc Cert.Kernel2Ideal.main_arg0))
      (T1 := m (((0 : Dev Cert.Kernel2Ideal.nD).tc : Thread Cert.Kernel2Ideal.nD Cert.Kernel2Ideal.τ).loc Cert.Kernel2Ideal.main_arg1))
      (Cert.Pre_plan_ranges.Read.good_of_fn _ _ _ _ _ _ (hpre 0)) m ρ (pinned m 0))

theorem exp_ideal_frame : quiescent_Kernel2Ideal := fun m ρ hpre =>
  Cert.Kernel2Ideal.Exp.frame (F := Ideal) (Cert.Pre_plan_ranges.Read.good_of_fn _ _ _ _ _ _ (hpre 0)) m ρ (pinned m 0)

theorem exp_ref_frame : quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem exp_algebraic : algebraic_Kernel2Ideal_Reference2Ideal := by
  intro m ρ m' ρ' hpre hag
  have hg := Cert.Pre_plan_ranges.Read.good_of_fn _ _ _ _ _ _ (hpre 0)
  have hp := pinned m 0
  refine ⟨fun c => Cert.Kernel2Ideal.Exp.R hg m c, ?_, ?_⟩
  · exact (θ_run Cert.Kernel2Ideal.defs _ _).mono (fun _ h c => ⟨((h.1 c).1 (4 : Fin 5)).trans (Cert.Kernel2Ideal.Exp.final4 hg m c), h.2 c⟩)
      (θ_run_and (Cert.Kernel2Ideal.Exp.run_main hg m ρ hp) (Cert.Kernel2Ideal.Exp.unchanged hg m ρ hp))
  · refine (θ_run Cert.Reference2Ideal.defs _ _).mono (fun _ h c => ⟨(h c).1.trans ?_, (h c).2⟩) (Cert.Reference2Ideal.Value.run m' ρ')
    have hc : c = 0 := Subsingleton.elim (α := Fin 1) c 0
    subst hc
    obtain ⟨e0, e1, e2, e3, e4, e5⟩ := hag 0
    rw [Cert.Reference2Ideal.Read.val_main_v42_eq, e0, e1, e2, e3, e4, e5]
    funext i
    exact (congrArg _ (show i = ix2 (i 0) (i 1) from funext fun a => by fin_cases a <;> rfl)).trans
      (Cert.Reference2Ideal.RefValue.result_apply hg _ _ _ _ (i 0) (i 1))

/-! ## The input projection -/

theorem in_ref_frame : quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run m ρ)

section
open Cert.Kernel3Ideal Cert.Kernel3Ideal.Gen Cert.Kernel3Ideal.InProj Cert.InTok

/-- The call's results and its arguments after it. -/
theorem in_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24) = E m c main_v24
      ∧ r.2.mem ((c.tc : Thread nD τ).loc main_v18_1) = A6 (args m c) 0
      ∧ r.2.mem ((c.tc : Thread nD τ).loc main_v18_2) = A7 (args m c) 0
      ∧ r.2.mem ((c.tc : Thread nD τ).loc main_v26) = E m c main_v26
      ∧ r.2.mem ((c.tc : Thread nD τ).loc main_v28) = E m c main_v28
      ∧ r.2.mem ((c.tc : Thread nD τ).loc main_v30) = E m c main_v30
      ∧ r.2.mem ((c.tc : Thread nD τ).loc main_v32) = E m c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h.1 c).2 main_v24 (Pipeline.mem_restRefs_of main_v24 (by decide) (by decide)),
      ((h.1 c).1 6).trans (final6 m c), ((h.1 c).1 7).trans (final7 m c),
      (h.1 c).2 main_v26 (Pipeline.mem_restRefs_of main_v26 (by decide) (by decide)),
      (h.1 c).2 main_v28 (Pipeline.mem_restRefs_of main_v28 (by decide) (by decide)),
      (h.1 c).2 main_v30 (Pipeline.mem_restRefs_of main_v30 (by decide) (by decide)),
      (h.1 c).2 main_v32 (Pipeline.mem_restRefs_of main_v32 (by decide) (by decide)), h.2 c⟩)
    (θ_run_and (Gen.run_main m ρ) (Gen.unchanged m ρ))

/-- The input projection computes the reference's seven arrays. -/
theorem in_algebraic : algebraic_Kernel3Ideal_Reference3Ideal := by
  intro m ρ m' ρ' _ hag
  refine ⟨fun c => E m c main_v24, fun c => A6 (args m c) 0, fun c => A7 (args m c) 0, fun c => E m c main_v26, fun c => E m c main_v28,
    fun c => E m c main_v30, fun c => E m c main_v32, in_run m ρ, ?_⟩
  refine (θ_run Cert.Reference3Ideal.defs _ _).mono (fun _ h c => ?_) (Cert.Reference3Ideal.Value.run m' ρ')
  obtain ⟨h0, h1, h2, h3, h4, h5, h6, hr⟩ := h c
  obtain ⟨e0, e1, e2, e3, e4, e5⟩ := hag c
  refine ⟨h0.trans ?_, h1.trans ?_, h2.trans ?_, h3.trans ?_, h4.trans ?_, h5.trans ?_, h6.trans ?_, hr⟩
  · rw [Cert.Reference3Ideal.Read.val_main_v78_eq, e0, e1, e2, e3, e4, e5]
    exact same0 m c
  · rw [Cert.Reference3Ideal.Read.val_main_v81_eq, e0, e1, e2, e3, e4, e5]
    exact same1 m c
  · rw [Cert.Reference3Ideal.Read.val_main_v84_eq, e0, e1, e2, e3, e4, e5]
    exact same2 m c
  · rw [Cert.Reference3Ideal.Read.val_main_v87_eq, e0, e1, e2, e3, e4, e5]
    exact same3 m c
  · rw [Cert.Reference3Ideal.Read.val_main_v72_eq, e0, e2, e4, e5]
    exact same4 m c
  · rw [Cert.Reference3Ideal.Read.val_main_v88_eq, e0, e2, e4, e5]
    exact same5 m c
  · rw [Cert.Reference3Ideal.Read.val_main_v89_eq, e0, e2, e4, e5]
    exact same6 m c

end

/-! ## The modulation -/

theorem ada_ref_frame : quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

section
open Cert.Kernel4Ideal Cert.Kernel4Ideal.Gen Cert.Kernel4Ideal.Ada

/-- The call's results and its arguments after it. -/
theorem ada_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = E m c main_v5
      ∧ r.2.mem ((c.tc : Thread nD τ).loc main_v6) = E m c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.1 c).2 main_v5 (Pipeline.mem_restRefs_of main_v5 (by decide) (by decide)),
      (h.1 c).2 main_v6 (Pipeline.mem_restRefs_of main_v6 (by decide) (by decide)), h.2 c⟩)
    (θ_run_and (Gen.run_main m ρ) (Gen.unchanged m ρ))

/-- The modulation computes the reference's two arrays. -/
theorem ada_algebraic : algebraic_Kernel4Ideal_Reference4Ideal := by
  intro m ρ m' ρ' _ hag
  refine ⟨fun c => E m c main_v5, fun c => E m c main_v6, ada_run m ρ, ?_⟩
  refine (θ_run Cert.Reference4Ideal.defs _ _).mono (fun _ h c => ?_) (Cert.Reference4Ideal.Value.run m' ρ')
  obtain ⟨h0, h1, hr⟩ := h c
  obtain ⟨e0, e1, e2, e3⟩ := hag c
  refine ⟨h0.trans ?_, h1.trans ?_, hr⟩
  · rw [Cert.Reference4Ideal.Read.val_main_v19_eq, e0, e2, e3]
    exact same0 m c
  · rw [Cert.Reference4Ideal.Read.val_main_v40_eq, e1, e2, e3]
    exact same1 m c

end

/-! ## The recurrence's states -/

theorem hg_ref_frame : quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

section
open Cert.Kernel5Ideal Cert.Kernel5Ideal.Gen Cert.Kernel5Ideal.Hgrn

/-- The call's result and its arguments after it. -/
theorem hg_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = E m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h.1 c).2 main_v7 (Pipeline.mem_restRefs_of main_v7 (by decide) (by decide)), h.2 c⟩)
    (θ_run_and (Gen.run_main m ρ) (Gen.unchanged m ρ))

/-- The recurrence's states are the reference's. -/
theorem hg_algebraic : algebraic_Kernel5Ideal_Reference5Ideal := by
  intro m ρ m' ρ' _ hag
  refine ⟨fun c => E m c main_v7, hg_run m ρ, ?_⟩
  refine (θ_run Cert.Reference5Ideal.defs _ _).mono (fun _ h c => ?_) (Cert.Reference5Ideal.Value.run m' ρ')
  obtain ⟨h0, hr⟩ := h c
  obtain ⟨e0, e1, e2, e3⟩ := hag c
  refine ⟨h0.trans ?_, hr⟩
  rw [Cert.Reference5Ideal.Read.val_main_v262_eq]
  refine Eq.trans ?_ (same c)
  exact congr (congrArg₂ Cert.Reference5Ideal.Read.val_main_v262 e0 e1) e2

end

/-! ## The attention with sinks -/

theorem swa_ref_frame : quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

section
open Cert.Kernel6Ideal Cert.Kernel6Ideal.Gen Cert.Kernel6Ideal.Swa

/-- The call's result and its arguments after it. -/
theorem swa_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = E m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h.1 c).2 main_v11 (Pipeline.mem_restRefs_of main_v11 (by decide) (by decide)), h.2 c⟩)
    (θ_run_and (Gen.run_main m ρ) (Gen.unchanged m ρ))

/-- The context's attention with sinks is the reference's. -/
theorem swa_algebraic : algebraic_Kernel6Ideal_Reference6Ideal_pre_finite_swa := by
  intro m ρ m' ρ' hpre hag
  refine ⟨fun c => E m c main_v11, swa_run m ρ, ?_⟩
  refine (θ_run Cert.Reference6Ideal.defs _ _).mono (fun _ h c => ?_) (Cert.Reference6Ideal.Value.run m' ρ')
  obtain ⟨h0, hr⟩ := h c
  obtain ⟨e0, e1⟩ := hag c
  obtain ⟨hx, hy⟩ := Cert.Pre_finite_swa.Read.real_of_fn _ _ (hpre c)
  refine ⟨h0.trans ?_, hr⟩
  rw [Cert.Reference6Ideal.Read.val_main_v31_eq]
  refine Eq.trans ?_ (same m c hx hy)
  exact congrArg₂ Cert.Reference6Ideal.Read.val_main_v31 e0 e1

end

/-! ## The input projection of the second layer -/

theorem in1_ref_frame : quiescent_Reference7Ideal := fun m ρ _ =>
  (θ_run Cert.Reference7Ideal.defs _ _).mono (fun r h => ⟨fun c => (h c).2.2.2.2.2.2.2, sem_eq_zero_of_no_sems (by decide) r.2⟩)
    (Cert.Reference7Ideal.Value.run m ρ)

section
open Cert.Kernel7Ideal Cert.Kernel7Ideal.Gen Cert.Kernel7Ideal.InProj Cert.InTok

/-- The call's results and its arguments after it. -/
theorem in1_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25) = E m c main_v25
      ∧ r.2.mem ((c.tc : Thread nD τ).loc main_v19_1) = A6 (args m c) 1
      ∧ r.2.mem ((c.tc : Thread nD τ).loc main_v19_2) = A7 (args m c) 1
      ∧ r.2.mem ((c.tc : Thread nD τ).loc main_v27) = E m c main_v27
      ∧ r.2.mem ((c.tc : Thread nD τ).loc main_v29) = E m c main_v29
      ∧ r.2.mem ((c.tc : Thread nD τ).loc main_v31) = E m c main_v31
      ∧ r.2.mem ((c.tc : Thread nD τ).loc main_v33) = E m c main_v33
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h.1 c).2 main_v25 (Pipeline.mem_restRefs_of main_v25 (by decide) (by decide)),
      ((h.1 c).1 5).trans (final5 m c), ((h.1 c).1 6).trans (final6 m c),
      (h.1 c).2 main_v27 (Pipeline.mem_restRefs_of main_v27 (by decide) (by decide)),
      (h.1 c).2 main_v29 (Pipeline.mem_restRefs_of main_v29 (by decide) (by decide)),
      (h.1 c).2 main_v31 (Pipeline.mem_restRefs_of main_v31 (by decide) (by decide)),
      (h.1 c).2 main_v33 (Pipeline.mem_restRefs_of main_v33 (by decide) (by decide)), h.2 c⟩)
    (θ_run_and (Gen.run_main m ρ) (Gen.unchanged m ρ))

/-- The input projection of the second layer computes the reference's seven arrays. -/
theorem in1_algebraic : algebraic_Kernel7Ideal_Reference7Ideal := by
  intro m ρ m' ρ' _ hag
  refine ⟨fun c => E m c main_v25, fun c => A6 (args m c) 1, fun c => A7 (args m c) 1, fun c => E m c main_v27, fun c => E m c main_v29,
    fun c => E m c main_v31, fun c => E m c main_v33, in1_run m ρ, ?_⟩
  refine (θ_run Cert.Reference7Ideal.defs _ _).mono (fun _ h c => ?_) (Cert.Reference7Ideal.Value.run m' ρ')
  obtain ⟨h0, h1, h2, h3, h4, h5, h6, hr⟩ := h c
  obtain ⟨e0, e1, e2, e3, e4, e5⟩ := hag c
  refine ⟨h0.trans ?_, h1.trans ?_, h2.trans ?_, h3.trans ?_, h4.trans ?_, h5.trans ?_, h6.trans ?_, hr⟩
  · rw [Cert.Reference7Ideal.Read.val_main_v78_eq, e0, e1, e2, e3, e4, e5]
    exact same0 m c
  · rw [Cert.Reference7Ideal.Read.val_main_v81_eq, e0, e1, e2, e3, e4, e5]
    exact same1 m c
  · rw [Cert.Reference7Ideal.Read.val_main_v84_eq, e0, e1, e2, e3, e4, e5]
    exact same2 m c
  · rw [Cert.Reference7Ideal.Read.val_main_v87_eq, e0, e1, e2, e3, e4, e5]
    exact same3 m c
  · rw [Cert.Reference7Ideal.Read.val_main_v72_eq, e0, e2, e4, e5]
    exact same4 m c
  · rw [Cert.Reference7Ideal.Read.val_main_v88_eq, e0, e2, e4, e5]
    exact same5 m c
  · rw [Cert.Reference7Ideal.Read.val_main_v89_eq, e0, e2, e4, e5]
    exact same6 m c

end

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.Read.facts, Cert.Pre_plan_ranges.Read.facts, Cert.Pre_finite_swa.Read.facts,
    fun m ρ _ => Cert.Kernel.Gen.frame m ρ, fun m ρ _ => Cert.KernelIdeal.Gen.frame m ρ, fun m ρ _ => Cert.KernelIdeal.Gen.frame m ρ,
    mla_ref_frame, fun m ρ _ => mla_ref_frame m ρ trivial,
    exp_frame, exp_ideal_frame, exp_ref_frame, fun m ρ _ => exp_ref_frame m ρ trivial,
    fun m ρ _ => Cert.Kernel3.Gen.frame m ρ, fun m ρ _ => Cert.Kernel3Ideal.Gen.frame m ρ, in_ref_frame,
    fun m ρ _ => Cert.Kernel4.Gen.frame m ρ, fun m ρ _ => Cert.Kernel4Ideal.Gen.frame m ρ, ada_ref_frame,
    fun m ρ _ => Cert.Kernel5.Gen.frame m ρ, fun m ρ _ => Cert.Kernel5Ideal.Gen.frame m ρ,
    hg_ref_frame,
    fun m ρ _ => Cert.Kernel6.Gen.frame m ρ, fun m ρ _ => Cert.Kernel6Ideal.Gen.frame m ρ,
    fun m ρ _ => Cert.Kernel6Ideal.Gen.frame m ρ, swa_ref_frame, fun m ρ _ => swa_ref_frame m ρ trivial,
    fun m ρ _ => Cert.Kernel7.Gen.frame m ρ, fun m ρ _ => Cert.Kernel7Ideal.Gen.frame m ρ, in1_ref_frame,
    trivial, mla_algebraic, trivial, exp_algebraic, trivial, in_algebraic,
    trivial, ada_algebraic,
    trivial, hg_algebraic,
    trivial, swa_algebraic,
    trivial, in1_algebraic⟩

end Cert.Proof

end
